-- ==== Defs.lean ====
def Pre_DiffAttn (m : (ℓ : Loc Cert.DiffAttn.nD Cert.DiffAttn.τ Cert.DiffAttn.sig) → Buf (Elt Bits) ℓ) : Prop :=
  True

def Pre_DiffAttnIdeal (m : (ℓ : Loc Cert.DiffAttnIdeal.nD Cert.DiffAttnIdeal.τ Cert.DiffAttnIdeal.sig) → Buf (Elt Ideal) ℓ) : Prop :=
  True

def Pre_DiffAttnIdeal_finite [hPre_finite : Cert.Pre_finite.Facts] (m : (ℓ : Loc Cert.DiffAttnIdeal.nD Cert.DiffAttnIdeal.τ Cert.DiffAttnIdeal.sig) → Buf (Elt Ideal) ℓ) : Prop :=
  ∀ c : Dev Cert.DiffAttnIdeal.nD,
    (Cert.Pre_finite.fn (F := Ideal) (m ((c.tc : Thread Cert.DiffAttnIdeal.nD Cert.DiffAttnIdeal.τ).loc Cert.DiffAttnIdeal.main_arg0)) (m ((c.tc : Thread Cert.DiffAttnIdeal.nD Cert.DiffAttnIdeal.τ).loc Cert.DiffAttnIdeal.main_arg1)) (m ((c.tc : Thread Cert.DiffAttnIdeal.nD Cert.DiffAttnIdeal.τ).loc Cert.DiffAttnIdeal.main_arg2)) (m ((c.tc : Thread Cert.DiffAttnIdeal.nD Cert.DiffAttnIdeal.τ).loc Cert.DiffAttnIdeal.main_arg3)) (m ((c.tc : Thread Cert.DiffAttnIdeal.nD Cert.DiffAttnIdeal.τ).loc Cert.DiffAttnIdeal.main_arg4)) (m ((c.tc : Thread Cert.DiffAttnIdeal.nD Cert.DiffAttnIdeal.τ).loc Cert.DiffAttnIdeal.main_arg5)) (m ((c.tc : Thread Cert.DiffAttnIdeal.nD Cert.DiffAttnIdeal.τ).loc Cert.DiffAttnIdeal.main_arg6)) (m ((c.tc : Thread Cert.DiffAttnIdeal.nD Cert.DiffAttnIdeal.τ).loc Cert.DiffAttnIdeal.main_arg7))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite [hPre_finite : Cert.Pre_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))) = (fun _ => 1#1)

def Pre_Experts [hPre_expert_range : Cert.Pre_expert_range.Facts] (m : (ℓ : Loc Cert.Experts.nD Cert.Experts.τ Cert.Experts.sig) → Buf (Elt Bits) ℓ) : Prop :=
  ∀ c : Dev Cert.Experts.nD,
    (Cert.Pre_expert_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))) = (fun _ => 1#1)

def Pre_ExpertsIdeal [hPre_expert_range : Cert.Pre_expert_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsRefIdeal [hPre_expert_range : Cert.Pre_expert_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_expert_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjS (m : (ℓ : Loc Cert.OutProjS.nD Cert.OutProjS.τ Cert.OutProjS.sig) → Buf (Elt Bits) ℓ) : Prop :=
  True

def Pre_OutProjSIdeal (m : (ℓ : Loc Cert.OutProjSIdeal.nD Cert.OutProjSIdeal.τ Cert.OutProjSIdeal.sig) → Buf (Elt Ideal) ℓ) : Prop :=
  True

def Pre_OutProjSRefIdeal (m : (ℓ : Loc Cert.OutProjSRefIdeal.nD Cert.OutProjSRefIdeal.τ Cert.OutProjSRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_moba_finite [hPre_moba_finite : Cert.Pre_moba_finite.Facts] (m : (ℓ : Loc Cert.MobaIdeal.nD Cert.MobaIdeal.τ Cert.MobaIdeal.sig) → Buf (Elt Ideal) ℓ) : Prop :=
  ∀ c : Dev Cert.MobaIdeal.nD,
    (Cert.Pre_moba_finite.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_moba_finite [hPre_moba_finite : Cert.Pre_moba_finite.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_moba_finite.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2))) = (fun _ => 1#1)

def quiescent_DiffAttn [hDiffAttn : Cert.DiffAttn.Facts] : Prop :=
  ∀ (m : (ℓ : Loc Cert.DiffAttn.nD Cert.DiffAttn.τ Cert.DiffAttn.sig) → Buf (Elt Bits) ℓ) (g : Dev Cert.DiffAttn.nD → PrngReg), Pre_DiffAttn m →
    θ_run (Cert.DiffAttn.defs (F := Bits)) (onTc (τ := Cert.DiffAttn.τ) (Cert.DiffAttn.main (F := Bits))) ⟨m, fun _ => 0, g⟩ (fun r => (∀ c : Dev Cert.DiffAttn.nD,
      r.2.mem ((c.tc : Thread Cert.DiffAttn.nD Cert.DiffAttn.τ).loc Cert.DiffAttn.main_arg0) = m ((c.tc : Thread Cert.DiffAttn.nD Cert.DiffAttn.τ).loc Cert.DiffAttn.main_arg0)
      ∧ r.2.mem ((c.tc : Thread Cert.DiffAttn.nD Cert.DiffAttn.τ).loc Cert.DiffAttn.main_arg1) = m ((c.tc : Thread Cert.DiffAttn.nD Cert.DiffAttn.τ).loc Cert.DiffAttn.main_arg1)
      ∧ r.2.mem ((c.tc : Thread Cert.DiffAttn.nD Cert.DiffAttn.τ).loc Cert.DiffAttn.main_arg2) = m ((c.tc : Thread Cert.DiffAttn.nD Cert.DiffAttn.τ).loc Cert.DiffAttn.main_arg2)
      ∧ r.2.mem ((c.tc : Thread Cert.DiffAttn.nD Cert.DiffAttn.τ).loc Cert.DiffAttn.main_arg3) = m ((c.tc : Thread Cert.DiffAttn.nD Cert.DiffAttn.τ).loc Cert.DiffAttn.main_arg3)
      ∧ r.2.mem ((c.tc : Thread Cert.DiffAttn.nD Cert.DiffAttn.τ).loc Cert.DiffAttn.main_arg4) = m ((c.tc : Thread Cert.DiffAttn.nD Cert.DiffAttn.τ).loc Cert.DiffAttn.main_arg4)
      ∧ r.2.mem ((c.tc : Thread Cert.DiffAttn.nD Cert.DiffAttn.τ).loc Cert.DiffAttn.main_arg5) = m ((c.tc : Thread Cert.DiffAttn.nD Cert.DiffAttn.τ).loc Cert.DiffAttn.main_arg5)
      ∧ r.2.mem ((c.tc : Thread Cert.DiffAttn.nD Cert.DiffAttn.τ).loc Cert.DiffAttn.main_arg6) = m ((c.tc : Thread Cert.DiffAttn.nD Cert.DiffAttn.τ).loc Cert.DiffAttn.main_arg6)
      ∧ r.2.mem ((c.tc : Thread Cert.DiffAttn.nD Cert.DiffAttn.τ).loc Cert.DiffAttn.main_arg7) = m ((c.tc : Thread Cert.DiffAttn.nD Cert.DiffAttn.τ).loc Cert.DiffAttn.main_arg7))
      ∧ r.2.sem = fun _ => 0)

def quiescent_DiffAttnIdeal [hDiffAttnIdeal : Cert.DiffAttnIdeal.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg), Pre_DiffAttnIdeal m →
    θ_run (Cert.DiffAttnIdeal.defs (F := Ideal)) (onTc (τ := Cert.DiffAttnIdeal.τ) (Cert.DiffAttnIdeal.main (F := Ideal))) ⟨m, fun _ => 0, g⟩ (fun r => (∀ c : Dev Cert.DiffAttnIdeal.nD,
      r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
      ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
      ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
      ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
      ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
      ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
      ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6)
      ∧ r.2.mem ((c.tc : Thread Cert.DiffAttnIdeal.nD Cert.DiffAttnIdeal.τ).loc Cert.DiffAttnIdeal.main_arg7) = m ((c.tc : Thread Cert.DiffAttnIdeal.nD Cert.DiffAttnIdeal.τ).loc Cert.DiffAttnIdeal.main_arg7))
      ∧ r.2.sem = fun _ => 0)

def quiescent_DiffAttnIdeal_pre_finite [hDiffAttnIdeal : Cert.DiffAttnIdeal.Facts] [hPre_finite : Cert.Pre_finite.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg), Pre_DiffAttnIdeal_finite m →
    θ_run (Cert.DiffAttnIdeal.defs (F := Ideal)) (onTc (τ := Cert.DiffAttnIdeal.τ) (Cert.DiffAttnIdeal.main (F := Ideal))) ⟨m, fun _ => 0, g⟩ (fun r => (∀ c : Dev Cert.DiffAttnIdeal.nD,
      r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
      ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
      ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
      ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
      ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
      ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
      ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6)
      ∧ r.2.mem ((c.tc : Thread Cert.DiffAttnIdeal.nD Cert.DiffAttnIdeal.τ).loc Cert.DiffAttnIdeal.main_arg7) = m ((c.tc : Thread Cert.DiffAttnIdeal.nD Cert.DiffAttnIdeal.τ).loc Cert.DiffAttnIdeal.main_arg7))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_DiffRefIdeal_pre_finite [hDiffRefIdeal : Cert.DiffRefIdeal.Facts] [hPre_finite : Cert.Pre_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_Experts [hExperts : Cert.Experts.Facts] [hPre_expert_range : Cert.Pre_expert_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_expert_range : Cert.Pre_expert_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsRefIdeal [hExpertsRefIdeal : Cert.ExpertsRefIdeal.Facts] [hPre_expert_range : Cert.Pre_expert_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_OutProjS [hOutProjS : Cert.OutProjS.Facts] : Prop :=
  ∀ (m : (ℓ : Loc Cert.OutProjS.nD Cert.OutProjS.τ Cert.OutProjS.sig) → Buf (Elt Bits) ℓ) (g : Dev Cert.OutProjS.nD → PrngReg), Pre_OutProjS m →
    θ_run (Cert.OutProjS.defs (F := Bits)) (onTc (τ := Cert.OutProjS.τ) (Cert.OutProjS.main (F := Bits))) ⟨m, fun _ => 0, g⟩ (fun r => (∀ c : Dev Cert.OutProjS.nD,
      r.2.mem ((c.tc : Thread Cert.OutProjS.nD Cert.OutProjS.τ).loc Cert.OutProjS.main_arg0) = m ((c.tc : Thread Cert.OutProjS.nD Cert.OutProjS.τ).loc Cert.OutProjS.main_arg0)
      ∧ r.2.mem ((c.tc : Thread Cert.OutProjS.nD Cert.OutProjS.τ).loc Cert.OutProjS.main_arg1) = m ((c.tc : Thread Cert.OutProjS.nD Cert.OutProjS.τ).loc Cert.OutProjS.main_arg1)
      ∧ r.2.mem ((c.tc : Thread Cert.OutProjS.nD Cert.OutProjS.τ).loc Cert.OutProjS.main_arg2) = m ((c.tc : Thread Cert.OutProjS.nD Cert.OutProjS.τ).loc Cert.OutProjS.main_arg2)
      ∧ r.2.mem ((c.tc : Thread Cert.OutProjS.nD Cert.OutProjS.τ).loc Cert.OutProjS.main_arg3) = m ((c.tc : Thread Cert.OutProjS.nD Cert.OutProjS.τ).loc Cert.OutProjS.main_arg3)
      ∧ r.2.mem ((c.tc : Thread Cert.OutProjS.nD Cert.OutProjS.τ).loc Cert.OutProjS.main_arg4) = m ((c.tc : Thread Cert.OutProjS.nD Cert.OutProjS.τ).loc Cert.OutProjS.main_arg4)
      ∧ r.2.mem ((c.tc : Thread Cert.OutProjS.nD Cert.OutProjS.τ).loc Cert.OutProjS.main_arg5) = m ((c.tc : Thread Cert.OutProjS.nD Cert.OutProjS.τ).loc Cert.OutProjS.main_arg5)
      ∧ r.2.mem ((c.tc : Thread Cert.OutProjS.nD Cert.OutProjS.τ).loc Cert.OutProjS.main_arg6) = m ((c.tc : Thread Cert.OutProjS.nD Cert.OutProjS.τ).loc Cert.OutProjS.main_arg6))
      ∧ r.2.sem = fun _ => 0)

def quiescent_OutProjSIdeal [hOutProjSIdeal : Cert.OutProjSIdeal.Facts] : Prop :=
  ∀ (m : (ℓ : Loc Cert.OutProjSIdeal.nD Cert.OutProjSIdeal.τ Cert.OutProjSIdeal.sig) → Buf (Elt Ideal) ℓ) (g : Dev Cert.OutProjSIdeal.nD → PrngReg), Pre_OutProjSIdeal m →
    θ_run (Cert.OutProjSIdeal.defs (F := Ideal)) (onTc (τ := Cert.OutProjSIdeal.τ) (Cert.OutProjSIdeal.main (F := Ideal))) ⟨m, fun _ => 0, g⟩ (fun r => (∀ c : Dev Cert.OutProjSIdeal.nD,
      r.2.mem ((c.tc : Thread Cert.OutProjSIdeal.nD Cert.OutProjSIdeal.τ).loc Cert.OutProjSIdeal.main_arg0) = m ((c.tc : Thread Cert.OutProjSIdeal.nD Cert.OutProjSIdeal.τ).loc Cert.OutProjSIdeal.main_arg0)
      ∧ r.2.mem ((c.tc : Thread Cert.OutProjSIdeal.nD Cert.OutProjSIdeal.τ).loc Cert.OutProjSIdeal.main_arg1) = m ((c.tc : Thread Cert.OutProjSIdeal.nD Cert.OutProjSIdeal.τ).loc Cert.OutProjSIdeal.main_arg1)
      ∧ r.2.mem ((c.tc : Thread Cert.OutProjSIdeal.nD Cert.OutProjSIdeal.τ).loc Cert.OutProjSIdeal.main_arg2) = m ((c.tc : Thread Cert.OutProjSIdeal.nD Cert.OutProjSIdeal.τ).loc Cert.OutProjSIdeal.main_arg2)
      ∧ r.2.mem ((c.tc : Thread Cert.OutProjSIdeal.nD Cert.OutProjSIdeal.τ).loc Cert.OutProjSIdeal.main_arg3) = m ((c.tc : Thread Cert.OutProjSIdeal.nD Cert.OutProjSIdeal.τ).loc Cert.OutProjSIdeal.main_arg3)
      ∧ r.2.mem ((c.tc : Thread Cert.OutProjSIdeal.nD Cert.OutProjSIdeal.τ).loc Cert.OutProjSIdeal.main_arg4) = m ((c.tc : Thread Cert.OutProjSIdeal.nD Cert.OutProjSIdeal.τ).loc Cert.OutProjSIdeal.main_arg4)
      ∧ r.2.mem ((c.tc : Thread Cert.OutProjSIdeal.nD Cert.OutProjSIdeal.τ).loc Cert.OutProjSIdeal.main_arg5) = m ((c.tc : Thread Cert.OutProjSIdeal.nD Cert.OutProjSIdeal.τ).loc Cert.OutProjSIdeal.main_arg5)
      ∧ r.2.mem ((c.tc : Thread Cert.OutProjSIdeal.nD Cert.OutProjSIdeal.τ).loc Cert.OutProjSIdeal.main_arg6) = m ((c.tc : Thread Cert.OutProjSIdeal.nD Cert.OutProjSIdeal.τ).loc Cert.OutProjSIdeal.main_arg6))
      ∧ r.2.sem = fun _ => 0)

def quiescent_OutProjSRefIdeal [hOutProjSRefIdeal : Cert.OutProjSRefIdeal.Facts] : Prop :=
  ∀ (m : (ℓ : Loc Cert.OutProjSRefIdeal.nD Cert.OutProjSRefIdeal.τ Cert.OutProjSRefIdeal.sig) → Buf (Elt Ideal) ℓ) (g : Dev Cert.OutProjSRefIdeal.nD → PrngReg), Pre_OutProjSRefIdeal m →
    θ_run (Cert.OutProjSRefIdeal.defs (F := Ideal)) (onTc (τ := Cert.OutProjSRefIdeal.τ) (Cert.OutProjSRefIdeal.main (F := Ideal))) ⟨m, fun _ => 0, g⟩ (fun r => (∀ c : Dev Cert.OutProjSRefIdeal.nD,
      r.2.mem ((c.tc : Thread Cert.OutProjSRefIdeal.nD Cert.OutProjSRefIdeal.τ).loc Cert.OutProjSRefIdeal.main_arg0) = m ((c.tc : Thread Cert.OutProjSRefIdeal.nD Cert.OutProjSRefIdeal.τ).loc Cert.OutProjSRefIdeal.main_arg0)
      ∧ r.2.mem ((c.tc : Thread Cert.OutProjSRefIdeal.nD Cert.OutProjSRefIdeal.τ).loc Cert.OutProjSRefIdeal.main_arg1) = m ((c.tc : Thread Cert.OutProjSRefIdeal.nD Cert.OutProjSRefIdeal.τ).loc Cert.OutProjSRefIdeal.main_arg1)
      ∧ r.2.mem ((c.tc : Thread Cert.OutProjSRefIdeal.nD Cert.OutProjSRefIdeal.τ).loc Cert.OutProjSRefIdeal.main_arg2) = m ((c.tc : Thread Cert.OutProjSRefIdeal.nD Cert.OutProjSRefIdeal.τ).loc Cert.OutProjSRefIdeal.main_arg2)
      ∧ r.2.mem ((c.tc : Thread Cert.OutProjSRefIdeal.nD Cert.OutProjSRefIdeal.τ).loc Cert.OutProjSRefIdeal.main_arg3) = m ((c.tc : Thread Cert.OutProjSRefIdeal.nD Cert.OutProjSRefIdeal.τ).loc Cert.OutProjSRefIdeal.main_arg3)
      ∧ r.2.mem ((c.tc : Thread Cert.OutProjSRefIdeal.nD Cert.OutProjSRefIdeal.τ).loc Cert.OutProjSRefIdeal.main_arg4) = m ((c.tc : Thread Cert.OutProjSRefIdeal.nD Cert.OutProjSRefIdeal.τ).loc Cert.OutProjSRefIdeal.main_arg4)
      ∧ r.2.mem ((c.tc : Thread Cert.OutProjSRefIdeal.nD Cert.OutProjSRefIdeal.τ).loc Cert.OutProjSRefIdeal.main_arg5) = m ((c.tc : Thread Cert.OutProjSRefIdeal.nD Cert.OutProjSRefIdeal.τ).loc Cert.OutProjSRefIdeal.main_arg5)
      ∧ r.2.mem ((c.tc : Thread Cert.OutProjSRefIdeal.nD Cert.OutProjSRefIdeal.τ).loc Cert.OutProjSRefIdeal.main_arg6) = m ((c.tc : Thread Cert.OutProjSRefIdeal.nD Cert.OutProjSRefIdeal.τ).loc Cert.OutProjSRefIdeal.main_arg6))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ r.2.sem = fun _ => 0)

def quiescent_MobaIdeal_pre_moba_finite [hMobaIdeal : Cert.MobaIdeal.Facts] [hPre_moba_finite : Cert.Pre_moba_finite.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_moba_finite m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2))
      ∧ r.2.sem = fun _ => 0)

def quiescent_MobaRefIdeal_pre_moba_finite [hMobaRefIdeal : Cert.MobaRefIdeal.Facts] [hPre_moba_finite : Cert.Pre_moba_finite.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_moba_finite m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2))
      ∧ r.2.sem = fun _ => 0)

def preserves_DiffAttn_DiffAttnIdeal : Prop :=
  IdealRules.named_const.Statement Cert.DiffAttnIdeal.κ "mask" .f32 0xF149F2CA#32 ⊥

def algebraic_DiffAttnIdeal_DiffRefIdeal_pre_finite [hDiffAttnIdeal : Cert.DiffAttnIdeal.Facts] [hDiffRefIdeal : Cert.DiffRefIdeal.Facts] [hPre_finite : Cert.Pre_finite.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffAttnIdeal_finite m →
    (∀ c : Dev Cert.DiffAttnIdeal.nD,
      m' ((c.tc : Thread Cert.DiffRefIdeal.nD Cert.DiffRefIdeal.τ).loc Cert.DiffRefIdeal.main_arg0) = m ((c.tc : Thread Cert.DiffAttnIdeal.nD Cert.DiffAttnIdeal.τ).loc Cert.DiffAttnIdeal.main_arg0)
      ∧ m' ((c.tc : Thread Cert.DiffRefIdeal.nD Cert.DiffRefIdeal.τ).loc Cert.DiffRefIdeal.main_arg1) = m ((c.tc : Thread Cert.DiffAttnIdeal.nD Cert.DiffAttnIdeal.τ).loc Cert.DiffAttnIdeal.main_arg1)
      ∧ m' ((c.tc : Thread Cert.DiffRefIdeal.nD Cert.DiffRefIdeal.τ).loc Cert.DiffRefIdeal.main_arg2) = m ((c.tc : Thread Cert.DiffAttnIdeal.nD Cert.DiffAttnIdeal.τ).loc Cert.DiffAttnIdeal.main_arg2)
      ∧ m' ((c.tc : Thread Cert.DiffRefIdeal.nD Cert.DiffRefIdeal.τ).loc Cert.DiffRefIdeal.main_arg3) = m ((c.tc : Thread Cert.DiffAttnIdeal.nD Cert.DiffAttnIdeal.τ).loc Cert.DiffAttnIdeal.main_arg3)
      ∧ m' ((c.tc : Thread Cert.DiffRefIdeal.nD Cert.DiffRefIdeal.τ).loc Cert.DiffRefIdeal.main_arg4) = m ((c.tc : Thread Cert.DiffAttnIdeal.nD Cert.DiffAttnIdeal.τ).loc Cert.DiffAttnIdeal.main_arg4)
      ∧ m' ((c.tc : Thread Cert.DiffRefIdeal.nD Cert.DiffRefIdeal.τ).loc Cert.DiffRefIdeal.main_arg5) = m ((c.tc : Thread Cert.DiffAttnIdeal.nD Cert.DiffAttnIdeal.τ).loc Cert.DiffAttnIdeal.main_arg5)
      ∧ m' ((c.tc : Thread Cert.DiffRefIdeal.nD Cert.DiffRefIdeal.τ).loc Cert.DiffRefIdeal.main_arg6) = m ((c.tc : Thread Cert.DiffAttnIdeal.nD Cert.DiffAttnIdeal.τ).loc Cert.DiffAttnIdeal.main_arg6)
      ∧ m' ((c.tc : Thread Cert.DiffRefIdeal.nD Cert.DiffRefIdeal.τ).loc Cert.DiffRefIdeal.main_arg7) = m ((c.tc : Thread Cert.DiffAttnIdeal.nD Cert.DiffAttnIdeal.τ).loc Cert.DiffAttnIdeal.main_arg7)) →
    ∃ (v0 : (c : Dev Cert.DiffAttnIdeal.nD) → Buf (Elt Ideal) ((c.tc : Thread Cert.DiffAttnIdeal.nD Cert.DiffAttnIdeal.τ).loc Cert.DiffAttnIdeal.main_v0)),
      θ_run (Cert.DiffAttnIdeal.defs (F := Ideal)) (onTc (τ := Cert.DiffAttnIdeal.τ) (Cert.DiffAttnIdeal.main (F := Ideal))) ⟨m, fun _ => 0, g⟩ (fun r => ∀ c : Dev Cert.DiffAttnIdeal.nD,
          r.2.mem ((c.tc : Thread Cert.DiffAttnIdeal.nD Cert.DiffAttnIdeal.τ).loc Cert.DiffAttnIdeal.main_v0) = v0 c
          ∧ r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
          ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
          ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
          ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
          ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
          ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
          ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6)
          ∧ r.2.mem ((c.tc : Thread Cert.DiffAttnIdeal.nD Cert.DiffAttnIdeal.τ).loc Cert.DiffAttnIdeal.main_arg7) = m ((c.tc : Thread Cert.DiffAttnIdeal.nD Cert.DiffAttnIdeal.τ).loc Cert.DiffAttnIdeal.main_arg7))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v77) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6)
          ∧ r.2.mem ((c.tc : Thread Cert.DiffRefIdeal.nD Cert.DiffRefIdeal.τ).loc Cert.DiffRefIdeal.main_arg7) = m' ((c.tc : Thread Cert.DiffRefIdeal.nD Cert.DiffRefIdeal.τ).loc Cert.DiffRefIdeal.main_arg7))

def preserves_Experts_ExpertsIdeal : Prop :=
  True

def algebraic_ExpertsIdeal_ExpertsRefIdeal [hExpertsIdeal : Cert.ExpertsIdeal.Facts] [hExpertsRefIdeal : Cert.ExpertsRefIdeal.Facts] [hPre_expert_range : Cert.Pre_expert_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v72) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v33_0)) (v1 : (c : Dev Cert.InProjIdeal.nD) → Buf (Elt Ideal) ((c.tc : Thread Cert.InProjIdeal.nD Cert.InProjIdeal.τ).loc Cert.InProjIdeal.main_v33_1)) (v2 : (c : Dev Cert.InProjIdeal.nD) → Buf (Elt Ideal) ((c.tc : Thread Cert.InProjIdeal.nD Cert.InProjIdeal.τ).loc Cert.InProjIdeal.main_v33_2)) (v3 : (c : Dev Cert.InProjIdeal.nD) → Buf (Elt Ideal) ((c.tc : Thread Cert.InProjIdeal.nD Cert.InProjIdeal.τ).loc Cert.InProjIdeal.main_v33_3)) (v4 : (c : Dev Cert.InProjIdeal.nD) → Buf (Elt Ideal) ((c.tc : Thread Cert.InProjIdeal.nD Cert.InProjIdeal.τ).loc Cert.InProjIdeal.main_v33_4)) (v5 : (c : Dev Cert.InProjIdeal.nD) → Buf (Elt Ideal) ((c.tc : Thread Cert.InProjIdeal.nD Cert.InProjIdeal.τ).loc Cert.InProjIdeal.main_v33_5)) (v6 : (c : Dev Cert.InProjIdeal.nD) → Buf (Elt Ideal) ((c.tc : Thread Cert.InProjIdeal.nD Cert.InProjIdeal.τ).loc Cert.InProjIdeal.main_v33_6)) (v7 : (c : Dev Cert.InProjIdeal.nD) → Buf (Elt Ideal) ((c.tc : Thread Cert.InProjIdeal.nD Cert.InProjIdeal.τ).loc Cert.InProjIdeal.main_v33_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v33_0) = v0 c
          ∧ r.2.mem ((c.tc : Thread Cert.InProjIdeal.nD Cert.InProjIdeal.τ).loc Cert.InProjIdeal.main_v33_1) = v1 c
          ∧ r.2.mem ((c.tc : Thread Cert.InProjIdeal.nD Cert.InProjIdeal.τ).loc Cert.InProjIdeal.main_v33_2) = v2 c
          ∧ r.2.mem ((c.tc : Thread Cert.InProjIdeal.nD Cert.InProjIdeal.τ).loc Cert.InProjIdeal.main_v33_3) = v3 c
          ∧ r.2.mem ((c.tc : Thread Cert.InProjIdeal.nD Cert.InProjIdeal.τ).loc Cert.InProjIdeal.main_v33_4) = v4 c
          ∧ r.2.mem ((c.tc : Thread Cert.InProjIdeal.nD Cert.InProjIdeal.τ).loc Cert.InProjIdeal.main_v33_5) = v5 c
          ∧ r.2.mem ((c.tc : Thread Cert.InProjIdeal.nD Cert.InProjIdeal.τ).loc Cert.InProjIdeal.main_v33_6) = v6 c
          ∧ r.2.mem ((c.tc : Thread Cert.InProjIdeal.nD Cert.InProjIdeal.τ).loc Cert.InProjIdeal.main_v33_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v166) = v0 c
          ∧ r.2.mem ((c.tc : Thread Cert.InProjRefIdeal.nD Cert.InProjRefIdeal.τ).loc Cert.InProjRefIdeal.main_v167) = v1 c
          ∧ r.2.mem ((c.tc : Thread Cert.InProjRefIdeal.nD Cert.InProjRefIdeal.τ).loc Cert.InProjRefIdeal.main_v168) = v2 c
          ∧ r.2.mem ((c.tc : Thread Cert.InProjRefIdeal.nD Cert.InProjRefIdeal.τ).loc Cert.InProjRefIdeal.main_v169) = v3 c
          ∧ r.2.mem ((c.tc : Thread Cert.InProjRefIdeal.nD Cert.InProjRefIdeal.τ).loc Cert.InProjRefIdeal.main_v171) = v4 c
          ∧ r.2.mem ((c.tc : Thread Cert.InProjRefIdeal.nD Cert.InProjRefIdeal.τ).loc Cert.InProjRefIdeal.main_v173) = v5 c
          ∧ r.2.mem ((c.tc : Thread Cert.InProjRefIdeal.nD Cert.InProjRefIdeal.τ).loc Cert.InProjRefIdeal.main_v175) = v6 c
          ∧ r.2.mem ((c.tc : Thread Cert.InProjRefIdeal.nD Cert.InProjRefIdeal.τ).loc Cert.InProjRefIdeal.main_v177) = v7 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)) →
    ∃ (v0 : (c : Dev Cert.InProjSIdeal.nD) → Buf (Elt Ideal) ((c.tc : Thread Cert.InProjSIdeal.nD Cert.InProjSIdeal.τ).loc Cert.InProjSIdeal.main_v36)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v36) = v0 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v170) = v0 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_OutProjS_OutProjSIdeal : Prop :=
  True

def algebraic_OutProjSIdeal_OutProjSRefIdeal [hOutProjSIdeal : Cert.OutProjSIdeal.Facts] [hOutProjSRefIdeal : Cert.OutProjSRefIdeal.Facts] : Prop :=
  ∀ (m : (ℓ : Loc Cert.OutProjSIdeal.nD Cert.OutProjSIdeal.τ Cert.OutProjSIdeal.sig) → Buf (Elt Ideal) ℓ) (g : Dev Cert.OutProjSIdeal.nD → PrngReg)
    (m' : (ℓ : Loc Cert.OutProjSRefIdeal.nD Cert.OutProjSRefIdeal.τ Cert.OutProjSRefIdeal.sig) → Buf (Elt Ideal) ℓ) (g' : Dev Cert.OutProjSRefIdeal.nD → PrngReg), Pre_OutProjSIdeal m →
    (∀ c : Dev Cert.OutProjSIdeal.nD,
      m' ((c.tc : Thread Cert.OutProjSRefIdeal.nD Cert.OutProjSRefIdeal.τ).loc Cert.OutProjSRefIdeal.main_arg0) = m ((c.tc : Thread Cert.OutProjSIdeal.nD Cert.OutProjSIdeal.τ).loc Cert.OutProjSIdeal.main_arg0)
      ∧ m' ((c.tc : Thread Cert.OutProjSRefIdeal.nD Cert.OutProjSRefIdeal.τ).loc Cert.OutProjSRefIdeal.main_arg1) = m ((c.tc : Thread Cert.OutProjSIdeal.nD Cert.OutProjSIdeal.τ).loc Cert.OutProjSIdeal.main_arg1)
      ∧ m' ((c.tc : Thread Cert.OutProjSRefIdeal.nD Cert.OutProjSRefIdeal.τ).loc Cert.OutProjSRefIdeal.main_arg2) = m ((c.tc : Thread Cert.OutProjSIdeal.nD Cert.OutProjSIdeal.τ).loc Cert.OutProjSIdeal.main_arg2)
      ∧ m' ((c.tc : Thread Cert.OutProjSRefIdeal.nD Cert.OutProjSRefIdeal.τ).loc Cert.OutProjSRefIdeal.main_arg3) = m ((c.tc : Thread Cert.OutProjSIdeal.nD Cert.OutProjSIdeal.τ).loc Cert.OutProjSIdeal.main_arg3)
      ∧ m' ((c.tc : Thread Cert.OutProjSRefIdeal.nD Cert.OutProjSRefIdeal.τ).loc Cert.OutProjSRefIdeal.main_arg4) = m ((c.tc : Thread Cert.OutProjSIdeal.nD Cert.OutProjSIdeal.τ).loc Cert.OutProjSIdeal.main_arg4)
      ∧ m' ((c.tc : Thread Cert.OutProjSRefIdeal.nD Cert.OutProjSRefIdeal.τ).loc Cert.OutProjSRefIdeal.main_arg5) = m ((c.tc : Thread Cert.OutProjSIdeal.nD Cert.OutProjSIdeal.τ).loc Cert.OutProjSIdeal.main_arg5)
      ∧ m' ((c.tc : Thread Cert.OutProjSRefIdeal.nD Cert.OutProjSRefIdeal.τ).loc Cert.OutProjSRefIdeal.main_arg6) = m ((c.tc : Thread Cert.OutProjSIdeal.nD Cert.OutProjSIdeal.τ).loc Cert.OutProjSIdeal.main_arg6)) →
    ∃ (v0 : (c : Dev Cert.OutProjSIdeal.nD) → Buf (Elt Ideal) ((c.tc : Thread Cert.OutProjSIdeal.nD Cert.OutProjSIdeal.τ).loc Cert.OutProjSIdeal.main_v1_0)) (v1 : (c : Dev Cert.OutProjSIdeal.nD) → Buf (Elt Ideal) ((c.tc : Thread Cert.OutProjSIdeal.nD Cert.OutProjSIdeal.τ).loc Cert.OutProjSIdeal.main_v1_1)),
      θ_run (Cert.OutProjSIdeal.defs (F := Ideal)) (onTc (τ := Cert.OutProjSIdeal.τ) (Cert.OutProjSIdeal.main (F := Ideal))) ⟨m, fun _ => 0, g⟩ (fun r => ∀ c : Dev Cert.OutProjSIdeal.nD,
          r.2.mem ((c.tc : Thread Cert.OutProjSIdeal.nD Cert.OutProjSIdeal.τ).loc Cert.OutProjSIdeal.main_v1_0) = v0 c
          ∧ r.2.mem ((c.tc : Thread Cert.OutProjSIdeal.nD Cert.OutProjSIdeal.τ).loc Cert.OutProjSIdeal.main_v1_1) = v1 c
          ∧ r.2.mem ((c.tc : Thread Cert.OutProjSIdeal.nD Cert.OutProjSIdeal.τ).loc Cert.OutProjSIdeal.main_arg0) = m ((c.tc : Thread Cert.OutProjSIdeal.nD Cert.OutProjSIdeal.τ).loc Cert.OutProjSIdeal.main_arg0)
          ∧ r.2.mem ((c.tc : Thread Cert.OutProjSIdeal.nD Cert.OutProjSIdeal.τ).loc Cert.OutProjSIdeal.main_arg1) = m ((c.tc : Thread Cert.OutProjSIdeal.nD Cert.OutProjSIdeal.τ).loc Cert.OutProjSIdeal.main_arg1)
          ∧ r.2.mem ((c.tc : Thread Cert.OutProjSIdeal.nD Cert.OutProjSIdeal.τ).loc Cert.OutProjSIdeal.main_arg2) = m ((c.tc : Thread Cert.OutProjSIdeal.nD Cert.OutProjSIdeal.τ).loc Cert.OutProjSIdeal.main_arg2)
          ∧ r.2.mem ((c.tc : Thread Cert.OutProjSIdeal.nD Cert.OutProjSIdeal.τ).loc Cert.OutProjSIdeal.main_arg3) = m ((c.tc : Thread Cert.OutProjSIdeal.nD Cert.OutProjSIdeal.τ).loc Cert.OutProjSIdeal.main_arg3)
          ∧ r.2.mem ((c.tc : Thread Cert.OutProjSIdeal.nD Cert.OutProjSIdeal.τ).loc Cert.OutProjSIdeal.main_arg4) = m ((c.tc : Thread Cert.OutProjSIdeal.nD Cert.OutProjSIdeal.τ).loc Cert.OutProjSIdeal.main_arg4)
          ∧ r.2.mem ((c.tc : Thread Cert.OutProjSIdeal.nD Cert.OutProjSIdeal.τ).loc Cert.OutProjSIdeal.main_arg5) = m ((c.tc : Thread Cert.OutProjSIdeal.nD Cert.OutProjSIdeal.τ).loc Cert.OutProjSIdeal.main_arg5)
          ∧ r.2.mem ((c.tc : Thread Cert.OutProjSIdeal.nD Cert.OutProjSIdeal.τ).loc Cert.OutProjSIdeal.main_arg6) = m ((c.tc : Thread Cert.OutProjSIdeal.nD Cert.OutProjSIdeal.τ).loc Cert.OutProjSIdeal.main_arg6))
      ∧ θ_run (Cert.OutProjSRefIdeal.defs (F := Ideal)) (onTc (τ := Cert.OutProjSRefIdeal.τ) (Cert.OutProjSRefIdeal.main (F := Ideal))) ⟨m', fun _ => 0, g'⟩ (fun r => ∀ c : Dev Cert.OutProjSRefIdeal.nD,
          r.2.mem ((c.tc : Thread Cert.OutProjSRefIdeal.nD Cert.OutProjSRefIdeal.τ).loc Cert.OutProjSRefIdeal.main_v2) = v0 c
          ∧ r.2.mem ((c.tc : Thread Cert.OutProjSRefIdeal.nD Cert.OutProjSRefIdeal.τ).loc Cert.OutProjSRefIdeal.main_v16) = v1 c
          ∧ r.2.mem ((c.tc : Thread Cert.OutProjSRefIdeal.nD Cert.OutProjSRefIdeal.τ).loc Cert.OutProjSRefIdeal.main_arg0) = m' ((c.tc : Thread Cert.OutProjSRefIdeal.nD Cert.OutProjSRefIdeal.τ).loc Cert.OutProjSRefIdeal.main_arg0)
          ∧ r.2.mem ((c.tc : Thread Cert.OutProjSRefIdeal.nD Cert.OutProjSRefIdeal.τ).loc Cert.OutProjSRefIdeal.main_arg1) = m' ((c.tc : Thread Cert.OutProjSRefIdeal.nD Cert.OutProjSRefIdeal.τ).loc Cert.OutProjSRefIdeal.main_arg1)
          ∧ r.2.mem ((c.tc : Thread Cert.OutProjSRefIdeal.nD Cert.OutProjSRefIdeal.τ).loc Cert.OutProjSRefIdeal.main_arg2) = m' ((c.tc : Thread Cert.OutProjSRefIdeal.nD Cert.OutProjSRefIdeal.τ).loc Cert.OutProjSRefIdeal.main_arg2)
          ∧ r.2.mem ((c.tc : Thread Cert.OutProjSRefIdeal.nD Cert.OutProjSRefIdeal.τ).loc Cert.OutProjSRefIdeal.main_arg3) = m' ((c.tc : Thread Cert.OutProjSRefIdeal.nD Cert.OutProjSRefIdeal.τ).loc Cert.OutProjSRefIdeal.main_arg3)
          ∧ r.2.mem ((c.tc : Thread Cert.OutProjSRefIdeal.nD Cert.OutProjSRefIdeal.τ).loc Cert.OutProjSRefIdeal.main_arg4) = m' ((c.tc : Thread Cert.OutProjSRefIdeal.nD Cert.OutProjSRefIdeal.τ).loc Cert.OutProjSRefIdeal.main_arg4)
          ∧ r.2.mem ((c.tc : Thread Cert.OutProjSRefIdeal.nD Cert.OutProjSRefIdeal.τ).loc Cert.OutProjSRefIdeal.main_arg5) = m' ((c.tc : Thread Cert.OutProjSRefIdeal.nD Cert.OutProjSRefIdeal.τ).loc Cert.OutProjSRefIdeal.main_arg5)
          ∧ r.2.mem ((c.tc : Thread Cert.OutProjSRefIdeal.nD Cert.OutProjSRefIdeal.τ).loc Cert.OutProjSRefIdeal.main_arg6) = m' ((c.tc : Thread Cert.OutProjSRefIdeal.nD Cert.OutProjSRefIdeal.τ).loc Cert.OutProjSRefIdeal.main_arg6))

def preserves_Moba_MobaIdeal : Prop :=
  IdealRules.named_const.Statement Cert.MobaIdeal.κ "mask" .f32 0xF149F2CA#32 ⊥

def algebraic_MobaIdeal_MobaRefIdeal_pre_moba_finite [hMobaIdeal : Cert.MobaIdeal.Facts] [hMobaRefIdeal : Cert.MobaRefIdeal.Facts] [hPre_moba_finite : Cert.Pre_moba_finite.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_moba_finite m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)) →
    ∃ (v0 : (c : Dev Cert.MobaIdeal.nD) → Buf (Elt Ideal) ((c.tc : Thread Cert.MobaIdeal.nD Cert.MobaIdeal.τ).loc Cert.MobaIdeal.main_v0)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v0) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v78) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2))

def Claim : Prop :=
  ∃ (hDiffAttn : Cert.DiffAttn.Facts) (hDiffAttnIdeal : Cert.DiffAttnIdeal.Facts) (hDiffRefIdeal : Cert.DiffRefIdeal.Facts) (hExperts : Cert.Experts.Facts) (hExpertsIdeal : Cert.ExpertsIdeal.Facts) (hExpertsRefIdeal : Cert.ExpertsRefIdeal.Facts) (hInProj : Cert.InProj.Facts) (hInProjIdeal : Cert.InProjIdeal.Facts) (hInProjRefIdeal : Cert.InProjRefIdeal.Facts) (hInProjS : Cert.InProjS.Facts) (hInProjSIdeal : Cert.InProjSIdeal.Facts) (hInProjSRefIdeal : Cert.InProjSRefIdeal.Facts) (hOutProj : Cert.OutProj.Facts) (hOutProjIdeal : Cert.OutProjIdeal.Facts) (hOutProjRefIdeal : Cert.OutProjRefIdeal.Facts) (hOutProjS : Cert.OutProjS.Facts) (hOutProjSIdeal : Cert.OutProjSIdeal.Facts) (hOutProjSRefIdeal : Cert.OutProjSRefIdeal.Facts) (hMoba : Cert.Moba.Facts) (hMobaIdeal : Cert.MobaIdeal.Facts) (hMobaRefIdeal : Cert.MobaRefIdeal.Facts) (hPre_finite : Cert.Pre_finite.Facts) (hPre_expert_range : Cert.Pre_expert_range.Facts) (hPre_moba_finite : Cert.Pre_moba_finite.Facts),
    quiescent_DiffAttn (hDiffAttn := hDiffAttn)
    ∧ quiescent_DiffAttnIdeal (hDiffAttnIdeal := hDiffAttnIdeal)
    ∧ quiescent_DiffAttnIdeal_pre_finite (hDiffAttnIdeal := hDiffAttnIdeal) (hPre_finite := hPre_finite)
    ∧ quiescent_DiffRefIdeal (hDiffRefIdeal := hDiffRefIdeal)
    ∧ quiescent_DiffRefIdeal_pre_finite (hDiffRefIdeal := hDiffRefIdeal) (hPre_finite := hPre_finite)
    ∧ quiescent_Experts (hExperts := hExperts) (hPre_expert_range := hPre_expert_range)
    ∧ quiescent_ExpertsIdeal (hExpertsIdeal := hExpertsIdeal) (hPre_expert_range := hPre_expert_range)
    ∧ quiescent_ExpertsRefIdeal (hExpertsRefIdeal := hExpertsRefIdeal) (hPre_expert_range := hPre_expert_range)
    ∧ quiescent_InProj (hInProj := hInProj)
    ∧ quiescent_InProjIdeal (hInProjIdeal := hInProjIdeal)
    ∧ quiescent_InProjRefIdeal (hInProjRefIdeal := hInProjRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjS (hOutProjS := hOutProjS)
    ∧ quiescent_OutProjSIdeal (hOutProjSIdeal := hOutProjSIdeal)
    ∧ quiescent_OutProjSRefIdeal (hOutProjSRefIdeal := hOutProjSRefIdeal)
    ∧ quiescent_Moba (hMoba := hMoba)
    ∧ quiescent_MobaIdeal (hMobaIdeal := hMobaIdeal)
    ∧ quiescent_MobaIdeal_pre_moba_finite (hMobaIdeal := hMobaIdeal) (hPre_moba_finite := hPre_moba_finite)
    ∧ quiescent_MobaRefIdeal (hMobaRefIdeal := hMobaRefIdeal)
    ∧ quiescent_MobaRefIdeal_pre_moba_finite (hMobaRefIdeal := hMobaRefIdeal) (hPre_moba_finite := hPre_moba_finite)
    ∧ preserves_DiffAttn_DiffAttnIdeal
    ∧ algebraic_DiffAttnIdeal_DiffRefIdeal_pre_finite (hDiffAttnIdeal := hDiffAttnIdeal) (hDiffRefIdeal := hDiffRefIdeal) (hPre_finite := hPre_finite)
    ∧ preserves_Experts_ExpertsIdeal
    ∧ algebraic_ExpertsIdeal_ExpertsRefIdeal (hExpertsIdeal := hExpertsIdeal) (hExpertsRefIdeal := hExpertsRefIdeal) (hPre_expert_range := hPre_expert_range)
    ∧ preserves_InProj_InProjIdeal
    ∧ algebraic_InProjIdeal_InProjRefIdeal (hInProjIdeal := hInProjIdeal) (hInProjRefIdeal := hInProjRefIdeal)
    ∧ preserves_InProjS_InProjSIdeal
    ∧ algebraic_InProjSIdeal_InProjSRefIdeal (hInProjSIdeal := hInProjSIdeal) (hInProjSRefIdeal := hInProjSRefIdeal)
    ∧ preserves_OutProj_OutProjIdeal
    ∧ algebraic_OutProjIdeal_OutProjRefIdeal (hOutProjIdeal := hOutProjIdeal) (hOutProjRefIdeal := hOutProjRefIdeal)
    ∧ preserves_OutProjS_OutProjSIdeal
    ∧ algebraic_OutProjSIdeal_OutProjSRefIdeal (hOutProjSIdeal := hOutProjSIdeal) (hOutProjSRefIdeal := hOutProjSRefIdeal)
    ∧ preserves_Moba_MobaIdeal
    ∧ algebraic_MobaIdeal_MobaRefIdeal_pre_moba_finite (hMobaIdeal := hMobaIdeal) (hMobaRefIdeal := hMobaRefIdeal) (hPre_moba_finite := hPre_moba_finite)
-- ==== Pre_expert_range.lean ====
abbrev S290 : Shape := ⟨1, ![290]⟩
abbrev S1 : Shape := ⟨1, ![1]⟩
abbrev S74240x1024 : Shape := ⟨2, ![74240, 1024]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S290 : S_.BroadcastsInDim S290 (![] : Fin 0 → Fin S290.rank)
  reducesTo_S290_S_d0 : S290.ReducesTo [0] S_
  h_S_ : 0 < S_.numel

variable [Facts]

def fn {F : FTy → Type} [FloatOps F] (main_arg0 : IVec S290 32) (main_arg1 : IVec S1 32) (main_arg2 : FVec F S74240x1024 .f32) (main_arg3 : FVec F S32x1024x1024 .f32) (main_arg4 : FVec F S32x1x1024 .f32) (main_arg5 : FVec F S32x1024x1024 .f32) (main_arg6 : FVec F S32x1x1024 .f32) (main_arg7 : FVec F S32x1024x1024 .f32) (main_arg8 : FVec F S32x1x1024 .f32) : IVec S_ 1 :=
  let main_c : IVec S_ 32 := constantI S_ 32 0#32
  let main_v0 : IVec S290 32 := broadcastInDim S290 ![] bcast_S_S290 main_c
  let main_v1 : IVec S290 1 := cmpi .sge main_arg0 main_v0
  let main_c_0 : IVec S_ 32 := constantI S_ 32 32#32
  let main_v2 : IVec S290 32 := broadcastInDim S290 ![] bcast_S_S290 main_c_0
  let main_v3 : IVec S290 1 := cmpi .slt main_arg0 main_v2
  let main_v4 : IVec S290 1 := andi main_v1 main_v3
  let main_c_1 : IVec S_ 1 := constantI S_ 1 1#1
  let main_v5 : IVec S_ 1 := (fun x v => Host.reduce IntOp.andi x v reducesTo_S290_S_d0 h_S_) main_v4 main_c_1
  main_v5
-- ==== Pre_finite.lean ====
abbrev S8x2048x512 : Shape := ⟨3, ![8, 2048, 512]⟩
abbrev S8x1x4x2048x128 : Shape := ⟨5, ![8, 1, 4, 2048, 128]⟩
abbrev S1x64 : Shape := ⟨2, ![1, 64]⟩
abbrev S128x1 : Shape := ⟨2, ![128, 1]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x1x4x2048x128 : S_.BroadcastsInDim S8x1x4x2048x128 (![] : Fin 0 → Fin S8x1x4x2048x128.rank)
  reducesTo_S8x1x4x2048x128_S_d0_1_2_3_4 : S8x1x4x2048x128.ReducesTo [0, 1, 2, 3, 4] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S8x2048x512 .f32) (main_arg1 : FVec F S8x1x4x2048x128 .f32) (main_arg2 : FVec F S8x1x4x2048x128 .f32) (main_arg3 : FVec F S1x64 .f32) (main_arg4 : FVec F S1x64 .f32) (main_arg5 : FVec F S1x64 .f32) (main_arg6 : FVec F S1x64 .f32) (main_arg7 : FVec F S128x1 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x1x4x2048x128 .f32 := Host.absf main_arg1
  let main_cst_0 : FVec F S_ .f32 := constant S_ .f32 0x7F800000#32
  let main_v5 : FVec F S8x1x4x2048x128 .f32 := broadcastInDim S8x1x4x2048x128 ![] bcast_S_S8x1x4x2048x128 main_cst_0
  let main_v6 : IVec S8x1x4x2048x128 1 := cmpf .olt main_v4 main_v5
  let main_c_1 : IVec S_ 1 := constantI S_ 1 1#1
  let main_v7 : IVec S_ 1 := (fun x v => Host.reduce IntOp.andi x v reducesTo_S8x1x4x2048x128_S_d0_1_2_3_4 h_S_) main_v6 main_c_1
  let main_v8 : IVec S_ 1 := andi main_v3 main_v7
  let main_v9 : FVec F S8x1x4x2048x128 .f32 := Host.absf main_arg2
  let main_cst_2 : FVec F S_ .f32 := constant S_ .f32 0x7F800000#32
  let main_v10 : FVec F S8x1x4x2048x128 .f32 := broadcastInDim S8x1x4x2048x128 ![] bcast_S_S8x1x4x2048x128 main_cst_2
  let main_v11 : IVec S8x1x4x2048x128 1 := cmpf .olt main_v9 main_v10
  let main_c_3 : IVec S_ 1 := constantI S_ 1 1#1
  let main_v12 : IVec S_ 1 := (fun x v => Host.reduce IntOp.andi x v reducesTo_S8x1x4x2048x128_S_d0_1_2_3_4 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Pre_moba_finite.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : FVec F S8x2048x512 .f32) (main_arg2 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  main_v8
-- ==== DiffAttn.lean ====
abbrev S8x2048x512 : Shape := ⟨3, ![8, 2048, 512]⟩
abbrev S8x1x4x2048x128 : Shape := ⟨5, ![8, 1, 4, 2048, 128]⟩
abbrev S1x64 : Shape := ⟨2, ![1, 64]⟩
abbrev S128x1 : Shape := ⟨2, ![128, 1]⟩
abbrev S1x256x128 : Shape := ⟨3, ![1, 256, 128]⟩
abbrev S1x1x1x2048x128 : Shape := ⟨5, ![1, 1, 1, 2048, 128]⟩
abbrev S8x256x128 : Shape := ⟨3, ![8, 256, 128]⟩
abbrev S8x128x256 : Shape := ⟨3, ![8, 128, 256]⟩
abbrev S1x1x1x256x128 : Shape := ⟨5, ![1, 1, 1, 256, 128]⟩
abbrev S256x128 : Shape := ⟨2, ![256, 128]⟩
abbrev S128x256 : Shape := ⟨2, ![128, 256]⟩
abbrev S1x128x256 : Shape := ⟨3, ![1, 128, 256]⟩
abbrev S1 : Shape := ⟨1, ![1]⟩
abbrev S1x1 : Shape := ⟨2, ![1, 1]⟩
abbrev S256x256 : Shape := ⟨2, ![256, 256]⟩
abbrev S256 : Shape := ⟨1, ![256]⟩
abbrev S1x256 : Shape := ⟨2, ![1, 256]⟩

abbrev nBuf : Space → Nat
  | .hbm => 9
  | .vmem => 15
  | .smem => 0
  | _ => 0

abbrev bufTy : (tb : Table) → Fin (tcTables nBuf tb) → BufTy
  | .hbm, ⟨0, _⟩ => ⟨S8x2048x512, .f32⟩
  | .hbm, ⟨1, _⟩ => ⟨S8x1x4x2048x128, .f32⟩
  | .hbm, ⟨2, _⟩ => ⟨S8x1x4x2048x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S128x1, .f32⟩
  | .hbm, ⟨8, _⟩ => ⟨S8x2048x512, .f32⟩
  | .local _ .vmem, ⟨0, _⟩ => ⟨S1x256x128, .f32⟩
  | .local _ .vmem, ⟨1, _⟩ => ⟨S1x256x128, .f32⟩
  | .local _ .vmem, ⟨2, _⟩ => ⟨S1x1x1x2048x128, .f32⟩
  | .local _ .vmem, ⟨3, _⟩ => ⟨S1x1x1x2048x128, .f32⟩
  | .local _ .vmem, ⟨4, _⟩ => ⟨S1x1x1x2048x128, .f32⟩
  | .local _ .vmem, ⟨5, _⟩ => ⟨S1x1x1x2048x128, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x1, .f32⟩
  | .local _ .vmem, ⟨11, _⟩ => ⟨S1x256x128, .f32⟩
  | .local _ .vmem, ⟨12, _⟩ => ⟨S1x256x128, .f32⟩
  | .local _ .vmem, ⟨13, _⟩ => ⟨S8x256x128, .bf16⟩
  | .local _ .vmem, ⟨14, _⟩ => ⟨S8x128x256, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 3 → Nat :=
  let arg2 : BitVec 32 := BitVec.ofNat 32 (i 2).val
  let v83 : Index := Scalar.indexCast arg2
  let c0_31 : Index := 0#32
  let c0_32 : Index := 0#32
  ![v83.toNat, 0, 0]
def k0_off2 (i : grid0.Coords) : Fin 3 → Nat :=
  let arg2 : BitVec 32 := BitVec.ofNat 32 (i 2).val
  let v86 : Index := Scalar.indexCast arg2
  let c0_33 : Index := 0#32
  let c0_34 : Index := 0#32
  ![v86.toNat, 0, 0]
@[reducible] def k0_t1_loop (i : grid0.Coords) : Scf.Loop 32 :=
  let c0_i32_45 : BitVec 32 := 0#32
  let arg2 : BitVec 32 := BitVec.ofNat 32 (i 2).val
  let v119 : BitVec 32 := Scalar.subi arg2 c0_i32_45
  let c1_i32_46 : BitVec 32 := 1#32
  let v121 : BitVec 32 := Scalar.divsi v119 c1_i32_46
  let v122 : BitVec 32 := Scalar.muli v121 c1_i32_46
  let v123 : BitVec 32 := Scalar.addi c0_i32_45 v122
  let c1_i32_47 : BitVec 32 := 1#32
  ⟨c0_i32_45, v123, c1_i32_47⟩
def k0_off3 (i : grid0.Coords) (k0_t1 : Fin (k0_t1_loop i).trips) : Fin 3 → Nat :=
  let c0_i32_45 : BitVec 32 := 0#32
  let c1_i32_47 : BitVec 32 := 1#32
  let arg14 : BitVec 32 := Scf.iv c0_i32_45 c1_i32_47 k0_t1
  let v152 : Index := Scalar.indexCast arg14
  let c0_58 : Index := 0#32
  let c0_59 : Index := 0#32
  ![v152.toNat, 0, 0]
def k0_off4 (i : grid0.Coords) (k0_t1 : Fin (k0_t1_loop i).trips) : Fin 3 → Nat :=
  let c0_i32_45 : BitVec 32 := 0#32
  let c1_i32_47 : BitVec 32 := 1#32
  let arg14 : BitVec 32 := Scf.iv c0_i32_45 c1_i32_47 k0_t1
  let v155 : Index := Scalar.indexCast arg14
  let c0_60 : Index := 0#32
  let c0_61 : Index := 0#32
  ![v155.toNat, 0, 0]
@[reducible] def k0_t2_loop (i : grid0.Coords) : Scf.Loop 32 :=
  let c0_i32_45 : BitVec 32 := 0#32
  let arg2 : BitVec 32 := BitVec.ofNat 32 (i 2).val
  let v119 : BitVec 32 := Scalar.subi arg2 c0_i32_45
  let c1_i32_46 : BitVec 32 := 1#32
  let v121 : BitVec 32 := Scalar.divsi v119 c1_i32_46
  let v122 : BitVec 32 := Scalar.muli v121 c1_i32_46
  let v123 : BitVec 32 := Scalar.addi c0_i32_45 v122
  let v120 : BitVec 32 := Scalar.addi c0_i32_45 v119
  let c1_i32_48 : BitVec 32 := 1#32
  ⟨v123, v120, c1_i32_48⟩
def k0_off5 (i : grid0.Coords) (k0_t2 : Fin (k0_t2_loop i).trips) : Fin 3 → Nat :=
  let c0_i32_45 : BitVec 32 := 0#32
  let arg2 : BitVec 32 := BitVec.ofNat 32 (i 2).val
  let v119 : BitVec 32 := Scalar.subi arg2 c0_i32_45
  let c1_i32_46 : BitVec 32 := 1#32
  let v121 : BitVec 32 := Scalar.divsi v119 c1_i32_46
  let v122 : BitVec 32 := Scalar.muli v121 c1_i32_46
  let v123 : BitVec 32 := Scalar.addi c0_i32_45 v122
  let c1_i32_48 : BitVec 32 := 1#32
  let arg14 : BitVec 32 := Scf.iv v123 c1_i32_48 k0_t2
  let v152 : Index := Scalar.indexCast arg14
  let c0_58 : Index := 0#32
  let c0_59 : Index := 0#32
  ![v152.toNat, 0, 0]
def k0_off6 (i : grid0.Coords) (k0_t2 : Fin (k0_t2_loop i).trips) : Fin 3 → Nat :=
  let c0_i32_45 : BitVec 32 := 0#32
  let arg2 : BitVec 32 := BitVec.ofNat 32 (i 2).val
  let v119 : BitVec 32 := Scalar.subi arg2 c0_i32_45
  let c1_i32_46 : BitVec 32 := 1#32
  let v121 : BitVec 32 := Scalar.divsi v119 c1_i32_46
  let v122 : BitVec 32 := Scalar.muli v121 c1_i32_46
  let v123 : BitVec 32 := Scalar.addi c0_i32_45 v122
  let c1_i32_48 : BitVec 32 := 1#32
  let arg14 : BitVec 32 := Scf.iv v123 c1_i32_48 k0_t2
  let v155 : Index := Scalar.indexCast arg14
  let c0_60 : Index := 0#32
  let c0_61 : Index := 0#32
  ![v155.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== DiffAttnIdeal.lean ====
variable {F : FTy → Type} [FloatOps F] [Named F]
def κ : String → Option EReal := fun
  | "mask" => some ⊥
  | _ => none
-- ==== DiffRefIdeal.lean ====
abbrev S8x2048x512 : Shape := ⟨3, ![8, 2048, 512]⟩
abbrev S8x1x4x2048x128 : Shape := ⟨5, ![8, 1, 4, 2048, 128]⟩
abbrev S1x64 : Shape := ⟨2, ![1, 64]⟩
abbrev S128x1 : Shape := ⟨2, ![128, 1]⟩
abbrev S64 : Shape := ⟨1, ![64]⟩
abbrev S_ : Shape := ⟨0, ![]⟩
abbrev S8x2048x4x128 : Shape := ⟨4, ![8, 2048, 4, 128]⟩
abbrev S8x4x2048x128 : Shape := ⟨4, ![8, 4, 2048, 128]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x2048x64 : Shape := ⟨4, ![8, 4, 2048, 64]⟩
abbrev S8x4x2048x2048 : Shape := ⟨4, ![8, 4, 2048, 2048]⟩
abbrev S8x4x2048 : Shape := ⟨3, ![8, 4, 2048]⟩
abbrev S8x4x2048x1 : Shape := ⟨4, ![8, 4, 2048, 1]⟩
abbrev S8x2048x4 : Shape := ⟨3, ![8, 2048, 4]⟩
abbrev S8x2048x4x1 : Shape := ⟨4, ![8, 2048, 4, 1]⟩
abbrev S128 : Shape := ⟨1, ![128]⟩
abbrev S1x1x1x128 : Shape := ⟨4, ![1, 1, 1, 128]⟩

abbrev nBuf : Space → Nat
  | .hbm => 109
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x1x4x2048x128, .f32⟩
  | .hbm, ⟨2, _⟩ => ⟨S8x1x4x2048x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S128x1, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x2048x4x128, .f32⟩
  | .hbm, ⟨24, _⟩ => ⟨S8x4x2048x128, .f32⟩
  | .hbm, ⟨25, _⟩ => ⟨S8x4x2048x128, .f32⟩
  | .hbm, ⟨26, _⟩ => ⟨S8x4x2048x128, .f32⟩
  | .hbm, ⟨27, _⟩ => ⟨S2048, .i32⟩
  | .hbm, ⟨28, _⟩ => ⟨S1x2048, .i32⟩
  | .hbm, ⟨29, _⟩ => ⟨S2048x1, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S8x4x2048x64, .f32⟩
  | .hbm, ⟨34, _⟩ => ⟨S8x4x2048x64, .f32⟩
  | .hbm, ⟨35, _⟩ => ⟨S8x4x2048x2048, .f32⟩
  | .hbm, ⟨36, _⟩ => ⟨S_, .f32⟩
  | .hbm, ⟨37, _⟩ => ⟨S8x4x2048x2048, .f32⟩
  | .hbm, ⟨38, _⟩ => ⟨S8x4x2048x2048, .f32⟩
  | .hbm, ⟨39, _⟩ => ⟨S_, .f32⟩
  | .hbm, ⟨40, _⟩ => ⟨S_, .f32⟩
  | .hbm, ⟨41, _⟩ => ⟨S8x4x2048x2048, .i1⟩
  | .hbm, ⟨42, _⟩ => ⟨S8x4x2048x2048, .f32⟩
  | .hbm, ⟨43, _⟩ => ⟨S8x4x2048x2048, .f32⟩
  | .hbm, ⟨44, _⟩ => ⟨S_, .f32⟩
  | .hbm, ⟨45, _⟩ => ⟨S8x4x2048, .f32⟩
  | .hbm, ⟨46, _⟩ => ⟨S_, .f32⟩
  | .hbm, ⟨47, _⟩ => ⟨S8x4x2048, .f32⟩
  | .hbm, ⟨48, _⟩ => ⟨S8x4x2048, .f32⟩
  | .hbm, ⟨49, _⟩ => ⟨S8x4x2048x1, .f32⟩
  | .hbm, ⟨50, _⟩ => ⟨S8x4x2048x2048, .f32⟩
  | .hbm, ⟨51, _⟩ => ⟨S8x4x2048x2048, .f32⟩
  | .hbm, ⟨52, _⟩ => ⟨S8x4x2048x2048, .f32⟩
  | .hbm, ⟨53, _⟩ => ⟨S_, .f32⟩
  | .hbm, ⟨54, _⟩ => ⟨S8x4x2048, .f32⟩
  | .hbm, ⟨55, _⟩ => ⟨S8x4x2048x1, .f32⟩
  | .hbm, ⟨56, _⟩ => ⟨S8x4x2048x2048, .f32⟩
  | .hbm, ⟨57, _⟩ => ⟨S8x4x2048x2048, .f32⟩
  | .hbm, ⟨58, _⟩ => ⟨S8x4x2048x64, .f32⟩
  | .hbm, ⟨59, _⟩ => ⟨S8x4x2048x64, .f32⟩
  | .hbm, ⟨60, _⟩ => ⟨S8x4x2048x2048, .f32⟩
  | .hbm, ⟨61, _⟩ => ⟨S_, .f32⟩
  | .hbm, ⟨62, _⟩ => ⟨S8x4x2048x2048, .f32⟩
  | .hbm, ⟨63, _⟩ => ⟨S8x4x2048x2048, .f32⟩
  | .hbm, ⟨64, _⟩ => ⟨S_, .f32⟩
  | .hbm, ⟨65, _⟩ => ⟨S_, .f32⟩
  | .hbm, ⟨66, _⟩ => ⟨S8x4x2048x2048, .i1⟩
  | .hbm, ⟨67, _⟩ => ⟨S8x4x2048x2048, .f32⟩
  | .hbm, ⟨68, _⟩ => ⟨S8x4x2048x2048, .f32⟩
  | .hbm, ⟨69, _⟩ => ⟨S_, .f32⟩
  | .hbm, ⟨70, _⟩ => ⟨S8x4x2048, .f32⟩
  | .hbm, ⟨71, _⟩ => ⟨S_, .f32⟩
  | .hbm, ⟨72, _⟩ => ⟨S8x4x2048, .f32⟩
  | .hbm, ⟨73, _⟩ => ⟨S8x4x2048, .f32⟩
  | .hbm, ⟨74, _⟩ => ⟨S8x4x2048x1, .f32⟩
  | .hbm, ⟨75, _⟩ => ⟨S8x4x2048x2048, .f32⟩
  | .hbm, ⟨76, _⟩ => ⟨S8x4x2048x2048, .f32⟩
  | .hbm, ⟨77, _⟩ => ⟨S8x4x2048x2048, .f32⟩
  | .hbm, ⟨78, _⟩ => ⟨S_, .f32⟩
  | .hbm, ⟨79, _⟩ => ⟨S8x4x2048, .f32⟩
  | .hbm, ⟨80, _⟩ => ⟨S8x4x2048x1, .f32⟩
  | .hbm, ⟨81, _⟩ => ⟨S8x4x2048x2048, .f32⟩
  | .hbm, ⟨82, _⟩ => ⟨S8x4x2048x2048, .f32⟩
  | .hbm, ⟨83, _⟩ => ⟨S8x4x2048x2048, .f32⟩
  | .hbm, ⟨84, _⟩ => ⟨S8x4x2048x2048, .f32⟩
  | .hbm, ⟨85, _⟩ => ⟨S8x4x2048x2048, .f32⟩
  | .hbm, ⟨86, _⟩ => ⟨S8x4x2048x128, .f32⟩
  | .hbm, ⟨87, _⟩ => ⟨S8x2048x4x128, .f32⟩
  | .hbm, ⟨88, _⟩ => ⟨S8x2048x4x128, .f32⟩
  | .hbm, ⟨89, _⟩ => ⟨S_, .f32⟩
  | .hbm, ⟨90, _⟩ => ⟨S8x2048x4, .f32⟩
  | .hbm, ⟨91, _⟩ => ⟨S8x2048x4x1, .f32⟩
  | .hbm, ⟨92, _⟩ => ⟨S_, .f32⟩
  | .hbm, ⟨93, _⟩ => ⟨S8x2048x4x1, .f32⟩
  | .hbm, ⟨94, _⟩ => ⟨S8x2048x4x1, .f32⟩
  | .hbm, ⟨95, _⟩ => ⟨S_, .f32⟩
  | .hbm, ⟨96, _⟩ => ⟨S8x2048x4x1, .f32⟩
  | .hbm, ⟨97, _⟩ => ⟨S8x2048x4x1, .f32⟩
  | .hbm, ⟨98, _⟩ => ⟨S8x2048x4x1, .f32⟩
  | .hbm, ⟨99, _⟩ => ⟨S8x2048x4x128, .f32⟩
  | .hbm, ⟨100, _⟩ => ⟨S8x2048x4x128, .f32⟩
  | .hbm, ⟨101, _⟩ => ⟨S128, .f32⟩
  | .hbm, ⟨102, _⟩ => ⟨S1x1x1x128, .f32⟩
  | .hbm, ⟨103, _⟩ => ⟨S8x2048x4x128, .f32⟩
  | .hbm, ⟨104, _⟩ => ⟨S8x2048x4x128, .f32⟩
  | .hbm, ⟨105, _⟩ => ⟨S_, .f32⟩
  | .hbm, ⟨106, _⟩ => ⟨S8x2048x4x128, .f32⟩
  | .hbm, ⟨107, _⟩ => ⟨S8x2048x4x128, .f32⟩
  | .hbm, ⟨108, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]
-- ==== Experts.lean ====
abbrev S290 : Shape := ⟨1, ![290]⟩
abbrev S1 : Shape := ⟨1, ![1]⟩
abbrev S74240x1024 : Shape := ⟨2, ![74240, 1024]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 8
  | .vmem => 19
  | .smem => 2
  | _ => 0

abbrev bufTy : (tb : Table) → Fin (tcTables nBuf tb) → BufTy
  | .hbm, ⟨0, _⟩ => ⟨S74240x1024, .f32⟩
  | .hbm, ⟨1, _⟩ => ⟨S32x1024x1024, .f32⟩
  | .hbm, ⟨2, _⟩ => ⟨S32x1x1024, .f32⟩
  | .hbm, ⟨3, _⟩ => ⟨S32x1024x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S74240x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .smem, ⟨0, _⟩ => ⟨S290, .i32⟩
  | .local _ .smem, ⟨1, _⟩ => ⟨S1, .i32⟩
  | _, _ => ⟨S74240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![290], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S290 : Shape := ⟨1, ![290]⟩
abbrev S1 : Shape := ⟨1, ![1]⟩
abbrev S74240x1024 : Shape := ⟨2, ![74240, 1024]⟩
abbrev S32x1024x1024 : Shape := ⟨3, ![32, 1024, 1024]⟩
abbrev S32x1x1024 : Shape := ⟨3, ![32, 1, 1024]⟩
abbrev S290x256x1024 : Shape := ⟨3, ![290, 256, 1024]⟩
abbrev S_ : Shape := ⟨0, ![]⟩
abbrev S290x1 : Shape := ⟨2, ![290, 1]⟩
abbrev S290x1024x1024 : Shape := ⟨3, ![290, 1024, 1024]⟩
abbrev S290x1x1024 : Shape := ⟨3, ![290, 1, 1024]⟩
abbrev S290x1x1 : Shape := ⟨3, ![290, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S290, .i32⟩
  | .hbm, ⟨1, _⟩ => ⟨S1, .i32⟩
  | .hbm, ⟨2, _⟩ => ⟨S74240x1024, .f32⟩
  | .hbm, ⟨3, _⟩ => ⟨S32x1024x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S32x1024x1024, .f32⟩
  | .hbm, ⟨8, _⟩ => ⟨S32x1x1024, .f32⟩
  | .hbm, ⟨9, _⟩ => ⟨S290x256x1024, .f32⟩
  | .hbm, ⟨10, _⟩ => ⟨S_, .i32⟩
  | .hbm, ⟨11, _⟩ => ⟨S290, .i32⟩
  | .hbm, ⟨12, _⟩ => ⟨S290, .i1⟩
  | .hbm, ⟨13, _⟩ => ⟨S_, .i32⟩
  | .hbm, ⟨14, _⟩ => ⟨S290, .i32⟩
  | .hbm, ⟨15, _⟩ => ⟨S290, .i32⟩
  | .hbm, ⟨16, _⟩ => ⟨S290, .i32⟩
  | .hbm, ⟨17, _⟩ => ⟨S290x1, .i32⟩
  | .hbm, ⟨18, _⟩ => ⟨S290x1024x1024, .f32⟩
  | .hbm, ⟨19, _⟩ => ⟨S290x256x1024, .f32⟩
  | .hbm, ⟨20, _⟩ => ⟨S_, .i32⟩
  | .hbm, ⟨21, _⟩ => ⟨S290, .i32⟩
  | .hbm, ⟨22, _⟩ => ⟨S290, .i1⟩
  | .hbm, ⟨23, _⟩ => ⟨S_, .i32⟩
  | .hbm, ⟨24, _⟩ => ⟨S290, .i32⟩
  | .hbm, ⟨25, _⟩ => ⟨S290, .i32⟩
  | .hbm, ⟨26, _⟩ => ⟨S290, .i32⟩
  | .hbm, ⟨27, _⟩ => ⟨S290x1, .i32⟩
  | .hbm, ⟨28, _⟩ => ⟨S290x1x1024, .f32⟩
  | .hbm, ⟨29, _⟩ => ⟨S290x256x1024, .f32⟩
  | .hbm, ⟨30, _⟩ => ⟨S290x256x1024, .f32⟩
  | .hbm, ⟨31, _⟩ => ⟨S_, .i32⟩
  | .hbm, ⟨32, _⟩ => ⟨S290, .i32⟩
  | .hbm, ⟨33, _⟩ => ⟨S290, .i1⟩
  | .hbm, ⟨34, _⟩ => ⟨S_, .i32⟩
  | .hbm, ⟨35, _⟩ => ⟨S290, .i32⟩
  | .hbm, ⟨36, _⟩ => ⟨S290, .i32⟩
  | .hbm, ⟨37, _⟩ => ⟨S290, .i32⟩
  | .hbm, ⟨38, _⟩ => ⟨S290x1, .i32⟩
  | .hbm, ⟨39, _⟩ => ⟨S290x1024x1024, .f32⟩
  | .hbm, ⟨40, _⟩ => ⟨S290x256x1024, .f32⟩
  | .hbm, ⟨41, _⟩ => ⟨S_, .i32⟩
  | .hbm, ⟨42, _⟩ => ⟨S290, .i32⟩
  | .hbm, ⟨43, _⟩ => ⟨S290, .i1⟩
  | .hbm, ⟨44, _⟩ => ⟨S_, .i32⟩
  | .hbm, ⟨45, _⟩ => ⟨S290, .i32⟩
  | .hbm, ⟨46, _⟩ => ⟨S290, .i32⟩
  | .hbm, ⟨47, _⟩ => ⟨S290, .i32⟩
  | .hbm, ⟨48, _⟩ => ⟨S290x1, .i32⟩
  | .hbm, ⟨49, _⟩ => ⟨S290x1x1024, .f32⟩
  | .hbm, ⟨50, _⟩ => ⟨S290x256x1024, .f32⟩
  | .hbm, ⟨51, _⟩ => ⟨S290x256x1024, .f32⟩
  | .hbm, ⟨52, _⟩ => ⟨S_, .f32⟩
  | .hbm, ⟨53, _⟩ => ⟨S290x256x1024, .f32⟩
  | .hbm, ⟨54, _⟩ => ⟨S290x256x1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S290x256x1024, .f32⟩
  | .hbm, ⟨59, _⟩ => ⟨S290x256x1024, .f32⟩
  | .hbm, ⟨60, _⟩ => ⟨S_, .f32⟩
  | .hbm, ⟨61, _⟩ => ⟨S290x256x1024, .f32⟩
  | .hbm, ⟨62, _⟩ => ⟨S290x256x1024, .f32⟩
  | .hbm, ⟨63, _⟩ => ⟨S_, .f32⟩
  | .hbm, ⟨64, _⟩ => ⟨S290x256x1024, .f32⟩
  | .hbm, ⟨65, _⟩ => ⟨S290x256x1024, .f32⟩
  | .hbm, ⟨66, _⟩ => ⟨S290x256x1024, .f32⟩
  | .hbm, ⟨67, _⟩ => ⟨S290x256x1024, .f32⟩
  | .hbm, ⟨68, _⟩ => ⟨S_, .f32⟩
  | .hbm, ⟨69, _⟩ => ⟨S290x256x1024, .f32⟩
  | .hbm, ⟨70, _⟩ => ⟨S290x256x1024, .f32⟩
  | .hbm, ⟨71, _⟩ => ⟨S_, .f32⟩
  | .hbm, ⟨72, _⟩ => ⟨S290x256x1024, .f32⟩
  | .hbm, ⟨73, _⟩ => ⟨S290x256x1024, .f32⟩
  | .hbm, ⟨74, _⟩ => ⟨S290x256x1024, .f32⟩
  | .hbm, ⟨75, _⟩ => ⟨S_, .f32⟩
  | .hbm, ⟨76, _⟩ => ⟨S290x256x1024, .f32⟩
  | .hbm, ⟨77, _⟩ => ⟨S290x256x1024, .f32⟩
  | .hbm, ⟨78, _⟩ => ⟨S290x256x1024, .f32⟩
  | .hbm, ⟨79, _⟩ => ⟨S_, .i32⟩
  | .hbm, ⟨80, _⟩ => ⟨S290, .i32⟩
  | .hbm, ⟨81, _⟩ => ⟨S290, .i1⟩
  | .hbm, ⟨82, _⟩ => ⟨S_, .i32⟩
  | .hbm, ⟨83, _⟩ => ⟨S290, .i32⟩
  | .hbm, ⟨84, _⟩ => ⟨S290, .i32⟩
  | .hbm, ⟨85, _⟩ => ⟨S290, .i32⟩
  | .hbm, ⟨86, _⟩ => ⟨S290x1, .i32⟩
  | .hbm, ⟨87, _⟩ => ⟨S290x1024x1024, .f32⟩
  | .hbm, ⟨88, _⟩ => ⟨S290x256x1024, .f32⟩
  | .hbm, ⟨89, _⟩ => ⟨S_, .i32⟩
  | .hbm, ⟨90, _⟩ => ⟨S290, .i32⟩
  | .hbm, ⟨91, _⟩ => ⟨S290, .i1⟩
  | .hbm, ⟨92, _⟩ => ⟨S_, .i32⟩
  | .hbm, ⟨93, _⟩ => ⟨S290, .i32⟩
  | .hbm, ⟨94, _⟩ => ⟨S290, .i32⟩
  | .hbm, ⟨95, _⟩ => ⟨S290, .i32⟩
  | .hbm, ⟨96, _⟩ => ⟨S290x1, .i32⟩
  | .hbm, ⟨97, _⟩ => ⟨S290x1x1024, .f32⟩
  | .hbm, ⟨98, _⟩ => ⟨S290x256x1024, .f32⟩
  | .hbm, ⟨99, _⟩ => ⟨S290x256x1024, .f32⟩
  | .hbm, ⟨100, _⟩ => ⟨S290, .i32⟩
  | .hbm, ⟨101, _⟩ => ⟨S290, .i32⟩
  | .hbm, ⟨102, _⟩ => ⟨S290, .i1⟩
  | .hbm, ⟨103, _⟩ => ⟨S290x1x1, .i1⟩
  | .hbm, ⟨104, _⟩ => ⟨S_, .f32⟩
  | .hbm, ⟨105, _⟩ => ⟨S_, .f32⟩
  | .hbm, ⟨106, _⟩ => ⟨S290x256x1024, .i1⟩
  | .hbm, ⟨107, _⟩ => ⟨S290x256x1024, .f32⟩
  | .hbm, ⟨108, _⟩ => ⟨S290x256x1024, .f32⟩
  | .hbm, ⟨109, _⟩ => ⟨S74240x1024, .f32⟩
  | _, _ => ⟨S290, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_13 : Ref sig .tc := ⟨.hbm, 79, rfl⟩
abbrev main_v50 : Ref sig .tc := ⟨.hbm, 80, rfl⟩
abbrev main_v51 : Ref sig .tc := ⟨.hbm, 81, rfl⟩
abbrev main_c_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_15 : Ref sig .tc := ⟨.hbm, 89, rfl⟩
abbrev main_v58 : Ref sig .tc := ⟨.hbm, 90, rfl⟩
abbrev main_v59 : Ref sig .tc := ⟨.hbm, 91, rfl⟩
abbrev main_c_16 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_17 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v71 : Ref sig .tc := ⟨.hbm, 108, rfl⟩
abbrev main_v72 : Ref sig .tc := ⟨.hbm, 109, rfl⟩

abbrev nD : Nat := 1
abbrev τ : Topo := Topo.v7x

variable {F : FTy → Type} [FloatOps F]
-- ==== InProj.lean ====
abbrev S8x2048x1024 : Shape := ⟨3, ![8, 2048, 1024]⟩
abbrev S1x1024 : Shape := ⟨2, ![1, 1024]⟩
abbrev S1024x3072 : Shape := ⟨2, ![1024, 3072]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x56 : Shape := ⟨2, ![2048, 56]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S8x2048x512 : Shape := ⟨3, ![8, 2048, 512]⟩
abbrev S8x1x8x2048x64 : Shape := ⟨5, ![8, 1, 8, 2048, 64]⟩
abbrev S8x1x4x2048x128 : Shape := ⟨5, ![8, 1, 4, 2048, 128]⟩
abbrev S1x256x1024 : Shape := ⟨3, ![1, 256, 1024]⟩
abbrev S256x128 : Shape := ⟨2, ![256, 128]⟩
abbrev S1x256x512 : Shape := ⟨3, ![1, 256, 512]⟩
abbrev S1x1x8x256x64 : Shape := ⟨5, ![1, 1, 8, 256, 64]⟩
abbrev S1x1x4x256x128 : Shape := ⟨5, ![1, 1, 4, 256, 128]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x64 : Shape := ⟨2, ![256, 64]⟩
abbrev S1x1x1x256x64 : Shape := ⟨5, ![1, 1, 1, 256, 64]⟩
abbrev S1x1x1x256x128 : Shape := ⟨5, ![1, 1, 1, 256, 128]⟩

abbrev nBuf : Space → Nat
  | .hbm => 50
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1024x3072, .f32⟩
  | .hbm, ⟨3, _⟩ => ⟨S1024x3072, .bf16⟩
  | .hbm, ⟨4, _⟩ => ⟨S2048, .i32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S2048, .f32⟩
  | .hbm, ⟨14, _⟩ => ⟨S2048x1, .f32⟩
  | .hbm, ⟨15, _⟩ => ⟨S1x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S_, .f32⟩
  | .hbm, ⟨22, _⟩ => ⟨S2048x48, .f32⟩
  | .hbm, ⟨23, _⟩ => ⟨S2048x64, .f32⟩
  | .hbm, ⟨24, _⟩ => ⟨S2048x8, .f32⟩
  | .hbm, ⟨25, _⟩ => ⟨S_, .f32⟩
  | .hbm, ⟨26, _⟩ => ⟨S2048x56, .f32⟩
  | .hbm, ⟨27, _⟩ => ⟨S2048x64, .f32⟩
  | .hbm, ⟨28, _⟩ => ⟨S_, .f32⟩
  | .hbm, ⟨29, _⟩ => ⟨S2048x8, .f32⟩
  | .hbm, ⟨30, _⟩ => ⟨S_, .f32⟩
  | .hbm, ⟨31, _⟩ => ⟨S2048x48, .f32⟩
  | .hbm, ⟨32, _⟩ => ⟨S2048x64, .f32⟩
  | .hbm, ⟨33, _⟩ => ⟨S1x2048x1x64, .f32⟩
  | .hbm, ⟨34, _⟩ => ⟨S1x2048x2x64, .f32⟩
  | .hbm, ⟨35, _⟩ => ⟨S2048x128, .f32⟩
  | .hbm, ⟨36, _⟩ => ⟨S1x2048x1x64, .f32⟩
  | .hbm, ⟨37, _⟩ => ⟨S1x2048x2x64, .f32⟩
  | .hbm, ⟨38, _⟩ => ⟨S2048x128, .f32⟩
  | .hbm, ⟨39, _⟩ => ⟨S1x2048x1x64, .f32⟩
  | .hbm, ⟨40, _⟩ => ⟨S1x2048x2x64, .f32⟩
  | .hbm, ⟨41, _⟩ => ⟨S2048x128, .f32⟩
  | .hbm, ⟨42, _⟩ => ⟨S8x2048x512, .f32⟩
  | .hbm, ⟨43, _⟩ => ⟨S8x2048x512, .f32⟩
  | .hbm, ⟨44, _⟩ => ⟨S8x2048x512, .f32⟩
  | .hbm, ⟨45, _⟩ => ⟨S8x2048x512, .f32⟩
  | .hbm, ⟨46, _⟩ => ⟨S8x1x8x2048x64, .f32⟩
  | .hbm, ⟨47, _⟩ => ⟨S8x1x8x2048x64, .f32⟩
  | .hbm, ⟨48, _⟩ => ⟨S8x1x4x2048x128, .f32⟩
  | .hbm, ⟨49, _⟩ => ⟨S8x1x4x2048x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x3072, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x1x8x256x64, .f32⟩
  | .local _ .vmem, ⟨19, _⟩ => ⟨S1x1x8x256x64, .f32⟩
  | .local _ .vmem, ⟨20, _⟩ => ⟨S1x1x8x256x64, .f32⟩
  | .local _ .vmem, ⟨21, _⟩ => ⟨S1x1x8x256x64, .f32⟩
  | .local _ .vmem, ⟨22, _⟩ => ⟨S1x1x4x256x128, .f32⟩
  | .local _ .vmem, ⟨23, _⟩ => ⟨S1x1x4x256x128, .f32⟩
  | .local _ .vmem, ⟨24, _⟩ => ⟨S1x1x4x256x128, .f32⟩
  | .local _ .vmem, ⟨25, _⟩ => ⟨S1x1x4x256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev main_v33_3 : Ref sig .tc := ⟨.hbm, 45, rfl⟩
abbrev main_v33_4 : Ref sig .tc := ⟨.hbm, 46, rfl⟩
abbrev main_v33_5 : Ref sig .tc := ⟨.hbm, 47, rfl⟩
abbrev main_v33_6 : Ref sig .tc := ⟨.hbm, 48, rfl⟩
abbrev main_v33_7 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8x256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x4x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x4x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== InProjRefIdeal.lean ====
abbrev S8x2048x1024 : Shape := ⟨3, ![8, 2048, 1024]⟩
abbrev S1x1024 : Shape := ⟨2, ![1, 1024]⟩
abbrev S1024x3072 : Shape := ⟨2, ![1024, 3072]⟩
abbrev S1024 : Shape := ⟨1, ![1024]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x512 : Shape := ⟨3, ![8, 2048, 512]⟩
abbrev S8x2048x8x64 : Shape := ⟨4, ![8, 2048, 8, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x8x8 : Shape := ⟨4, ![8, 2048, 8, 8]⟩
abbrev S1x2048x1x8 : Shape := ⟨4, ![1, 2048, 1, 8]⟩
abbrev S8x2048x8x48 : Shape := ⟨4, ![8, 2048, 8, 48]⟩
abbrev S8x2048x4x128 : Shape := ⟨4, ![8, 2048, 4, 128]⟩
abbrev S8x8x2048x64 : Shape := ⟨4, ![8, 8, 2048, 64]⟩
abbrev S8x1x8x2048x64 : Shape := ⟨5, ![8, 1, 8, 2048, 64]⟩
abbrev S8x4x2048x128 : Shape := ⟨4, ![8, 4, 2048, 128]⟩
abbrev S8x1x4x2048x128 : Shape := ⟨5, ![8, 1, 4, 2048, 128]⟩

abbrev nBuf : Space → Nat
  | .hbm => 192
  | .vmem => 0
  | .smem => 0
  | _ => 0

abbrev hbmTy0_0 (i : Nat) : BufTy := match i % 128 with
  | 0 => ⟨S8x2048x1024, .f32⟩
  | 1 => ⟨S1x1024, .f32⟩
  | 2 => ⟨S1024x3072, .f32⟩
  | 3 => ⟨S1024, .f32⟩
  | 4 => ⟨S2048, .i32⟩
  | 5 => ⟨S8x2048x1024, .f32⟩
  | 6 => ⟨S_, .f32⟩
  | 7 => ⟨S8x2048, .f32⟩
  | 8 => ⟨S8x2048x1, .f32⟩
  | 9 => ⟨S_, .f32⟩
  | 10 => ⟨S8x2048x1, .f32⟩
  | 11 => ⟨S8x2048x1, .f32⟩
  | 12 => ⟨S_, .f32⟩
  | 13 => ⟨S8x2048x1, .f32⟩
  | 14 => ⟨S8x2048x1, .f32⟩
  | 15 => ⟨S8x2048x1, .f32⟩
  | 16 => ⟨S8x2048x1024, .f32⟩
  | 17 => ⟨S8x2048x1024, .f32⟩
  | 18 => ⟨S1x1x1024, .f32⟩
  | 19 => ⟨S8x2048x1024, .f32⟩
  | 20 => ⟨S8x2048x1024, .f32⟩
  | 21 => ⟨S8x2048x3072, .f32⟩
  | 22 => ⟨S8x2048x512, .f32⟩
  | 23 => ⟨S8x2048x512, .f32⟩
  | 24 => ⟨S8x2048x512, .f32⟩
  | 25 => ⟨S8x2048x512, .f32⟩
  | 26 => ⟨S8x2048x512, .f32⟩
  | 27 => ⟨S8x2048x512, .f32⟩
  | 28 => ⟨S8x2048x8x64, .f32⟩
  | 29 => ⟨S8, .f32⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S2048, .f32⟩
  | 38 => ⟨S2048x1, .f32⟩
  | 39 => ⟨S1x8, .f32⟩
  | 40 => ⟨S2048x8, .f32⟩
  | 41 => ⟨S2048x8, .f32⟩
  | 42 => ⟨S2048x8, .f32⟩
  | 43 => ⟨S2048x8, .f32⟩
  | 44 => ⟨S2048x1x8, .f32⟩
  | 45 => ⟨S2048x8, .f32⟩
  | 46 => ⟨S2048x1x8, .f32⟩
  | 47 => ⟨S8x2048x8x8, .f32⟩
  | 48 => ⟨S8x2048x8x8, .f32⟩
  | 49 => ⟨S1x2048x1x8, .f32⟩
  | 50 => ⟨S8x2048x8x8, .f32⟩
  | 51 => ⟨S8x2048x8x8, .f32⟩
  | 52 => ⟨S1x2048x1x8, .f32⟩
  | 53 => ⟨S8x2048x8x8, .f32⟩
  | 54 => ⟨S8x2048x8x8, .f32⟩
  | 55 => ⟨S8x2048x8x8, .f32⟩
  | 56 => ⟨S1x2048x1x8, .f32⟩
  | 57 => ⟨S8x2048x8x8, .f32⟩
  | 58 => ⟨S8x2048x8x8, .f32⟩
  | 59 => ⟨S1x2048x1x8, .f32⟩
  | 60 => ⟨S8x2048x8x8, .f32⟩
  | 61 => ⟨S8x2048x8x8, .f32⟩
  | 62 => ⟨S8x2048x8x8, .f32⟩
  | 63 => ⟨S8x2048x8x48, .f32⟩
  | 64 => ⟨S8x2048x8x64, .f32⟩
  | 65 => ⟨S8x2048x8x64, .f32⟩
  | 66 => ⟨S8, .f32⟩
  | 67 => ⟨S8, .f32⟩
  | 68 => ⟨S_, .f32⟩
  | 69 => ⟨S8, .f32⟩
  | 70 => ⟨S8, .f32⟩
  | 71 => ⟨S_, .f32⟩
  | 72 => ⟨S8, .f32⟩
  | 73 => ⟨S8, .f32⟩
  | 74 => ⟨S2048, .f32⟩
  | 75 => ⟨S2048x1, .f32⟩
  | 76 => ⟨S1x8, .f32⟩
  | 77 => ⟨S2048x8, .f32⟩
  | 78 => ⟨S2048x8, .f32⟩
  | 79 => ⟨S2048x8, .f32⟩
  | 80 => ⟨S2048x8, .f32⟩
  | 81 => ⟨S2048x1x8, .f32⟩
  | 82 => ⟨S2048x8, .f32⟩
  | 83 => ⟨S2048x1x8, .f32⟩
  | 84 => ⟨S8x2048x8x8, .f32⟩
  | 85 => ⟨S8x2048x8x8, .f32⟩
  | 86 => ⟨S1x2048x1x8, .f32⟩
  | 87 => ⟨S8x2048x8x8, .f32⟩
  | 88 => ⟨S8x2048x8x8, .f32⟩
  | 89 => ⟨S1x2048x1x8, .f32⟩
  | 90 => ⟨S8x2048x8x8, .f32⟩
  | 91 => ⟨S8x2048x8x8, .f32⟩
  | 92 => ⟨S8x2048x8x8, .f32⟩
  | 93 => ⟨S1x2048x1x8, .f32⟩
  | 94 => ⟨S8x2048x8x8, .f32⟩
  | 95 => ⟨S8x2048x8x8, .f32⟩
  | 96 => ⟨S1x2048x1x8, .f32⟩
  | 97 => ⟨S8x2048x8x8, .f32⟩
  | 98 => ⟨S8x2048x8x8, .f32⟩
  | 99 => ⟨S8x2048x8x8, .f32⟩
  | 100 => ⟨S8x2048x8x48, .f32⟩
  | 101 => ⟨S8x2048x8x64, .f32⟩
  | 102 => ⟨S8x2048x8x64, .f32⟩
  | 103 => ⟨S8x2048x8x64, .f32⟩
  | 104 => ⟨S8, .f32⟩
  | 105 => ⟨S8, .f32⟩
  | 106 => ⟨S_, .f32⟩
  | 107 => ⟨S8, .f32⟩
  | 108 => ⟨S8, .f32⟩
  | 109 => ⟨S_, .f32⟩
  | 110 => ⟨S8, .f32⟩
  | 111 => ⟨S8, .f32⟩
  | 112 => ⟨S2048, .f32⟩
  | 113 => ⟨S2048x1, .f32⟩
  | 114 => ⟨S1x8, .f32⟩
  | 115 => ⟨S2048x8, .f32⟩
  | 116 => ⟨S2048x8, .f32⟩
  | 117 => ⟨S2048x8, .f32⟩
  | 118 => ⟨S2048x8, .f32⟩
  | 119 => ⟨S2048x1x8, .f32⟩
  | 120 => ⟨S2048x8, .f32⟩
  | 121 => ⟨S2048x1x8, .f32⟩
  | 122 => ⟨S8x2048x8x8, .f32⟩
  | 123 => ⟨S8x2048x8x8, .f32⟩
  | 124 => ⟨S1x2048x1x8, .f32⟩
  | 125 => ⟨S8x2048x8x8, .f32⟩
  | 126 => ⟨S8x2048x8x8, .f32⟩
  | 127 => ⟨S1x2048x1x8, .f32⟩
  | _ => ⟨S8x2048x1024, .f32⟩

abbrev hbmTy0_1 (i : Nat) : BufTy := match i % 128 with
  | 0 => ⟨S8x2048x8x8, .f32⟩
  | 1 => ⟨S8x2048x8x8, .f32⟩
  | 2 => ⟨S8x2048x8x8, .f32⟩
  | 3 => ⟨S1x2048x1x8, .f32⟩
  | 4 => ⟨S8x2048x8x8, .f32⟩
  | 5 => ⟨S8x2048x8x8, .f32⟩
  | 6 => ⟨S1x2048x1x8, .f32⟩
  | 7 => ⟨S8x2048x8x8, .f32⟩
  | 8 => ⟨S8x2048x8x8, .f32⟩
  | 9 => ⟨S8x2048x8x8, .f32⟩
  | 10 => ⟨S8x2048x8x48, .f32⟩
  | 11 => ⟨S8x2048x8x64, .f32⟩
  | 12 => ⟨S8x2048x4x128, .f32⟩
  | 13 => ⟨S8x2048x8x64, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S2048, .f32⟩
  | 23 => ⟨S2048x1, .f32⟩
  | 24 => ⟨S1x8, .f32⟩
  | 25 => ⟨S2048x8, .f32⟩
  | 26 => ⟨S2048x8, .f32⟩
  | 27 => ⟨S2048x8, .f32⟩
  | 28 => ⟨S2048x8, .f32⟩
  | 29 => ⟨S2048x1x8, .f32⟩
  | 30 => ⟨S2048x8, .f32⟩
  | 31 => ⟨S2048x1x8, .f32⟩
  | 32 => ⟨S8x2048x8x8, .f32⟩
  | 33 => ⟨S8x2048x8x8, .f32⟩
  | 34 => ⟨S1x2048x1x8, .f32⟩
  | 35 => ⟨S8x2048x8x8, .f32⟩
  | 36 => ⟨S8x2048x8x8, .f32⟩
  | 37 => ⟨S1x2048x1x8, .f32⟩
  | 38 => ⟨S8x2048x8x8, .f32⟩
  | 39 => ⟨S8x2048x8x8, .f32⟩
  | 40 => ⟨S8x2048x8x8, .f32⟩
  | 41 => ⟨S1x2048x1x8, .f32⟩
  | 42 => ⟨S8x2048x8x8, .f32⟩
  | 43 => ⟨S8x2048x8x8, .f32⟩
  | 44 => ⟨S1x2048x1x8, .f32⟩
  | 45 => ⟨S8x2048x8x8, .f32⟩
  | 46 => ⟨S8x2048x8x8, .f32⟩
  | 47 => ⟨S8x2048x8x8, .f32⟩
  | 48 => ⟨S8x2048x8x48, .f32⟩
  | 49 => ⟨S8x2048x8x64, .f32⟩
  | 50 => ⟨S8x2048x4x128, .f32⟩
  | 51 => ⟨S8x2048x4x128, .f32⟩
  | 52 => ⟨S8x2048x512, .f32⟩
  | 53 => ⟨S8x2048x512, .f32⟩
  | 54 => ⟨S8x2048x512, .f32⟩
  | 55 => ⟨S8x2048x512, .f32⟩
  | 56 => ⟨S8x8x2048x64, .f32⟩
  | 57 => ⟨S8x1x8x2048x64, .f32⟩
  | 58 => ⟨S8x8x2048x64, .f32⟩
  | 59 => ⟨S8x1x8x2048x64, .f32⟩
  | 60 => ⟨S8x4x2048x128, .f32⟩
  | 61 => ⟨S8x1x4x2048x128, .f32⟩
  | 62 => ⟨S8x4x2048x128, .f32⟩
  | 63 => ⟨S8x1x4x2048x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_4 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_cst_6 : Ref sig .tc := ⟨.hbm, 106, rfl⟩
abbrev main_v96 : Ref sig .tc := ⟨.hbm, 107, rfl⟩
abbrev main_v97 : Ref sig .tc := ⟨.hbm, 108, rfl⟩
abbrev main_cst_7 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_cst_8 : Ref sig .tc := ⟨.hbm, 144, rfl⟩
abbrev main_v132 : Ref sig .tc := ⟨.hbm, 145, rfl⟩
abbrev main_v133 : Ref sig .tc := ⟨.hbm, 146, rfl⟩
abbrev main_cst_9 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩

abbrev nD : Nat := 1
abbrev τ : Topo := Topo.v7x

variable {F : FTy → Type} [FloatOps F]
-- ==== InProjS.lean ====
abbrev S128x1x1024 : Shape := ⟨3, ![128, 1, 1024]⟩
abbrev S1x1024 : Shape := ⟨2, ![1, 1024]⟩
abbrev S1024x3072 : Shape := ⟨2, ![1024, 3072]⟩
abbrev S_ : Shape := ⟨0, ![]⟩
abbrev S128 : Shape := ⟨1, ![128]⟩
abbrev S8 : Shape := ⟨1, ![8]⟩
abbrev S128x1 : Shape := ⟨2, ![128, 1]⟩
abbrev S1x8 : Shape := ⟨2, ![1, 8]⟩
abbrev S128x8 : Shape := ⟨2, ![128, 8]⟩
abbrev S128x48 : Shape := ⟨2, ![128, 48]⟩
abbrev S128x64 : Shape := ⟨2, ![128, 64]⟩
abbrev S128x56 : Shape := ⟨2, ![128, 56]⟩
abbrev S1x128x1x64 : Shape := ⟨4, ![1, 128, 1, 64]⟩
abbrev S1x128x2x64 : Shape := ⟨4, ![1, 128, 2, 64]⟩
abbrev S128x128 : Shape := ⟨2, ![128, 128]⟩
abbrev S1x128x1024 : Shape := ⟨3, ![1, 128, 1024]⟩
abbrev S1x128x3072 : Shape := ⟨3, ![1, 128, 3072]⟩
abbrev S128x1024 : Shape := ⟨2, ![128, 1024]⟩
abbrev S1024x512 : Shape := ⟨2, ![1024, 512]⟩
abbrev S128x512 : Shape := ⟨2, ![128, 512]⟩
abbrev S1x128x512 : Shape := ⟨3, ![1, 128, 512]⟩

abbrev nBuf : Space → Nat
  | .hbm => 48
  | .vmem => 7
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1024x3072, .f32⟩
  | .hbm, ⟨3, _⟩ => ⟨S_, .i32⟩
  | .hbm, ⟨4, _⟩ => ⟨S128, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S128, .f32⟩
  | .hbm, ⟨17, _⟩ => ⟨S128x1, .f32⟩
  | .hbm, ⟨18, _⟩ => ⟨S1x8, .f32⟩
  | .hbm, ⟨19, _⟩ => ⟨S128x8, .f32⟩
  | .hbm, ⟨20, _⟩ => ⟨S128x8, .f32⟩
  | .hbm, ⟨21, _⟩ => ⟨S128x8, .f32⟩
  | .hbm, ⟨22, _⟩ => ⟨S128x8, .f32⟩
  | .hbm, ⟨23, _⟩ => ⟨S128x8, .f32⟩
  | .hbm, ⟨24, _⟩ => ⟨S_, .f32⟩
  | .hbm, ⟨25, _⟩ => ⟨S128x48, .f32⟩
  | .hbm, ⟨26, _⟩ => ⟨S128x64, .f32⟩
  | .hbm, ⟨27, _⟩ => ⟨S128x8, .f32⟩
  | .hbm, ⟨28, _⟩ => ⟨S_, .f32⟩
  | .hbm, ⟨29, _⟩ => ⟨S128x56, .f32⟩
  | .hbm, ⟨30, _⟩ => ⟨S128x64, .f32⟩
  | .hbm, ⟨31, _⟩ => ⟨S_, .f32⟩
  | .hbm, ⟨32, _⟩ => ⟨S128x8, .f32⟩
  | .hbm, ⟨33, _⟩ => ⟨S_, .f32⟩
  | .hbm, ⟨34, _⟩ => ⟨S128x48, .f32⟩
  | .hbm, ⟨35, _⟩ => ⟨S128x64, .f32⟩
  | .hbm, ⟨36, _⟩ => ⟨S1x128x1x64, .f32⟩
  | .hbm, ⟨37, _⟩ => ⟨S1x128x2x64, .f32⟩
  | .hbm, ⟨38, _⟩ => ⟨S128x128, .f32⟩
  | .hbm, ⟨39, _⟩ => ⟨S1x128x1x64, .f32⟩
  | .hbm, ⟨40, _⟩ => ⟨S1x128x2x64, .f32⟩
  | .hbm, ⟨41, _⟩ => ⟨S128x128, .f32⟩
  | .hbm, ⟨42, _⟩ => ⟨S1x128x1x64, .f32⟩
  | .hbm, ⟨43, _⟩ => ⟨S1x128x2x64, .f32⟩
  | .hbm, ⟨44, _⟩ => ⟨S128x128, .f32⟩
  | .hbm, ⟨45, _⟩ => ⟨S1x128x1024, .f32⟩
  | .hbm, ⟨46, _⟩ => ⟨S1024x3072, .bf16⟩
  | .hbm, ⟨47, _⟩ => ⟨S1x128x3072, .f32⟩
  | .local _ .vmem, ⟨0, _⟩ => ⟨S1x128x1024, .f32⟩
  | .local _ .vmem, ⟨1, _⟩ => ⟨S1x1024, .f32⟩
  | .local _ .vmem, ⟨2, _⟩ => ⟨S1024x3072, .bf16⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x128x3072, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x128x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== InProjSRefIdeal.lean ====
abbrev S128x1x1024 : Shape := ⟨3, ![128, 1, 1024]⟩
abbrev S1x1024 : Shape := ⟨2, ![1, 1024]⟩
abbrev S1024x3072 : Shape := ⟨2, ![1024, 3072]⟩
abbrev S1024 : Shape := ⟨1, ![1024]⟩
abbrev S1 : Shape := ⟨1, ![1]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x3072 : Shape := ⟨3, ![128, 1, 3072]⟩
abbrev S128x1x512 : Shape := ⟨3, ![128, 1, 512]⟩
abbrev S128x1x8x64 : Shape := ⟨4, ![128, 1, 8, 64]⟩
abbrev S8 : Shape := ⟨1, ![8]⟩
abbrev S1x1 : Shape := ⟨2, ![1, 1]⟩
abbrev S1x8 : Shape := ⟨2, ![1, 8]⟩
abbrev S1x1x8 : Shape := ⟨3, ![1, 1, 8]⟩
abbrev S128x1x8x8 : Shape := ⟨4, ![128, 1, 8, 8]⟩
abbrev S1x1x1x8 : Shape := ⟨4, ![1, 1, 1, 8]⟩
abbrev S128x1x8x48 : Shape := ⟨4, ![128, 1, 8, 48]⟩
abbrev S128x1x4x128 : Shape := ⟨4, ![128, 1, 4, 128]⟩
abbrev S1x128x512 : Shape := ⟨3, ![1, 128, 512]⟩
abbrev S1x128x3072 : Shape := ⟨3, ![1, 128, 3072]⟩

abbrev nBuf : Space → Nat
  | .hbm => 186
  | .vmem => 0
  | .smem => 0
  | _ => 0

abbrev hbmTy0_0 (i : Nat) : BufTy := match i % 128 with
  | 0 => ⟨S128x1x1024, .f32⟩
  | 1 => ⟨S1x1024, .f32⟩
  | 2 => ⟨S1024x3072, .f32⟩
  | 3 => ⟨S1024, .f32⟩
  | 4 => ⟨S1, .i32⟩
  | 5 => ⟨S_, .i32⟩
  | 6 => ⟨S1, .i32⟩
  | 7 => ⟨S1, .i32⟩
  | 8 => ⟨S128x1x1024, .f32⟩
  | 9 => ⟨S_, .f32⟩
  | 10 => ⟨S128x1, .f32⟩
  | 11 => ⟨S128x1x1, .f32⟩
  | 12 => ⟨S_, .f32⟩
  | 13 => ⟨S128x1x1, .f32⟩
  | 14 => ⟨S128x1x1, .f32⟩
  | 15 => ⟨S_, .f32⟩
  | 16 => ⟨S128x1x1, .f32⟩
  | 17 => ⟨S128x1x1, .f32⟩
  | 18 => ⟨S128x1x1, .f32⟩
  | 19 => ⟨S128x1x1024, .f32⟩
  | 20 => ⟨S128x1x1024, .f32⟩
  | 21 => ⟨S1x1x1024, .f32⟩
  | 22 => ⟨S128x1x1024, .f32⟩
  | 23 => ⟨S128x1x1024, .f32⟩
  | 24 => ⟨S128x1x3072, .f32⟩
  | 25 => ⟨S128x1x512, .f32⟩
  | 26 => ⟨S128x1x512, .f32⟩
  | 27 => ⟨S128x1x512, .f32⟩
  | 28 => ⟨S128x1x512, .f32⟩
  | 29 => ⟨S128x1x512, .f32⟩
  | 30 => ⟨S128x1x512, .f32⟩
  | 31 => ⟨S128x1x8x64, .f32⟩
  | 32 => ⟨S8, .f32⟩
  | 33 => ⟨S8, .f32⟩
  | 34 => ⟨S_, .f32⟩
  | 35 => ⟨S8, .f32⟩
  | 36 => ⟨S8, .f32⟩
  | 37 => ⟨S_, .f32⟩
  | 38 => ⟨S8, .f32⟩
  | 39 => ⟨S8, .f32⟩
  | 40 => ⟨S1, .f32⟩
  | 41 => ⟨S1x1, .f32⟩
  | 42 => ⟨S1x8, .f32⟩
  | 43 => ⟨S1x8, .f32⟩
  | 44 => ⟨S1x8, .f32⟩
  | 45 => ⟨S1x8, .f32⟩
  | 46 => ⟨S1x1x8, .f32⟩
  | 47 => ⟨S1x8, .f32⟩
  | 48 => ⟨S1x1x8, .f32⟩
  | 49 => ⟨S128x1x8x8, .f32⟩
  | 50 => ⟨S128x1x8x8, .f32⟩
  | 51 => ⟨S1x1x1x8, .f32⟩
  | 52 => ⟨S128x1x8x8, .f32⟩
  | 53 => ⟨S128x1x8x8, .f32⟩
  | 54 => ⟨S1x1x1x8, .f32⟩
  | 55 => ⟨S128x1x8x8, .f32⟩
  | 56 => ⟨S128x1x8x8, .f32⟩
  | 57 => ⟨S128x1x8x8, .f32⟩
  | 58 => ⟨S1x1x1x8, .f32⟩
  | 59 => ⟨S128x1x8x8, .f32⟩
  | 60 => ⟨S128x1x8x8, .f32⟩
  | 61 => ⟨S1x1x1x8, .f32⟩
  | 62 => ⟨S128x1x8x8, .f32⟩
  | 63 => ⟨S128x1x8x8, .f32⟩
  | 64 => ⟨S128x1x8x8, .f32⟩
  | 65 => ⟨S128x1x8x48, .f32⟩
  | 66 => ⟨S128x1x8x64, .f32⟩
  | 67 => ⟨S128x1x8x64, .f32⟩
  | 68 => ⟨S8, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S1, .f32⟩
  | 77 => ⟨S1x1, .f32⟩
  | 78 => ⟨S1x8, .f32⟩
  | 79 => ⟨S1x8, .f32⟩
  | 80 => ⟨S1x8, .f32⟩
  | 81 => ⟨S1x8, .f32⟩
  | 82 => ⟨S1x1x8, .f32⟩
  | 83 => ⟨S1x8, .f32⟩
  | 84 => ⟨S1x1x8, .f32⟩
  | 85 => ⟨S128x1x8x8, .f32⟩
  | 86 => ⟨S128x1x8x8, .f32⟩
  | 87 => ⟨S1x1x1x8, .f32⟩
  | 88 => ⟨S128x1x8x8, .f32⟩
  | 89 => ⟨S128x1x8x8, .f32⟩
  | 90 => ⟨S1x1x1x8, .f32⟩
  | 91 => ⟨S128x1x8x8, .f32⟩
  | 92 => ⟨S128x1x8x8, .f32⟩
  | 93 => ⟨S128x1x8x8, .f32⟩
  | 94 => ⟨S1x1x1x8, .f32⟩
  | 95 => ⟨S128x1x8x8, .f32⟩
  | 96 => ⟨S128x1x8x8, .f32⟩
  | 97 => ⟨S1x1x1x8, .f32⟩
  | 98 => ⟨S128x1x8x8, .f32⟩
  | 99 => ⟨S128x1x8x8, .f32⟩
  | 100 => ⟨S128x1x8x8, .f32⟩
  | 101 => ⟨S128x1x8x48, .f32⟩
  | 102 => ⟨S128x1x8x64, .f32⟩
  | 103 => ⟨S128x1x8x64, .f32⟩
  | 104 => ⟨S128x1x8x64, .f32⟩
  | 105 => ⟨S8, .f32⟩
  | 106 => ⟨S8, .f32⟩
  | 107 => ⟨S_, .f32⟩
  | 108 => ⟨S8, .f32⟩
  | 109 => ⟨S8, .f32⟩
  | 110 => ⟨S_, .f32⟩
  | 111 => ⟨S8, .f32⟩
  | 112 => ⟨S8, .f32⟩
  | 113 => ⟨S1, .f32⟩
  | 114 => ⟨S1x1, .f32⟩
  | 115 => ⟨S1x8, .f32⟩
  | 116 => ⟨S1x8, .f32⟩
  | 117 => ⟨S1x8, .f32⟩
  | 118 => ⟨S1x8, .f32⟩
  | 119 => ⟨S1x1x8, .f32⟩
  | 120 => ⟨S1x8, .f32⟩
  | 121 => ⟨S1x1x8, .f32⟩
  | 122 => ⟨S128x1x8x8, .f32⟩
  | 123 => ⟨S128x1x8x8, .f32⟩
  | 124 => ⟨S1x1x1x8, .f32⟩
  | 125 => ⟨S128x1x8x8, .f32⟩
  | 126 => ⟨S128x1x8x8, .f32⟩
  | 127 => ⟨S1x1x1x8, .f32⟩
  | _ => ⟨S128x1x1024, .f32⟩

abbrev hbmTy0_1 (i : Nat) : BufTy := match i % 128 with
  | 0 => ⟨S128x1x8x8, .f32⟩
  | 1 => ⟨S128x1x8x8, .f32⟩
  | 2 => ⟨S128x1x8x8, .f32⟩
  | 3 => ⟨S1x1x1x8, .f32⟩
  | 4 => ⟨S128x1x8x8, .f32⟩
  | 5 => ⟨S128x1x8x8, .f32⟩
  | 6 => ⟨S1x1x1x8, .f32⟩
  | 7 => ⟨S128x1x8x8, .f32⟩
  | 8 => ⟨S128x1x8x8, .f32⟩
  | 9 => ⟨S128x1x8x8, .f32⟩
  | 10 => ⟨S128x1x8x48, .f32⟩
  | 11 => ⟨S128x1x8x64, .f32⟩
  | 12 => ⟨S128x1x4x128, .f32⟩
  | 13 => ⟨S128x1x8x64, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S1, .f32⟩
  | 23 => ⟨S1x1, .f32⟩
  | 24 => ⟨S1x8, .f32⟩
  | 25 => ⟨S1x8, .f32⟩
  | 26 => ⟨S1x8, .f32⟩
  | 27 => ⟨S1x8, .f32⟩
  | 28 => ⟨S1x1x8, .f32⟩
  | 29 => ⟨S1x8, .f32⟩
  | 30 => ⟨S1x1x8, .f32⟩
  | 31 => ⟨S128x1x8x8, .f32⟩
  | 32 => ⟨S128x1x8x8, .f32⟩
  | 33 => ⟨S1x1x1x8, .f32⟩
  | 34 => ⟨S128x1x8x8, .f32⟩
  | 35 => ⟨S128x1x8x8, .f32⟩
  | 36 => ⟨S1x1x1x8, .f32⟩
  | 37 => ⟨S128x1x8x8, .f32⟩
  | 38 => ⟨S128x1x8x8, .f32⟩
  | 39 => ⟨S128x1x8x8, .f32⟩
  | 40 => ⟨S1x1x1x8, .f32⟩
  | 41 => ⟨S128x1x8x8, .f32⟩
  | 42 => ⟨S128x1x8x8, .f32⟩
  | 43 => ⟨S1x1x1x8, .f32⟩
  | 44 => ⟨S128x1x8x8, .f32⟩
  | 45 => ⟨S128x1x8x8, .f32⟩
  | 46 => ⟨S128x1x8x8, .f32⟩
  | 47 => ⟨S128x1x8x48, .f32⟩
  | 48 => ⟨S128x1x8x64, .f32⟩
  | 49 => ⟨S128x1x4x128, .f32⟩
  | 50 => ⟨S128x1x4x128, .f32⟩
  | 51 => ⟨S1x128x512, .f32⟩
  | 52 => ⟨S1x128x512, .f32⟩
  | 53 => ⟨S1x128x512, .f32⟩
  | 54 => ⟨S1x128x512, .f32⟩
  | 55 => ⟨S1x128x512, .f32⟩
  | 56 => ⟨S1x128x512, .f32⟩
  | 57 => ⟨S1x128x3072, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_4 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_cst_6 : Ref sig .tc := ⟨.hbm, 107, rfl⟩
abbrev main_v96 : Ref sig .tc := ⟨.hbm, 108, rfl⟩
abbrev main_v97 : Ref sig .tc := ⟨.hbm, 109, rfl⟩
abbrev main_cst_7 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_cst_8 : Ref sig .tc := ⟨.hbm, 144, rfl⟩
abbrev main_v131 : Ref sig .tc := ⟨.hbm, 145, rfl⟩
abbrev main_v132 : Ref sig .tc := ⟨.hbm, 146, rfl⟩
abbrev main_cst_9 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩

abbrev nD : Nat := 1
abbrev τ : Topo := Topo.v7x

variable {F : FTy → Type} [FloatOps F]
-- ==== OutProj.lean ====
abbrev S16384x1024 : Shape := ⟨2, ![16384, 1024]⟩
abbrev S16384x512 : Shape := ⟨2, ![16384, 512]⟩
abbrev S1024x1024 : Shape := ⟨2, ![1024, 1024]⟩
abbrev S1x1024 : Shape := ⟨2, ![1, 1024]⟩
abbrev S32x1024 : Shape := ⟨2, ![32, 1024]⟩
abbrev S32x1 : Shape := ⟨2, ![32, 1]⟩
abbrev S4x16384 : Shape := ⟨2, ![4, 16384]⟩
abbrev S32x128 : Shape := ⟨2, ![32, 128]⟩
abbrev S512x1024 : Shape := ⟨2, ![512, 1024]⟩
abbrev S512x512 : Shape := ⟨2, ![512, 512]⟩
abbrev S4x512 : Shape := ⟨2, ![4, 512]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S32 : Shape := ⟨1, ![32]⟩

abbrev nBuf : Space → Nat
  | .hbm => 14
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1x1024, .f32⟩
  | .hbm, ⟨5, _⟩ => ⟨S32x1024, .f32⟩
  | .hbm, ⟨6, _⟩ => ⟨S32x1, .f32⟩
  | .hbm, ⟨7, _⟩ => ⟨S1024x1024, .bf16⟩
  | .hbm, ⟨8, _⟩ => ⟨S16384x1024, .f32⟩
  | .hbm, ⟨9, _⟩ => ⟨S16384x1024, .f32⟩
  | .hbm, ⟨10, _⟩ => ⟨S4x16384, .i32⟩
  | .hbm, ⟨11, _⟩ => ⟨S4x16384, .f32⟩
  | .hbm, ⟨12, _⟩ => ⟨S4x16384, .i32⟩
  | .hbm, ⟨13, _⟩ => ⟨S32x128, .i32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S1x1024, .f32⟩
  | .local _ .vmem, ⟨8, _⟩ => ⟨S32x1024, .f32⟩
  | .local _ .vmem, ⟨9, _⟩ => ⟨S32x1, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S4x512, .i32⟩
  | .local _ .vmem, ⟨15, _⟩ => ⟨S4x512, .i32⟩
  | .local _ .vmem, ⟨16, _⟩ => ⟨S4x512, .f32⟩
  | .local _ .vmem, ⟨17, _⟩ => ⟨S4x512, .f32⟩
  | .local _ .vmem, ⟨18, _⟩ => ⟨S4x512, .i32⟩
  | .local _ .vmem, ⟨19, _⟩ => ⟨S4x512, .i32⟩
  | .local _ .vmem, ⟨20, _⟩ => ⟨S32x128, .i32⟩
  | .local _ .vmem, ⟨21, _⟩ => ⟨S32x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S32x128 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== OutProjRefIdeal.lean ====
abbrev S16384x1024 : Shape := ⟨2, ![16384, 1024]⟩
abbrev S16384x512 : Shape := ⟨2, ![16384, 512]⟩
abbrev S1024x1024 : Shape := ⟨2, ![1024, 1024]⟩
abbrev S1x1024 : Shape := ⟨2, ![1, 1024]⟩
abbrev S32x1024 : Shape := ⟨2, ![32, 1024]⟩
abbrev S32x1 : Shape := ⟨2, ![32, 1]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1x1024, .f32⟩
  | .hbm, ⟨5, _⟩ => ⟨S32x1024, .f32⟩
  | .hbm, ⟨6, _⟩ => ⟨S32x1, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== OutProjS.lean ====
abbrev S128x1024 : Shape := ⟨2, ![128, 1024]⟩
abbrev S128x512 : Shape := ⟨2, ![128, 512]⟩
abbrev S1024x1024 : Shape := ⟨2, ![1024, 1024]⟩
abbrev S1x1024 : Shape := ⟨2, ![1, 1024]⟩
abbrev S32x1024 : Shape := ⟨2, ![32, 1024]⟩
abbrev S32x1 : Shape := ⟨2, ![32, 1]⟩
abbrev S4x128 : Shape := ⟨2, ![4, 128]⟩
abbrev S32x128 : Shape := ⟨2, ![32, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S32 : Shape := ⟨1, ![32]⟩

abbrev nBuf : Space → Nat
  | .hbm => 14
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x512, .f32⟩
  | .hbm, ⟨3, _⟩ => ⟨S1024x1024, .f32⟩
  | .hbm, ⟨4, _⟩ => ⟨S1x1024, .f32⟩
  | .hbm, ⟨5, _⟩ => ⟨S32x1024, .f32⟩
  | .hbm, ⟨6, _⟩ => ⟨S32x1, .f32⟩
  | .hbm, ⟨7, _⟩ => ⟨S1024x1024, .bf16⟩
  | .hbm, ⟨8, _⟩ => ⟨S128x1024, .f32⟩
  | .hbm, ⟨9, _⟩ => ⟨S128x1024, .f32⟩
  | .hbm, ⟨10, _⟩ => ⟨S4x128, .i32⟩
  | .hbm, ⟨11, _⟩ => ⟨S4x128, .f32⟩
  | .hbm, ⟨12, _⟩ => ⟨S4x128, .i32⟩
  | .hbm, ⟨13, _⟩ => ⟨S32x128, .i32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S1024x1024, .bf16⟩
  | .local _ .vmem, ⟨4, _⟩ => ⟨S1x1024, .f32⟩
  | .local _ .vmem, ⟨5, _⟩ => ⟨S32x1024, .f32⟩
  | .local _ .vmem, ⟨6, _⟩ => ⟨S32x1, .f32⟩
  | .local _ .vmem, ⟨7, _⟩ => ⟨S128x1024, .f32⟩
  | .local _ .vmem, ⟨8, _⟩ => ⟨S128x1024, .f32⟩
  | .local _ .vmem, ⟨9, _⟩ => ⟨S4x128, .i32⟩
  | .local _ .vmem, ⟨10, _⟩ => ⟨S4x128, .f32⟩
  | .local _ .vmem, ⟨11, _⟩ => ⟨S4x128, .i32⟩
  | .local _ .vmem, ⟨12, _⟩ => ⟨S32x128, .i32⟩
  | .local _ .vmem, ⟨13, _⟩ => ⟨S32x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S4x128 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S4x128 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x128 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== OutProjSRefIdeal.lean ====
abbrev S128x1024 : Shape := ⟨2, ![128, 1024]⟩
abbrev S128x512 : Shape := ⟨2, ![128, 512]⟩
abbrev S1024x1024 : Shape := ⟨2, ![1024, 1024]⟩
abbrev S1x1024 : Shape := ⟨2, ![1, 1024]⟩
abbrev S32x1024 : Shape := ⟨2, ![32, 1024]⟩
abbrev S32x1 : Shape := ⟨2, ![32, 1]⟩
abbrev S1024 : Shape := ⟨1, ![1024]⟩
abbrev S_ : Shape := ⟨0, ![]⟩
abbrev S128 : Shape := ⟨1, ![128]⟩
abbrev S128x1 : Shape := ⟨2, ![128, 1]⟩

abbrev nBuf : Space → Nat
  | .hbm => 27
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x512, .f32⟩
  | .hbm, ⟨3, _⟩ => ⟨S1024x1024, .f32⟩
  | .hbm, ⟨4, _⟩ => ⟨S1x1024, .f32⟩
  | .hbm, ⟨5, _⟩ => ⟨S32x1024, .f32⟩
  | .hbm, ⟨6, _⟩ => ⟨S32x1, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S1024, .f32⟩
  | .hbm, ⟨11, _⟩ => ⟨S128x1024, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x1024, .f32⟩
  | .hbm, ⟨23, _⟩ => ⟨S128x1024, .f32⟩
  | .hbm, ⟨24, _⟩ => ⟨S1x1024, .f32⟩
  | .hbm, ⟨25, _⟩ => ⟨S128x1024, .f32⟩
  | .hbm, ⟨26, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Moba.lean ====
abbrev S8x2048x512 : Shape := ⟨3, ![8, 2048, 512]⟩
abbrev S1x256x128 : Shape := ⟨3, ![1, 256, 128]⟩
abbrev S1x2048x128 : Shape := ⟨3, ![1, 2048, 128]⟩
abbrev S8x256x128 : Shape := ⟨3, ![8, 256, 128]⟩
abbrev S8x128x256 : Shape := ⟨3, ![8, 128, 256]⟩
abbrev S8x128 : Shape := ⟨2, ![8, 128]⟩
abbrev S2x8x256 : Shape := ⟨3, ![2, 8, 256]⟩
abbrev S256x128 : Shape := ⟨2, ![256, 128]⟩
abbrev S128x256 : Shape := ⟨2, ![128, 256]⟩
abbrev S1x128x256 : Shape := ⟨3, ![1, 128, 256]⟩
abbrev S128 : Shape := ⟨1, ![128]⟩
abbrev S1x128 : Shape := ⟨2, ![1, 128]⟩
abbrev S8x256 : Shape := ⟨2, ![8, 256]⟩
abbrev S1x256 : Shape := ⟨2, ![1, 256]⟩
abbrev S1x8x256 : Shape := ⟨3, ![1, 8, 256]⟩
abbrev S1x64x256 : Shape := ⟨3, ![1, 64, 256]⟩
abbrev S64x256 : Shape := ⟨2, ![64, 256]⟩
abbrev S256x256 : Shape := ⟨2, ![256, 256]⟩
abbrev S256 : Shape := ⟨1, ![256]⟩
abbrev S1x1x256 : Shape := ⟨3, ![1, 1, 256]⟩

abbrev nBuf : Space → Nat
  | .hbm => 4
  | .vmem => 12
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x256x128, .f32⟩
  | .local _ .vmem, ⟨7, _⟩ => ⟨S1x256x128, .f32⟩
  | .local _ .vmem, ⟨8, _⟩ => ⟨S8x256x128, .bf16⟩
  | .local _ .vmem, ⟨9, _⟩ => ⟨S8x128x256, .bf16⟩
  | .local _ .vmem, ⟨10, _⟩ => ⟨S8x128, .f32⟩
  | .local _ .vmem, ⟨11, _⟩ => ⟨S2x8x256, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 3 → Nat :=
  let arg2 : BitVec 32 := BitVec.ofNat 32 (i 2).val
  let v279 : Index := Scalar.indexCast arg2
  let c0_47 : Index := 0#32
  let c0_48 : Index := 0#32
  ![v279.toNat, 0, 0]
def k0_off2 (i : grid0.Coords) : Fin 3 → Nat :=
  let arg2 : BitVec 32 := BitVec.ofNat 32 (i 2).val
  let v282 : Index := Scalar.indexCast arg2
  let c0_49 : Index := 0#32
  let c0_50 : Index := 0#32
  ![v282.toNat, 0, 0]
def k0_off3 (i : grid0.Coords) : Fin 3 → Nat :=
  let arg2 : BitVec 32 := BitVec.ofNat 32 (i 2).val
  let v300 : Index := Scalar.indexCast arg2
  let c64 : Index := 64#32
  let c0_56 : Index := 0#32
  ![v300.toNat, 64, 0]
@[reducible] def k0_t1_loop (i : grid0.Coords) : Scf.Loop 32 :=
  let c0_i32_62 : BitVec 32 := 0#32
  let arg2 : BitVec 32 := BitVec.ofNat 32 (i 2).val
  let v318 : BitVec 32 := Scalar.subi arg2 c0_i32_62
  let c1_i32_63 : BitVec 32 := 1#32
  let v320 : BitVec 32 := Scalar.divsi v318 c1_i32_63
  let v321 : BitVec 32 := Scalar.muli v320 c1_i32_63
  let v322 : BitVec 32 := Scalar.addi c0_i32_62 v321
  let c1_i32_64 : BitVec 32 := 1#32
  ⟨c0_i32_62, v322, c1_i32_64⟩
def k0_off4 (i : grid0.Coords) (k0_t1 : Fin (k0_t1_loop i).trips) : Fin 3 → Nat :=
  let c0_i32_62 : BitVec 32 := 0#32
  let c1_i32_64 : BitVec 32 := 1#32
  let arg11 : BitVec 32 := Scf.iv c0_i32_62 c1_i32_64 k0_t1
  let v334 : Index := Scalar.indexCast arg11
  let c0_69 : Index := 0#32
  let c0_70 : Index := 0#32
  ![v334.toNat, 0, 0]
def k0_off5 (i : grid0.Coords) (k0_t1 : Fin (k0_t1_loop i).trips) : Fin 3 → Nat :=
  let c0_i32_62 : BitVec 32 := 0#32
  let c1_i32_64 : BitVec 32 := 1#32
  let arg11 : BitVec 32 := Scf.iv c0_i32_62 c1_i32_64 k0_t1
  let v337 : Index := Scalar.indexCast arg11
  let c0_71 : Index := 0#32
  let c0_72 : Index := 0#32
  ![v337.toNat, 0, 0]
def k0_off6 (i : grid0.Coords) (k0_t1 : Fin (k0_t1_loop i).trips) : Fin 3 → Nat :=
  let c0_73 : Index := 0#32
  let c0_i32_62 : BitVec 32 := 0#32
  let c1_i32_64 : BitVec 32 := 1#32
  let arg11 : BitVec 32 := Scf.iv c0_i32_62 c1_i32_64 k0_t1
  let v340 : Index := Scalar.indexCast arg11
  let c0_74 : Index := 0#32
  ![0, v340.toNat, 0]
def k0_off7 (i : grid0.Coords) (k0_t1 : Fin (k0_t1_loop i).trips) : Fin 3 → Nat :=
  let c0_i32_62 : BitVec 32 := 0#32
  let c1_i32_64 : BitVec 32 := 1#32
  let arg11 : BitVec 32 := Scf.iv c0_i32_62 c1_i32_64 k0_t1
  let v367 : Index := Scalar.indexCast arg11
  let c64_81 : Index := 64#32
  let c0_82 : Index := 0#32
  ![v367.toNat, 64, 0]
def k0_off8 (i : grid0.Coords) (k0_t1 : Fin (k0_t1_loop i).trips) : Fin 3 → Nat :=
  let c1_83 : Index := 1#32
  let c0_i32_62 : BitVec 32 := 0#32
  let c1_i32_64 : BitVec 32 := 1#32
  let arg11 : BitVec 32 := Scf.iv c0_i32_62 c1_i32_64 k0_t1
  let v370 : Index := Scalar.indexCast arg11
  let c0_84 : Index := 0#32
  ![1, v370.toNat, 0]
@[reducible] def k0_t2_loop (i : grid0.Coords) : Scf.Loop 32 :=
  let c0_i32_62 : BitVec 32 := 0#32
  let arg2 : BitVec 32 := BitVec.ofNat 32 (i 2).val
  let v318 : BitVec 32 := Scalar.subi arg2 c0_i32_62
  let c1_i32_63 : BitVec 32 := 1#32
  let v320 : BitVec 32 := Scalar.divsi v318 c1_i32_63
  let v321 : BitVec 32 := Scalar.muli v320 c1_i32_63
  let v322 : BitVec 32 := Scalar.addi c0_i32_62 v321
  let v319 : BitVec 32 := Scalar.addi c0_i32_62 v318
  let c1_i32_65 : BitVec 32 := 1#32
  ⟨v322, v319, c1_i32_65⟩
def k0_off9 (i : grid0.Coords) (k0_t2 : Fin (k0_t2_loop i).trips) : Fin 3 → Nat :=
  let c0_i32_62 : BitVec 32 := 0#32
  let arg2 : BitVec 32 := BitVec.ofNat 32 (i 2).val
  let v318 : BitVec 32 := Scalar.subi arg2 c0_i32_62
  let c1_i32_63 : BitVec 32 := 1#32
  let v320 : BitVec 32 := Scalar.divsi v318 c1_i32_63
  let v321 : BitVec 32 := Scalar.muli v320 c1_i32_63
  let v322 : BitVec 32 := Scalar.addi c0_i32_62 v321
  let c1_i32_65 : BitVec 32 := 1#32
  let arg11 : BitVec 32 := Scf.iv v322 c1_i32_65 k0_t2
  let v334 : Index := Scalar.indexCast arg11
  let c0_69 : Index := 0#32
  let c0_70 : Index := 0#32
  ![v334.toNat, 0, 0]
def k0_off10 (i : grid0.Coords) (k0_t2 : Fin (k0_t2_loop i).trips) : Fin 3 → Nat :=
  let c0_i32_62 : BitVec 32 := 0#32
  let arg2 : BitVec 32 := BitVec.ofNat 32 (i 2).val
  let v318 : BitVec 32 := Scalar.subi arg2 c0_i32_62
  let c1_i32_63 : BitVec 32 := 1#32
  let v320 : BitVec 32 := Scalar.divsi v318 c1_i32_63
  let v321 : BitVec 32 := Scalar.muli v320 c1_i32_63
  let v322 : BitVec 32 := Scalar.addi c0_i32_62 v321
  let c1_i32_65 : BitVec 32 := 1#32
  let arg11 : BitVec 32 := Scf.iv v322 c1_i32_65 k0_t2
  let v337 : Index := Scalar.indexCast arg11
  let c0_71 : Index := 0#32
  let c0_72 : Index := 0#32
  ![v337.toNat, 0, 0]
def k0_off11 (i : grid0.Coords) (k0_t2 : Fin (k0_t2_loop i).trips) : Fin 3 → Nat :=
  let c0_73 : Index := 0#32
  let c0_i32_62 : BitVec 32 := 0#32
  let arg2 : BitVec 32 := BitVec.ofNat 32 (i 2).val
  let v318 : BitVec 32 := Scalar.subi arg2 c0_i32_62
  let c1_i32_63 : BitVec 32 := 1#32
  let v320 : BitVec 32 := Scalar.divsi v318 c1_i32_63
  let v321 : BitVec 32 := Scalar.muli v320 c1_i32_63
  let v322 : BitVec 32 := Scalar.addi c0_i32_62 v321
  let c1_i32_65 : BitVec 32 := 1#32
  let arg11 : BitVec 32 := Scf.iv v322 c1_i32_65 k0_t2
  let v340 : Index := Scalar.indexCast arg11
  let c0_74 : Index := 0#32
  ![0, v340.toNat, 0]
def k0_off12 (i : grid0.Coords) (k0_t2 : Fin (k0_t2_loop i).trips) : Fin 3 → Nat :=
  let c0_i32_62 : BitVec 32 := 0#32
  let arg2 : BitVec 32 := BitVec.ofNat 32 (i 2).val
  let v318 : BitVec 32 := Scalar.subi arg2 c0_i32_62
  let c1_i32_63 : BitVec 32 := 1#32
  let v320 : BitVec 32 := Scalar.divsi v318 c1_i32_63
  let v321 : BitVec 32 := Scalar.muli v320 c1_i32_63
  let v322 : BitVec 32 := Scalar.addi c0_i32_62 v321
  let c1_i32_65 : BitVec 32 := 1#32
  let arg11 : BitVec 32 := Scf.iv v322 c1_i32_65 k0_t2
  let v367 : Index := Scalar.indexCast arg11
  let c64_81 : Index := 64#32
  let c0_82 : Index := 0#32
  ![v367.toNat, 64, 0]
def k0_off13 (i : grid0.Coords) (k0_t2 : Fin (k0_t2_loop i).trips) : Fin 3 → Nat :=
  let c1_83 : Index := 1#32
  let c0_i32_62 : BitVec 32 := 0#32
  let arg2 : BitVec 32 := BitVec.ofNat 32 (i 2).val
  let v318 : BitVec 32 := Scalar.subi arg2 c0_i32_62
  let c1_i32_63 : BitVec 32 := 1#32
  let v320 : BitVec 32 := Scalar.divsi v318 c1_i32_63
  let v321 : BitVec 32 := Scalar.muli v320 c1_i32_63
  let v322 : BitVec 32 := Scalar.addi c0_i32_62 v321
  let c1_i32_65 : BitVec 32 := 1#32
  let arg11 : BitVec 32 := Scf.iv v322 c1_i32_65 k0_t2
  let v370 : Index := Scalar.indexCast arg11
  let c0_84 : Index := 0#32
  ![1, v370.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MobaIdeal.lean ====
variable {F : FTy → Type} [FloatOps F] [Named F]
def κ : String → Option EReal := fun
  | "mask" => some ⊥
  | _ => none
-- ==== MobaRefIdeal.lean ====
abbrev S8x2048x512 : Shape := ⟨3, ![8, 2048, 512]⟩
abbrev S8x2048x8x64 : Shape := ⟨4, ![8, 2048, 8, 64]⟩
abbrev S8x8x2048x64 : Shape := ⟨4, ![8, 8, 2048, 64]⟩
abbrev S8x8x8x256x64 : Shape := ⟨5, ![8, 8, 8, 256, 64]⟩
abbrev S_ : Shape := ⟨0, ![]⟩
abbrev S8x8x8x64 : Shape := ⟨4, ![8, 8, 8, 64]⟩
abbrev S2048 : Shape := ⟨1, ![2048]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S8x8x2048x8 : Shape := ⟨4, ![8, 8, 2048, 8]⟩
abbrev S8x8x2048x8x1 : Shape := ⟨5, ![8, 8, 2048, 8, 1]⟩
abbrev S8x8x2048x1x8 : Shape := ⟨5, ![8, 8, 2048, 1, 8]⟩
abbrev S8x8x2048x8x8 : Shape := ⟨5, ![8, 8, 2048, 8, 8]⟩
abbrev S8x1 : Shape := ⟨2, ![8, 1]⟩
abbrev S8x8 : Shape := ⟨2, ![8, 8]⟩
abbrev S1x1x1x8x8 : Shape := ⟨5, ![1, 1, 1, 8, 8]⟩
abbrev S1x1x2048x8 : Shape := ⟨4, ![1, 1, 2048, 8]⟩
abbrev S8x8x2048x8x256 : Shape := ⟨5, ![8, 8, 2048, 8, 256]⟩
abbrev S8x8x2048x2048 : Shape := ⟨4, ![8, 8, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S8x8x2048 : Shape := ⟨3, ![8, 8, 2048]⟩
abbrev S8x8x2048x1 : Shape := ⟨4, ![8, 8, 2048, 1]⟩

abbrev nBuf : Space → Nat
  | .hbm => 114
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x8x64, .f32⟩
  | .hbm, ⟨4, _⟩ => ⟨S8x8x2048x64, .f32⟩
  | .hbm, ⟨5, _⟩ => ⟨S8x2048x8x64, .f32⟩
  | .hbm, ⟨6, _⟩ => ⟨S8x8x2048x64, .f32⟩
  | .hbm, ⟨7, _⟩ => ⟨S8x2048x8x64, .f32⟩
  | .hbm, ⟨8, _⟩ => ⟨S8x8x2048x64, .f32⟩
  | .hbm, ⟨9, _⟩ => ⟨S8x8x8x256x64, .f32⟩
  | .hbm, ⟨10, _⟩ => ⟨S_, .f32⟩
  | .hbm, ⟨11, _⟩ => ⟨S8x8x8x64, .f32⟩
  | .hbm, ⟨12, _⟩ => ⟨S_, .f32⟩
  | .hbm, ⟨13, _⟩ => ⟨S8x8x8x64, .f32⟩
  | .hbm, ⟨14, _⟩ => ⟨S8x8x8x64, .f32⟩
  | .hbm, ⟨15, _⟩ => ⟨S2048, .i32⟩
  | .hbm, ⟨16, _⟩ => ⟨S8, .i32⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S1x8, .i32⟩
  | .hbm, ⟨36, _⟩ => ⟨S2048x1, .i32⟩
  | .hbm, ⟨37, _⟩ => ⟨S2048x8, .i32⟩
  | .hbm, ⟨38, _⟩ => ⟨S2048x8, .i32⟩
  | .hbm, ⟨39, _⟩ => ⟨S2048x8, .i1⟩
  | .hbm, ⟨40, _⟩ => ⟨S8x8x2048x8, .f32⟩
  | .hbm, ⟨41, _⟩ => ⟨S_, .f32⟩
  | .hbm, ⟨42, _⟩ => ⟨S_, .f32⟩
  | .hbm, ⟨43, _⟩ => ⟨S8x8x2048x8, .i1⟩
  | .hbm, ⟨44, _⟩ => ⟨S8x8x2048x8, .f32⟩
  | .hbm, ⟨45, _⟩ => ⟨S8x8x2048x8, .f32⟩
  | .hbm, ⟨46, _⟩ => ⟨S8x8x2048x8x1, .f32⟩
  | .hbm, ⟨47, _⟩ => ⟨S8x8x2048x1x8, .f32⟩
  | .hbm, ⟨48, _⟩ => ⟨S8x8x2048x8x8, .f32⟩
  | .hbm, ⟨49, _⟩ => ⟨S8x8x2048x8x8, .f32⟩
  | .hbm, ⟨50, _⟩ => ⟨S8x8x2048x8x8, .i1⟩
  | .hbm, ⟨51, _⟩ => ⟨S8x8x2048x8x8, .f32⟩
  | .hbm, ⟨52, _⟩ => ⟨S8x8x2048x8x8, .f32⟩
  | .hbm, ⟨53, _⟩ => ⟨S8x8x2048x8x8, .i1⟩
  | .hbm, ⟨54, _⟩ => ⟨S1x8, .i32⟩
  | .hbm, ⟨55, _⟩ => ⟨S8x1, .i32⟩
  | .hbm, ⟨56, _⟩ => ⟨S8x8, .i32⟩
  | .hbm, ⟨57, _⟩ => ⟨S8x8, .i32⟩
  | .hbm, ⟨58, _⟩ => ⟨S8x8, .i1⟩
  | .hbm, ⟨59, _⟩ => ⟨S1x1x1x8x8, .i1⟩
  | .hbm, ⟨60, _⟩ => ⟨S8x8x2048x8x8, .i1⟩
  | .hbm, ⟨61, _⟩ => ⟨S8x8x2048x8x8, .i1⟩
  | .hbm, ⟨62, _⟩ => ⟨S8x8x2048x8x8, .i1⟩
  | .hbm, ⟨63, _⟩ => ⟨S8x8x2048x8x8, .i32⟩
  | .hbm, ⟨64, _⟩ => ⟨S_, .i32⟩
  | .hbm, ⟨65, _⟩ => ⟨S8x8x2048x8, .i32⟩
  | .hbm, ⟨66, _⟩ => ⟨S_, .i32⟩
  | .hbm, ⟨67, _⟩ => ⟨S8x8x2048x8, .i32⟩
  | .hbm, ⟨68, _⟩ => ⟨S8x8x2048x8, .i1⟩
  | .hbm, ⟨69, _⟩ => ⟨S1x1x2048x8, .i1⟩
  | .hbm, ⟨70, _⟩ => ⟨S8x8x2048x8, .i1⟩
  | .hbm, ⟨71, _⟩ => ⟨S8x8x2048x8, .i1⟩
  | .hbm, ⟨72, _⟩ => ⟨S8x8x2048x8x1, .i1⟩
  | .hbm, ⟨73, _⟩ => ⟨S8x8x2048x8x256, .i1⟩
  | .hbm, ⟨74, _⟩ => ⟨S8x8x2048x2048, .i1⟩
  | .hbm, ⟨75, _⟩ => ⟨S1x2048, .i32⟩
  | .hbm, ⟨76, _⟩ => ⟨S2048x1, .i32⟩
  | .hbm, ⟨77, _⟩ => ⟨S2048x2048, .i32⟩
  | .hbm, ⟨78, _⟩ => ⟨S2048x2048, .i32⟩
  | .hbm, ⟨79, _⟩ => ⟨S2048x2048, .i1⟩
  | .hbm, ⟨80, _⟩ => ⟨S1x2048, .i32⟩
  | .hbm, ⟨81, _⟩ => ⟨S2048x1, .i32⟩
  | .hbm, ⟨82, _⟩ => ⟨S2048x2048, .i32⟩
  | .hbm, ⟨83, _⟩ => ⟨S2048x2048, .i32⟩
  | .hbm, ⟨84, _⟩ => ⟨S2048x2048, .i1⟩
  | .hbm, ⟨85, _⟩ => ⟨S2048x2048, .i1⟩
  | .hbm, ⟨86, _⟩ => ⟨S1x1x2048x2048, .i1⟩
  | .hbm, ⟨87, _⟩ => ⟨S8x8x2048x2048, .i1⟩
  | .hbm, ⟨88, _⟩ => ⟨S8x8x2048x2048, .i1⟩
  | .hbm, ⟨89, _⟩ => ⟨S8x8x2048x2048, .f32⟩
  | .hbm, ⟨90, _⟩ => ⟨S_, .f32⟩
  | .hbm, ⟨91, _⟩ => ⟨S8x8x2048x2048, .f32⟩
  | .hbm, ⟨92, _⟩ => ⟨S8x8x2048x2048, .f32⟩
  | .hbm, ⟨93, _⟩ => ⟨S_, .f32⟩
  | .hbm, ⟨94, _⟩ => ⟨S_, .f32⟩
  | .hbm, ⟨95, _⟩ => ⟨S8x8x2048x2048, .f32⟩
  | .hbm, ⟨96, _⟩ => ⟨S8x8x2048x2048, .f32⟩
  | .hbm, ⟨97, _⟩ => ⟨S_, .f32⟩
  | .hbm, ⟨98, _⟩ => ⟨S8x8x2048, .f32⟩
  | .hbm, ⟨99, _⟩ => ⟨S_, .f32⟩
  | .hbm, ⟨100, _⟩ => ⟨S8x8x2048, .f32⟩
  | .hbm, ⟨101, _⟩ => ⟨S8x8x2048, .f32⟩
  | .hbm, ⟨102, _⟩ => ⟨S8x8x2048x1, .f32⟩
  | .hbm, ⟨103, _⟩ => ⟨S8x8x2048x2048, .f32⟩
  | .hbm, ⟨104, _⟩ => ⟨S8x8x2048x2048, .f32⟩
  | .hbm, ⟨105, _⟩ => ⟨S8x8x2048x2048, .f32⟩
  | .hbm, ⟨106, _⟩ => ⟨S_, .f32⟩
  | .hbm, ⟨107, _⟩ => ⟨S8x8x2048, .f32⟩
  | .hbm, ⟨108, _⟩ => ⟨S8x8x2048x1, .f32⟩
  | .hbm, ⟨109, _⟩ => ⟨S8x8x2048x2048, .f32⟩
  | .hbm, ⟨110, _⟩ => ⟨S8x8x2048x2048, .f32⟩
  | .hbm, ⟨111, _⟩ => ⟨S8x8x2048x64, .f32⟩
  | .hbm, ⟨112, _⟩ => ⟨S8x2048x8x64, .f32⟩
  | .hbm, ⟨113, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_2 : Ref sig .tc := ⟨.hbm, 64, rfl⟩
abbrev main_v38 : Ref sig .tc := ⟨.hbm, 65, rfl⟩
abbrev main_c_3 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_4 : Ref sig .tc := ⟨.hbm, 90, rfl⟩
abbrev main_v62 : Ref sig .tc := ⟨.hbm, 91, rfl⟩
abbrev main_v63 : Ref sig .tc := ⟨.hbm, 92, rfl⟩
abbrev main_cst_5 : Ref sig .tc := ⟨.hbm, 93, rfl⟩
abbrev main_call2_v0 : Ref sig .tc := ⟨.hbm, 94, rfl⟩
abbrev main_call2_v1 : Ref sig .tc := ⟨.hbm, 95, rfl⟩
abbrev main_v64 : Ref sig .tc := ⟨.hbm, 96, rfl⟩
abbrev main_cst_6 : Ref sig .tc := ⟨.hbm, 97, rfl⟩
abbrev main_v65 : Ref sig .tc := ⟨.hbm, 98, rfl⟩
abbrev main_cst_7 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_8 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩

abbrev nD : Nat := 1
abbrev τ : Topo := Topo.v7x

variable {F : FTy → Type} [FloatOps F]
-- ==== Proof.Diff.Body.lean ====
/- What one grid point of the differential-attention kernel computes, as a function of its blocks.

   The kernel keeps the keys and the transposed values of one head in two scratch buffers, eight
   blocks of 256 keys each, and folds the blocks into a running maximum, a running normaliser and a
   running weighted sum, once per attention map.  This module names that fold (`flash`) and shows
   that the run's two cases (the scratch just filled, the scratch left by the point before) are it. -/
module

public import proofs.«01_k».proof.Proof.Gen.DiffAttnIdeal.Value
public import Idealize.ShloMosaic.Lib.Pointwise
public import Idealize.ShloMosaic.Lib.LoopRemainder

@[expose] public section

set_option maxRecDepth 16384

noncomputable section

namespace Cert.DiffAttnIdeal.Val

open Cert.DiffAttnIdeal Cert.DiffAttnIdeal.Gen Idealize.ShloMosaic Idealize.ShloMosaic.TcCoe Idealize.SL.Sem

variable {F : FTy → Type} [FloatOps F] [Named F]

theorem zero3 : (![0, 0, 0] : Fin 3 → ℕ) = fun _ => 0 := by
  funext a; match a with | 0 => rfl | 1 => rfl | 2 => rfl

theorem zero2 : (![0, 0] : Fin 2 → ℕ) = fun _ => 0 := by
  funext a; match a with | 0 => rfl | 1 => rfl

/-- The running maximum, normaliser and weighted sum of the two attention maps. -/
abbrev St (F : FTy → Type) := FVec F S1x256 .f32 × FVec F S1x256 .f32 × FVec F S128x256 .f32 × FVec F S1x256 .f32 × FVec F S1x256 .f32 × FVec F S128x256 .f32

/-- Block `j` of the staged keys. -/
def kAt (X : Vec F S8x256x128 .bf16) (j : Fin 8) : Vec F S1x256x128 .bf16 := fun y => X (ix3 j (y 1) (y 2))

/-- Block `j` of the staged transposed values. -/
def vAt (X : Vec F S8x128x256 .bf16) (j : Fin 8) : Vec F S1x128x256 .bf16 := fun y => X (ix3 j (y 1) (y 2))

/-- One further block folded in. -/
def step (q1 q2 : FVec F S256x128 .bf16) (K : Vec F S1x256x128 .bf16) (V : Vec F S1x128x256 .bf16) (s : St F) : St F :=
  (k0_pay4 q1 s.1 K, k0_pay7 q1 s.1 s.2.1 K, k0_pay8 q1 s.1 s.2.2.1 K V,
    k0_pay10 q2 s.2.2.2.1 K, k0_pay13 q2 s.2.2.2.1 s.2.2.2.2.1 K, k0_pay14 q2 s.2.2.2.1 s.2.2.2.2.2 K V)

/-- The queries of the block, scaled, the first map's lanes kept. -/
def q1 (x0 : Vec F S1x256x128 .f32) : FVec F S256x128 .bf16 :=
  k0_pay54 (k0_pay51 x0) (iota Kind.tc S256x128 32 [1] iota_S256x128_d1_w32) (64#32) k0_pay52 k0_pay53 1#32

/-- The queries of the block, the second map's lanes kept. -/
def q2u (x0 : Vec F S1x256x128 .f32) : FVec F S256x128 .f32 :=
  k0_pay55 (k0_pay51 x0) (iota Kind.tc S256x128 32 [1] iota_S256x128_d1_w32)

/-- … scaled. -/
def q2 (x0 : Vec F S1x256x128 .f32) : FVec F S256x128 .bf16 :=
  k0_pay56 (q2u x0) (FloatOps.ofBits FTy.f32 0x3E000000#32)

/-- The block the queries themselves lie in, under the causal mask. -/
def own (x0 : Vec F S1x256x128 .f32) (K : Vec F S1x256x128 .bf16) (V : Vec F S1x128x256 .bf16) : St F :=
  (k0_pay60 (q1 x0) K, k0_pay62 (q1 x0) K, k0_pay63 (q1 x0) K V,
    k0_pay65 (q2u x0) (FloatOps.ofBits FTy.f32 0x3E000000#32) K, k0_pay67 (q2u x0) (FloatOps.ofBits FTy.f32 0x3E000000#32) K,
    k0_pay68 (q2u x0) (FloatOps.ofBits FTy.f32 0x3E000000#32) K V)

/-- The own block `b`, then the blocks `0 … n-1` before it. -/
def flash (x0 : Vec F S1x256x128 .f32) (X : Vec F S8x256x128 .bf16) (Y : Vec F S8x128x256 .bf16) (b : Fin 8) : ℕ → St F
  | 0 => own x0 (kAt X b) (vAt Y b)
  | n + 1 => if h : n < 8 then step (q1 x0) (q2 x0) (kAt X ⟨n, h⟩) (vAt Y ⟨n, h⟩) (flash x0 X Y b n) else flash x0 X Y b n

/-- What the point stores. -/
def outAt (x0 : Vec F S1x256x128 .f32) (X : Vec F S8x256x128 .bf16) (Y : Vec F S8x128x256 .bf16)
    (x3 x4 x5 x6 : Vec F S1x64 .f32) (x7 : Vec F S128x1 .f32) (b : Fin 8) : FVec F S1x256x128 .f32 :=
  k0_pay29 (k0_pay50 x3 x4 x5 x6) (flash x0 X Y b b.val).2.1 (flash x0 X Y b b.val).2.2.1
    (flash x0 X Y b b.val).2.2.2.2.1 (flash x0 X Y b b.val).2.2.2.2.2 x7

theorem flash_succ (x0 : Vec F S1x256x128 .f32) (X : Vec F S8x256x128 .bf16) (Y : Vec F S8x128x256 .bf16) (b : Fin 8) {n : ℕ} (h : n < 8) :
    flash x0 X Y b (n + 1) = step (q1 x0) (q2 x0) (kAt X ⟨n, h⟩) (vAt Y ⟨n, h⟩) (flash x0 X Y b n) :=
  dif_pos h

theorem word_lt {n : ℕ} (h : n < 8) : (BitVec.ofNat 32 n).toNat = n := by
  rw [BitVec.toNat_ofNat]; omega

theorem ld_k (X : Vec F S8x256x128 .bf16) (off : Fin 3 → ℕ) (j : Fin 8) (h : off = ![j.val, 0, 0]) (inb) :
    View.ld X (Rect.unit (s := S8x256x128) off (no_index S1x256x128.size) inb) = kAt X j := by
  subst h
  funext y
  unfold View.ld kAt
  refine congrArg X ?_
  funext a
  match a with
  | ⟨0, _⟩ => exact Fin.ext (show j.val + 1 * (y 0).val = j.val by have : (y 0).val < 1 := (y 0).isLt; omega)
  | ⟨1, _⟩ => exact Fin.ext (show 0 + 1 * (y 1).val = (y 1).val by omega)
  | ⟨2, _⟩ => exact Fin.ext (show 0 + 1 * (y 2).val = (y 2).val by omega)

theorem ld_v (X : Vec F S8x128x256 .bf16) (off : Fin 3 → ℕ) (j : Fin 8) (h : off = ![j.val, 0, 0]) (inb) :
    View.ld X (Rect.unit (s := S8x128x256) off (no_index S1x128x256.size) inb) = vAt X j := by
  subst h
  funext y
  unfold View.ld vAt
  refine congrArg X ?_
  funext a
  match a with
  | ⟨0, _⟩ => exact Fin.ext (show j.val + 1 * (y 0).val = j.val by have : (y 0).val < 1 := (y 0).isLt; omega)
  | ⟨1, _⟩ => exact Fin.ext (show 0 + 1 * (y 1).val = (y 1).val by omega)
  | ⟨2, _⟩ => exact Fin.ext (show 0 + 1 * (y 2).val = (y 2).val by omega)

/-- The first loop runs over the blocks before the point's own. -/
theorem trips1 (i : grid0.Coords) : (k0_t1_loop i).trips = (i 2).val :=
  (by decide +kernel : ∀ b : Fin 8, Scf.trips (0#32) (Scalar.addi 0#32 (Scalar.muli (Scalar.divsi (Scalar.subi (BitVec.ofNat 32 b.val) 0#32) 1#32) 1#32)) 1#32 = b.val) (i 2)

/-- The second does not run. -/
theorem trips2 (i : grid0.Coords) : (k0_t2_loop i).trips = 0 := Scf.rem_trips _ _

theorem off3_eq (i : grid0.Coords) (k : Fin (k0_t1_loop i).trips) (h : k.val < 8) : k0_off3 i k = ![k.val, 0, 0] := by
  show ![(Scf.iv 0#32 1#32 k.val).toNat, 0, 0] = _
  rw [show (Scf.iv 0#32 1#32 k.val).toNat = k.val from
    (by decide +kernel : ∀ b : Fin 8, (Scf.iv 0#32 1#32 b.val).toNat = b.val) ⟨k.val, h⟩]

theorem off4_eq (i : grid0.Coords) (k : Fin (k0_t1_loop i).trips) (h : k.val < 8) : k0_off4 i k = ![k.val, 0, 0] := off3_eq i k h

theorem trip_eq (𝒱 : Variants) (c : Dev nD) (bd : Option 𝒱.V) (i : grid0.Coords) (arg3 : Memref sig .tc .vmem S1x256x128 .f32) (harg3 : arg3.IsWhole) (arg4 : Memref sig .tc .vmem S1x1x1x2048x128 .f32) (harg4 : arg4.IsWhole) (arg5 : Memref sig .tc .vmem S1x1x1x2048x128 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x256x128 .f32) (harg11 : arg11.IsWhole) (arg12 : Memref sig .tc .vmem S8x256x128 .bf16) (harg12 : arg12.IsWhole) (arg13 : Memref sig .tc .vmem S8x128x256 .bf16) (harg13 : arg13.IsWhole) (w1 w2 : FVec F S256x128 .bf16)
    (X : Vec F S8x256x128 .bf16) (Y : Vec F S8x128x256 .bf16) (k : Fin (k0_t1_loop i).trips) (h : k.val < 8) (s : St F) :
    tripR_k0_t1 (F := F) 𝒱 c bd i arg3 harg3 arg4 harg4 arg5 harg5 arg6 harg6 arg7 harg7 arg8 harg8 arg9 harg9 arg10 harg10 arg11 harg11 arg12 harg12 arg13 harg13 w1 w2 (harg12.unread X) (harg13.unread Y) k s
      = step w1 w2 (kAt X ⟨k.val, h⟩) (vAt Y ⟨k.val, h⟩) s := by
  obtain ⟨s1, s2, s3, s4, s5, s6⟩ := s
  unfold tripR_k0_t1 trip_k0_t1
  dsimp only
  rw [View.readAt_eq_ld, View.readAt_eq_ld, harg12.read_unread, harg13.read_unread,
    ld_k X _ ⟨k.val, h⟩ (off3_eq i k h), ld_v Y _ ⟨k.val, h⟩ (off4_eq i k h)]
  rfl

theorem st_eq (𝒱 : Variants) (c : Dev nD) (bd : Option 𝒱.V) (i : grid0.Coords) (arg3 : Memref sig .tc .vmem S1x256x128 .f32) (harg3 : arg3.IsWhole) (arg4 : Memref sig .tc .vmem S1x1x1x2048x128 .f32) (harg4 : arg4.IsWhole) (arg5 : Memref sig .tc .vmem S1x1x1x2048x128 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x256x128 .f32) (harg11 : arg11.IsWhole) (arg12 : Memref sig .tc .vmem S8x256x128 .bf16) (harg12 : arg12.IsWhole) (arg13 : Memref sig .tc .vmem S8x128x256 .bf16) (harg13 : arg13.IsWhole) (x0 : Vec F S1x256x128 .f32)
    (X : Vec F S8x256x128 .bf16) (Y : Vec F S8x128x256 .bf16) (s : St F) (hs : s = own x0 (kAt X (i 2)) (vAt Y (i 2))) :
    ∀ n, n ≤ (i 2).val → st_k0_t1 (F := F) 𝒱 c bd i arg3 harg3 arg4 harg4 arg5 harg5 arg6 harg6 arg7 harg7 arg8 harg8 arg9 harg9 arg10 harg10 arg11 harg11 arg12 harg12 arg13 harg13 (q1 x0) (q2 x0) (harg12.unread X) (harg13.unread Y) s n
      = flash x0 X Y (i 2) n
  | 0, _ => hs
  | n + 1, hn => by
    have h8 : (i 2).val < 8 := (i 2).isLt
    have hk : n < (k0_t1_loop i).trips := by rw [trips1 i]; omega
    rw [st_k0_t1_succ (F := F) 𝒱 c bd i arg3 harg3 arg4 harg4 arg5 harg5 arg6 harg6 arg7 harg7 arg8 harg8 arg9 harg9 arg10 harg10 arg11 harg11 arg12 harg12 arg13 harg13 (q1 x0) (q2 x0) (harg12.unread X) (harg13.unread Y) s ⟨n, hk⟩]
    rw [show (⟨n, hk⟩ : Fin _).val = n from rfl, st_eq 𝒱 c bd i arg3 harg3 arg4 harg4 arg5 harg5 arg6 harg6 arg7 harg7 arg8 harg8 arg9 harg9 arg10 harg10 arg11 harg11 arg12 harg12 arg13 harg13 x0 X Y s hs n (by omega), trip_eq 𝒱 c bd i arg3 harg3 arg4 harg4 arg5 harg5 arg6 harg6 arg7 harg7 arg8 harg8 arg9 harg9 arg10 harg10 arg11 harg11 arg12 harg12 arg13 harg13 (q1 x0) (q2 x0) X Y ⟨n, hk⟩ (by show n < 8; omega)]
    exact (flash_succ x0 X Y (i 2) (show n < 8 by omega)).symm

theorem ld_kw (X : Vec F S8x256x128 .bf16) (j : Fin 8) (inb) :
    View.ld X (Rect.unit (s := S8x256x128) ![(Scalar.indexCast (BitVec.ofNat 32 j.val)).toNat, 0, 0] (no_index S1x256x128.size) inb) = kAt X j :=
  ld_k X _ j (by show ![(BitVec.ofNat 32 j.val).toNat, 0, 0] = _; rw [word_lt j.isLt]) inb

theorem ld_vw (X : Vec F S8x128x256 .bf16) (j : Fin 8) (inb) :
    View.ld X (Rect.unit (s := S8x128x256) ![(Scalar.indexCast (BitVec.ofNat 32 j.val)).toNat, 0, 0] (no_index S1x128x256.size) inb) = vAt X j :=
  ld_v X _ j (by show ![(BitVec.ofNat 32 j.val).toNat, 0, 0] = _; rw [word_lt j.isLt]) inb

theorem ld_wq (X : Vec F S1x256x128 .f32) (inb) :
    View.ld X (Rect.unit (s := S1x256x128) ![0, 0, 0] (no_index S1x256x128.size) inb) = X :=
  View.ld_unit_zero (S := S1x256x128) zero3 inb X

theorem ld_wl (X : Vec F S1x64 .f32) (inb) :
    View.ld X (Rect.unit (s := S1x64) ![0, 0] (no_index S1x64.size) inb) = X :=
  View.ld_unit_zero (S := S1x64) zero2 inb X

theorem ld_wg (X : Vec F S128x1 .f32) (inb) :
    View.ld X (Rect.unit (s := S128x1) ![0, 0] (no_index S128x1.size) inb) = X :=
  View.ld_unit_zero (S := S128x1) zero2 inb X

set_option backward.isDefEq.respectTransparency false in
/-- The output of a point that finds the scratch filled. -/
theorem out_B (c : Dev nD) (i : grid0.Coords) (arg3 : Memref sig .tc .vmem S1x256x128 .f32) (harg3 : arg3.IsWhole) (arg4 : Memref sig .tc .vmem S1x1x1x2048x128 .f32) (harg4 : arg4.IsWhole) (arg5 : Memref sig .tc .vmem S1x1x1x2048x128 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x256x128 .f32) (harg11 : arg11.IsWhole) (arg12 : Memref sig .tc .vmem S8x256x128 .bf16) (harg12 : arg12.IsWhole) (arg13 : Memref sig .tc .vmem S8x128x256 .bf16) (harg13 : arg13.IsWhole) (hc0 : ¬cond0_0 i)
    (x0 : Vec F S1x256x128 .f32) (x1 : Vec F S1x1x1x2048x128 .f32) (x2 : Vec F S1x1x1x2048x128 .f32) (x3 : Vec F S1x64 .f32) (x4 : Vec F S1x64 .f32) (x5 : Vec F S1x64 .f32) (x6 : Vec F S1x64 .f32) (x7 : Vec F S128x1 .f32) (xs0 : Vec F S8x256x128 .bf16) (xs1 : Vec F S8x128x256 .bf16) :
    out0_B_8 c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1 = outAt x0 xs0 xs1 x3 x4 x5 x6 x7 (i 2) := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1)]
  unfold kernelRun0_B
  dsimp only
  rw [View.canon_unit_zero zero3]
  sl_unfold_words
  have e1 : Scf.trips 0#32 (Scalar.addi 0#32 (Scalar.muli (Scalar.divsi (Scalar.subi (BitVec.ofNat 32 (i 2).val) 0#32) 1#32) 1#32)) 1#32 = (i 2).val := trips1 i
  have e2 : Scf.trips (Scalar.addi 0#32 (Scalar.muli (Scalar.divsi (Scalar.subi (BitVec.ofNat 32 (i 2).val) 0#32) 1#32) 1#32))
      (Scalar.addi 0#32 (Scalar.subi (BitVec.ofNat 32 (i 2).val) 0#32)) 1#32 = 0 := trips2 i
  simp (disch := decide) only [View.readAt_eq_ld, harg3.read_unread, harg6.read_unread, harg7.read_unread, harg8.read_unread, harg9.read_unread, harg10.read_unread, harg12.read_unread, harg13.read_unread,
    ld_wq, ld_wl, ld_wg, ld_kw, ld_vw, e1, e2, st_k0_t2_zero]
  have key := st_eq Variants.none c none i arg3 harg3 arg4 harg4 arg5 harg5 arg6 harg6 arg7 harg7 arg8 harg8 arg9 harg9 arg10 harg10 arg11 harg11 arg12 harg12 arg13 harg13 x0 xs0 xs1 _ rfl (i 2).val le_rfl
  unfold own q1 q2 q2u at key
  rw [key]
  rfl

end Cert.DiffAttnIdeal.Val

end
-- ==== Proof.Diff.Head.lean ====
/- The first point of a head: it fills the two scratch buffers from the head's keys and values, then
   folds the blocks it has just written. -/
module

public import proofs.«01_k».proof.Proof.Diff.Body

@[expose] public section

set_option maxRecDepth 16384

noncomputable section

namespace Cert.DiffAttnIdeal.Val

open Cert.DiffAttnIdeal Cert.DiffAttnIdeal.Gen Idealize.ShloMosaic Idealize.ShloMosaic.TcCoe Idealize.SL.Sem

/-- The head's keys as the scratch holds them: eight blocks of 256. -/
def stK (x1 : Vec Ideal S1x1x1x2048x128 .f32) : Vec Ideal S8x256x128 .bf16 := fun y =>
  x1 (ix5 0 0 0 ⟨256 * (y 0).val + (y 1).val, by have h0 : (y 0).val < 8 := (y 0).isLt; have h1 : (y 1).val < 256 := (y 1).isLt; show _ < 2048; omega⟩ (y 2))

/-- The head's values as the scratch holds them: eight blocks of 256, each transposed. -/
def stV (x2 : Vec Ideal S1x1x1x2048x128 .f32) : Vec Ideal S8x128x256 .bf16 := fun y =>
  x2 (ix5 0 0 0 ⟨256 * (y 0).val + (y 2).val, by have h0 : (y 0).val < 8 := (y 0).isLt; have h1 : (y 2).val < 256 := (y 2).isLt; show _ < 2048; omega⟩ (y 1))

theorem ld5 (x1 : Vec Ideal S1x1x1x2048x128 .f32) (n o : ℕ) (hn : n < 8) (ho : o = 256 * n) (inb) (r : Fin 256) (d : Fin 128) :
    View.ld x1 (Rect.unit (s := S1x1x1x2048x128) ![0, 0, 0, o, 0] S1x1x1x256x128.size inb) (ix5 0 0 0 r d : S1x1x1x256x128.Idx)
      = x1 (ix5 0 0 0 ⟨256 * n + r.val, by omega⟩ d) := by
  subst ho
  unfold View.ld
  refine congrArg x1 ?_
  funext a
  match a with
  | ⟨0, _⟩ => rfl
  | ⟨1, _⟩ => rfl
  | ⟨2, _⟩ => rfl
  | ⟨3, _⟩ => exact Fin.ext (show 256 * n + 1 * r.val = 256 * n + r.val by omega)
  | ⟨4, _⟩ => exact Fin.ext (show 0 + 1 * d.val = d.val by omega)

theorem pieceK (X : Vec Ideal S1x1x1x2048x128 .f32) (W : FVec Ideal S1x1x1x256x128 .f32) (n : ℕ) (hn : n < 8)
    (hW : ∀ (r : Fin 256) (d : Fin 128), W (ix5 0 0 0 r d) = X (ix5 0 0 0 ⟨256 * n + r.val, by omega⟩ d)) (inb')
    (x : S1x256x128.Idx) :
    (shapeCast S1x256x128 (truncf .bf16 (shapeCast S256x128 W shapeCasts_S1x1x1x256x128_S256x128) bitsLt_bf16_f32 : FVec Ideal S256x128 .bf16) shapeCasts_S256x128_S1x256x128 : FVec Ideal S1x256x128 .bf16) x
      = stK X ((Rect.unit (s := S8x256x128) ![n, 0, 0] S1x256x128.size inb').emb x) := by
  obtain ⟨x0, r, d, rfl⟩ : ∃ (a : Fin 1) (b : Fin 256) (e : Fin 128), x = ix3 a b e := ⟨x 0, x 1, x 2, eq_ix3 x⟩
  obtain rfl : x0 = 0 := Subsingleton.elim _ _
  pointwise [stK]
  rw [hW]
  refine congrArg X ?_
  funext a
  match a with
  | ⟨0, _⟩ => rfl
  | ⟨1, _⟩ => rfl
  | ⟨2, _⟩ => rfl
  | ⟨3, _⟩ => exact Fin.ext (show 256 * n + r.val = 256 * (n + 1 * 0) + (0 + 1 * r.val) by omega)
  | ⟨4, _⟩ => exact Fin.ext (show d.val = 0 + 1 * d.val by omega)

theorem pieceV (X : Vec Ideal S1x1x1x2048x128 .f32) (W : FVec Ideal S1x1x1x256x128 .f32) (n : ℕ) (hn : n < 8)
    (hW : ∀ (r : Fin 256) (d : Fin 128), W (ix5 0 0 0 r d) = X (ix5 0 0 0 ⟨256 * n + r.val, by omega⟩ d)) (inb')
    (x : S1x128x256.Idx) :
    (shapeCast S1x128x256 (truncf .bf16 (transpose S128x256 [1, 0] (shapeCast S256x128 W shapeCasts_S1x1x1x256x128_S256x128) transposes_S256x128_p1_0_S128x256) bitsLt_bf16_f32 : FVec Ideal S128x256 .bf16) shapeCasts_S128x256_S1x128x256 : FVec Ideal S1x128x256 .bf16) x
      = stV X ((Rect.unit (s := S8x128x256) ![n, 0, 0] S1x128x256.size inb').emb x) := by
  obtain ⟨x0, d, r, rfl⟩ : ∃ (a : Fin 1) (b : Fin 128) (e : Fin 256), x = ix3 a b e := ⟨x 0, x 1, x 2, eq_ix3 x⟩
  obtain rfl : x0 = 0 := Subsingleton.elim _ _
  pointwise [stV]
  rw [hW]
  refine congrArg X ?_
  funext a
  match a with
  | ⟨0, _⟩ => rfl
  | ⟨1, _⟩ => rfl
  | ⟨2, _⟩ => rfl
  | ⟨3, _⟩ => exact Fin.ext (show 256 * n + r.val = 256 * (n + 1 * 0) + (0 + 1 * r.val) by omega)
  | ⟨4, _⟩ => exact Fin.ext (show d.val = 0 + 1 * d.val by omega)

set_option backward.isDefEq.respectTransparency false in
theorem pieces0 (c : Dev nD) (i : grid0.Coords) (arg3 : Memref sig .tc .vmem S1x256x128 .f32) (harg3 : arg3.IsWhole) (arg4 : Memref sig .tc .vmem S1x1x1x2048x128 .f32) (harg4 : arg4.IsWhole) (arg5 : Memref sig .tc .vmem S1x1x1x2048x128 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x256x128 .f32) (harg11 : arg11.IsWhole) (arg12 : Memref sig .tc .vmem S8x256x128 .bf16) (harg12 : arg12.IsWhole) (arg13 : Memref sig .tc .vmem S8x128x256 .bf16) (harg13 : arg13.IsWhole) (hc0 : cond0_0 i)
    (x0 : Vec Ideal S1x256x128 .f32) (x1 : Vec Ideal S1x1x1x2048x128 .f32) (x2 : Vec Ideal S1x1x1x2048x128 .f32) (x3 : Vec Ideal S1x64 .f32) (x4 : Vec Ideal S1x64 .f32) (x5 : Vec Ideal S1x64 .f32) (x6 : Vec Ideal S1x64 .f32) (x7 : Vec Ideal S128x1 .f32) :
    ∀ p ∈ (kernelRun0_A (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7).2.1, ∀ x : p.1.shape.Idx, p.2 x = stK x1 (p.1.emb x) := by
  unfold kernelRun0_A
  dsimp only
  sl_unfold_words
  simp only [View.readAt_eq_ld, harg4.read_unread]
  simp only [List.forall_mem_cons]
  exact ⟨pieceK x1 _ 7 (by decide) (ld5 x1 7 1792 (by decide) rfl _) _, pieceK x1 _ 6 (by decide) (ld5 x1 6 1536 (by decide) rfl _) _, pieceK x1 _ 5 (by decide) (ld5 x1 5 1280 (by decide) rfl _) _,
    pieceK x1 _ 4 (by decide) (ld5 x1 4 1024 (by decide) rfl _) _, pieceK x1 _ 3 (by decide) (ld5 x1 3 768 (by decide) rfl _) _, pieceK x1 _ 2 (by decide) (ld5 x1 2 512 (by decide) rfl _) _,
    pieceK x1 _ 1 (by decide) (ld5 x1 1 256 (by decide) rfl _) _, pieceK x1 _ 0 (by decide) (ld5 x1 0 0 (by decide) rfl _) _, fun _ h => absurd h List.not_mem_nil⟩

set_option backward.isDefEq.respectTransparency false in
theorem pieces1 (c : Dev nD) (i : grid0.Coords) (arg3 : Memref sig .tc .vmem S1x256x128 .f32) (harg3 : arg3.IsWhole) (arg4 : Memref sig .tc .vmem S1x1x1x2048x128 .f32) (harg4 : arg4.IsWhole) (arg5 : Memref sig .tc .vmem S1x1x1x2048x128 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x256x128 .f32) (harg11 : arg11.IsWhole) (arg12 : Memref sig .tc .vmem S8x256x128 .bf16) (harg12 : arg12.IsWhole) (arg13 : Memref sig .tc .vmem S8x128x256 .bf16) (harg13 : arg13.IsWhole) (hc0 : cond0_0 i)
    (x0 : Vec Ideal S1x256x128 .f32) (x1 : Vec Ideal S1x1x1x2048x128 .f32) (x2 : Vec Ideal S1x1x1x2048x128 .f32) (x3 : Vec Ideal S1x64 .f32) (x4 : Vec Ideal S1x64 .f32) (x5 : Vec Ideal S1x64 .f32) (x6 : Vec Ideal S1x64 .f32) (x7 : Vec Ideal S128x1 .f32) :
    ∀ p ∈ (kernelRun0_A (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7).2.2.1, ∀ x : p.1.shape.Idx, p.2 x = stV x2 (p.1.emb x) := by
  unfold kernelRun0_A
  dsimp only
  sl_unfold_words
  simp only [View.readAt_eq_ld, harg5.read_unread]
  simp only [List.forall_mem_cons]
  exact ⟨pieceV x2 _ 7 (by decide) (ld5 x2 7 1792 (by decide) rfl _) _, pieceV x2 _ 6 (by decide) (ld5 x2 6 1536 (by decide) rfl _) _, pieceV x2 _ 5 (by decide) (ld5 x2 5 1280 (by decide) rfl _) _,
    pieceV x2 _ 4 (by decide) (ld5 x2 4 1024 (by decide) rfl _) _, pieceV x2 _ 3 (by decide) (ld5 x2 3 768 (by decide) rfl _) _, pieceV x2 _ 2 (by decide) (ld5 x2 2 512 (by decide) rfl _) _,
    pieceV x2 _ 1 (by decide) (ld5 x2 1 256 (by decide) rfl _) _, pieceV x2 _ 0 (by decide) (ld5 x2 0 0 (by decide) rfl _) _, fun _ h => absurd h List.not_mem_nil⟩

theorem sout0 (c : Dev nD) (i : grid0.Coords) (arg3 : Memref sig .tc .vmem S1x256x128 .f32) (harg3 : arg3.IsWhole) (arg4 : Memref sig .tc .vmem S1x1x1x2048x128 .f32) (harg4 : arg4.IsWhole) (arg5 : Memref sig .tc .vmem S1x1x1x2048x128 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x256x128 .f32) (harg11 : arg11.IsWhole) (arg12 : Memref sig .tc .vmem S8x256x128 .bf16) (harg12 : arg12.IsWhole) (arg13 : Memref sig .tc .vmem S8x128x256 .bf16) (harg13 : arg13.IsWhole) (hc0 : cond0_0 i)
    (x0 : Vec Ideal S1x256x128 .f32) (x1 : Vec Ideal S1x1x1x2048x128 .f32) (x2 : Vec Ideal S1x1x1x2048x128 .f32) (x3 : Vec Ideal S1x64 .f32) (x4 : Vec Ideal S1x64 .f32) (x5 : Vec Ideal S1x64 .f32) (x6 : Vec Ideal S1x64 .f32) (x7 : Vec Ideal S128x1 .f32) :
    sout0_A_0 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7 = stK x1 := by
  unfold sout0_A_0
  rw [View.read_writes_eq_canon _ _ _ (scover0_A_0 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7)]
  funext y
  exact View.canon_apply_of_pieces _ _ (pieces0 c i arg3 harg3 arg4 harg4 arg5 harg5 arg6 harg6 arg7 harg7 arg8 harg8 arg9 harg9 arg10 harg10 arg11 harg11 arg12 harg12 arg13 harg13 hc0 x0 x1 x2 x3 x4 x5 x6 x7) y (scover0_A_0 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7 y)

theorem sout1 (c : Dev nD) (i : grid0.Coords) (arg3 : Memref sig .tc .vmem S1x256x128 .f32) (harg3 : arg3.IsWhole) (arg4 : Memref sig .tc .vmem S1x1x1x2048x128 .f32) (harg4 : arg4.IsWhole) (arg5 : Memref sig .tc .vmem S1x1x1x2048x128 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x256x128 .f32) (harg11 : arg11.IsWhole) (arg12 : Memref sig .tc .vmem S8x256x128 .bf16) (harg12 : arg12.IsWhole) (arg13 : Memref sig .tc .vmem S8x128x256 .bf16) (harg13 : arg13.IsWhole) (hc0 : cond0_0 i)
    (x0 : Vec Ideal S1x256x128 .f32) (x1 : Vec Ideal S1x1x1x2048x128 .f32) (x2 : Vec Ideal S1x1x1x2048x128 .f32) (x3 : Vec Ideal S1x64 .f32) (x4 : Vec Ideal S1x64 .f32) (x5 : Vec Ideal S1x64 .f32) (x6 : Vec Ideal S1x64 .f32) (x7 : Vec Ideal S128x1 .f32) :
    sout0_A_1 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7 = stV x2 := by
  unfold sout0_A_1
  rw [View.read_writes_eq_canon _ _ _ (scover0_A_1 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7)]
  funext y
  exact View.canon_apply_of_pieces _ _ (pieces1 c i arg3 harg3 arg4 harg4 arg5 harg5 arg6 harg6 arg7 harg7 arg8 harg8 arg9 harg9 arg10 harg10 arg11 harg11 arg12 harg12 arg13 harg13 hc0 x0 x1 x2 x3 x4 x5 x6 x7) y (scover0_A_1 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7 y)

theorem first_point (i : grid0.Coords) (h : cond0_0 i) : (i 2).val = 0 :=
  (by decide +kernel : ∀ b : Fin 8, Scalar.cmpi .ne (Scalar.extui (Scalar.cmpi .eq (BitVec.ofNat 32 b.val) 0#32)) 0#32 = 1#1 → b.val = 0) (i 2) h

set_option backward.isDefEq.respectTransparency false in
theorem out_A (c : Dev nD) (i : grid0.Coords) (arg3 : Memref sig .tc .vmem S1x256x128 .f32) (harg3 : arg3.IsWhole) (arg4 : Memref sig .tc .vmem S1x1x1x2048x128 .f32) (harg4 : arg4.IsWhole) (arg5 : Memref sig .tc .vmem S1x1x1x2048x128 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x256x128 .f32) (harg11 : arg11.IsWhole) (arg12 : Memref sig .tc .vmem S8x256x128 .bf16) (harg12 : arg12.IsWhole) (arg13 : Memref sig .tc .vmem S8x128x256 .bf16) (harg13 : arg13.IsWhole) (hc0 : cond0_0 i)
    (x0 : Vec Ideal S1x256x128 .f32) (x1 : Vec Ideal S1x1x1x2048x128 .f32) (x2 : Vec Ideal S1x1x1x2048x128 .f32) (x3 : Vec Ideal S1x64 .f32) (x4 : Vec Ideal S1x64 .f32) (x5 : Vec Ideal S1x64 .f32) (x6 : Vec Ideal S1x64 .f32) (x7 : Vec Ideal S128x1 .f32) :
    out0_A_8 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7 = outAt x0 (stK x1) (stV x2) x3 x4 x5 x6 x7 (i 2) := by
  unfold out0_A_8
  rw [View.read_writes_eq_canon _ _ _ (cover0_A_8 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  have hC0 : View.canon (kernelRun0_A (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7).2.1 = stK x1 :=
    funext fun y => View.canon_apply_of_pieces _ _ (pieces0 c i arg3 harg3 arg4 harg4 arg5 harg5 arg6 harg6 arg7 harg7 arg8 harg8 arg9 harg9 arg10 harg10 arg11 harg11 arg12 harg12 arg13 harg13 hc0 x0 x1 x2 x3 x4 x5 x6 x7) y (scover0_A_0 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7 y)
  have hC1 : View.canon (kernelRun0_A (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7).2.2.1 = stV x2 :=
    funext fun y => View.canon_apply_of_pieces _ _ (pieces1 c i arg3 harg3 arg4 harg4 arg5 harg5 arg6 harg6 arg7 harg7 arg8 harg8 arg9 harg9 arg10 harg10 arg11 harg11 arg12 harg12 arg13 harg13 hc0 x0 x1 x2 x3 x4 x5 x6 x7) y (scover0_A_1 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7 y)
  unfold kernelRun0_A at hC0 hC1
  dsimp only at hC0 hC1
  rw [View.canon_unit_zero zero3]
  have h2 : (i 2).val = 0 := first_point i hc0
  have e1 : Scf.trips 0#32 (Scalar.addi 0#32 (Scalar.muli (Scalar.divsi (Scalar.subi (BitVec.ofNat 32 (i 2).val) 0#32) 1#32) 1#32)) 1#32 = 0 := (trips1 i).trans h2
  have e2 : Scf.trips (Scalar.addi 0#32 (Scalar.muli (Scalar.divsi (Scalar.subi (BitVec.ofNat 32 (i 2).val) 0#32) 1#32) 1#32))
      (Scalar.addi 0#32 (Scalar.subi (BitVec.ofNat 32 (i 2).val) 0#32)) 1#32 = 0 := trips2 i
  simp only [e1, e2, st_k0_t2_zero, st_k0_t1_zero]
  clear e1 e2
  unfold kernelRun0_A.sl.r_6 kernelRun0_A.sl.r_7 kernelRun0_A.sl.r_9 kernelRun0_A.sl.r_10
  generalize kernelRun0_A.sl.HS0_8 c arg4 harg4 x1 = L0 at hC0 ⊢
  generalize kernelRun0_A.sl.HS1_8 c arg5 harg5 x2 = L1 at hC1 ⊢
  sl_unfold_words
  simp only [View.read_writes_junk_eq_canon, hC0, hC1, View.readAt_eq_ld, harg3.read_unread, harg6.read_unread, harg7.read_unread, harg8.read_unread, harg9.read_unread,
    harg10.read_unread, ld_wq, ld_wl, ld_wg, ld_kw, ld_vw]
  unfold outAt
  simp only [h2]
  rfl

end Cert.DiffAttnIdeal.Val

end
-- ==== Proof.Diff.Array.lean ====
/- The result array after the run: at each index what the point covering it computes from the arguments. -/
module

public import proofs.«01_k».proof.Proof.Diff.Head

@[expose] public section

set_option maxRecDepth 16384

noncomputable section

namespace Cert.DiffAttnIdeal.Val

open Cert.DiffAttnIdeal Cert.DiffAttnIdeal.Gen Idealize.ShloMosaic Idealize.ShloMosaic.TcCoe Idealize.SL.Sem

theorem c0 (t : Fin cfg0.N) : (grid0.coords t 0).val = t.val / 32 % 8 := Pipeline.Grid.coords_val t 0 (by decide) rfl
theorem c1 (t : Fin cfg0.N) : (grid0.coords t 1).val = t.val / 8 % 4 := Pipeline.Grid.coords_val t 1 (by decide) rfl
theorem c2 (t : Fin cfg0.N) : (grid0.coords t 2).val = t.val % 8 :=
  (Pipeline.Grid.coords_val t 2 (S := 1) (B := 8) (by decide) rfl).trans (by rw [Nat.div_one])

/-- Block `i` of 256 queries of head `h`. -/
def blkQ (q : Vec Ideal S8x2048x512 .f32) (b : Fin 8) (h : Fin 4) (i : Fin 8) : Vec Ideal S1x256x128 .f32 := fun y =>
  q (ix3 b ⟨256 * i.val + (y 1).val, by have h1 : (y 1).val < 256 := (y 1).isLt; show _ < 2048; omega⟩
    ⟨128 * h.val + (y 2).val, by have h1 : (y 2).val < 128 := (y 2).isLt; show _ < 512; omega⟩)

/-- The keys (or values) of head `h`. -/
def blkK (k : Vec Ideal S8x1x4x2048x128 .f32) (b : Fin 8) (h : Fin 4) : Vec Ideal S1x1x1x2048x128 .f32 := fun y =>
  k (ix5 b 0 h (y 3) (y 4))

variable (m : (ℓ : Loc nD τ sig) → Buf (Elt Ideal) ℓ)

/-- The arguments, as vectors. -/
abbrev aQ (c : Dev nD) : Vec Ideal S8x2048x512 .f32 := m ((c : Thread nD τ).loc main_arg0)
abbrev aK (c : Dev nD) : Vec Ideal S8x1x4x2048x128 .f32 := m ((c : Thread nD τ).loc main_arg1)
abbrev aV (c : Dev nD) : Vec Ideal S8x1x4x2048x128 .f32 := m ((c : Thread nD τ).loc main_arg2)
abbrev a3 (c : Dev nD) : Vec Ideal S1x64 .f32 := m ((c : Thread nD τ).loc main_arg3)
abbrev a4 (c : Dev nD) : Vec Ideal S1x64 .f32 := m ((c : Thread nD τ).loc main_arg4)
abbrev a5 (c : Dev nD) : Vec Ideal S1x64 .f32 := m ((c : Thread nD τ).loc main_arg5)
abbrev a6 (c : Dev nD) : Vec Ideal S1x64 .f32 := m ((c : Thread nD τ).loc main_arg6)
abbrev a7 (c : Dev nD) : Vec Ideal S128x1 .f32 := m ((c : Thread nD τ).loc main_arg7)

theorem blk0 (c : Dev nD) (t : Fin cfg0.N) :
    (iblk m c 0 t : Vec Ideal S1x256x128 .f32) = blkQ (aQ m c) (grid0.coords t 0) (grid0.coords t 1) (grid0.coords t 2) := by
  funext j
  unfold iblk blkQ
  rw [View.read_apply]
  show V m c main_arg0 _ = m (c.tc.loc main_arg0) _
  unfold V
  congr 1
  funext a
  apply Fin.ext
  have h0 : (grid0.coords t 0).val < 8 := (grid0.coords t 0).isLt
  have h1 : (grid0.coords t 1).val < 4 := (grid0.coords t 1).isLt
  have h2 : (grid0.coords t 2).val < 8 := (grid0.coords t 2).isLt
  have hj : (j 0).val < 1 := (j 0).isLt
  match a with
  | ⟨0, _⟩ => show (BitVec.ofNat 32 (grid0.coords t 0).val).toNat * 1 + 1 * (j 0).val = (grid0.coords t 0).val; rw [BitVec.toNat_ofNat]; omega
  | ⟨1, _⟩ => show (BitVec.ofNat 32 (grid0.coords t 2).val).toNat * 256 + 1 * (j 1).val = 256 * (grid0.coords t 2).val + (j 1).val; rw [BitVec.toNat_ofNat]; omega
  | ⟨2, _⟩ => show (BitVec.ofNat 32 (grid0.coords t 1).val).toNat * 128 + 1 * (j 2).val = 128 * (grid0.coords t 1).val + (j 2).val; rw [BitVec.toNat_ofNat]; omega

theorem blk1 (c : Dev nD) (t : Fin cfg0.N) :
    (iblk m c 1 t : Vec Ideal S1x1x1x2048x128 .f32) = blkK (aK m c) (grid0.coords t 0) (grid0.coords t 1) := by
  funext j
  unfold iblk blkK
  rw [View.read_apply]
  show V m c main_arg1 _ = m (c.tc.loc main_arg1) _
  unfold V
  congr 1
  funext a
  apply Fin.ext
  have h0 : (grid0.coords t 0).val < 8 := (grid0.coords t 0).isLt
  have h1 : (grid0.coords t 1).val < 4 := (grid0.coords t 1).isLt
  have hj : (j 0).val < 1 := (j 0).isLt
  have hj1 : (j 1).val < 1 := (j 1).isLt
  have hj2 : (j 2).val < 1 := (j 2).isLt
  match a with
  | ⟨0, _⟩ => show (BitVec.ofNat 32 (grid0.coords t 0).val).toNat * 1 + 1 * (j 0).val = (grid0.coords t 0).val; rw [BitVec.toNat_ofNat]; omega
  | ⟨1, _⟩ => show 0 * 1 + 1 * (j 1).val = 0; omega
  | ⟨2, _⟩ => show (BitVec.ofNat 32 (grid0.coords t 1).val).toNat * 1 + 1 * (j 2).val = (grid0.coords t 1).val; rw [BitVec.toNat_ofNat]; omega
  | ⟨3, _⟩ => show 0 * 2048 + 1 * (j 3).val = (j 3).val; omega
  | ⟨4, _⟩ => show 0 * 128 + 1 * (j 4).val = (j 4).val; omega

theorem blk2 (c : Dev nD) (t : Fin cfg0.N) :
    (iblk m c 2 t : Vec Ideal S1x1x1x2048x128 .f32) = blkK (aV m c) (grid0.coords t 0) (grid0.coords t 1) := by
  funext j
  unfold iblk blkK
  rw [View.read_apply]
  show V m c main_arg2 _ = m (c.tc.loc main_arg2) _
  unfold V
  congr 1
  funext a
  apply Fin.ext
  have h0 : (grid0.coords t 0).val < 8 := (grid0.coords t 0).isLt
  have h1 : (grid0.coords t 1).val < 4 := (grid0.coords t 1).isLt
  have hj : (j 0).val < 1 := (j 0).isLt
  have hj1 : (j 1).val < 1 := (j 1).isLt
  have hj2 : (j 2).val < 1 := (j 2).isLt
  match a with
  | ⟨0, _⟩ => show (BitVec.ofNat 32 (grid0.coords t 0).val).toNat * 1 + 1 * (j 0).val = (grid0.coords t 0).val; rw [BitVec.toNat_ofNat]; omega
  | ⟨1, _⟩ => show 0 * 1 + 1 * (j 1).val = 0; omega
  | ⟨2, _⟩ => show (BitVec.ofNat 32 (grid0.coords t 1).val).toNat * 1 + 1 * (j 2).val = (grid0.coords t 1).val; rw [BitVec.toNat_ofNat]; omega
  | ⟨3, _⟩ => show 0 * 2048 + 1 * (j 3).val = (j 3).val; omega
  | ⟨4, _⟩ => show 0 * 128 + 1 * (j 4).val = (j 4).val; omega

theorem blk3 (c : Dev nD) (t : Fin cfg0.N) : (iblk m c 3 t : Vec Ideal S1x64 .f32) = a3 m c := by
  funext j
  unfold iblk
  rw [View.read_apply]
  show V m c main_arg3 _ = m (c.tc.loc main_arg3) j
  unfold V
  congr 1
  funext a
  apply Fin.ext
  match a with
  | ⟨0, _⟩ => show 0 * 1 + 1 * (j 0).val = (j 0).val; omega
  | ⟨1, _⟩ => show 0 * 64 + 1 * (j 1).val = (j 1).val; omega

theorem blk4 (c : Dev nD) (t : Fin cfg0.N) : (iblk m c 4 t : Vec Ideal S1x64 .f32) = a4 m c := by
  funext j
  unfold iblk
  rw [View.read_apply]
  show V m c main_arg4 _ = m (c.tc.loc main_arg4) j
  unfold V
  congr 1
  funext a
  apply Fin.ext
  match a with
  | ⟨0, _⟩ => show 0 * 1 + 1 * (j 0).val = (j 0).val; omega
  | ⟨1, _⟩ => show 0 * 64 + 1 * (j 1).val = (j 1).val; omega

theorem blk5 (c : Dev nD) (t : Fin cfg0.N) : (iblk m c 5 t : Vec Ideal S1x64 .f32) = a5 m c := by
  funext j
  unfold iblk
  rw [View.read_apply]
  show V m c main_arg5 _ = m (c.tc.loc main_arg5) j
  unfold V
  congr 1
  funext a
  apply Fin.ext
  match a with
  | ⟨0, _⟩ => show 0 * 1 + 1 * (j 0).val = (j 0).val; omega
  | ⟨1, _⟩ => show 0 * 64 + 1 * (j 1).val = (j 1).val; omega

theorem blk6 (c : Dev nD) (t : Fin cfg0.N) : (iblk m c 6 t : Vec Ideal S1x64 .f32) = a6 m c := by
  funext j
  unfold iblk
  rw [View.read_apply]
  show V m c main_arg6 _ = m (c.tc.loc main_arg6) j
  unfold V
  congr 1
  funext a
  apply Fin.ext
  match a with
  | ⟨0, _⟩ => show 0 * 1 + 1 * (j 0).val = (j 0).val; omega
  | ⟨1, _⟩ => show 0 * 64 + 1 * (j 1).val = (j 1).val; omega

theorem blk7 (c : Dev nD) (t : Fin cfg0.N) : (iblk m c 7 t : Vec Ideal S128x1 .f32) = a7 m c := by
  funext j
  unfold iblk
  rw [View.read_apply]
  show V m c main_arg7 _ = m (c.tc.loc main_arg7) j
  unfold V
  congr 1
  funext a
  apply Fin.ext
  match a with
  | ⟨0, _⟩ => show 0 * 128 + 1 * (j 0).val = (j 0).val; omega
  | ⟨1, _⟩ => show 0 * 1 + 1 * (j 1).val = (j 1).val; omega

theorem scratch_A (c : Dev nD) (t : Fin cfg0.N) (h0 : t.val % 8 = 0) :
    (outsAt0 m c t.val t.isLt).2 = (stK (iblk m c 1 t), stV (iblk m c 2 t)) := by
  rw [outsAt0_A m c t h0]
  dsimp only
  rw [sout0, sout1]

theorem scratch_B (c : Dev nD) (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  dsimp only
  unfold sout0_B_0 sout0_B_1
  rfl

/-- The scratch after point `t`: the head's keys and values. -/
theorem scratch (c : Dev nD) : ∀ (n : ℕ) (h : n < cfg0.N),
    (outsAt0 m c n h).2 = (stK (iblk m c 1 ⟨n, h⟩), stV (iblk m c 2 ⟨n, h⟩))
  | 0, h => scratch_A m c ⟨0, h⟩ rfl
  | n + 1, h => by
    by_cases h0 : (n + 1) % 8 = 0
    · exact scratch_A m c ⟨n + 1, h⟩ h0
    · refine (scratch_B m c ⟨n + 1, h⟩ h0).trans ?_
      have ih := scratch c n (Nat.lt_of_succ_lt h)
      have e0 : grid0.coords (⟨n, Nat.lt_of_succ_lt h⟩ : Fin cfg0.N) 0 = grid0.coords (⟨n + 1, h⟩ : Fin cfg0.N) 0 :=
        Fin.ext (by rw [c0, c0]; show n / 32 % 8 = (n + 1) / 32 % 8; omega)
      have e1 : grid0.coords (⟨n, Nat.lt_of_succ_lt h⟩ : Fin cfg0.N) 1 = grid0.coords (⟨n + 1, h⟩ : Fin cfg0.N) 1 :=
        Fin.ext (by rw [c1, c1]; show n / 8 % 4 = (n + 1) / 8 % 4; omega)
      rw [blk1, blk2, e0, e1, ← blk1 m c ⟨n + 1, h⟩, ← blk2 m c ⟨n + 1, h⟩] at ih
      exact ih

/-- The result at an index, from the arguments. -/
def resAt (q : Vec Ideal S8x2048x512 .f32) (k v : Vec Ideal S8x1x4x2048x128 .f32) (l3 l4 l5 l6 : Vec Ideal S1x64 .f32)
    (g : Vec Ideal S128x1 .f32) (b : Fin 8) (h : Fin 4) (i : Fin 8) : FVec Ideal S1x256x128 .f32 :=
  outAt (blkQ q b h i) (stK (blkK k b h)) (stV (blkK v b h)) l3 l4 l5 l6 g i

theorem out_point (c : Dev nD) (t : Fin cfg0.N) :
    (outsAt0 m c t.val t.isLt).1 = resAt (aQ m c) (aK m c) (aV m c) (a3 m c) (a4 m c) (a5 m c) (a6 m c) (a7 m c)
      (grid0.coords t 0) (grid0.coords t 1) (grid0.coords t 2) := by
  unfold resAt
  by_cases h0 : t.val % 8 = 0
  · rw [outsAt0_A m c t h0]
    dsimp only
    rw [out_A, blk0, blk1, blk2, blk3, blk4, blk5, blk6, blk7]
  · have hs := (scratch_B m c t h0).symm.trans (scratch m c t.val t.isLt)
    rw [outsAt0_B m c t h0]
    dsimp only
    rw [out_B, hs, blk0, blk1, blk2, blk3, blk4, blk5, blk6, blk7]

/-- The whole result array. -/
def result (c : Dev nD) : Vec Ideal S8x2048x512 .f32 := fun i =>
  resAt (aQ m c) (aK m c) (aV m c) (a3 m c) (a4 m c) (a5 m c) (a6 m c) (a7 m c) (i 0)
    ⟨(i 2).val / 128, by have h : (i 2).val < 512 := (i 2).isLt; omega⟩ ⟨(i 1).val / 256, by have h : (i 1).val < 2048 := (i 1).isLt; omega⟩
    (ix3 0 ⟨(i 1).val % 256, Nat.mod_lt _ (by decide)⟩ ⟨(i 2).val % 128, Nat.mod_lt _ (by decide)⟩)

theorem res_congr (c : Dev nD) {b b' : Fin 8} {h h' : Fin 4} {i i' : Fin 8} (y : S1x256x128.Idx) (r : Fin 256) (d : Fin 128)
    (hb : b'.val = b.val) (hh : h'.val = h.val) (hi : i'.val = i.val) (hr : r.val = (y 1).val) (hd : d.val = (y 2).val) :
    resAt (aQ m c) (aK m c) (aV m c) (a3 m c) (a4 m c) (a5 m c) (a6 m c) (a7 m c) b h i y
      = resAt (aQ m c) (aK m c) (aV m c) (a3 m c) (a4 m c) (a5 m c) (a6 m c) (a7 m c) b' h' i' (ix3 0 r d) := by
  obtain rfl := Fin.ext hb
  obtain rfl := Fin.ext hh
  obtain rfl := Fin.ext hi
  congr 1
  funext a
  match a with
  | ⟨0, _⟩ => exact Fin.ext (by show (y 0).val = 0; have : (y 0).val < 1 := (y 0).isLt; omega)
  | ⟨1, _⟩ => exact Fin.ext hr.symm
  | ⟨2, _⟩ => exact Fin.ext hd.symm

theorem final (c : Dev nD) : (dats m 0 c).arrAt 8 cfg0.N = result m c := by
  funext i
  refine (dats m 0 c).arrAt_forall_of_cover 8 (fun i v => v = result m c i) (fun t _ y => ?_) (fun i => ?_) i
  · rw [Value.flushed8, out_point]
    have h0 : (grid0.coords t 0).val < 8 := (grid0.coords t 0).isLt
    have h1 : (grid0.coords t 1).val < 4 := (grid0.coords t 1).isLt
    have h2 : (grid0.coords t 2).val < 8 := (grid0.coords t 2).isLt
    have y0 : (y 0).val < 1 := (y 0).isLt
    have y1 : (y 1).val < 256 := (y 1).isLt
    have y2 : (y 2).val < 128 := (y 2).isLt
    have b0 : (BitVec.ofNat 32 (grid0.coords t 0).val).toNat = (grid0.coords t 0).val := by rw [BitVec.toNat_ofNat]; omega
    have b1 : (BitVec.ofNat 32 (grid0.coords t 1).val).toNat = (grid0.coords t 1).val := by rw [BitVec.toNat_ofNat]; omega
    have b2 : (BitVec.ofNat 32 (grid0.coords t 2).val).toNat = (grid0.coords t 2).val := by rw [BitVec.toNat_ofNat]; omega
    refine res_congr m c y _ _ ?_ ?_ ?_ ?_ ?_
    · show (BitVec.ofNat 32 (grid0.coords t 0).val).toNat * 1 + 1 * (y 0).val = _; omega
    · show ((BitVec.ofNat 32 (grid0.coords t 1).val).toNat * 128 + 1 * (y 2).val) / 128 = _; omega
    · show ((BitVec.ofNat 32 (grid0.coords t 2).val).toNat * 256 + 1 * (y 1).val) / 256 = _; omega
    · show ((BitVec.ofNat 32 (grid0.coords t 2).val).toNat * 256 + 1 * (y 1).val) % 256 = _; omega
    · show ((BitVec.ofNat 32 (grid0.coords t 1).val).toNat * 128 + 1 * (y 2).val) % 128 = _; omega
  · have i0 : (i 0 : Nat) < 8 := (i 0).isLt
    have i1 : (i 1 : Nat) < 2048 := (i 1).isLt
    have i2 : (i 2 : Nat) < 512 := (i 2).isLt
    have hN : cfg0.N = 256 := N_0
    let t : Fin cfg0.N := ⟨(i 0 : Nat) * 32 + (i 2 : Nat) / 128 * 8 + (i 1 : Nat) / 256, by rw [hN]; omega⟩
    refine ⟨t, flush0_8 t, ?_⟩
    have t0 : (grid0.coords t 0).val = (i 0 : Nat) := by rw [c0]; show ((i 0 : Nat) * 32 + (i 2 : Nat) / 128 * 8 + (i 1 : Nat) / 256) / 32 % 8 = _; omega
    have t1 : (grid0.coords t 1).val = (i 2 : Nat) / 128 := by rw [c1]; show ((i 0 : Nat) * 32 + (i 2 : Nat) / 128 * 8 + (i 1 : Nat) / 256) / 8 % 4 = _; omega
    have t2 : (grid0.coords t 2).val = (i 1 : Nat) / 256 := by rw [c2]; show ((i 0 : Nat) * 32 + (i 2 : Nat) / 128 * 8 + (i 1 : Nat) / 256) % 8 = _; omega
    have b0 : (BitVec.ofNat 32 (grid0.coords t 0).val).toNat = (i 0 : Nat) := by rw [BitVec.toNat_ofNat, t0]; omega
    have b1 : (BitVec.ofNat 32 (grid0.coords t 1).val).toNat = (i 2 : Nat) / 128 := by rw [BitVec.toNat_ofNat, t1]; omega
    have b2 : (BitVec.ofNat 32 (grid0.coords t 2).val).toNat = (i 1 : Nat) / 256 := by rw [BitVec.toNat_ofNat, t2]; omega
    show i ∈ ((View.whole main_v0).slice (win0_8.rect t)).set
    rw [View.set_slice_whole, Rect.mem_set_unit]
    intro a
    match a with
    | ⟨0, _⟩ => show (BitVec.ofNat 32 (grid0.coords t 0).val).toNat * 1 ≤ (i 0 : Nat) ∧ (i 0 : Nat) < (BitVec.ofNat 32 (grid0.coords t 0).val).toNat * 1 + 1; omega
    | ⟨1, _⟩ => show (BitVec.ofNat 32 (grid0.coords t 2).val).toNat * 256 ≤ (i 1 : Nat) ∧ (i 1 : Nat) < (BitVec.ofNat 32 (grid0.coords t 2).val).toNat * 256 + 256; omega
    | ⟨2, _⟩ => show (BitVec.ofNat 32 (grid0.coords t 1).val).toNat * 128 ≤ (i 2 : Nat) ∧ (i 2 : Nat) < (BitVec.ofNat 32 (grid0.coords t 1).val).toNat * 128 + 128; omega

end Cert.DiffAttnIdeal.Val

end
-- ==== Proof.Diff.Online.lean ====
/- Softmax by running maximum, over the reals: weighted sums of `exp (s k - M)` over a set of keys,
   rescaled when `M` changes, extended by a block of 256 keys; and the passage from extended reals. -/
module

public import Idealize.ShloMosaic.Lib.Pointwise

@[expose] public section

noncomputable section

namespace Softmax

open Idealize.ShloMosaic

/-- The sum over the keys `S` of `f k · exp (s k - M)`. -/
def W {κ : Type} (f s : κ → ℝ) (S : Finset κ) (M : ℝ) : ℝ := ∑ k ∈ S, f k * Real.exp (s k - M)

theorem W_shift {κ : Type} (f s : κ → ℝ) (S : Finset κ) (M M' : ℝ) : W f s S M * Real.exp (M - M') = W f s S M' := by
  unfold W
  rw [Finset.sum_mul]
  refine Finset.sum_congr rfl fun k _ => ?_
  rw [mul_assoc, ← Real.exp_add]
  congr 2
  ring

theorem W_pos {κ : Type} (s : κ → ℝ) (S : Finset κ) (M : ℝ) (h : S.Nonempty) : 0 < W (fun _ => 1) s S M :=
  Finset.sum_pos (fun k _ => by rw [one_mul]; exact Real.exp_pos _) h

/-- The attention output: the weighted mean. -/
def mean {κ : Type} (f s : κ → ℝ) (S : Finset κ) : ℝ := W f s S 0 / W (fun _ => 1) s S 0

theorem W_div {κ : Type} (f s : κ → ℝ) (S : Finset κ) (M : ℝ) : W f s S M / W (fun _ => 1) s S M = mean f s S := by
  unfold mean
  rw [← W_shift f s S 0 M, ← W_shift (fun _ => 1) s S 0 M]
  exact mul_div_mul_right _ _ (Real.exp_pos _).ne'

/-- Key `kk` of block `j`. -/
def key (j : Fin 8) (kk : Fin 256) : Fin 2048 := ⟨256 * j.val + kk.val, by omega⟩

/-- The keys query `r` of block `b` has seen after its own block and the first `n` blocks. -/
def seen (b : Fin 8) (r : Fin 256) (n : ℕ) : Finset (Fin 2048) :=
  Finset.univ.filter fun k => k.val < 256 * n ∨ (256 * b.val ≤ k.val ∧ k.val ≤ 256 * b.val + r.val)

theorem seen_all (b : Fin 8) (r : Fin 256) : seen b r b.val = Finset.univ.filter fun k => k.val ≤ 256 * b.val + r.val := by
  unfold seen
  ext k
  simp only [Finset.mem_filter, Finset.mem_univ, true_and]
  omega

theorem key_inj (j : Fin 8) : Function.Injective (key j) := fun a c h => by
  have := congrArg Fin.val h
  simp only [key] at this
  exact Fin.ext (by omega)

theorem W_own (f s : Fin 2048 → ℝ) (b : Fin 8) (r : Fin 256) (M : ℝ) :
    ∑ kk : Fin 256, (if kk.val ≤ r.val then f (key b kk) * Real.exp (s (key b kk) - M) else 0) = W f s (seen b r 0) M := by
  unfold W
  rw [← Finset.sum_filter, ← Finset.sum_image (f := fun k => f k * Real.exp (s k - M)) (g := key b) (fun a _ c _ h => key_inj b h)]
  refine Finset.sum_congr ?_ fun _ _ => rfl
  ext k
  simp only [seen, Finset.mem_image, Finset.mem_filter, Finset.mem_univ, true_and]
  constructor
  · rintro ⟨kk, h, rfl⟩
    simp only [key]; omega
  · intro h
    exact ⟨⟨k.val - 256 * b.val, by omega⟩, by dsimp only; omega, Fin.ext (by simp only [key]; omega)⟩

theorem W_step (f s : Fin 2048 → ℝ) (b : Fin 8) (r : Fin 256) (n : ℕ) (hn : n < b.val) (M : ℝ) :
    W f s (seen b r n) M + ∑ kk : Fin 256, f (key ⟨n, by omega⟩ kk) * Real.exp (s (key ⟨n, by omega⟩ kk) - M)
      = W f s (seen b r (n + 1)) M := by
  unfold W
  rw [← Finset.sum_image (s := Finset.univ) (f := fun k => f k * Real.exp (s k - M)) (g := key ⟨n, by omega⟩) (fun a _ c _ h => key_inj _ h),
    ← Finset.sum_union]
  · refine Finset.sum_congr ?_ fun _ _ => rfl
    ext k
    simp only [seen, Finset.mem_union, Finset.mem_image, Finset.mem_filter, Finset.mem_univ, true_and]
    constructor
    · rintro (h | ⟨kk, rfl⟩)
      · omega
      · simp only [key]; omega
    · intro h
      by_cases hk : k.val < 256 * n ∨ (256 * b.val ≤ k.val ∧ k.val ≤ 256 * b.val + r.val)
      · exact Or.inl hk
      · exact Or.inr ⟨⟨k.val - 256 * n, by omega⟩, Fin.ext (by simp only [key]; omega)⟩
  · rw [Finset.disjoint_left]
    intro k hk h
    simp only [seen, Finset.mem_image, Finset.mem_filter, Finset.mem_univ, true_and] at hk h
    obtain ⟨kk, rfl⟩ := h
    simp only [key] at hk
    omega

/-- A maximum of extended reals none of which is `⊤` and one of which is real is real. -/
theorem fold_real {n : ℕ} (v : Fin n → EReal) (h : ∀ k, v k ≠ ⊤) (k0 : Fin n) (x : ℝ) (hx : v k0 = (x : EReal)) :
    ∃ M : ℝ, Finset.univ.fold max ⊥ v = (M : EReal) := by
  have h1 : Finset.univ.fold max ⊥ v < ⊤ :=
    (Finset.fold_max_lt _).2 ⟨bot_lt_top, fun k _ => lt_of_le_of_ne le_top (h k)⟩
  have h2 : (x : EReal) ≤ Finset.univ.fold max ⊥ v :=
    (Finset.le_fold_max _).2 (Or.inr ⟨k0, Finset.mem_univ _, hx.ge⟩)
  have h3 : Finset.univ.fold max ⊥ v ≠ ⊥ := fun e => by rw [e] at h2; exact absurd h2 (not_le.2 (EReal.bot_lt_coe x))
  exact ⟨_, (EReal.coe_toReal h1.ne h3).symm⟩

theorem sum_real {ι : Type} (S : Finset ι) (v : ι → ℝ) : ∑ k ∈ S, ((v k : ℝ) : EReal) = ((∑ k ∈ S, v k : ℝ) : EReal) := by
  classical
  induction S using Finset.induction_on with
  | empty => simp
  | insert a S ha ih => rw [Finset.sum_insert ha, Finset.sum_insert ha, ih, EReal.coe_add]

theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem exp_bot_sub (M : ℝ) : Ideal.exp ((⊥ : EReal) - (M : EReal)) = 0 := by
  rw [EReal.bot_sub]; rfl

theorem exp_sub (x M : ℝ) : Ideal.exp ((x : EReal) - (M : EReal)) = ((Real.exp (x - M) : ℝ) : EReal) := by
  rw [← EReal.coe_sub]; rfl

end Softmax

end
-- ==== Proof.Diff.Flash.lean ====
/- The running softmax of one attention map, at the extended reals: after the queries' own block and
   the first `n` blocks, maximum, normaliser and weighted sum are those of the keys seen. -/
module

public import proofs.«01_k».proof.Proof.Diff.Body
public import proofs.«01_k».proof.Proof.Diff.Online

@[expose] public section

set_option maxRecDepth 16384

noncomputable section

namespace Cert.DiffAttnIdeal.Val

open Cert.DiffAttnIdeal Cert.DiffAttnIdeal.Gen Idealize.ShloMosaic Idealize.ShloMosaic.TcCoe Idealize.SL.Sem Softmax

theorem neg_inf : Ideal.ofBits FTy.f32 4286578688#32 = ⊥ := by simp [Ideal.ofBits, Ideal.ieee]

theorem mask_bot : (Named.named (F := Ideal) Cert.DiffAttnIdeal.κ "mask" 4048155338#32 : Ideal .f32) = (⊥ : EReal) :=
  IdealRules.named_const.ideal_named_scalar _ _ _ _ rfl

/-- Maximum, normaliser and weighted sum over the keys seen, for one map. -/
def Inv (s : Fin 256 → Fin 2048 → ℝ) (y : Fin 128 → Fin 2048 → ℝ) (b : Fin 8) (n : ℕ)
    (m l : FVec Ideal S1x256 .f32) (a : FVec Ideal S128x256 .f32) : Prop :=
  ∀ r : Fin 256, ∃ M : ℝ, m (ix2 0 r) = ((M : ℝ) : EReal)
    ∧ l (ix2 0 r) = ((W (fun _ => 1) (s r) (seen b r n) M : ℝ) : EReal)
    ∧ ∀ d : Fin 128, a (ix2 d r) = ((W (y d) (s r) (seen b r n) M : ℝ) : EReal)

theorem sle_ofNat (x r : ℕ) (hx : x < 2 ^ 31) (hr : r < 2 ^ 31) :
    IntOp.cmpi CmpIPredicate.sle (BitVec.ofNat 32 x) (BitVec.ofNat 32 r) = if x ≤ r then 1#1 else 0#1 := by
  show BitVec.ofBool (BitVec.sle _ _) = _
  rw [BitVec.sle_eq_decide, BitVec.toInt_ofNat', BitVec.toInt_ofNat', Int.bmod_eq_of_le (by omega) (by omega), Int.bmod_eq_of_le (by omega) (by omega)]
  by_cases h : x ≤ r
  · rw [if_pos h, decide_eq_true (by exact_mod_cast h)]; rfl
  · rw [if_neg h, decide_eq_false (by exact_mod_cast h)]; rfl

theorem cond_le (x r : Fin 256) : IntOp.cmpi CmpIPredicate.sle (BitVec.ofNat 32 x.val) (BitVec.ofNat 32 r.val) = if x.val ≤ r.val then 1#1 else 0#1 :=
  sle_ofNat _ _ (by omega) (by omega)

theorem own_eq (x0 : Vec Ideal S1x256x128 .f32) (K : Vec Ideal S1x256x128 .bf16) (V : Vec Ideal S1x128x256 .bf16) :
    own x0 K V = (k0_pay60 (q1 x0) K, k0_pay62 (q1 x0) K, k0_pay63 (q1 x0) K V, k0_pay60 (q2 x0) K, k0_pay62 (q2 x0) K, k0_pay63 (q2 x0) K V) := rfl

theorem step_eq (q1 q2 : FVec Ideal S256x128 .bf16) (K : Vec Ideal S1x256x128 .bf16) (V : Vec Ideal S1x128x256 .bf16) (s : St Ideal) :
    step q1 q2 K V s = (k0_pay4 q1 s.1 K, k0_pay7 q1 s.1 s.2.1 K, k0_pay8 q1 s.1 s.2.2.1 K V,
      k0_pay4 q2 s.2.2.2.1 K, k0_pay7 q2 s.2.2.2.1 s.2.2.2.2.1 K, k0_pay8 q2 s.2.2.2.1 s.2.2.2.2.2 K V) := rfl

theorem flash_zero (x0 : Vec Ideal S1x256x128 .f32) (X : Vec Ideal S8x256x128 .bf16) (Y : Vec Ideal S8x128x256 .bf16) (b : Fin 8) :
    flash x0 X Y b 0 = own x0 (kAt X b) (vAt Y b) := rfl

theorem pay59_at (Q : FVec Ideal S256x128 .bf16) (K : Vec Ideal S1x256x128 .bf16) (x r : Fin 256) :
    k0_pay59 Q K (ix2 x r) = if x.val ≤ r.val then ∑ d : Fin 128, K (ix3 0 x d) * Q (ix2 r d) else (⊥ : EReal) := by
  pointwise [k0_pay59, k0_pay57]
  rw [cond_le, mask_bot]
  split <;> rfl

theorem pay60_at (Q : FVec Ideal S256x128 .bf16) (K : Vec Ideal S1x256x128 .bf16) (r : Fin 256) :
    k0_pay60 Q K (ix2 0 r) = Finset.univ.fold max ⊥ (fun x : Fin 256 => k0_pay59 Q K (ix2 x r)) := by
  pointwise [k0_pay60]
  rw [neg_inf]

theorem pay62_at (Q : FVec Ideal S256x128 .bf16) (K : Vec Ideal S1x256x128 .bf16) (r : Fin 256) :
    k0_pay62 Q K (ix2 0 r) = ∑ x : Fin 256, Ideal.exp (k0_pay59 Q K (ix2 x r) - k0_pay60 Q K (ix2 0 r)) := by
  pointwise [k0_pay62, k0_pay61]

theorem pay63_at (Q : FVec Ideal S256x128 .bf16) (K : Vec Ideal S1x256x128 .bf16) (V : Vec Ideal S1x128x256 .bf16) (d : Fin 128) (r : Fin 256) :
    k0_pay63 Q K V (ix2 d r) = ∑ x : Fin 256, V (ix3 0 d x) * Ideal.exp (k0_pay59 Q K (ix2 x r) - k0_pay60 Q K (ix2 0 r)) := by
  pointwise [k0_pay63, k0_pay61, k0_pay58]

theorem pay3_at (Q : FVec Ideal S256x128 .bf16) (K : Vec Ideal S1x256x128 .bf16) (x r : Fin 256) :
    k0_pay3 Q K (ix2 x r) = ∑ d : Fin 128, K (ix3 0 x d) * Q (ix2 r d) := by
  pointwise [k0_pay3, k0_pay1]

theorem pay4_at (Q : FVec Ideal S256x128 .bf16) (a : FVec Ideal S1x256 .f32) (K : Vec Ideal S1x256x128 .bf16) (r : Fin 256) :
    k0_pay4 Q a K (ix2 0 r) = max (a (ix2 0 r)) (Finset.univ.fold max ⊥ (fun x : Fin 256 => k0_pay3 Q K (ix2 x r))) := by
  pointwise [k0_pay4]
  rw [neg_inf]

theorem pay7_at (Q : FVec Ideal S256x128 .bf16) (a l : FVec Ideal S1x256 .f32) (K : Vec Ideal S1x256x128 .bf16) (r : Fin 256) :
    k0_pay7 Q a l K (ix2 0 r) = l (ix2 0 r) * Ideal.exp (a (ix2 0 r) - k0_pay4 Q a K (ix2 0 r))
      + ∑ x : Fin 256, Ideal.exp (k0_pay3 Q K (ix2 x r) - k0_pay4 Q a K (ix2 0 r)) := by
  pointwise [k0_pay7, k0_pay5, k0_pay6]

theorem pay8_at (Q : FVec Ideal S256x128 .bf16) (a : FVec Ideal S1x256 .f32) (s : FVec Ideal S128x256 .f32) (K : Vec Ideal S1x256x128 .bf16) (V : Vec Ideal S1x128x256 .bf16) (d : Fin 128) (r : Fin 256) :
    k0_pay8 Q a s K V (ix2 d r) = s (ix2 d r) * Ideal.exp (a (ix2 0 r) - k0_pay4 Q a K (ix2 0 r))
      + ∑ x : Fin 256, V (ix3 0 d x) * Ideal.exp (k0_pay3 Q K (ix2 x r) - k0_pay4 Q a K (ix2 0 r)) := by
  pointwise [k0_pay8, k0_pay5, k0_pay6, k0_pay2]

theorem inv_own (s : Fin 256 → Fin 2048 → ℝ) (y : Fin 128 → Fin 2048 → ℝ) (b : Fin 8) (Q : FVec Ideal S256x128 .bf16)
    (K : Vec Ideal S1x256x128 .bf16) (V : Vec Ideal S1x128x256 .bf16)
    (hs : ∀ x r : Fin 256, ∑ d : Fin 128, K (ix3 0 x d) * Q (ix2 r d) = ((s r (key b x) : ℝ) : EReal))
    (hy : ∀ (d : Fin 128) (x : Fin 256), V (ix3 0 d x) = ((y d (key b x) : ℝ) : EReal)) :
    Inv s y b 0 (k0_pay60 Q K) (k0_pay62 Q K) (k0_pay63 Q K V) := by
  intro r
  have h59 : ∀ x : Fin 256, k0_pay59 Q K (ix2 x r) = if x.val ≤ r.val then ((s r (key b x) : ℝ) : EReal) else ⊥ :=
    fun x => by rw [pay59_at, hs]
  obtain ⟨M, hM⟩ := fold_real (fun x : Fin 256 => k0_pay59 Q K (ix2 x r))
    (fun x => by
      show k0_pay59 Q K (ix2 x r) ≠ ⊤
      rw [h59]; split
      · exact EReal.coe_ne_top _
      · exact bot_ne_top) r (s r (key b r))
    (by show k0_pay59 Q K (ix2 r r) = _; rw [h59, if_pos le_rfl])
  rw [← pay60_at] at hM
  have he : ∀ x : Fin 256, Ideal.exp (k0_pay59 Q K (ix2 x r) - k0_pay60 Q K (ix2 0 r))
      = ((if x.val ≤ r.val then Real.exp (s r (key b x) - M) else 0 : ℝ) : EReal) := fun x => by
    rw [h59, hM]
    split
    · exact exp_sub _ _
    · exact exp_bot_sub M
  refine ⟨M, hM, ?_, fun d => ?_⟩
  · rw [pay62_at, ← W_own, ← sum_real]
    refine Finset.sum_congr rfl fun x _ => ?_
    rw [he]; simp only [one_mul]
  · rw [pay63_at, ← W_own, ← sum_real]
    refine Finset.sum_congr rfl fun x _ => ?_
    rw [he, hy, ← EReal.coe_mul, mul_ite, mul_zero]

theorem inv_step (s : Fin 256 → Fin 2048 → ℝ) (y : Fin 128 → Fin 2048 → ℝ) (b : Fin 8) (n : ℕ) (hn : n < b.val) (Q : FVec Ideal S256x128 .bf16)
    (K : Vec Ideal S1x256x128 .bf16) (V : Vec Ideal S1x128x256 .bf16) (m l : FVec Ideal S1x256 .f32) (a : FVec Ideal S128x256 .f32)
    (hs : ∀ x r : Fin 256, ∑ d : Fin 128, K (ix3 0 x d) * Q (ix2 r d) = ((s r (key ⟨n, by omega⟩ x) : ℝ) : EReal))
    (hy : ∀ (d : Fin 128) (x : Fin 256), V (ix3 0 d x) = ((y d (key ⟨n, by omega⟩ x) : ℝ) : EReal))
    (h : Inv s y b n m l a) :
    Inv s y b (n + 1) (k0_pay4 Q m K) (k0_pay7 Q m l K) (k0_pay8 Q m a K V) := by
  intro r
  obtain ⟨M, hm, hl, ha⟩ := h r
  have h3 : ∀ x : Fin 256, k0_pay3 Q K (ix2 x r) = ((s r (key ⟨n, by omega⟩ x) : ℝ) : EReal) := fun x => by rw [pay3_at, hs]
  obtain ⟨M1, hM1⟩ := fold_real (fun x : Fin 256 => k0_pay3 Q K (ix2 x r))
    (fun x => by show k0_pay3 Q K (ix2 x r) ≠ ⊤; rw [h3]; exact EReal.coe_ne_top _) r _ (h3 r)
  have h4 : k0_pay4 Q m K (ix2 0 r) = ((max M M1 : ℝ) : EReal) := by
    rw [pay4_at, hM1, hm, EReal.coe_strictMono.monotone.map_max]
  refine ⟨max M M1, h4, ?_, fun d => ?_⟩
  · rw [pay7_at, h4, hm, hl, exp_sub, ← EReal.coe_mul, W_shift, ← W_step _ _ _ _ _ hn, EReal.coe_add, ← sum_real]
    congr 1
    refine Finset.sum_congr rfl fun x _ => ?_
    rw [h3, exp_sub, one_mul]
  · rw [pay8_at, h4, hm, ha, exp_sub, ← EReal.coe_mul, W_shift, ← W_step _ _ _ _ _ hn, EReal.coe_add, ← sum_real]
    congr 1
    refine Finset.sum_congr rfl fun x _ => ?_
    rw [h3, exp_sub, hy, ← EReal.coe_mul]

/-- Both maps' fold over the first `n` blocks. -/
theorem inv_flash (s s' : Fin 256 → Fin 2048 → ℝ) (y : Fin 128 → Fin 2048 → ℝ) (b : Fin 8) (x0 : Vec Ideal S1x256x128 .f32)
    (X : Vec Ideal S8x256x128 .bf16) (Y : Vec Ideal S8x128x256 .bf16)
    (hs : ∀ (j : Fin 8) (x r : Fin 256), ∑ d : Fin 128, X (ix3 j x d) * q1 x0 (ix2 r d) = ((s r (key j x) : ℝ) : EReal))
    (hs' : ∀ (j : Fin 8) (x r : Fin 256), ∑ d : Fin 128, X (ix3 j x d) * q2 x0 (ix2 r d) = ((s' r (key j x) : ℝ) : EReal))
    (hy : ∀ (j : Fin 8) (d : Fin 128) (x : Fin 256), Y (ix3 j d x) = ((y d (key j x) : ℝ) : EReal)) (n : ℕ) (hn : n ≤ b.val) :
    Inv s y b n (flash x0 X Y b n).1 (flash x0 X Y b n).2.1 (flash x0 X Y b n).2.2.1
      ∧ Inv s' y b n (flash x0 X Y b n).2.2.2.1 (flash x0 X Y b n).2.2.2.2.1 (flash x0 X Y b n).2.2.2.2.2 := by
  have hK : ∀ (j : Fin 8) (q : FVec Ideal S256x128 .bf16) (x r : Fin 256),
      ∑ d : Fin 128, kAt X j (ix3 0 x d) * q (ix2 r d) = ∑ d : Fin 128, X (ix3 j x d) * q (ix2 r d) := fun _ _ _ _ => rfl
  have hV : ∀ (j : Fin 8) (d : Fin 128) (x : Fin 256), vAt Y j (ix3 0 d x) = Y (ix3 j d x) := fun _ _ _ => rfl
  have k1 : ∀ (j : Fin 8) (x r : Fin 256), ∑ d : Fin 128, kAt X j (ix3 0 x d) * q1 x0 (ix2 r d) = ((s r (key j x) : ℝ) : EReal) :=
    fun j x r => (hK j (q1 x0) x r).trans (hs j x r)
  have k2 : ∀ (j : Fin 8) (x r : Fin 256), ∑ d : Fin 128, kAt X j (ix3 0 x d) * q2 x0 (ix2 r d) = ((s' r (key j x) : ℝ) : EReal) :=
    fun j x r => (hK j (q2 x0) x r).trans (hs' j x r)
  have k3 : ∀ (j : Fin 8) (d : Fin 128) (x : Fin 256), vAt Y j (ix3 0 d x) = ((y d (key j x) : ℝ) : EReal) :=
    fun j d x => (hV j d x).trans (hy j d x)
  induction n with
  | zero =>
    rw [flash_zero, own_eq]; dsimp only
    exact ⟨inv_own s y b (q1 x0) (kAt X b) (vAt Y b) (k1 b) (k3 b), inv_own s' y b (q2 x0) (kAt X b) (vAt Y b) (k2 b) (k3 b)⟩
  | succ n ih =>
    obtain ⟨h, h'⟩ := ih (by omega)
    rw [flash_succ x0 X Y b (n := n) (by omega), step_eq]; dsimp only
    exact ⟨inv_step s y b n (by omega) (q1 x0) (kAt X ⟨n, by omega⟩) (vAt Y ⟨n, by omega⟩) _ _ _ (k1 _) (k3 _) h,
      inv_step s' y b n (by omega) (q2 x0) (kAt X ⟨n, by omega⟩) (vAt Y ⟨n, by omega⟩) _ _ _ (k2 _) (k3 _) h'⟩

end Cert.DiffAttnIdeal.Val

end
-- ==== Proof.Diff.Kern.lean ====
/- The kernel's array at an index, for finite queries, keys, values and lambda vectors: the
   difference of the two softmax means, normalised over the head's lanes. -/
module

public import proofs.«01_k».proof.Proof.Diff.Array
public import proofs.«01_k».proof.Proof.Diff.Flash

@[expose] public section

set_option maxRecDepth 16384

noncomputable section

namespace Cert.DiffAttnIdeal.Val

open Cert.DiffAttnIdeal Cert.DiffAttnIdeal.Gen Idealize.ShloMosaic Idealize.ShloMosaic.TcCoe Idealize.SL.Sem Softmax

theorem eighth : Ideal.ofBits FTy.f32 1040187392#32 = ((1 / 8 : ℝ) : EReal) := by
  simp [Ideal.ofBits, Ideal.ieee]; rw [← EReal.coe_mul]; norm_num

/-- Lane `64·t + d` of a head's 128, half `t`. -/
def half (t : Fin 2) (d : Fin 64) : Fin 128 := ⟨64 * t.val + d.val, by omega⟩

/-- Lane `d` of head `h` in a row of 512. -/
def lane (h : Fin 4) (d : Fin 128) : Fin 512 := ⟨128 * h.val + d.val, by omega⟩

/-- The score of query `p` and key `j` in map `t`: the product over the half's lanes, times 1/8. -/
def sc (q : S8x2048x512.Idx → EReal) (k : S8x1x4x2048x128.Idx → EReal) (t : Fin 2) (b : Fin 8) (h : Fin 4) (p j : Fin 2048) : ℝ :=
  ∑ d : Fin 64, (k (ix5 b 0 h j (half t d))).toReal * ((q (ix3 b p (lane h (half t d)))).toReal * (1 / 8))

theorem sum_half (t : Fin 2) (f : Fin 128 → ℝ) : ∑ d : Fin 128, (if d.val / 64 = t.val then f d else 0) = ∑ d : Fin 64, f (half t d) := by
  have hi : Function.Injective (half t) := fun a c h => by
    have := congrArg Fin.val h
    simp only [half] at this
    exact Fin.ext (by omega)
  rw [← Finset.sum_filter, ← Finset.sum_image (g := half t) (f := f) (fun a _ c _ h => hi h)]
  refine Finset.sum_congr ?_ fun _ _ => rfl
  ext k
  simp only [Finset.mem_image, Finset.mem_filter, Finset.mem_univ, true_and]
  constructor
  · intro h
    exact ⟨⟨k.val - 64 * t.val, by omega⟩, Fin.ext (by simp only [half]; omega)⟩
  · rintro ⟨d, rfl⟩
    simp only [half]; omega

theorem sel (p : Prop) [Decidable p] (a b : EReal) : Scalar.select (if p then 1#1 else 0#1) a b = if p then a else b := by
  split <;> rfl

theorem lane_half (t : Fin 2) (d : Fin 128) : IntOp.cmpi CmpIPredicate.eq
        (Scalar.select
          (IntOp.andi
            (IntOp.cmpi CmpIPredicate.ne
              (IntOp.subi (BitVec.setWidth 32 (IntOp.cmpi CmpIPredicate.sgt (BitVec.ofNat 32 d.val) 0#32))
                (BitVec.setWidth 32 (IntOp.cmpi CmpIPredicate.slt (BitVec.ofNat 32 d.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 d.val) 64#32) 0#32))
          (IntOp.subi (IntOp.divsi ArithUnit.vector (BitVec.ofNat 32 d.val) 64#32) 1#32)
          (IntOp.divsi ArithUnit.vector (BitVec.ofNat 32 d.val) 64#32))
        (BitVec.ofNat 32 t.val) = if d.val / 64 = t.val then 1#1 else 0#1 := by
  revert t d; decide +kernel

theorem q1_at (x0 : Vec Ideal S1x256x128 .f32) (r : Fin 256) (d : Fin 128) :
    q1 x0 (ix2 r d) = if d.val / 64 = (0 : Fin 2).val then x0 (ix3 0 r d) * ((1 / 8 : ℝ) : EReal) else 0 := by
  have h := lane_half 0 d
  pointwise [q1, k0_pay51, k0_pay52, k0_pay53, k0_pay54]
  rw [eighth]
  refine (congrArg (fun w => Scalar.select w (x0 (ix3 0 r d) * ((1 / 8 : ℝ) : EReal)) (0 : EReal)) h).trans (sel _ _ _)

theorem q2_at (x0 : Vec Ideal S1x256x128 .f32) (r : Fin 256) (d : Fin 128) :
    q2 x0 (ix2 r d) = if d.val / 64 = (1 : Fin 2).val then x0 (ix3 0 r d) * ((1 / 8 : ℝ) : EReal) else 0 := by
  have h := lane_half 1 d
  pointwise [q2, q2u, k0_pay51, k0_pay55, k0_pay56]
  rw [eighth]
  refine (congrArg (fun w => Scalar.select w (x0 (ix3 0 r d) * ((1 / 8 : ℝ) : EReal)) (0 : EReal)) h).trans (sel _ _ _)

/-- Query `r` of block `i`. -/
def pos (i : Fin 8) (r : Fin 256) : Fin 2048 := ⟨256 * i.val + r.val, by omega⟩

/-- The kernel's product of staged keys and the kept half of the scaled queries is the score. -/
theorem score_at (q : S8x2048x512.Idx → EReal) (k : S8x1x4x2048x128.Idx → EReal)
    (hq : ∀ i, q i = (((q i).toReal : ℝ) : EReal)) (hk : ∀ i, k i = (((k i).toReal : ℝ) : EReal))
    (t : Fin 2) (b : Fin 8) (h : Fin 4) (i : Fin 8) (Q : FVec Ideal S256x128 .bf16)
    (hQ : ∀ (r : Fin 256) (d : Fin 128), Q (ix2 r d) = if d.val / 64 = t.val then blkQ q b h i (ix3 0 r d) * ((1 / 8 : ℝ) : EReal) else 0)
    (j : Fin 8) (x r : Fin 256) :
    ∑ d : Fin 128, stK (blkK k b h) (ix3 j x d) * Q (ix2 r d) = ((sc q k t b h (pos i r) (key j x) : ℝ) : EReal) := by
  have e : ∀ d : Fin 128, stK (blkK k b h) (ix3 j x d) * Q (ix2 r d)
      = ((if d.val / 64 = t.val then (k (ix5 b 0 h (key j x) d)).toReal * ((q (ix3 b (pos i r) (lane h d))).toReal * (1 / 8)) else 0 : ℝ) : EReal) := by
    intro d
    rw [hQ]
    have e1 : stK (blkK k b h) (ix3 j x d) = k (ix5 b 0 h (key j x) d) := rfl
    have e2 : blkQ q b h i (ix3 0 r d) = q (ix3 b (pos i r) (lane h d)) := rfl
    rw [e1, e2, hk, hq]
    split
    · rw [← EReal.coe_mul, ← EReal.coe_mul, EReal.toReal_coe, EReal.toReal_coe]
    · rw [mul_zero]; rfl
  rw [Finset.sum_congr rfl fun d _ => e d, sum_real]
  exact congrArg _ (sum_half t fun d => (k (ix5 b 0 h (key j x) d)).toReal * ((q (ix3 b (pos i r) (lane h d))).toReal * (1 / 8)))

/-- Value lane `d` of key `j`. -/
def vl (v : S8x1x4x2048x128.Idx → EReal) (b : Fin 8) (h : Fin 4) (d : Fin 128) (j : Fin 2048) : ℝ := (v (ix5 b 0 h j d)).toReal

/-- The keys query `p` may look at. -/
def upto (p : Fin 2048) : Finset (Fin 2048) := Finset.univ.filter fun j => j.val ≤ p.val

/-- The weight of the second map. -/
def lam (l3 l4 l5 l6 : S1x64.Idx → EReal) : EReal :=
  Ideal.exp (∑ x : Fin 64, l3 (ix2 0 x) * l4 (ix2 0 x)) - Ideal.exp (∑ x : Fin 64, l5 (ix2 0 x) * l6 (ix2 0 x)) + Ideal.ofBits FTy.f32 1045220557#32

/-- The difference of the two means of the values. -/
def diff (q : S8x2048x512.Idx → EReal) (k v : S8x1x4x2048x128.Idx → EReal) (l3 l4 l5 l6 : S1x64.Idx → EReal)
    (b : Fin 8) (h : Fin 4) (p : Fin 2048) (d : Fin 128) : EReal :=
  ((mean (vl v b h d) (sc q k 0 b h p) (upto p) : ℝ) : EReal) - lam l3 l4 l5 l6 * ((mean (vl v b h d) (sc q k 1 b h p) (upto p) : ℝ) : EReal)

/-- The normalisation over the lanes of a head, the gain and the closing factor. -/
def normed (o : Fin 128 → EReal) (g : S128x1.Idx → EReal) (d : Fin 128) : EReal :=
  o d * Ideal.rsqrt (Ideal.div (∑ x : Fin 128, o x * o x) (Ideal.ofBits FTy.f32 1124073472#32) + Ideal.ofBits FTy.f32 925353388#32) * g (ix2 d 0)
    * Ideal.ofBits FTy.f32 1061997773#32

theorem pay50_at (l3 l4 l5 l6 : Vec Ideal S1x64 .f32) : k0_pay50 l3 l4 l5 l6 (ix2 0 0) = lam l3 l4 l5 l6 := by
  pointwise [k0_pay50]
  rfl

theorem pay29_at (x0 : FVec Ideal S1x1 .f32) (l l' : FVec Ideal S1x256 .f32) (s s' : FVec Ideal S128x256 .f32) (g : Vec Ideal S128x1 .f32) (r : Fin 256) (d : Fin 128) :
    k0_pay29 x0 l s l' s' g (ix3 0 r d)
      = normed (fun d => Ideal.div (s (ix2 d r)) (l (ix2 0 r)) - x0 (ix2 0 0) * Ideal.div (s' (ix2 d r)) (l' (ix2 0 r))) g d := by
  pointwise [k0_pay29]
  rfl

/-- An index of the kernel's block, for finite operands. -/
theorem resAt_at (q : S8x2048x512.Idx → EReal) (k v : S8x1x4x2048x128.Idx → EReal) (l3 l4 l5 l6 : S1x64.Idx → EReal) (g : S128x1.Idx → EReal)
    (hq : ∀ i, q i = (((q i).toReal : ℝ) : EReal)) (hk : ∀ i, k i = (((k i).toReal : ℝ) : EReal)) (hv : ∀ i, v i = (((v i).toReal : ℝ) : EReal))
    (b : Fin 8) (h : Fin 4) (i : Fin 8) (r : Fin 256) (d : Fin 128) :
    resAt q k v l3 l4 l5 l6 g b h i (ix3 0 r d) = normed (diff q k v l3 l4 l5 l6 b h (pos i r)) g d := by
  have hy : ∀ (j : Fin 8) (d : Fin 128) (x : Fin 256), stV (blkK v b h) (ix3 j d x) = ((vl v b h d (key j x) : ℝ) : EReal) :=
    fun j d x => hv (ix5 b 0 h (key j x) d)
  have hI := inv_flash (fun r => sc q k 0 b h (pos i r)) (fun r => sc q k 1 b h (pos i r)) (vl v b h) i (blkQ q b h i) (stK (blkK k b h)) (stV (blkK v b h))
    (score_at q k hq hk 0 b h i _ (fun r d => q1_at _ r d)) (score_at q k hq hk 1 b h i _ (fun r d => q2_at _ r d)) hy i.val le_rfl
  unfold resAt outAt
  rw [pay29_at]
  obtain ⟨M, -, hl, ha⟩ := hI.1 r
  obtain ⟨M', -, hl', ha'⟩ := hI.2 r
  have hne : (seen i r i.val).Nonempty := ⟨pos i r, by rw [seen_all]; simp [pos]⟩
  have hS : seen i r i.val = upto (pos i r) := seen_all i r
  refine congrArg (fun o => normed o g d) (funext fun d => ?_)
  rw [hl, ha, hl', ha', div_real _ _ (W_pos _ _ _ hne).ne', div_real _ _ (W_pos _ _ _ hne).ne', W_div, W_div, hS, pay50_at]
  rfl

end Cert.DiffAttnIdeal.Val

end
-- ==== Proof.Diff.Ref.lean ====
/- The reference's array at an index, for finite operands: the same difference of softmax means. -/
module

public import proofs.«01_k».proof.Proof.Diff.Kern
public import proofs.«01_k».proof.Proof.Gen.DiffRefIdeal.Read

@[expose] public section

set_option maxRecDepth 16384

noncomputable section

namespace Cert.DiffRefIdeal.Val

open Cert.DiffRefIdeal Cert.DiffRefIdeal.Gen Cert.DiffRefIdeal.Read Idealize.ShloMosaic Idealize.SL.Sem Softmax
open Cert.DiffAttnIdeal.Val (sc vl upto lam diff normed half lane eighth neg_inf sle_ofNat sel)

/-- The probability a masked softmax gives key `j`, its maximum being `M`. -/
def prob (s : Fin 2048 → ℝ) (p : Fin 2048) (M : ℝ) (j : Fin 2048) : ℝ :=
  if j.val ≤ p.val then Real.exp (s j - M) / W (fun _ => 1) s (upto p) M else 0

theorem upto_ne (p : Fin 2048) : (upto p).Nonempty := ⟨p, by simp [upto]⟩

/-- A softmax row under the causal mask, in extended reals. -/
theorem soft (s : Fin 2048 → ℝ) (p : Fin 2048) (z : Fin 2048 → EReal)
    (hz : ∀ j, z j = if j.val ≤ p.val then ((s j : ℝ) : EReal) else ⊥) :
    ∃ M : ℝ, ∀ j, Ideal.div (Ideal.exp (z j - max ⊥ (Finset.univ.fold max ⊥ z)))
      (0 + ∑ x, Ideal.exp (z x - max ⊥ (Finset.univ.fold max ⊥ z))) = ((prob s p M j : ℝ) : EReal) := by
  obtain ⟨M, hM⟩ := fold_real z
    (fun x => by
      rw [hz]; split
      · exact EReal.coe_ne_top _
      · exact bot_ne_top) p (s p) (by rw [hz, if_pos le_rfl])
  have he : ∀ x, Ideal.exp (z x - max ⊥ (Finset.univ.fold max ⊥ z)) = ((if x.val ≤ p.val then Real.exp (s x - M) else 0 : ℝ) : EReal) := fun x => by
    rw [hM, max_eq_right bot_le, hz]
    split
    · exact exp_sub _ _
    · exact exp_bot_sub M
  have hl : ∑ x, Ideal.exp (z x - max ⊥ (Finset.univ.fold max ⊥ z)) = ((W (fun _ => 1) s (upto p) M : ℝ) : EReal) := by
    rw [Finset.sum_congr rfl fun x _ => he x, sum_real]
    unfold W upto
    rw [Finset.sum_filter]
    simp only [one_mul]
  refine ⟨M, fun j => ?_⟩
  rw [zero_add, hl, he, div_real _ _ (W_pos _ _ _ (upto_ne p)).ne']
  unfold prob
  congr 1
  split
  · rfl
  · exact zero_div _

theorem prob_mean (f s : Fin 2048 → ℝ) (p : Fin 2048) (M : ℝ) : ∑ j, prob s p M j * f j = mean f s (upto p) := by
  rw [← W_div f s (upto p) M]
  unfold prob
  conv_rhs => rw [W]
  rw [Finset.sum_div]
  unfold upto
  rw [Finset.sum_filter]
  refine Finset.sum_congr rfl fun j _ => ?_
  split
  · ring
  · exact zero_mul _

/-- The weighted sum of the values under the difference of two softmax rows. -/
theorem two_maps (s s' f : Fin 2048 → ℝ) (p : Fin 2048) (M M' l : ℝ) :
    ∑ j, (((prob s p M j : ℝ) : EReal) - ((l : ℝ) : EReal) * ((prob s' p M' j : ℝ) : EReal)) * ((f j : ℝ) : EReal)
      = ((mean f s (upto p) : ℝ) : EReal) - ((l : ℝ) : EReal) * ((mean f s' (upto p) : ℝ) : EReal) := by
  have e : ∀ j, (((prob s p M j : ℝ) : EReal) - ((l : ℝ) : EReal) * ((prob s' p M' j : ℝ) : EReal)) * ((f j : ℝ) : EReal)
      = ((prob s p M j * f j - l * (prob s' p M' j * f j) : ℝ) : EReal) := fun j => by
    rw [← EReal.coe_mul, ← EReal.coe_sub, ← EReal.coe_mul]
    congr 1; ring
  rw [Finset.sum_congr rfl fun j _ => e j, sum_real, Finset.sum_sub_distrib, ← Finset.mul_sum, prob_mean, prob_mean, EReal.coe_sub, EReal.coe_mul]

section
variable (x0 : FVec Ideal S8x2048x512 .f32) (x1 x2 : FVec Ideal S8x1x4x2048x128 .f32) (x3 x4 x5 x6 : FVec Ideal S1x64 .f32) (x7 : FVec Ideal S128x1 .f32)

theorem v13_at (b : Fin 8) (h : Fin 4) (p : Fin 2048) (d : Fin 128) : val_main_v13 (F := Ideal) x0 (ix4 b h p d) = x0 (ix3 b p (lane h d)) := by
  pointwise [val_main_v13, val_main_v12]
  refine congrArg (fun e => x0 (ix3 b p e)) (Fin.ext ?_)
  simp only [lane]; omega

theorem v14_at (b : Fin 8) (h : Fin 4) (p : Fin 2048) (d : Fin 128) : val_main_v14 (F := Ideal) x1 (ix4 b h p d) = x1 (ix5 b 0 h p d) := by
  pointwise [val_main_v14]

theorem v15_at (b : Fin 8) (h : Fin 4) (p : Fin 2048) (d : Fin 128) : val_main_v15 (F := Ideal) x2 (ix4 b h p d) = x2 (ix5 b 0 h p d) := by
  pointwise [val_main_v15]

theorem v21_at (p j : Fin 2048) : val_main_v21 (F := Ideal) (ix2 p j) = if j.val ≤ p.val then 1#1 else 0#1 := by
  pointwise [val_main_v21, val_main_v20, val_main_v19, val_main_v18, val_main_v17, val_main_v16]
  exact sle_ofNat _ _ (by omega) (by omega)

theorem dot_real (t : Fin 2) (b : Fin 8) (h : Fin 4) (p j : Fin 2048)
    (hq : ∀ i, x0 i = (((x0 i).toReal : ℝ) : EReal)) (hk : ∀ i, x1 i = (((x1 i).toReal : ℝ) : EReal)) :
    (∑ d : Fin 64, x0 (ix3 b p (lane h (half t d))) * x1 (ix5 b 0 h j (half t d))) * ((1 / 8 : ℝ) : EReal) = ((sc x0 x1 t b h p j : ℝ) : EReal) := by
  have e : ∀ d : Fin 64, x0 (ix3 b p (lane h (half t d))) * x1 (ix5 b 0 h j (half t d))
      = (((x0 (ix3 b p (lane h (half t d)))).toReal * (x1 (ix5 b 0 h j (half t d))).toReal : ℝ) : EReal) := fun d => by
    rw [EReal.coe_mul, ← hq, ← hk]
  rw [Finset.sum_congr rfl fun d _ => e d, sum_real, ← EReal.coe_mul, Finset.sum_mul]
  unfold sc
  congr 1
  refine Finset.sum_congr rfl fun d _ => ?_
  ring

theorem v22_at (b : Fin 8) (h : Fin 4) (p : Fin 2048) (d : Fin 64) :
    val_main_v22 (F := Ideal) x0 (ix4 b h p d) = x0 (ix3 b p (lane h (half 0 d))) := by
  rw [← v13_at x0]
  pointwise [val_main_v22]
  exact congrArg (fun e => val_main_v13 (F := Ideal) x0 (ix4 b h p e)) (Fin.ext (by simp [half]))

theorem v23_at (b : Fin 8) (h : Fin 4) (p : Fin 2048) (d : Fin 64) :
    val_main_v23 (F := Ideal) x1 (ix4 b h p d) = x1 (ix5 b 0 h p (half 0 d)) := by
  rw [← v14_at x1]
  pointwise [val_main_v23]
  exact congrArg (fun e => val_main_v14 (F := Ideal) x1 (ix4 b h p e)) (Fin.ext (by simp [half]))

theorem call0_at : val_main_call0_v0 (F := Ideal) ix0 = (⊥ : EReal) := neg_inf

theorem v27_at (hq : ∀ i, x0 i = (((x0 i).toReal : ℝ) : EReal)) (hk : ∀ i, x1 i = (((x1 i).toReal : ℝ) : EReal)) (b : Fin 8) (h : Fin 4) (p j : Fin 2048) :
    val_main_v27 (F := Ideal) x0 x1 (ix4 b h p j) = if j.val ≤ p.val then ((sc x0 x1 0 b h p j : ℝ) : EReal) else ⊥ := by
  pointwise [val_main_v27, val_main_call0_v1, val_main_call0_v2, val_main_v26, val_main_v24, val_main_v25, val_main_cst_2]
  rw [v21_at, sel, call0_at, eighth, ← dot_real x0 x1 0 b h p j hq hk]
  simp only [v22_at, v23_at]

theorem cst4_at : val_main_cst_4 (F := Ideal) (Shape.Idx.first h_S_) = (⊥ : EReal) := by
  rw [val_main_cst_4_apply]
  exact neg_inf

theorem v28_at (b : Fin 8) (h : Fin 4) (p : Fin 2048) :
    val_main_v28 (F := Ideal) x0 x1 (ix3 b h p) = Finset.univ.fold max ⊥ fun j => val_main_v27 (F := Ideal) x0 x1 (ix4 b h p j) := by
  rw [← cst4_at]
  pointwise [val_main_v28]

theorem v29_at (b : Fin 8) (h : Fin 4) (p : Fin 2048) : val_main_v29 (F := Ideal) (ix3 b h p) = (⊥ : EReal) := by
  rw [val_main_v29_apply, val_main_cst_5_apply]
  exact neg_inf

theorem v30_at (b : Fin 8) (h : Fin 4) (p : Fin 2048) :
    val_main_v30 (F := Ideal) x0 x1 (ix3 b h p) = max ⊥ (Finset.univ.fold max ⊥ fun j => val_main_v27 (F := Ideal) x0 x1 (ix4 b h p j)) := by
  rw [val_main_v30_apply, v29_at, v28_at]
  rfl

theorem v34_at (b : Fin 8) (h : Fin 4) (p j : Fin 2048) :
    val_main_v34 (F := Ideal) x0 x1 (ix4 b h p j)
      = Ideal.exp (val_main_v27 (F := Ideal) x0 x1 (ix4 b h p j) - val_main_v30 (F := Ideal) x0 x1 (ix3 b h p)) := by
  pointwise [val_main_v34, val_main_v33, val_main_v32, val_main_v31]

theorem v35_at (b : Fin 8) (h : Fin 4) (p : Fin 2048) :
    val_main_v35 (F := Ideal) x0 x1 (ix3 b h p) = 0 + ∑ j, val_main_v34 (F := Ideal) x0 x1 (ix4 b h p j) := by
  have e' : val_main_cst_6 (F := Ideal) (Shape.Idx.first h_S_) = (0 : EReal) := Ideal.ofBits_zero_f32
  pointwise [val_main_v35]
  rw [e', zero_add]

theorem v38_div (b : Fin 8) (h : Fin 4) (p j : Fin 2048) :
    val_main_v38 (F := Ideal) x0 x1 (ix4 b h p j)
      = Ideal.div (val_main_v34 (F := Ideal) x0 x1 (ix4 b h p j)) (val_main_v35 (F := Ideal) x0 x1 (ix3 b h p)) := by
  pointwise [val_main_v38, val_main_v37, val_main_v36]

theorem v38_at (hq : ∀ i, x0 i = (((x0 i).toReal : ℝ) : EReal)) (hk : ∀ i, x1 i = (((x1 i).toReal : ℝ) : EReal)) (b : Fin 8) (h : Fin 4) (p : Fin 2048) :
    ∃ M : ℝ, ∀ j, val_main_v38 (F := Ideal) x0 x1 (ix4 b h p j) = ((prob (sc x0 x1 0 b h p) p M j : ℝ) : EReal) := by
  obtain ⟨M, hM⟩ := soft (sc x0 x1 0 b h p) p (fun j => val_main_v27 (F := Ideal) x0 x1 (ix4 b h p j)) (v27_at x0 x1 hq hk b h p)
  refine ⟨M, fun j => ?_⟩
  rw [← hM j, v38_div, v35_at]
  simp only [v34_at, v30_at]

theorem v39_at (b : Fin 8) (h : Fin 4) (p : Fin 2048) (d : Fin 64) :
    val_main_v39 (F := Ideal) x0 (ix4 b h p d) = x0 (ix3 b p (lane h (half 1 d))) := by
  rw [← v13_at x0]
  pointwise [val_main_v39]
  exact congrArg (fun e => val_main_v13 (F := Ideal) x0 (ix4 b h p e)) (Fin.ext (by simp [half]))

theorem v40_at (b : Fin 8) (h : Fin 4) (p : Fin 2048) (d : Fin 64) :
    val_main_v40 (F := Ideal) x1 (ix4 b h p d) = x1 (ix5 b 0 h p (half 1 d)) := by
  rw [← v14_at x1]
  pointwise [val_main_v40]
  exact congrArg (fun e => val_main_v14 (F := Ideal) x1 (ix4 b h p e)) (Fin.ext (by simp [half]))

theorem call1_at : val_main_call1_v0 (F := Ideal) ix0 = (⊥ : EReal) := neg_inf

theorem v44_at (hq : ∀ i, x0 i = (((x0 i).toReal : ℝ) : EReal)) (hk : ∀ i, x1 i = (((x1 i).toReal : ℝ) : EReal)) (b : Fin 8) (h : Fin 4) (p j : Fin 2048) :
    val_main_v44 (F := Ideal) x0 x1 (ix4 b h p j) = if j.val ≤ p.val then ((sc x0 x1 1 b h p j : ℝ) : EReal) else ⊥ := by
  pointwise [val_main_v44, val_main_call1_v1, val_main_call1_v2, val_main_v43, val_main_v41, val_main_v42, val_main_cst_7]
  rw [v21_at, sel, call1_at, eighth, ← dot_real x0 x1 1 b h p j hq hk]
  simp only [v39_at, v40_at]

theorem cst9_at : val_main_cst_9 (F := Ideal) (Shape.Idx.first h_S_) = (⊥ : EReal) := by
  rw [val_main_cst_9_apply]
  exact neg_inf

theorem v45_at (b : Fin 8) (h : Fin 4) (p : Fin 2048) :
    val_main_v45 (F := Ideal) x0 x1 (ix3 b h p) = Finset.univ.fold max ⊥ fun j => val_main_v44 (F := Ideal) x0 x1 (ix4 b h p j) := by
  rw [← cst9_at]
  pointwise [val_main_v45]

theorem v46_at (b : Fin 8) (h : Fin 4) (p : Fin 2048) : val_main_v46 (F := Ideal) (ix3 b h p) = (⊥ : EReal) := by
  rw [val_main_v46_apply, val_main_cst_10_apply]
  exact neg_inf

theorem v47_at (b : Fin 8) (h : Fin 4) (p : Fin 2048) :
    val_main_v47 (F := Ideal) x0 x1 (ix3 b h p) = max ⊥ (Finset.univ.fold max ⊥ fun j => val_main_v44 (F := Ideal) x0 x1 (ix4 b h p j)) := by
  rw [val_main_v47_apply, v46_at, v45_at]
  rfl

theorem v51_at (b : Fin 8) (h : Fin 4) (p j : Fin 2048) :
    val_main_v51 (F := Ideal) x0 x1 (ix4 b h p j)
      = Ideal.exp (val_main_v44 (F := Ideal) x0 x1 (ix4 b h p j) - val_main_v47 (F := Ideal) x0 x1 (ix3 b h p)) := by
  pointwise [val_main_v51, val_main_v50, val_main_v49, val_main_v48]

theorem v52_at (b : Fin 8) (h : Fin 4) (p : Fin 2048) :
    val_main_v52 (F := Ideal) x0 x1 (ix3 b h p) = 0 + ∑ j, val_main_v51 (F := Ideal) x0 x1 (ix4 b h p j) := by
  have e' : val_main_cst_11 (F := Ideal) (Shape.Idx.first h_S_) = (0 : EReal) := Ideal.ofBits_zero_f32
  pointwise [val_main_v52]
  rw [e', zero_add]

theorem v55_div (b : Fin 8) (h : Fin 4) (p j : Fin 2048) :
    val_main_v55 (F := Ideal) x0 x1 (ix4 b h p j)
      = Ideal.div (val_main_v51 (F := Ideal) x0 x1 (ix4 b h p j)) (val_main_v52 (F := Ideal) x0 x1 (ix3 b h p)) := by
  pointwise [val_main_v55, val_main_v54, val_main_v53]

theorem v55_at (hq : ∀ i, x0 i = (((x0 i).toReal : ℝ) : EReal)) (hk : ∀ i, x1 i = (((x1 i).toReal : ℝ) : EReal)) (b : Fin 8) (h : Fin 4) (p : Fin 2048) :
    ∃ M : ℝ, ∀ j, val_main_v55 (F := Ideal) x0 x1 (ix4 b h p j) = ((prob (sc x0 x1 1 b h p) p M j : ℝ) : EReal) := by
  obtain ⟨M, hM⟩ := soft (sc x0 x1 1 b h p) p (fun j => val_main_v44 (F := Ideal) x0 x1 (ix4 b h p j)) (v44_at x0 x1 hq hk b h p)
  refine ⟨M, fun j => ?_⟩
  rw [← hM j, v55_div, v52_at]
  simp only [v51_at, v47_at]

theorem v11_at : val_main_v11 (F := Ideal) x3 x4 x5 x6 ix0 = lam x3 x4 x5 x6 := by
  pointwise [val_main_v11, val_main_v10, val_main_v9, val_main_v8, val_main_v7, val_main_v6, val_main_v5, val_main_v4, val_main_v3, val_main_v2, val_main_v1, val_main_v0,
    val_main_cst, val_main_cst_0, val_main_cst_1]
  rfl

theorem v58_at (b : Fin 8) (h : Fin 4) (p j : Fin 2048) :
    val_main_v58 (F := Ideal) x0 x1 x3 x4 x5 x6 (ix4 b h p j)
      = val_main_v38 (F := Ideal) x0 x1 (ix4 b h p j) - val_main_v11 (F := Ideal) x3 x4 x5 x6 ix0 * val_main_v55 (F := Ideal) x0 x1 (ix4 b h p j) := by
  pointwise [val_main_v58, val_main_v57, val_main_v56]

theorem v59_at (hq : ∀ i, x0 i = (((x0 i).toReal : ℝ) : EReal)) (hk : ∀ i, x1 i = (((x1 i).toReal : ℝ) : EReal)) (hv : ∀ i, x2 i = (((x2 i).toReal : ℝ) : EReal))
    (l : ℝ) (hl : lam x3 x4 x5 x6 = ((l : ℝ) : EReal)) (b : Fin 8) (h : Fin 4) (p : Fin 2048) (d : Fin 128) :
    val_main_v59 (F := Ideal) x0 x1 x2 x3 x4 x5 x6 (ix4 b h p d) = diff x0 x1 x2 x3 x4 x5 x6 b h p d := by
  obtain ⟨M, hM⟩ := v38_at x0 x1 hq hk b h p
  obtain ⟨M', hM'⟩ := v55_at x0 x1 hq hk b h p
  pointwise [val_main_v59]
  simp only [v58_at, v15_at, hM, hM', v11_at]
  unfold diff
  rw [hl, ← two_maps _ _ (vl x2 b h d) p M M' l]
  refine Finset.sum_congr rfl fun j _ => ?_
  rw [hv]
  rfl

theorem v60_at (b : Fin 8) (h : Fin 4) (p : Fin 2048) (d : Fin 128) :
    val_main_v60 (F := Ideal) x0 x1 x2 x3 x4 x5 x6 (ix4 b p h d) = val_main_v59 (F := Ideal) x0 x1 x2 x3 x4 x5 x6 (ix4 b h p d) := by
  pointwise [val_main_v60]

theorem v68_at (b : Fin 8) (h : Fin 4) (p : Fin 2048) :
    val_main_v68 (F := Ideal) x0 x1 x2 x3 x4 x5 x6 (ix4 b p h 0)
      = Ideal.rsqrt (Ideal.div (∑ x : Fin 128, val_main_v60 (F := Ideal) x0 x1 x2 x3 x4 x5 x6 (ix4 b p h x) * val_main_v60 (F := Ideal) x0 x1 x2 x3 x4 x5 x6 (ix4 b p h x))
          (Ideal.ofBits FTy.f32 1124073472#32) + Ideal.ofBits FTy.f32 925353388#32) := by
  have e' : val_main_cst_12 (F := Ideal) (Shape.Idx.first h_S_) = (0 : EReal) := Ideal.ofBits_zero_f32
  pointwise [val_main_v68, val_main_v67, val_main_v66, val_main_v65, val_main_v64, val_main_v63, val_main_v62, val_main_v61, val_main_cst_13, val_main_cst_14]
  rw [e', zero_add]

theorem v73_at (b : Fin 8) (h : Fin 4) (p : Fin 2048) (d : Fin 128) : val_main_v73 (F := Ideal) x7 (ix4 b p h d) = x7 (ix2 d 0) := by
  pointwise [val_main_v73, val_main_v72, val_main_v71]

theorem v77_at (hq : ∀ i, x0 i = (((x0 i).toReal : ℝ) : EReal)) (hk : ∀ i, x1 i = (((x1 i).toReal : ℝ) : EReal)) (hv : ∀ i, x2 i = (((x2 i).toReal : ℝ) : EReal))
    (l : ℝ) (hl : lam x3 x4 x5 x6 = ((l : ℝ) : EReal)) (b : Fin 8) (p : Fin 2048) (e : Fin 512) :
    val_main_v77 (F := Ideal) x0 x1 x2 x3 x4 x5 x6 x7 (ix3 b p e)
      = normed (diff x0 x1 x2 x3 x4 x5 x6 b ⟨e.val / 128, by omega⟩ p) x7 ⟨e.val % 128, by omega⟩ := by
  have e1 : val_main_v77 (F := Ideal) x0 x1 x2 x3 x4 x5 x6 x7 (ix3 b p e)
      = val_main_v76 (F := Ideal) x0 x1 x2 x3 x4 x5 x6 x7 (ix4 b p ⟨e.val / 128, by omega⟩ ⟨e.val % 128, by omega⟩) := by
    pointwise [val_main_v77]
  rw [e1]
  pointwise [val_main_v76, val_main_v75, val_main_v74, val_main_v70, val_main_v69, val_main_cst_15]
  simp only [v68_at, v73_at, v60_at, v59_at x0 x1 x2 x3 x4 x5 x6 hq hk hv l hl]
  rfl

end

end Cert.DiffRefIdeal.Val

end
-- ==== Proof.Diff.Claim.lean ====
/- The two arrays are equal under the precondition; the kernel's run and the reference's run. -/
module

public import proofs.«01_k».proof.Proof.Diff.Ref
public import proofs.«01_k».proof.Proof.Gen.DiffRefIdeal.Run
public import proofs.«01_k».proof.Proof.Gen.Pre_finite
public import proofs.«01_k».proof.Defs
public import Idealize.ShloMosaic.Lib.ReduceAll

@[expose] public section

set_option maxRecDepth 16384

noncomputable section

namespace Cert.DiffAttnIdeal.Val

open Idealize.ShloMosaic Idealize.SL.Sem Softmax

/-- The comparison `|x| < ∞` of the precondition says that `x` is real. -/
theorem real_of_lt (x : EReal) (h : Ideal.cmp CmpFPredicate.olt (max x (-x)) (Ideal.ofBits FTy.f32 0x7F800000#32) = 1#1) :
    x = ((x.toReal : ℝ) : EReal) := by
  have e : Ideal.ofBits FTy.f32 0x7F800000#32 = ⊤ := by simp [Ideal.ofBits, Ideal.ieee]
  rw [e] at h
  have h' : max x (-x) < ⊤ := by
    by_contra hc
    have : Ideal.cmp CmpFPredicate.olt (max x (-x)) ⊤ = 0#1 := by simp [Ideal.cmp, hc]
    rw [this] at h
    exact absurd h (by decide)
  obtain ⟨h1, h2⟩ := max_lt_iff.1 h'
  refine (EReal.coe_toReal h1.ne fun hb => ?_).symm
  rw [hb] at h2
  exact absurd h2 (by simp)

open Cert.Pre_finite in
/-- The seven arrays the precondition names hold real numbers. -/
theorem reals (a0 : FVec Ideal S8x2048x512 .f32) (a1 a2 : FVec Ideal S8x1x4x2048x128 .f32) (a3 a4 a5 a6 : FVec Ideal S1x64 .f32) (a7 : FVec Ideal S128x1 .f32)
    (h : Cert.Pre_finite.fn (F := Ideal) a0 a1 a2 a3 a4 a5 a6 a7 = fun _ => 1#1) :
    (∀ i, a0 i = (((a0 i).toReal : ℝ) : EReal)) ∧ (∀ i, a1 i = (((a1 i).toReal : ℝ) : EReal)) ∧ (∀ i, a2 i = (((a2 i).toReal : ℝ) : EReal))
      ∧ (∀ i, a3 i = (((a3 i).toReal : ℝ) : EReal)) ∧ (∀ i, a4 i = (((a4 i).toReal : ℝ) : EReal)) ∧ (∀ i, a5 i = (((a5 i).toReal : ℝ) : EReal))
      ∧ (∀ i, a6 i = (((a6 i).toReal : ℝ) : EReal)) := by
  have h0 := congrFun h ix0
  dsimp only [Cert.Pre_finite.fn, Cert.Pre_finite.fn_part1] at h0
  have sp : ∀ (x y : IVec S_ 1), andi x y ix0 = 1#1 → x ix0 = 1#1 ∧ y ix0 = 1#1 := fun x y e => by
    have e' : IntOp.andi (x ix0) (y ix0) = 1#1 := e
    exact IntOp.andi_eq_one.1 e'
  haveI : Subsingleton S_.Idx := ⟨fun a b => funext fun k => k.elim0⟩
  obtain ⟨h0, h6⟩ := sp _ _ h0
  obtain ⟨h0, h5⟩ := sp _ _ h0
  obtain ⟨h0, h4⟩ := sp _ _ h0
  obtain ⟨h0, h3⟩ := sp _ _ h0
  obtain ⟨h0, h2⟩ := sp _ _ h0
  obtain ⟨h0, h1⟩ := sp _ _ h0
  refine ⟨fun i => ?_, fun i => ?_, fun i => ?_, fun i => ?_, fun i => ?_, fun i => ?_, fun i => ?_⟩
  · exact real_of_lt _ (Host.reduce_andi_all _ _ _ _ _ h0 i)
  · exact real_of_lt _ (Host.reduce_andi_all _ _ _ _ _ h1 i)
  · exact real_of_lt _ (Host.reduce_andi_all _ _ _ _ _ h2 i)
  · exact real_of_lt _ (Host.reduce_andi_all _ _ _ _ _ h3 i)
  · exact real_of_lt _ (Host.reduce_andi_all _ _ _ _ _ h4 i)
  · exact real_of_lt _ (Host.reduce_andi_all _ _ _ _ _ h5 i)
  · exact real_of_lt _ (Host.reduce_andi_all _ _ _ _ _ h6 i)

theorem fifth : Ideal.ofBits FTy.f32 1045220557#32 = ((13421773 / 67108864 : ℝ) : EReal) := by
  simp [Ideal.ofBits, Ideal.ieee]; rw [← EReal.coe_mul]; norm_num

/-- The second map's weight is real when the four lambda vectors are. -/
theorem lam_real (l3 l4 l5 l6 : S1x64.Idx → EReal) (h3 : ∀ i, l3 i = (((l3 i).toReal : ℝ) : EReal)) (h4 : ∀ i, l4 i = (((l4 i).toReal : ℝ) : EReal))
    (h5 : ∀ i, l5 i = (((l5 i).toReal : ℝ) : EReal)) (h6 : ∀ i, l6 i = (((l6 i).toReal : ℝ) : EReal)) : ∃ l : ℝ, lam l3 l4 l5 l6 = ((l : ℝ) : EReal) := by
  have e : ∀ (u v : S1x64.Idx → EReal), (∀ i, u i = (((u i).toReal : ℝ) : EReal)) → (∀ i, v i = (((v i).toReal : ℝ) : EReal)) →
      ∃ y : ℝ, Ideal.exp (∑ x : Fin 64, u (ix2 0 x) * v (ix2 0 x)) = ((y : ℝ) : EReal) := fun u v hu hv => by
    have e1 : ∀ x : Fin 64, u (ix2 0 x) * v (ix2 0 x) = (((u (ix2 0 x)).toReal * (v (ix2 0 x)).toReal : ℝ) : EReal) := fun x => by
      rw [EReal.coe_mul, ← hu, ← hv]
    rw [Finset.sum_congr rfl fun x _ => e1 x, sum_real]
    exact ⟨_, rfl⟩
  obtain ⟨y, hy⟩ := e l3 l4 h3 h4
  obtain ⟨z, hz⟩ := e l5 l6 h5 h6
  refine ⟨y - z + 13421773 / 67108864, ?_⟩
  unfold lam
  rw [hy, hz, fifth, EReal.coe_add, EReal.coe_sub]

/-- The kernel's result array is the reference's. -/
theorem array_eq (q : FVec Ideal S8x2048x512 .f32) (k v : FVec Ideal S8x1x4x2048x128 .f32) (l3 l4 l5 l6 : FVec Ideal S1x64 .f32) (g : FVec Ideal S128x1 .f32)
    (h : Cert.Pre_finite.fn (F := Ideal) q k v l3 l4 l5 l6 g = fun _ => 1#1) :
    (fun i : S8x2048x512.Idx => resAt q k v l3 l4 l5 l6 g (i 0) ⟨(i 2).val / 128, by have : (i 2).val < 512 := (i 2).isLt; omega⟩
        ⟨(i 1).val / 256, by have : (i 1).val < 2048 := (i 1).isLt; omega⟩
        (ix3 0 ⟨(i 1).val % 256, by omega⟩ ⟨(i 2).val % 128, by omega⟩))
      = Cert.DiffRefIdeal.Read.val_main_v77 (F := Ideal) q k v l3 l4 l5 l6 g := by
  obtain ⟨hq, hk, hv, h3, h4, h5, h6⟩ := reals q k v l3 l4 l5 l6 g h
  obtain ⟨l, hl⟩ := lam_real l3 l4 l5 l6 h3 h4 h5 h6
  funext i
  obtain ⟨b, p, e, rfl⟩ : ∃ (b : Fin 8) (p : Fin 2048) (e : Fin 512), i = ix3 b p e := ⟨i 0, i 1, i 2, eq_ix3 i⟩
  refine Eq.trans ?_ (Cert.DiffRefIdeal.Val.v77_at q k v l3 l4 l5 l6 g hq hk hv l hl b p e).symm
  refine (resAt_at q k v l3 l4 l5 l6 g hq hk hv b _ _ _ _).trans ?_
  have hp : pos ⟨p.val / 256, by omega⟩ ⟨p.val % 256, by omega⟩ = p := Fin.ext (by simp only [pos]; omega)
  exact congrArg (fun p' => normed (diff q k v l3 l4 l5 l6 b ⟨e.val / 128, by omega⟩ p') g ⟨e.val % 128, by omega⟩) hp

/-- The claimed equation of the two runs. -/
theorem algebraic : Cert.algebraic_DiffAttnIdeal_DiffRefIdeal_pre_finite := by
  intro m g m' g' hpre hargs
  refine ⟨fun c => result m c, ?_, ?_⟩
  · refine θ_run_mono (Value.run_blocks m g) (fun r h c => ?_)
    obtain ⟨h0, h1⟩ := h c
    exact ⟨h0.trans (final m c), h1⟩
  · refine θ_run_mono (Cert.DiffRefIdeal.Value.run m' g') (fun r h c => ?_)
    obtain ⟨h0, h1⟩ := h c
    refine ⟨h0.trans ?_, h1⟩
    rw [Cert.DiffRefIdeal.Read.val_main_v77_eq]
    obtain ⟨e0, e1, e2, e3, e4, e5, e6, e7⟩ := hargs c
    rw [e0, e1, e2, e3, e4, e5, e6, e7]
    exact (array_eq _ _ _ _ _ _ _ _ (hpre c)).symm

end Cert.DiffAttnIdeal.Val
end
-- ==== Proof.Exp.Setup.lean ====
/- The experts call's launch, set up for a proof by hand: what the region finds, the two tables the call prefetches,
   the blocks its windows read, and the three buffers it carries from one grid point to the next. -/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.ExpertsIdeal.Exp

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- What the region finds in core `c`'s buffers: the launch memory, since the program is the call alone. -/
abbrev V (c : Dev nD) (b : Ref sig .tc) : Buf (Elt F) ((c : Thread nD τ).loc b) := m ((c : Thread nD τ).loc b)

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The tables -/

/-- The two tables as launched: the blocks' experts, and the number of blocks in use. -/
def tbl : pre0.Contents (Elt F) := fun j => V m (0 : Dev nD) (pre0.ref j)

/-- Every core holds those tables (there is one core). -/
theorem V_pre (c : Dev nD) (j : Fin 2) : V m c (pre0.ref j) = tbl m j := by
  obtain rfl : c = 0 := Subsingleton.elim _ _; rfl

/-- Every block the tables select lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body is handed them. -/
abbrev tbE : Memref sig .tc .smem S290 .i32 := Memref.whole main_arg0
abbrev htbE : tbE.IsWhole := Memref.isWhole_whole _
abbrev tbN : Memref sig .tc .smem S1 .i32 := Memref.whole main_arg1
abbrev htbN : tbN.IsWhole := Memref.isWhole_whole _

/-- A table's buffer on core `c`, and half of it held at the contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp (MT nD τ sig Unit (Elt F) ℕ (UR sig nD τ) ℕ) :=
  M.view.loc (c : Thread nD τ) ↦{fullShare.right} f

theorem PhiT_eq (c : Dev nD) : (Pipeline.ΦT pre0 (tbl m) c : sProp (MT nD τ sig Unit (Elt F) ℕ (UR sig nD τ) ℕ)) = iprop(tbPt c tbE (tbl m 0) ∗ tbPt c tbN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The words the body reads of the tables: the number of blocks in use, the block's expert, and the expert of the
    block before it. -/
abbrev wN {c : Dev nD} (T : TbBuf (F := F) c tbN) : BitVec 32 :=
  tbN.view.readAt (Elt F) (Rect.unit (s := S1) ![0] S1.size inb_S1_S1_0).toLoadRect T (Shape.Idx.first (numel1_S1.symm ▸ Nat.one_pos))
abbrev wE {c : Dev nD} (T : TbBuf (F := F) c tbE) (i : grid0.Coords) : BitVec 32 :=
  tbE.view.readAt (Elt F) (Rect.unit (s := S290) (k0_off1 i) S1.size (k0_off1_inb i)).toLoadRect T (Shape.Idx.first (numel1_S1.symm ▸ Nat.one_pos))
abbrev wP {c : Dev nD} (T : TbBuf (F := F) c tbE) (i : grid0.Coords) : BitVec 32 :=
  tbE.view.readAt (Elt F) (Rect.unit (s := S290) (k0_off2 i) S1.size (k0_off2_inb i)).toLoadRect T (Shape.Idx.first (numel1_S1.symm ▸ Nat.one_pos))

/-- The body's first condition, on the words it reads: the block is in use and its expert is not the expert of the
    block before it. -/
abbrev newC (i : grid0.Coords) (n e p : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e p)))) (0#32 : BitVec 32)

/-! ## The windows' blocks -/

/-- Window `w`'s block at point `t`, of the array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_of0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of5 (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of6 (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is handed at a point -/

abbrev ms0 (hO : Ok m) (t : Fin (cfgM m hO).N) : Memref sig .tc .vmem S256x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x1024 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1024 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1024x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1024x1024 .f32 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x1x1024 .f32 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S256x1024 .f32 := spec0_7.stage ((cfgM m hO).slots t 7)
abbrev hs7 (hO : Ok m) (t : Fin (cfgM m hO).N) : (ms7 m hO t).IsWhole := hstage0_7 (((cfgM m hO).slots t 7).cast nbuf0_7)
/-- The three carried buffers: an expert's weights as the products take them. -/
abbrev sc0 : Memref sig .tc .vmem S1024x1024 .bf16 := Memref.whole cc0_scratch0
abbrev sc1 : Memref sig .tc .vmem S1024x1024 .bf16 := Memref.whole cc0_scratch1
abbrev sc2 : Memref sig .tc .vmem S1024x1024 .bf16 := Memref.whole cc0_scratch2

theorem PhiA_eq (c : Dev nD) :
    (Pipeline.ΦA spec0 c : sProp (MT nD τ sig Unit (Elt F) ℕ (UR sig nD τ) ℕ))
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The body as the pipeline calls it at point `t`. -/
abbrev bodyAt (a : (pcfg0 (F := F)).Adm) (t : Fin (cfg0 a).N) : Prog (TpuEff nD τ sig (Elt F) Λ₀ .tc) PUnit :=
  cc0_moe_experts (grid0.coords t) tbE htbE tbN htbN (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) sc0 (Memref.isWhole_whole _) sc1 (Memref.isWhole_whole _) sc2 (Memref.isWhole_whole _)

/-- The output's block is written back at every point. -/
theorem flush7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

end Cert.ExpertsIdeal.Exp

end
-- ==== Proof.Exp.Body.lean ====
/- The experts body along each of its three paths: a block in use whose expert is new, a block in use whose expert
   is the one already carried, and a block not in use. -/
module

public import proofs.«01_k».proof.Proof.Exp.Setup

@[expose] public section

set_option maxRecDepth 16384

noncomputable section

namespace Cert.ExpertsIdeal.Exp

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The block's product on equal operands. -/
theorem pay5_congr {x x' : Vec F S256x1024 .f32} {w w' : Vec F S1024x1024 .bf16} {b b' : Vec F S1x1x1024 .f32} {w2 w2' : Vec F S1024x1024 .bf16}
    {b2 b2' : Vec F S1x1x1024 .f32} {w3 w3' : Vec F S1024x1024 .bf16} {b3 b3' : Vec F S1x1x1024 .f32}
    (h1 : x = x') (h2 : w = w') (h3 : b = b') (h4 : w2 = w2') (h5 : b2 = b2') (h6 : w3 = w3') (h7 : b3 = b3') :
    k0_pay5 x w b w2 b2 w3 b3 = k0_pay5 x' w' b' w2' b2' w3' b3' := by
  rw [h1, h2, h3, h4, h5, h6, h7]

variable (c : Dev nD) (i : grid0.Coords)
  (a3 : Memref sig .tc .vmem S256x1024 .f32) (h3 : a3.IsWhole) (a4 : Memref sig .tc .vmem S1x1024x1024 .f32) (h4 : a4.IsWhole)
  (a5 : Memref sig .tc .vmem S1x1x1024 .f32) (h5 : a5.IsWhole) (a6 : Memref sig .tc .vmem S1x1024x1024 .f32) (h6 : a6.IsWhole)
  (a7 : Memref sig .tc .vmem S1x1x1024 .f32) (h7 : a7.IsWhole) (a8 : Memref sig .tc .vmem S1x1024x1024 .f32) (h8 : a8.IsWhole)
  (a9 : Memref sig .tc .vmem S1x1x1024 .f32) (h9 : a9.IsWhole) (a10 : Memref sig .tc .vmem S256x1024 .f32) (h10 : a10.IsWhole)
  (a11 : Memref sig .tc .vmem S1024x1024 .bf16) (h11 : a11.IsWhole) (a12 : Memref sig .tc .vmem S1024x1024 .bf16) (h12 : a12.IsWhole)
  (a13 : Memref sig .tc .vmem S1024x1024 .bf16) (h13 : a13.IsWhole)
  (x0 : Vec F S256x1024 .f32) (x1 : Vec F S1x1024x1024 .f32) (x2 : Vec F S1x1x1024 .f32) (x3 : Vec F S1x1024x1024 .f32)
  (x4 : Vec F S1x1x1024 .f32) (x5 : Vec F S1x1024x1024 .f32) (x6 : Vec F S1x1x1024 .f32) (TE : TbBuf (F := F) c tbE) (TN : TbBuf (F := F) c tbN)
  (d0 d1 d2 : Vec F S1024x1024 .bf16)

/-- The windows' buffers at their blocks, which no path changes. -/
def Ins : sProp (MT nD τ sig Unit (Elt F) ℕ (UR sig nD τ) ℕ) :=
  iprop(owns (c : Thread nD τ) a3 fullShare x0 ∗ owns (c : Thread nD τ) a4 fullShare x1 ∗ owns (c : Thread nD τ) a5 fullShare x2
    ∗ owns (c : Thread nD τ) a6 fullShare x3 ∗ owns (c : Thread nD τ) a7 fullShare x4 ∗ owns (c : Thread nD τ) a8 fullShare x5
    ∗ owns (c : Thread nD τ) a9 fullShare x6)

/-- The output's buffer, the carried buffers and the tables. -/
def Rest (o : Vec F S256x1024 .f32) (e0 e1 e2 : Vec F S1024x1024 .bf16) : sProp (MT nD τ sig Unit (Elt F) ℕ (UR sig nD τ) ℕ) :=
  iprop(owns (c : Thread nD τ) a10 fullShare o ∗ owns (c : Thread nD τ) a11 fullShare e0 ∗ owns (c : Thread nD τ) a12 fullShare e1
    ∗ owns (c : Thread nD τ) a13 fullShare e2 ∗ tbPt c tbE TE ∗ tbPt c tbN TN)

variable (o : Vec F S256x1024 .f32)

set_option maxHeartbeats 1000000 in
/-- A block in use whose expert is new: the carried buffers take the expert's weights, and the output is computed from them. -/
theorem run_new (hc1 : newC i (wN TN) (wE TE i) (wP TE i) = 1#1) (hc2 : k0_cond2 i (wN TN) = 1#1) (hc3 : ¬ k0_cond3 i (wN TN) = 1#1)
    (E : Set ℕ) (K : PUnit → sProp (MT nD τ sig Unit (Elt F) ℕ (UR sig nD τ) ℕ)) :
    iprop(Ins c a3 a4 a5 a6 a7 a8 a9 x0 x1 x2 x3 x4 x5 x6 ∗ Rest c a10 a11 a12 a13 TE TN o d0 d1 d2
        ∗ (iprop(Ins c a3 a4 a5 a6 a7 a8 a9 x0 x1 x2 x3 x4 x5 x6
            ∗ Rest c a10 a11 a12 a13 TE TN (k0_pay5 x0 (k0_pay1 x1) x2 (k0_pay2 x3) x4 (k0_pay3 x5) x6) (k0_pay1 x1) (k0_pay2 x3) (k0_pay3 x5)) -∗ K ⟨⟩))
      ⊢ wp frame (wpE (defs₀ (F := F)) Variants.none c none) E
          (cc0_moe_experts i tbE htbE tbN htbN a3 h3 a4 h4 a5 h5 a6 h6 a7 h7 a8 h8 a9 h9 a10 h10 a11 h11 a12 h12 a13 h13) K := by
  simp only [cc0_moe_experts_eq_skeleton]; unfold cc0_moe_experts_skel
  simp only [k0_part1_eq_skeleton]
  unfold Ins Rest owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%f7, -, H7⟩, ⟨%g0, -, S0⟩, ⟨%g1, -, S1⟩, ⟨%g2, -, S2⟩, HT0, HT1⟩, Hk⟩
  obtain rfl := h3.eq_unread hf0; obtain rfl := h4.eq_unread hf1; obtain rfl := h5.eq_unread hf2; obtain rfl := h6.eq_unread hf3; obtain rfl := h7.eq_unread hf4; obtain rfl := h8.eq_unread hf5; obtain rfl := h9.eq_unread hf6
  sl_exec (disch := first | sl_exact hc1 | sl_exact hc2 | sl_exact hc3)
  sl_step
  iapply Hk
  isplitl [H0 H1 H2 H3 H4 H5 H6]
  · isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    iexists _; isplitr; · ipureintro; exact h9.read_unread _
    iexact H6
  isplitl [H7]
  · iexists _; isplitr
    swap; · iexact H7
    ipureintro
    refine (View.read_writes_full a10.view f7 inb_S256x1024_S256x1024_0_0 _ []).trans ?_
    unfold run_new.sl.r_3
    refine pay5_congr ((View.readAt_full a3.view _ inb_S256x1024_S256x1024_0_0).trans (h3.read_unread x0)) ?_
      ((View.readAt_full a5.view _ inb_S1x1x1024_S1x1x1024_0_0_0).trans (h5.read_unread x2)) ?_
      ((View.readAt_full a7.view _ inb_S1x1x1024_S1x1x1024_0_0_0).trans (h7.read_unread x4)) ?_
      ((View.readAt_full a9.view _ inb_S1x1x1024_S1x1x1024_0_0_0).trans (h9.read_unread x6))
    · exact (View.readCov_full a11.view inb_S1024x1024_S1024x1024_0_0 inb_S1024x1024_S1024x1024_0_0 _ []).trans (congrArg k0_pay1 ((View.readAt_full a4.view _ inb_S1x1024x1024_S1x1024x1024_0_0_0).trans (h4.read_unread x1)))
    · exact (View.readCov_full a12.view inb_S1024x1024_S1024x1024_0_0 inb_S1024x1024_S1024x1024_0_0 _ []).trans (congrArg k0_pay2 ((View.readAt_full a6.view _ inb_S1x1024x1024_S1x1024x1024_0_0_0).trans (h6.read_unread x3)))
    · exact (View.readCov_full a13.view inb_S1024x1024_S1024x1024_0_0 inb_S1024x1024_S1024x1024_0_0 _ []).trans (congrArg k0_pay3 ((View.readAt_full a8.view _ inb_S1x1024x1024_S1x1024x1024_0_0_0).trans (h8.read_unread x5)))
  isplitl [S0]
  · iexists _; isplitr
    swap; · iexact S0
    ipureintro
    exact (View.read_writes_full a11.view g0 inb_S1024x1024_S1024x1024_0_0 _ []).trans (congrArg k0_pay1 ((View.readAt_full a4.view _ inb_S1x1024x1024_S1x1024x1024_0_0_0).trans (h4.read_unread x1)))
  isplitl [S1]
  · iexists _; isplitr
    swap; · iexact S1
    ipureintro
    exact (View.read_writes_full a12.view g1 inb_S1024x1024_S1024x1024_0_0 _ []).trans (congrArg k0_pay2 ((View.readAt_full a6.view _ inb_S1x1024x1024_S1x1024x1024_0_0_0).trans (h6.read_unread x3)))
  isplitl [S2]
  · iexists _; isplitr
    swap; · iexact S2
    ipureintro
    exact (View.read_writes_full a13.view g2 inb_S1024x1024_S1024x1024_0_0 _ []).trans (congrArg k0_pay3 ((View.readAt_full a8.view _ inb_S1x1024x1024_S1x1024x1024_0_0_0).trans (h8.read_unread x5)))
  isplitl [HT0]; · iexact HT0
  iexact HT1

set_option maxHeartbeats 1000000 in
/-- A block in use whose expert is the carried one: the output is computed from the carried weights. -/
theorem run_old (hc1 : ¬ newC i (wN TN) (wE TE i) (wP TE i) = 1#1) (hc2 : k0_cond2 i (wN TN) = 1#1) (hc3 : ¬ k0_cond3 i (wN TN) = 1#1)
    (E : Set ℕ) (K : PUnit → sProp (MT nD τ sig Unit (Elt F) ℕ (UR sig nD τ) ℕ)) :
    iprop(Ins c a3 a4 a5 a6 a7 a8 a9 x0 x1 x2 x3 x4 x5 x6 ∗ Rest c a10 a11 a12 a13 TE TN o d0 d1 d2
        ∗ (iprop(Ins c a3 a4 a5 a6 a7 a8 a9 x0 x1 x2 x3 x4 x5 x6
            ∗ Rest c a10 a11 a12 a13 TE TN (k0_pay5 x0 d0 x2 d1 x4 d2 x6) d0 d1 d2) -∗ K ⟨⟩))
      ⊢ wp frame (wpE (defs₀ (F := F)) Variants.none c none) E
          (cc0_moe_experts i tbE htbE tbN htbN a3 h3 a4 h4 a5 h5 a6 h6 a7 h7 a8 h8 a9 h9 a10 h10 a11 h11 a12 h12 a13 h13) K := by
  simp only [cc0_moe_experts_eq_skeleton]; unfold cc0_moe_experts_skel
  simp only [k0_part1_eq_skeleton]
  unfold Ins Rest owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%f7, -, H7⟩, ⟨%g0, %hg0, S0⟩, ⟨%g1, %hg1, S1⟩, ⟨%g2, %hg2, S2⟩, HT0, HT1⟩, Hk⟩
  obtain rfl := h3.eq_unread hf0; obtain rfl := h4.eq_unread hf1; obtain rfl := h5.eq_unread hf2; obtain rfl := h6.eq_unread hf3; obtain rfl := h7.eq_unread hf4; obtain rfl := h8.eq_unread hf5; obtain rfl := h9.eq_unread hf6; obtain rfl := h11.eq_unread hg0; obtain rfl := h12.eq_unread hg1; obtain rfl := h13.eq_unread hg2
  sl_exec (disch := first | sl_exact hc1 | sl_exact hc2 | sl_exact hc3)
  sl_step
  iapply Hk
  isplitl [H0 H1 H2 H3 H4 H5 H6]
  · isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    iexists _; isplitr; · ipureintro; exact h9.read_unread _
    iexact H6
  isplitl [H7]
  · iexists _; isplitr
    swap; · iexact H7
    ipureintro
    refine (View.read_writes_full a10.view f7 inb_S256x1024_S256x1024_0_0 _ []).trans ?_
    refine pay5_congr ((View.readAt_full a3.view _ inb_S256x1024_S256x1024_0_0).trans (h3.read_unread x0)) ?_
      ((View.readAt_full a5.view _ inb_S1x1x1024_S1x1x1024_0_0_0).trans (h5.read_unread x2)) ?_
      ((View.readAt_full a7.view _ inb_S1x1x1024_S1x1x1024_0_0_0).trans (h7.read_unread x4)) ?_
      ((View.readAt_full a9.view _ inb_S1x1x1024_S1x1x1024_0_0_0).trans (h9.read_unread x6))
    · exact (View.readAt_full a11.view _ inb_S1024x1024_S1024x1024_0_0).trans (h11.read_unread d0)
    · exact (View.readAt_full a12.view _ inb_S1024x1024_S1024x1024_0_0).trans (h12.read_unread d1)
    · exact (View.readAt_full a13.view _ inb_S1024x1024_S1024x1024_0_0).trans (h13.read_unread d2)
  isplitl [S0]
  · iexists _; isplitr; · ipureintro; exact h11.read_unread _
    iexact S0
  isplitl [S1]
  · iexists _; isplitr; · ipureintro; exact h12.read_unread _
    iexact S1
  isplitl [S2]
  · iexists _; isplitr; · ipureintro; exact h13.read_unread _
    iexact S2
  isplitl [HT0]; · iexact HT0
  iexact HT1

set_option maxHeartbeats 1000000 in
/-- A block not in use: the output is zero, and the carried buffers stay as they were. -/
theorem run_off (hc1 : ¬ newC i (wN TN) (wE TE i) (wP TE i) = 1#1) (hc2 : ¬ k0_cond2 i (wN TN) = 1#1) (hc3 : k0_cond3 i (wN TN) = 1#1)
    (E : Set ℕ) (K : PUnit → sProp (MT nD τ sig Unit (Elt F) ℕ (UR sig nD τ) ℕ)) :
    iprop(Ins c a3 a4 a5 a6 a7 a8 a9 x0 x1 x2 x3 x4 x5 x6 ∗ Rest c a10 a11 a12 a13 TE TN o d0 d1 d2
        ∗ (iprop(Ins c a3 a4 a5 a6 a7 a8 a9 x0 x1 x2 x3 x4 x5 x6
            ∗ Rest c a10 a11 a12 a13 TE TN k0_pay4 d0 d1 d2) -∗ K ⟨⟩))
      ⊢ wp frame (wpE (defs₀ (F := F)) Variants.none c none) E
          (cc0_moe_experts i tbE htbE tbN htbN a3 h3 a4 h4 a5 h5 a6 h6 a7 h7 a8 h8 a9 h9 a10 h10 a11 h11 a12 h12 a13 h13) K := by
  simp only [cc0_moe_experts_eq_skeleton]; unfold cc0_moe_experts_skel
  simp only [k0_part1_eq_skeleton]
  unfold Ins Rest owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%f7, -, H7⟩, ⟨%g0, %hg0, S0⟩, ⟨%g1, %hg1, S1⟩, ⟨%g2, %hg2, S2⟩, HT0, HT1⟩, Hk⟩
  obtain rfl := h3.eq_unread hf0; obtain rfl := h4.eq_unread hf1; obtain rfl := h5.eq_unread hf2; obtain rfl := h6.eq_unread hf3; obtain rfl := h7.eq_unread hf4; obtain rfl := h8.eq_unread hf5; obtain rfl := h9.eq_unread hf6; obtain rfl := h11.eq_unread hg0; obtain rfl := h12.eq_unread hg1; obtain rfl := h13.eq_unread hg2
  sl_exec (disch := first | sl_exact hc1 | sl_exact hc2 | sl_exact hc3)
  sl_step
  iapply Hk
  isplitl [H0 H1 H2 H3 H4 H5 H6]
  · isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    iexists _; isplitr; · ipureintro; exact h9.read_unread _
    iexact H6
  isplitl [H7]
  · iexists _; isplitr
    swap; · iexact H7
    ipureintro
    exact View.read_writes_full a10.view f7 inb_S256x1024_S256x1024_0_0 _ []
  isplitl [S0]
  · iexists _; isplitr; · ipureintro; exact h11.read_unread _
    iexact S0
  isplitl [S1]
  · iexists _; isplitr; · ipureintro; exact h12.read_unread _
    iexact S1
  isplitl [S2]
  · iexists _; isplitr; · ipureintro; exact h13.read_unread _
    iexact S2
  isplitl [HT0]; · iexact HT0
  iexact HT1

end Cert.ExpertsIdeal.Exp

end
-- ==== Proof.Exp.Words.lean ====
/- The words the experts body reads, and the blocks the tables select, in terms of the tables' elements. -/
module

public import proofs.«01_k».proof.Proof.Exp.Setup
public import Idealize.ShloMosaic.Lib.Pointwise

@[expose] public section

set_option maxRecDepth 16384

noncomputable section

namespace Cert.ExpertsIdeal.Exp

open Cert.ExpertsIdeal Cert.ExpertsIdeal.Gen
open Idealize.ShloMosaic Idealize.ShloMosaic.TcCoe
open Idealize.SL.Sem
open Idealize.ShloMosaic.WordCmp (cmpi_slt_eq cmpi_sge_eq cmpi_eq_eq cmpi_ne_eq)

variable {F : FTy → Type} [FloatOps F]

theorem c0 (t : Fin grid0.N) : (grid0.coords t 0).val = t.val :=
  (Pipeline.Grid.coords_val t 0 (S := 1) (B := 290) (by decide) rfl).trans (by
    have := lt_of_lt_of_eq t.isLt (show grid0.N = 290 from N_0)
    rw [Nat.div_one, Nat.mod_eq_of_lt this])

/-! ## The offsets the body reads the tables at -/

theorem off1_val : ∀ n : Fin 290, (Scalar.indexCast (BitVec.ofNat 32 n.val)).toNat = n.val := by decide
theorem off2_val : ∀ n : Fin 290, (Scalar.indexCast (Scalar.maxsi (Scalar.subi (BitVec.ofNat 32 n.val) 1#32) 0#32)).toNat = n.val - 1 := by decide

variable (m : (ℓ : Loc nD τ sig) → Buf (Elt F) ℓ)

/-- The expert of block `n`, and the number of blocks in use. -/
def ex (n : Fin 290) : BitVec 32 := tbl m 0 (ix1 n)
def nu : BitVec 32 := tbl m 1 (ix1 (0 : Fin 1))

theorem wN_eq (c : Dev nD) : wN (F := F) (c := c) (tbl m 1) = nu m := by
  show tbl m 1 _ = tbl m 1 _
  congr 1
  funext a
  match a with
  | ⟨0, _⟩ => exact Fin.ext rfl

theorem wE_eq (c : Dev nD) (i : grid0.Coords) : wE (F := F) (c := c) (tbl m 0) i = ex m (i 0) := by
  show tbl m 0 _ = tbl m 0 _
  congr 1
  funext a
  match a with
  | ⟨0, _⟩ => exact Fin.ext (off1_val (i 0))

theorem wP_eq (c : Dev nD) (i : grid0.Coords) :
    wP (F := F) (c := c) (tbl m 0) i = ex m ⟨(i 0).val - 1, by have h : (i 0).val < 290 := (i 0).isLt; omega⟩ := by
  show tbl m 0 _ = tbl m 0 _
  congr 1
  funext a
  match a with
  | ⟨0, _⟩ => exact Fin.ext (off2_val (i 0))

/-- The block a window's index map selects at a point is its expert's. -/
theorem tr_eq (i : grid0.Coords) : cc0_transform_1 k0_off1_inb numel1_S1 (tbl m) i = ![(ex m (i 0)).toNat, 0, 0] := by
  unfold cc0_transform_1
  have h : (tbl m).at 0 (Rect.unit (s := S290) (k0_off1 i) S1.size (k0_off1_inb i)) numel1_S1 = ex m (i 0) := wE_eq m 0 i
  show ![((tbl m).at 0 (Rect.unit (s := S290) (k0_off1 i) S1.size (k0_off1_inb i)) numel1_S1).toNat, 0, 0] = _
  rw [h]

/-! ## The conditions -/

theorem ext_ne : ∀ b : BitVec 1, (IntOp.cmpi .ne (b.setWidth 32) (0#32 : BitVec 32) = 1#1) ↔ b = 1#1 := by decide

/-- Block `n` is in use. -/
def Act (n : Fin 290) : Prop := (BitVec.ofNat 32 n.val).toInt < (nu m).toInt
instance (n : Fin 290) : Decidable (Act m n) := inferInstanceAs (Decidable (_ < _))

theorem ofBool_one (p : Prop) [Decidable p] : BitVec.ofBool (decide p) = 1#1 ↔ p := by
  by_cases h : p <;> simp [h]

theorem cond2_iff (i : grid0.Coords) : k0_cond2 i (nu m) = 1#1 ↔ Act m (i 0) :=
  (ext_ne _).trans ((iff_of_eq (congrArg (· = 1#1) (cmpi_slt_eq _ _))).trans (ofBool_one _))

theorem cond3_iff (i : grid0.Coords) : k0_cond3 i (nu m) = 1#1 ↔ ¬ Act m (i 0) :=
  (ext_ne _).trans ((iff_of_eq (congrArg (· = 1#1) (cmpi_sge_eq _ _))).trans ((ofBool_one _).trans (by unfold Act; exact not_lt.symm)))

theorem and_one : ∀ a b : BitVec 1, (a &&& b = 1#1) ↔ (a = 1#1 ∧ b = 1#1) := by decide
theorem or_one : ∀ a b : BitVec 1, (a ||| b = 1#1) ↔ (a = 1#1 ∨ b = 1#1) := by decide

theorem newC_iff (i : grid0.Coords) (e p : BitVec 32) :
    newC i (nu m) e p = 1#1 ↔ Act m (i 0) ∧ (i 0).val = 0 ∨ Act m (i 0) ∧ e ≠ p := by
  refine (ext_ne _).trans ((and_one _ _).trans ?_)
  refine Iff.trans (and_congr ((iff_of_eq (congrArg (· = 1#1) (cmpi_slt_eq _ _))).trans (ofBool_one _)) (or_one _ _)) ?_
  have h1 : (IntOp.cmpi .eq (BitVec.ofNat 32 (i 0).val) 0#32 = 1#1) ↔ (i 0).val = 0 := by
    rw [cmpi_eq_eq, ofBool_one]
    have h : (i 0).val < 290 := (i 0).isLt
    constructor
    · intro h'; have := congrArg BitVec.toNat h'; rw [BitVec.toNat_ofNat] at this; simp at this; omega
    · intro h'; rw [h']
  have h2 : (IntOp.cmpi .ne e p = 1#1) ↔ e ≠ p := by rw [cmpi_ne_eq, ofBool_one]
  rw [← and_or_left]
  exact and_congr Iff.rfl (or_congr h1 h2)

/-- A block in use has the block before it in use. -/
theorem act_pred (n : ℕ) (h : n + 1 < 290) (ha : Act m ⟨n + 1, h⟩) : Act m ⟨n, by omega⟩ := by
  unfold Act at *
  have e : ∀ k : ℕ, k < 290 → (BitVec.ofNat 32 k).toInt = (k : ℤ) := fun k hk => by
    rw [BitVec.toInt_eq_toNat_of_lt (by rw [BitVec.toNat_ofNat]; omega), BitVec.toNat_ofNat]; congr 1; omega
  have h1 := e (n + 1) h
  have h2 := e n (by omega)
  change (BitVec.ofNat 32 (n + 1)).toInt < _ at ha
  show (BitVec.ofNat 32 n).toInt < _
  omega

/-- The output is idle at no point. -/
theorem idle_false (pf : pre0.Contents (Elt F)) (i : grid0.Coords) : idle0 (F := F) pf 7 i = false := by
  show (!(k0_cond2 i (pf.atD 1 ![0]) == 1#1) && !(k0_cond3 i (pf.atD 1 ![0]) == 1#1)) = false
  generalize pf.atD 1 ![0] = v
  by_cases h : (BitVec.ofNat 32 (i 0).val).toInt < v.toInt
  · have h2 : k0_cond2 i v = 1#1 := (ext_ne _).mpr ((congrArg (· = 1#1) (cmpi_slt_eq _ _)).mpr ((ofBool_one _).mpr h))
    rw [h2]; rfl
  · have h3 : k0_cond3 i v = 1#1 := (ext_ne _).mpr ((congrArg (· = 1#1) (cmpi_sge_eq _ _)).mpr ((ofBool_one _).mpr (by omega)))
    rw [h3]; simp

/-! ## The windows' blocks -/

theorem ex_lt (hO : Ok m) (n : Fin 290) : (ex m n).toNat < 32 := by
  obtain ⟨h, -⟩ := hO.1 (fun a => match a with | ⟨0, _⟩ => n)
  have h0 := h 0
  rw [tr_eq] at h0
  have : ((ex m n).toNat + 1) * 1 ≤ 32 := h0
  omega

/-- Block `n`'s expert, as an index. -/
def exI (hO : Ok m) (n : Fin 290) : Fin 32 := ⟨(ex m n).toNat, ex_lt m hO n⟩

/-- An expert's weights, and its bias. -/
def wOf (w : Vec F S32x1024x1024 .f32) (e : Fin 32) : Vec F S1x1024x1024 .f32 := fun y => w (ix3 e (y 1) (y 2))
def bOf (b : Vec F S32x1x1024 .f32) (e : Fin 32) : Vec F S1x1x1024 .f32 := fun y => b (ix3 e 0 (y 2))
/-- Block `n` of 256 rows. -/
def xOf (x : Vec F S74240x1024 .f32) (n : Fin 290) : Vec F S256x1024 .f32 := fun y =>
  x (ix2 ⟨256 * n.val + (y 0).val, by have h0 : (y 0).val < 256 := (y 0).isLt; have := n.isLt; show _ < 74240; omega⟩ (y 1))

abbrev pt (hO : Ok m) (t : Fin (cfgM m hO).N) : Fin 290 := grid0.coords t 0

theorem iblk_0 (hO : Ok m) (c : Dev nD) (t : Fin (cfgM m hO).N) :
    (iblk m hO c 0 t : Vec F S256x1024 .f32) = xOf (m ((c : Thread nD τ).loc main_arg2)) (pt m hO t) := by
  refine funext fun (j : S256x1024.Idx) => ?_
  unfold iblk xOf
  refine (View.read_apply _ _).trans ?_
  show V m c main_arg2 _ = m (c.tc.loc main_arg2) _
  unfold V
  congr 1
  funext a
  apply Fin.ext
  have h0 : (grid0.coords t 0).val < 290 := (grid0.coords t 0).isLt
  match a with
  | ⟨0, _⟩ => show (BitVec.ofNat 32 (grid0.coords t 0).val).toNat * 256 + 1 * (j 0).val = 256 * (grid0.coords t 0).val + (j 0).val; rw [BitVec.toNat_ofNat]; omega
  | ⟨1, _⟩ => show (0#32).toNat * 1024 + 1 * (j 1).val = (j 1).val; simp

theorem iblk_1 (hO : Ok m) (c : Dev nD) (t : Fin (cfgM m hO).N) :
    (iblk m hO c 1 t : Vec F S1x1024x1024 .f32) = wOf (m ((c : Thread nD τ).loc main_arg3)) (exI m hO (pt m hO t)) := by
  refine funext fun (j : S1x1024x1024.Idx) => ?_
  unfold iblk wOf
  refine (View.read_apply _ _).trans ?_
  show V m c main_arg3 _ = m (c.tc.loc main_arg3) _
  unfold V
  congr 1
  funext a
  apply Fin.ext
  have hj : (j 0).val < 1 := (j 0).isLt
  have e := tr_eq m (grid0.coords t)
  match a with
  | ⟨0, _⟩ =>
    have e0 : cc0_transform_1 k0_off1_inb numel1_S1 (tbl m) (grid0.coords t) 0 = (ex m (grid0.coords t 0)).toNat := congrFun e 0
    show cc0_transform_1 k0_off1_inb numel1_S1 (tbl m) (grid0.coords t) 0 * 1 + 1 * (j 0).val = (ex m (grid0.coords t 0)).toNat
    omega
  | ⟨1, _⟩ => show (0#32).toNat * 1024 + 1 * (j 1).val = (j 1).val; simp
  | ⟨2, _⟩ => show (0#32).toNat * 1024 + 1 * (j 2).val = (j 2).val; simp

theorem iblk_3 (hO : Ok m) (c : Dev nD) (t : Fin (cfgM m hO).N) :
    (iblk m hO c 3 t : Vec F S1x1024x1024 .f32) = wOf (m ((c : Thread nD τ).loc main_arg5)) (exI m hO (pt m hO t)) := by
  refine funext fun (j : S1x1024x1024.Idx) => ?_
  unfold iblk wOf
  refine (View.read_apply _ _).trans ?_
  show V m c main_arg5 _ = m (c.tc.loc main_arg5) _
  unfold V
  congr 1
  funext a
  apply Fin.ext
  have hj : (j 0).val < 1 := (j 0).isLt
  have e := tr_eq m (grid0.coords t)
  match a with
  | ⟨0, _⟩ =>
    have e0 : cc0_transform_1 k0_off1_inb numel1_S1 (tbl m) (grid0.coords t) 0 = (ex m (grid0.coords t 0)).toNat := congrFun e 0
    show cc0_transform_1 k0_off1_inb numel1_S1 (tbl m) (grid0.coords t) 0 * 1 + 1 * (j 0).val = (ex m (grid0.coords t 0)).toNat
    omega
  | ⟨1, _⟩ => show (0#32).toNat * 1024 + 1 * (j 1).val = (j 1).val; simp
  | ⟨2, _⟩ => show (0#32).toNat * 1024 + 1 * (j 2).val = (j 2).val; simp

theorem iblk_5 (hO : Ok m) (c : Dev nD) (t : Fin (cfgM m hO).N) :
    (iblk m hO c 5 t : Vec F S1x1024x1024 .f32) = wOf (m ((c : Thread nD τ).loc main_arg7)) (exI m hO (pt m hO t)) := by
  refine funext fun (j : S1x1024x1024.Idx) => ?_
  unfold iblk wOf
  refine (View.read_apply _ _).trans ?_
  show V m c main_arg7 _ = m (c.tc.loc main_arg7) _
  unfold V
  congr 1
  funext a
  apply Fin.ext
  have hj : (j 0).val < 1 := (j 0).isLt
  have e := tr_eq m (grid0.coords t)
  match a with
  | ⟨0, _⟩ =>
    have e0 : cc0_transform_1 k0_off1_inb numel1_S1 (tbl m) (grid0.coords t) 0 = (ex m (grid0.coords t 0)).toNat := congrFun e 0
    show cc0_transform_1 k0_off1_inb numel1_S1 (tbl m) (grid0.coords t) 0 * 1 + 1 * (j 0).val = (ex m (grid0.coords t 0)).toNat
    omega
  | ⟨1, _⟩ => show (0#32).toNat * 1024 + 1 * (j 1).val = (j 1).val; simp
  | ⟨2, _⟩ => show (0#32).toNat * 1024 + 1 * (j 2).val = (j 2).val; simp

theorem iblk_2 (hO : Ok m) (c : Dev nD) (t : Fin (cfgM m hO).N) :
    (iblk m hO c 2 t : Vec F S1x1x1024 .f32) = bOf (m ((c : Thread nD τ).loc main_arg4)) (exI m hO (pt m hO t)) := by
  refine funext fun (j : S1x1x1024.Idx) => ?_
  unfold iblk bOf
  refine (View.read_apply _ _).trans ?_
  show V m c main_arg4 _ = m (c.tc.loc main_arg4) _
  unfold V
  congr 1
  funext a
  apply Fin.ext
  have hj : (j 0).val < 1 := (j 0).isLt
  have hj1 : (j 1).val < 1 := (j 1).isLt
  have e := tr_eq m (grid0.coords t)
  match a with
  | ⟨0, _⟩ =>
    have e0 : cc0_transform_1 k0_off1_inb numel1_S1 (tbl m) (grid0.coords t) 0 = (ex m (grid0.coords t 0)).toNat := congrFun e 0
    show cc0_transform_1 k0_off1_inb numel1_S1 (tbl m) (grid0.coords t) 0 * 1 + 1 * (j 0).val = (ex m (grid0.coords t 0)).toNat
    omega
  | ⟨1, _⟩ => show (0#32).toNat * 1 + 1 * (j 1).val = 0; simp; omega
  | ⟨2, _⟩ => show (0#32).toNat * 1024 + 1 * (j 2).val = (j 2).val; simp

theorem iblk_4 (hO : Ok m) (c : Dev nD) (t : Fin (cfgM m hO).N) :
    (iblk m hO c 4 t : Vec F S1x1x1024 .f32) = bOf (m ((c : Thread nD τ).loc main_arg6)) (exI m hO (pt m hO t)) := by
  refine funext fun (j : S1x1x1024.Idx) => ?_
  unfold iblk bOf
  refine (View.read_apply _ _).trans ?_
  show V m c main_arg6 _ = m (c.tc.loc main_arg6) _
  unfold V
  congr 1
  funext a
  apply Fin.ext
  have hj : (j 0).val < 1 := (j 0).isLt
  have hj1 : (j 1).val < 1 := (j 1).isLt
  have e := tr_eq m (grid0.coords t)
  match a with
  | ⟨0, _⟩ =>
    have e0 : cc0_transform_1 k0_off1_inb numel1_S1 (tbl m) (grid0.coords t) 0 = (ex m (grid0.coords t 0)).toNat := congrFun e 0
    show cc0_transform_1 k0_off1_inb numel1_S1 (tbl m) (grid0.coords t) 0 * 1 + 1 * (j 0).val = (ex m (grid0.coords t 0)).toNat
    omega
  | ⟨1, _⟩ => show (0#32).toNat * 1 + 1 * (j 1).val = 0; simp; omega
  | ⟨2, _⟩ => show (0#32).toNat * 1024 + 1 * (j 2).val = (j 2).val; simp

theorem iblk_6 (hO : Ok m) (c : Dev nD) (t : Fin (cfgM m hO).N) :
    (iblk m hO c 6 t : Vec F S1x1x1024 .f32) = bOf (m ((c : Thread nD τ).loc main_arg8)) (exI m hO (pt m hO t)) := by
  refine funext fun (j : S1x1x1024.Idx) => ?_
  unfold iblk bOf
  refine (View.read_apply _ _).trans ?_
  show V m c main_arg8 _ = m (c.tc.loc main_arg8) _
  unfold V
  congr 1
  funext a
  apply Fin.ext
  have hj : (j 0).val < 1 := (j 0).isLt
  have hj1 : (j 1).val < 1 := (j 1).isLt
  have e := tr_eq m (grid0.coords t)
  match a with
  | ⟨0, _⟩ =>
    have e0 : cc0_transform_1 k0_off1_inb numel1_S1 (tbl m) (grid0.coords t) 0 = (ex m (grid0.coords t 0)).toNat := congrFun e 0
    show cc0_transform_1 k0_off1_inb numel1_S1 (tbl m) (grid0.coords t) 0 * 1 + 1 * (j 0).val = (ex m (grid0.coords t 0)).toNat
    omega
  | ⟨1, _⟩ => show (0#32).toNat * 1 + 1 * (j 1).val = 0; simp; omega
  | ⟨2, _⟩ => show (0#32).toNat * 1024 + 1 * (j 2).val = (j 2).val; simp

end Cert.ExpertsIdeal.Exp

end
-- ==== Proof.Exp.Run.lean ====
/- The experts call's run: what the body leaves at each grid point, the weights carried from one point to the next,
   and the run of the whole program. -/
module

public import proofs.«01_k».proof.Proof.Exp.Body
public import proofs.«01_k».proof.Proof.Exp.Words
public import Idealize.ShloMosaic.Lib.Claim

@[expose] public section

set_option maxRecDepth 16384

noncomputable section

namespace Cert.ExpertsIdeal.Exp

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What point `t` leaves in the output's buffer: the block through its expert when the block is in use, else zero. -/
def outAt (hO : Ok m) (c : Dev nD) (t : Fin (cfgM m hO).N) : Vec F S256x1024 .f32 :=
  if Act m (pt m hO t) then
    k0_pay5 (iblk m hO c 0 t) (k0_pay1 (iblk m hO c 1 t)) (iblk m hO c 2 t) (k0_pay2 (iblk m hO c 3 t)) (iblk m hO c 4 t) (k0_pay3 (iblk m hO c 5 t)) (iblk m hO c 6 t)
  else k0_pay4

/-- What is known of the carried buffers before point `t`: after a point in use they hold its expert's weights. -/
def Carry (hO : Ok m) (c : Dev nD) (t : Fin ((cfgM m hO).N + 1)) (d0 d1 d2 : Vec F S1024x1024 .bf16) : Prop :=
  ∀ s : Fin (cfgM m hO).N, s.val + 1 = t.val → Act m (pt m hO s) →
    d0 = k0_pay1 (iblk m hO c 1 s) ∧ d1 = k0_pay2 (iblk m hO c 3 s) ∧ d2 = k0_pay3 (iblk m hO c 5 s)

/-- The invariant before point `t`. -/
def Inv (hO : Ok m) (c : Dev nD) (t : Fin ((cfgM m hO).N + 1)) : sProp (MT nD τ sig Unit (Elt F) ℕ (UR sig nD τ) ℕ) :=
  iprop(∃ d0, ∃ d1, ∃ d2, ⌜Carry m hO c t d0 d1 d2⌝ ∗ owns (c : Thread nD τ) sc0 fullShare d0 ∗ owns (c : Thread nD τ) sc1 fullShare d1
    ∗ owns (c : Thread nD τ) sc2 fullShare d2 ∗ (∃ r, prngReg c r) ∗ tbPt c tbE (tbl m 0) ∗ tbPt c tbN (tbl m 1))

/-- The pipeline's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c t
  Φ t := Inv m hO c t
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = outAt m hO c t := by dsimp only [dats]; try rfl

theorem before_0 (hO : Ok m) (c : Dev nD) (t : Fin (cfgM m hO).N) (d) : (dats m hO 0 c).before 0 t d = iblk m hO c 0 t :=
  before_of0 m hO (dats m hO 0 c) (A_eq m hO c 0) (after_0 m hO c) t d
theorem before_1 (hO : Ok m) (c : Dev nD) (t : Fin (cfgM m hO).N) (d) : (dats m hO 0 c).before 1 t d = iblk m hO c 1 t :=
  before_of1 m hO (dats m hO 0 c) (A_eq m hO c 1) (after_1 m hO c) t d
theorem before_2 (hO : Ok m) (c : Dev nD) (t : Fin (cfgM m hO).N) (d) : (dats m hO 0 c).before 2 t d = iblk m hO c 2 t :=
  before_of2 m hO (dats m hO 0 c) (A_eq m hO c 2) (after_2 m hO c) t d
theorem before_3 (hO : Ok m) (c : Dev nD) (t : Fin (cfgM m hO).N) (d) : (dats m hO 0 c).before 3 t d = iblk m hO c 3 t :=
  before_of3 m hO (dats m hO 0 c) (A_eq m hO c 3) (after_3 m hO c) t d
theorem before_4 (hO : Ok m) (c : Dev nD) (t : Fin (cfgM m hO).N) (d) : (dats m hO 0 c).before 4 t d = iblk m hO c 4 t :=
  before_of4 m hO (dats m hO 0 c) (A_eq m hO c 4) (after_4 m hO c) t d
theorem before_5 (hO : Ok m) (c : Dev nD) (t : Fin (cfgM m hO).N) (d) : (dats m hO 0 c).before 5 t d = iblk m hO c 5 t :=
  before_of5 m hO (dats m hO 0 c) (A_eq m hO c 5) (after_5 m hO c) t d
theorem before_6 (hO : Ok m) (c : Dev nD) (t : Fin (cfgM m hO).N) (d) : (dats m hO 0 c).before 6 t d = iblk m hO c 6 t :=
  before_of6 m hO (dats m hO 0 c) (A_eq m hO c 6) (after_6 m hO c) t d

/-! ## The body at a point -/

def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d)))

def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t)
    ∗ owns (c : Thread nD τ) (ms7 m hO t) fullShare ((dats m hO 0 c).after 7 t))

/-- Two points of one expert read the same weights. -/
theorem iblk_same (hO : Ok m) (c : Dev nD) (s t : Fin (cfgM m hO).N) (h : ex m (pt m hO s) = ex m (pt m hO t)) :
    iblk m hO c 1 s = iblk m hO c 1 t ∧ iblk m hO c 3 s = iblk m hO c 3 t ∧ iblk m hO c 5 s = iblk m hO c 5 t := by
  have e : exI m hO (pt m hO s) = exI m hO (pt m hO t) := Fin.ext (by show (ex m (pt m hO s)).toNat = (ex m (pt m hO t)).toNat; rw [h])
  exact ⟨(iblk_1 m hO c s).trans ((congrArg _ e).trans (iblk_1 m hO c t).symm),
    (iblk_3 m hO c s).trans ((congrArg _ e).trans (iblk_3 m hO c t).symm), (iblk_5 m hO c s).trans ((congrArg _ e).trans (iblk_5 m hO c t).symm)⟩

theorem pt_val (hO : Ok m) (t : Fin (cfgM m hO).N) : (pt m hO t).val = t.val := c0 t

/-- At a point in use whose expert is not new, the carried buffers hold its expert's weights. -/
theorem carry_old (hO : Ok m) (c : Dev nD) (t : Fin (cfgM m hO).N) {d0 d1 d2 : Vec F S1024x1024 .bf16} (h : Carry m hO c t.castSucc d0 d1 d2)
    (ha : Act m (pt m hO t)) (hn : ¬ newC (grid0.coords t) (nu m) (wE (c := c) (tbl m 0) (grid0.coords t)) (wP (c := c) (tbl m 0) (grid0.coords t)) = 1#1) :
    d0 = k0_pay1 (iblk m hO c 1 t) ∧ d1 = k0_pay2 (iblk m hO c 3 t) ∧ d2 = k0_pay3 (iblk m hO c 5 t) := by
  rw [newC_iff, wE_eq, wP_eq] at hn
  push Not at hn
  have h0 : (pt m hO t).val ≠ 0 := hn.1 ha
  have he := hn.2 ha
  have hv := pt_val m hO t
  have hlt := t.isLt
  have hs : t.val - 1 < (cfgM m hO).N := by omega
  have hv' : (pt m hO ⟨t.val - 1, hs⟩).val = t.val - 1 := pt_val m hO ⟨t.val - 1, hs⟩
  have ep : ex m (pt m hO ⟨t.val - 1, hs⟩) = ex m (pt m hO t) := by
    refine Eq.trans ?_ he.symm
    congr 1
    exact Fin.ext (by rw [hv']; show t.val - 1 = (pt m hO t).val - 1; omega)
  have hap : Act m (pt m hO ⟨t.val - 1, hs⟩) := by
    have hN : (pt m hO t).val < 290 := (pt m hO t).isLt
    have := act_pred m (t.val - 1) (by omega) (by
      convert ha using 1
      exact Fin.ext (by show t.val - 1 + 1 = _; omega))
    convert this using 1
    exact Fin.ext hv'
  obtain ⟨e1, e2, e3⟩ := h ⟨t.val - 1, hs⟩ (by show t.val - 1 + 1 = t.val; omega) hap
  obtain ⟨i1, i3, i5⟩ := iblk_same m hO c ⟨t.val - 1, hs⟩ t ep
  exact ⟨e1.trans (congrArg k0_pay1 i1), e2.trans (congrArg k0_pay2 i3), e3.trans (congrArg k0_pay3 i5)⟩

/-- What the carried buffers hold after a point, from what the point leaves in them. -/
theorem carry_next (hO : Ok m) (c : Dev nD) (t : Fin (cfgM m hO).N) {d0 d1 d2 : Vec F S1024x1024 .bf16}
    (h : Act m (pt m hO t) → d0 = k0_pay1 (iblk m hO c 1 t) ∧ d1 = k0_pay2 (iblk m hO c 3 t) ∧ d2 = k0_pay3 (iblk m hO c 5 t)) :
    Carry m hO c t.succ d0 d1 d2 := fun s hs ha => by
  obtain rfl : s = t := Fin.ext (by have : s.val + 1 = t.val + 1 := hs; omega)
  exact h ha

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3, before_4, before_5, before_6]
  rw [show (dats m hO 0 c).owesAt () t.succ = (dats m hO 0 c).owesAt () t.castSucc from rfl,
    after_0, after_1, after_2, after_3, after_4, after_5, after_6, after_7]
  rw [show (dats m hO 0 c).Φ t.castSucc = Inv m hO c t.castSucc from rfl, show (dats m hO 0 c).Φ t.succ = Inv m hO c t.succ from rfl]
  unfold Inv
  iintro ⟨⟨%d0, %d1, %d2, %hC, S0, S1, S2, Hg, HT0, HT1⟩, Ho, ⟨%u0, H0⟩, ⟨%u1, H1⟩, ⟨%u2, H2⟩, ⟨%u3, H3⟩, ⟨%u4, H4⟩, ⟨%u5, H5⟩, ⟨%u6, H6⟩, ⟨%u7, H7⟩⟩
  by_cases ha : Act m (pt m hO t)
  · have hc2 : k0_cond2 (grid0.coords t) (wN (c := c) (tbl m 1)) = 1#1 := by rw [wN_eq]; exact (cond2_iff m (grid0.coords t)).mpr ha
    have hc3 : ¬ k0_cond3 (grid0.coords t) (wN (c := c) (tbl m 1)) = 1#1 := by rw [wN_eq]; exact fun h => (cond3_iff m (grid0.coords t)).mp h ha
    rw [show outAt m hO c t = k0_pay5 (iblk m hO c 0 t) (k0_pay1 (iblk m hO c 1 t)) (iblk m hO c 2 t) (k0_pay2 (iblk m hO c 3 t)) (iblk m hO c 4 t) (k0_pay3 (iblk m hO c 5 t)) (iblk m hO c 6 t) from if_pos ha]
    by_cases hn : newC (grid0.coords t) (wN (c := c) (tbl m 1)) (wE (c := c) (tbl m 0) (grid0.coords t)) (wP (c := c) (tbl m 0) (grid0.coords t)) = 1#1
    · iapply (run_new c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) d0 d1 d2 ((dats m hO 0 c).before 7 t u7) hn hc2 hc3 Set.univ _)
      unfold Ins Rest
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7 S0 S1 S2 HT0 HT1]
      · isplitl [H7]; · iexact H7
        isplitl [S0]; · iexact S0
        isplitl [S1]; · iexact S1
        isplitl [S2]; · iexact S2
        isplitl [HT0]; · iexact HT0
        iexact HT1
      iintro ⟨⟨H0, H1, H2, H3, H4, H5, H6⟩, ⟨H7, S0, S1, S2, HT0, HT1⟩⟩
      isplitl [S0 S1 S2 Hg HT0 HT1]
      swap
      · isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      iexists _; iexists _; iexists _
      isplitr; · ipureintro; exact carry_next m hO c t fun _ => ⟨rfl, rfl, rfl⟩
      isplitl [S0]; · iexact S0
      isplitl [S1]; · iexact S1
      isplitl [S2]; · iexact S2
      isplitl [Hg]; · iexact Hg
      isplitl [HT0]; · iexact HT0
      iexact HT1
    · obtain ⟨rfl, rfl, rfl⟩ := carry_old m hO c t hC ha (by rw [wN_eq] at hn; exact hn)
      iapply (run_old c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (k0_pay1 (iblk m hO c 1 t)) (k0_pay2 (iblk m hO c 3 t)) (k0_pay3 (iblk m hO c 5 t)) ((dats m hO 0 c).before 7 t u7) hn hc2 hc3 Set.univ _)
      unfold Ins Rest
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7 S0 S1 S2 HT0 HT1]
      · isplitl [H7]; · iexact H7
        isplitl [S0]; · iexact S0
        isplitl [S1]; · iexact S1
        isplitl [S2]; · iexact S2
        isplitl [HT0]; · iexact HT0
        iexact HT1
      iintro ⟨⟨H0, H1, H2, H3, H4, H5, H6⟩, ⟨H7, S0, S1, S2, HT0, HT1⟩⟩
      isplitl [S0 S1 S2 Hg HT0 HT1]
      swap
      · isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      iexists _; iexists _; iexists _
      isplitr; · ipureintro; exact carry_next m hO c t fun _ => ⟨rfl, rfl, rfl⟩
      isplitl [S0]; · iexact S0
      isplitl [S1]; · iexact S1
      isplitl [S2]; · iexact S2
      isplitl [Hg]; · iexact Hg
      isplitl [HT0]; · iexact HT0
      iexact HT1
  · have hc2 : ¬ k0_cond2 (grid0.coords t) (wN (c := c) (tbl m 1)) = 1#1 := by rw [wN_eq]; exact fun h => ha ((cond2_iff m (grid0.coords t)).mp h)
    have hc3 : k0_cond3 (grid0.coords t) (wN (c := c) (tbl m 1)) = 1#1 := by rw [wN_eq]; exact (cond3_iff m (grid0.coords t)).mpr ha
    have hn : ¬ newC (grid0.coords t) (wN (c := c) (tbl m 1)) (wE (c := c) (tbl m 0) (grid0.coords t)) (wP (c := c) (tbl m 0) (grid0.coords t)) = 1#1 := by
      rw [wN_eq, newC_iff]; exact fun h => h.elim (fun h => ha h.1) (fun h => ha h.1)
    rw [show outAt m hO c t = k0_pay4 from if_neg ha]
    iapply (run_off c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) d0 d1 d2 ((dats m hO 0 c).before 7 t u7) hn hc2 hc3 Set.univ _)
    unfold Ins Rest
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7 S0 S1 S2 HT0 HT1]
    · isplitl [H7]; · iexact H7
      isplitl [S0]; · iexact S0
      isplitl [S1]; · iexact S1
      isplitl [S2]; · iexact S2
      isplitl [HT0]; · iexact HT0
      iexact HT1
    iintro ⟨⟨H0, H1, H2, H3, H4, H5, H6⟩, ⟨H7, S0, S1, S2, HT0, HT1⟩⟩
    isplitl [S0 S1 S2 Hg HT0 HT1]
    swap
    · isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexists d0; iexists d1; iexists d2
    isplitr; · ipureintro; exact carry_next m hO c t fun h => absurd h ha
    isplitl [S0]; · iexact S0
    isplitl [S1]; · iexact S1
    isplitl [S2]; · iexact S2
    isplitl [Hg]; · iexact Hg
    isplitl [HT0]; · iexact HT0
    iexact HT1

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  have hi : idle0 (tbl m) 7 (((pcfg0 (F := F)).gridAt (tbl m)).coords t) = false := idle_false (tbl m) (grid0.coords t)
  refine triple_restated (sound_body m hO c t) rfl .rfl fun _ => ?_
  unfold bodyPost
  dsimp only
  rw [hi]

/-! ## The run -/

theorem inv_in (hO : Ok m) (c : Dev nD) : iprop(Pipeline.ΦA spec0 c ∗ Pipeline.ΦT pre0 (tbl m) c) ⊢ (Inv m hO c 0 : sProp (MT nD τ sig Unit (Elt F) ℕ (UR sig nD τ) ℕ)) := by
  rw [PhiT_eq, PhiA_eq]
  unfold Inv
  iintro ⟨⟨⟨⟨%d0, S0⟩, ⟨%d1, S1⟩, ⟨%d2, S2⟩⟩, Hg⟩, ⟨HT0, HT1⟩⟩
  iexists d0; iexists d1; iexists d2
  isplitr; · ipureintro; exact fun s hs _ => absurd hs (Nat.succ_ne_zero _)
  isplitl [S0]; · iexact S0
  isplitl [S1]; · iexact S1
  isplitl [S2]; · iexact S2
  isplitl [Hg]; · iexact Hg
  isplitl [HT0]; · iexact HT0
  iexact HT1

theorem inv_out (hO : Ok m) (c : Dev nD) (t : Fin ((cfgM m hO).N + 1)) : (Inv m hO c t : sProp (MT nD τ sig Unit (Elt F) ℕ (UR sig nD τ) ℕ)) ⊢ Pipeline.ΦA spec0 c := by
  rw [PhiA_eq]
  unfold Inv
  iintro ⟨%d0, %d1, %d2, -, S0, S1, S2, Hg, HT0, HT1⟩
  isplitl [S0 S1 S2]
  · isplitl [S0]; · iexists _; iexact S0
    isplitl [S1]; · iexists _; iexact S1
    iexists _; iexact S2
  iexact Hg

set_option backward.isDefEq.respectTransparency.types false in
/-- The run: every array ends as the proof data say, and every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := inv_in m hO) (hout := fun c => inv_out m hO c _)

/-- The frame run's post at the arguments. -/
theorem args_kept (hO : Ok m) (r : PUnit × MemSt nD τ sig (Elt F)) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h c).2 main_arg0 (by decide : main_arg0 ∈ Pipeline.restRefs sig spec0), (h c).2 main_arg1 (by decide : main_arg1 ∈ Pipeline.restRefs sig spec0),
    ((h c).1 0).trans (((dats m hO 0 c).arrAt_in 0 rfl _).trans (A_eq m hO c 0)),
    ((h c).1 1).trans (((dats m hO 0 c).arrAt_in 1 rfl _).trans (A_eq m hO c 1)),
    ((h c).1 2).trans (((dats m hO 0 c).arrAt_in 2 rfl _).trans (A_eq m hO c 2)),
    ((h c).1 3).trans (((dats m hO 0 c).arrAt_in 3 rfl _).trans (A_eq m hO c 3)),
    ((h c).1 4).trans (((dats m hO 0 c).arrAt_in 4 rfl _).trans (A_eq m hO c 4)),
    ((h c).1 5).trans (((dats m hO 0 c).arrAt_in 5 rfl _).trans (A_eq m hO c 5)),
    ((h c).1 6).trans (((dats m hO 0 c).arrAt_in 6 rfl _).trans (A_eq m hO c 6))⟩

/-- The arguments end unchanged and every counter at zero, for any tables whose experts are in range. -/
theorem frame (hO : Ok m) : θ_run defs (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.sem = fun _ => 0) :=
  (θ_run defs _ _).mono (fun r h => ⟨fun c => args_kept m hO r h.1 c, h.2⟩) (run_main_quiescent m ρ hO)

end Cert.ExpertsIdeal.Exp

end
-- ==== Proof.Exp.Array.lean ====
/- The experts call's output array: block `n` of it is what the grid's point `n` leaves; and the table precondition. -/
module

public import proofs.«01_k».proof.Proof.Exp.Run
public import proofs.«01_k».proof.Proof.Gen.Pre_expert_range
public import Idealize.ShloMosaic.Lib.ReduceAll
public import Idealize.ShloMosaic.Lib.Pointwise
public import Idealize.ShloMosaic.Lib.Pipeline.Value

@[expose] public section

set_option maxRecDepth 16384

noncomputable section

namespace Cert.ExpertsIdeal.Exp

open Cert.ExpertsIdeal Cert.ExpertsIdeal.Gen
open Idealize.ShloMosaic Idealize.ShloMosaic.TcCoe Idealize.SL.Sem Idealize.ShloMosaic.WordCmp

variable {F : FTy → Type} [FloatOps F]

/-! ## The precondition -/

theorem lt32 (x : BitVec 32) (h1 : IntOp.cmpi .sge x 0#32 = 1#1) (h2 : IntOp.cmpi .slt x 32#32 = 1#1) : x.toNat < 32 := by
  rw [cmpi_sge_eq, ofBool_one] at h1
  rw [cmpi_slt_eq, ofBool_one] at h2
  have e0 : (0#32).toInt = 0 := by decide
  have e1 : (32#32).toInt = 32 := by decide
  rw [e0] at h1
  rw [e1] at h2
  rw [BitVec.toInt_eq_toNat_cond] at h1 h2
  have := x.isLt
  split at h1 <;> omega

open Cert.Pre_expert_range in
/-- The precondition says that every block's expert is one of the 32. -/
theorem range_of_pre (a0 : IVec S290 32) (a1 : IVec S1 32) (a2 : FVec F S74240x1024 .f32) (a3 : FVec F S32x1024x1024 .f32) (a4 : FVec F S32x1x1024 .f32)
    (a5 : FVec F S32x1024x1024 .f32) (a6 : FVec F S32x1x1024 .f32) (a7 : FVec F S32x1024x1024 .f32) (a8 : FVec F S32x1x1024 .f32)
    (h : Cert.Pre_expert_range.fn (F := F) a0 a1 a2 a3 a4 a5 a6 a7 a8 = fun _ => 1#1) (n : Fin 290) : (a0 (ix1 n)).toNat < 32 := by
  have h0 := congrFun h Idealize.ShloMosaic.ix0
  dsimp only [Cert.Pre_expert_range.fn] at h0
  haveI : Subsingleton S_.Idx := ⟨fun a b => funext fun k => k.elim0⟩
  have h1 := Host.reduce_andi_all _ _ _ _ _ h0 (ix1 n)
  have h2 : IntOp.andi (IntOp.cmpi .sge (a0 (ix1 n)) 0#32) (IntOp.cmpi .slt (a0 (ix1 n)) 32#32) = 1#1 := h1
  obtain ⟨p, q⟩ := IntOp.andi_eq_one.1 h2
  exact lt32 _ p q

variable (m : (ℓ : Loc nD τ sig) → Buf (Elt F) ℓ)

/-- Experts in range: every block the tables select lies inside its array. -/
theorem ok_of_range (h : ∀ n : Fin 290, (ex m n).toNat < 32) : Ok m := by
  have k : ∀ i : grid0.Coords, ∀ a, (cc0_transform_1 k0_off1_inb numel1_S1 (tbl m) i a + 1) * S1x1024x1024.size a ≤ S32x1024x1024.size a := fun i a => by
    rw [tr_eq]
    have := h (i 0)
    match a with
    | ⟨0, _⟩ => show ((ex m (i 0)).toNat + 1) * 1 ≤ 32; omega
    | ⟨1, _⟩ => show (0 + 1) * 1024 ≤ 1024; omega
    | ⟨2, _⟩ => show (0 + 1) * 1024 ≤ 1024; omega
  have k' : ∀ i : grid0.Coords, ∀ a, (cc0_transform_2 k0_off1_inb numel1_S1 (tbl m) i a + 1) * S1x1x1024.size a ≤ S32x1x1024.size a := fun i a => by
    show (cc0_transform_1 k0_off1_inb numel1_S1 (tbl m) i a + 1) * S1x1x1024.size a ≤ S32x1x1024.size a
    rw [tr_eq]
    have := h (i 0)
    match a with
    | ⟨0, _⟩ => show ((ex m (i 0)).toNat + 1) * 1 ≤ 32; omega
    | ⟨1, _⟩ => show (0 + 1) * 1 ≤ 1; omega
    | ⟨2, _⟩ => show (0 + 1) * 1024 ≤ 1024; omega
  exact ⟨fun i => ⟨k i, .inl rfl⟩, fun i => ⟨k' i, .inl rfl⟩, fun i => ⟨k i, .inl rfl⟩, fun i => ⟨k' i, .inl rfl⟩, fun i => ⟨k i, .inl rfl⟩, fun i => ⟨k' i, .inl rfl⟩⟩

/-! ## The array -/

/-- Block `n` through expert `e`. -/
def blockOut (x : Vec F S74240x1024 .f32) (wg : Vec F S32x1024x1024 .f32) (bg : Vec F S32x1x1024 .f32) (wu : Vec F S32x1024x1024 .f32)
    (bu : Vec F S32x1x1024 .f32) (wd : Vec F S32x1024x1024 .f32) (bd : Vec F S32x1x1024 .f32) (n : Fin 290) (e : Fin 32) : Vec F S256x1024 .f32 :=
  k0_pay5 (xOf x n) (k0_pay1 (wOf wg e)) (bOf bg e) (k0_pay2 (wOf wu e)) (bOf bu e) (k0_pay3 (wOf wd e)) (bOf bd e)

/-- What point `t` leaves, from the arguments. -/
def outN (hO : Ok m) (c : Dev nD) (n : Fin 290) : Vec F S256x1024 .f32 :=
  if Act m n then blockOut (m (c.tc.loc main_arg2)) (m (c.tc.loc main_arg3)) (m (c.tc.loc main_arg4)) (m (c.tc.loc main_arg5)) (m (c.tc.loc main_arg6))
    (m (c.tc.loc main_arg7)) (m (c.tc.loc main_arg8)) n (exI m hO n)
  else k0_pay4

theorem outAt_eq (hO : Ok m) (c : Dev nD) (t : Fin (cfgM m hO).N) : outAt m hO c t = outN m hO c (pt m hO t) := by
  unfold outAt outN blockOut
  rw [iblk_0, iblk_1, iblk_2, iblk_3, iblk_4, iblk_5, iblk_6]

/-- The whole result array. -/
def result (hO : Ok m) (c : Dev nD) : Vec F S74240x1024 .f32 := fun i =>
  outN m hO c ⟨(i 0).val / 256, by have h : (i 0).val < 74240 := (i 0).isLt; omega⟩ (ix2 ⟨(i 0).val % 256, Nat.mod_lt _ (by decide)⟩ (i 1))

theorem out_congr (hO : Ok m) (c : Dev nD) {n n' : Fin 290} (y : S256x1024.Idx) (r : Fin 256) (d : Fin 1024)
    (hn : n'.val = n.val) (hr : r.val = (y 0).val) (hd : d.val = (y 1).val) : outN m hO c n y = outN m hO c n' (ix2 r d) := by
  obtain rfl := Fin.ext hn
  congr 1
  funext a
  match a with
  | ⟨0, _⟩ => exact Fin.ext hr.symm
  | ⟨1, _⟩ => exact Fin.ext hd.symm

theorem flushed7 (hO : Ok m) (c : Dev nD) (t : Fin (cfgM m hO).N) :
    (dats m hO 0 c).flushed 7 t = ((cfgM m hO).win 7).cut (((pcfg0 (F := F)).gridAt (tbl m)).coords t) (outAt m hO c t) := by
  show ((cfgM m hO).win 7).cut _ ((dats m hO 0 c).after 7 t) = _
  rw [after_7]

theorem final (hO : Ok m) (c : Dev nD) : (dats m hO 0 c).arrAt 7 (cfgM m hO).N = result m hO c := by
  refine funext fun (i : S74240x1024.Idx) => ?_
  refine (dats m hO 0 c).arrAt_forall_of_cover 7 (fun i v => v = result m hO c i) (fun t _ (y : S256x1024.Idx) => ?_) (fun (i : S74240x1024.Idx) => ?_) i
  · rw [flushed7, outAt_eq]
    have h0 : (grid0.coords t 0).val < 290 := (grid0.coords t 0).isLt
    have y0 : (y 0).val < 256 := (y 0).isLt
    have y1 : (y 1).val < 1024 := (y 1).isLt
    have b0 : (BitVec.ofNat 32 (grid0.coords t 0).val).toNat = (grid0.coords t 0).val := by rw [BitVec.toNat_ofNat]; omega
    have z0 : (0#32).toNat = 0 := rfl
    refine out_congr m hO c y _ _ ?_ ?_ ?_
    · show ((BitVec.ofNat 32 (grid0.coords t 0).val).toNat * 256 + 1 * (y 0).val) / 256 = (grid0.coords t 0).val; omega
    · show ((BitVec.ofNat 32 (grid0.coords t 0).val).toNat * 256 + 1 * (y 0).val) % 256 = _; omega
    · show (0#32).toNat * 1024 + 1 * (y 1).val = _; omega
  · have i0 : (i 0 : Nat) < 74240 := (i 0).isLt
    have i1 : (i 1 : Nat) < 1024 := (i 1).isLt
    let t : Fin (cfgM m hO).N := ⟨(i 0 : Nat) / 256, by show (i 0 : Nat) / 256 < 290; omega⟩
    refine ⟨t, flush7 (adm m hO) t, ?_⟩
    have t0 : (grid0.coords t 0).val = (i 0 : Nat) / 256 := c0 t
    have b0 : (BitVec.ofNat 32 (grid0.coords t 0).val).toNat = (i 0 : Nat) / 256 := by rw [BitVec.toNat_ofNat, t0]; omega
    have z0 : (0#32).toNat = 0 := rfl
    show i ∈ ((View.whole main_v0).slice (((cfgM m hO).win 7).rect t)).set
    refine (congrArg (fun s => i ∈ s) (View.set_slice_whole _ _)).mpr (Rect.mem_set_unit.mpr ?_)
    intro a
    match a with
    | ⟨0, _⟩ => show (BitVec.ofNat 32 (grid0.coords t 0).val).toNat * 256 ≤ (i 0 : Nat) ∧ (i 0 : Nat) < (BitVec.ofNat 32 (grid0.coords t 0).val).toNat * 256 + 256; omega
    | ⟨1, _⟩ => show (0#32).toNat * 1024 ≤ (i 1 : Nat) ∧ (i 1 : Nat) < (0#32).toNat * 1024 + 1024; omega

end Cert.ExpertsIdeal.Exp

end
-- ==== Proof.Exp.Kern.lean ====
/- A block of the experts call at an index, over extended reals: the gated unit written with plain sums. -/
module

public import proofs.«01_k».proof.Proof.Exp.Array
public import Idealize.ShloMosaic.PureOps.Ideal.Laws

@[expose] public section

set_option maxRecDepth 16384

noncomputable section

namespace Cert.ExpertsIdeal.Exp

open Cert.ExpertsIdeal Cert.ExpertsIdeal.Gen Idealize.ShloMosaic

theorem zero_bits : Ideal.ofBits FTy.f32 0x00000000#32 = 0 := by simp [Ideal.ofBits, Ideal.ieee]
theorem one_bits : Ideal.ofBits FTy.f32 0x3F800000#32 = 1 := by
  simp [Ideal.ofBits, Ideal.ieee]; rw [← EReal.coe_mul]; norm_num

/-- Row `p` of the token buffer times column `f` of expert `e`'s matrix, plus its bias. -/
def lin (x : FVec Ideal S74240x1024 .f32) (w : FVec Ideal S32x1024x1024 .f32) (b : FVec Ideal S32x1x1024 .f32) (e : Fin 32) (p : Fin 74240) (f : Fin 1024) : EReal :=
  (∑ k : Fin 1024, x (ix2 p k) * w (ix3 e k f)) + b (ix3 e 0 f)

/-- The gate clipped above at 7, the other factor between -7 and 7: `g * logistic (1.702 g) * (u + 1)`. -/
def gated (g u : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) u) + Ideal.ofBits .f32 0x3F800000#32)

/-- The expert's output for row `p`. -/
def expert (x : FVec Ideal S74240x1024 .f32) (wg : FVec Ideal S32x1024x1024 .f32) (bg : FVec Ideal S32x1x1024 .f32) (wu : FVec Ideal S32x1024x1024 .f32)
    (bu : FVec Ideal S32x1x1024 .f32) (wd : FVec Ideal S32x1024x1024 .f32) (bd : FVec Ideal S32x1x1024 .f32) (e : Fin 32) (p : Fin 74240) (d : Fin 1024) : EReal :=
  (∑ f : Fin 1024, gated (lin x wg bg e p f) (lin x wu bu e p f) * wd (ix3 e f d)) + bd (ix3 e 0 d)

theorem pay5_at (x : FVec Ideal S256x1024 .f32) (w1 : FVec Ideal S1024x1024 .bf16) (b1 : FVec Ideal S1x1x1024 .f32) (w2 : FVec Ideal S1024x1024 .bf16)
    (b2 : FVec Ideal S1x1x1024 .f32) (w3 : FVec Ideal S1024x1024 .bf16) (b3 : FVec Ideal S1x1x1024 .f32) (r : Fin 256) (d : Fin 1024) :
    k0_pay5 (F := Ideal) x w1 b1 w2 b2 w3 b3 (ix2 r d)
      = (∑ f : Fin 1024, gated ((∑ k : Fin 1024, x (ix2 r k) * w1 (ix2 k f)) + b1 (ix3 0 0 f)) ((∑ k : Fin 1024, x (ix2 r k) * w2 (ix2 k f)) + b2 (ix3 0 0 f))
          * w3 (ix2 f d)) + b3 (ix3 0 0 d) := by
  unfold gated
  pointwise [k0_pay5]

theorem w1_at (w : FVec Ideal S32x1024x1024 .f32) (e : Fin 32) (k f : Fin 1024) : k0_pay1 (F := Ideal) (wOf w e) (ix2 k f) = w (ix3 e k f) := by
  pointwise [k0_pay1, wOf]
theorem w2_at (w : FVec Ideal S32x1024x1024 .f32) (e : Fin 32) (k f : Fin 1024) : k0_pay2 (F := Ideal) (wOf w e) (ix2 k f) = w (ix3 e k f) := by
  pointwise [k0_pay2, wOf]
theorem w3_at (w : FVec Ideal S32x1024x1024 .f32) (e : Fin 32) (k f : Fin 1024) : k0_pay3 (F := Ideal) (wOf w e) (ix2 k f) = w (ix3 e k f) := by
  pointwise [k0_pay3, wOf]

/-- A computed block at an index. -/
theorem blockOut_at (x : FVec Ideal S74240x1024 .f32) (wg : FVec Ideal S32x1024x1024 .f32) (bg : FVec Ideal S32x1x1024 .f32) (wu : FVec Ideal S32x1024x1024 .f32)
    (bu : FVec Ideal S32x1x1024 .f32) (wd : FVec Ideal S32x1024x1024 .f32) (bd : FVec Ideal S32x1x1024 .f32) (n : Fin 290) (e : Fin 32) (r : Fin 256) (d : Fin 1024) :
    blockOut (F := Ideal) x wg bg wu bu wd bd n e (ix2 r d) = expert x wg bg wu bu wd bd e ⟨256 * n.val + r.val, by omega⟩ d := by
  unfold blockOut
  rw [pay5_at]
  simp only [w1_at, w2_at, w3_at]
  rfl

theorem pay4_at (r : Fin 256) (d : Fin 1024) : k0_pay4 (F := Ideal) (ix2 r d) = 0 := zero_bits

end Cert.ExpertsIdeal.Exp
end
-- ==== Proof.Exp.Ref.lean ====
/- The experts reference at an index. -/
module

public import proofs.«01_k».proof.Proof.Exp.Kern
public import proofs.«01_k».proof.Proof.Gen.ExpertsRefIdeal.Read

@[expose] public section

set_option maxRecDepth 16384

noncomputable section

namespace Cert.ExpertsRefIdeal.Val

open Cert.ExpertsRefIdeal Cert.ExpertsRefIdeal.Gen Cert.ExpertsRefIdeal.Read Idealize.ShloMosaic
open Cert.ExpertsIdeal.Exp (lin gated expert zero_bits one_bits)

/-- A word below 32 is its own signed value. -/
theorem word_lt (b : BitVec 32) (h : b.toNat < 32) : b.toInt.toNat = b.toNat := by
  rw [BitVec.toInt_eq_toNat_of_lt (by omega)]; rfl

theorem wrap (b : BitVec 32) (h : b.toNat < 32) : Scalar.select (Scalar.cmpi .slt b 0#32) (Scalar.addi b 32#32) b = b := by
  have : Scalar.cmpi .slt b 0#32 = 0#1 := by
    refine (WordCmp.cmpi_slt_eq _ _).trans ?_
    have e : ¬ b.toInt < (0#32).toInt := by
      rw [BitVec.toInt_eq_toNat_of_lt (by omega)]; simp
    rw [decide_eq_false e]; rfl
  rw [this]; rfl

/-- A matrix gathered by the block's table entry. -/
theorem gatherW (w : FVec Ideal S32x1024x1024 .f32) (idx : IVec S290x1 32) (n : Fin 290) (k f : Fin 1024) (h : (idx (ix2 n 0)).toNat < 32) :
    Host.gather gather_S32x1024x1024_S290x1_S290x1024x1024_12_0_n_n_0_1_110241024 w idx (ix3 n k f) = w (ix3 ⟨(idx (ix2 n 0)).toNat, h⟩ k f) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    have hsi : ∀ q, gather_S32x1024x1024_S290x1_S290x1024x1024_12_0_n_n_0_1_110241024.siIdx (ix3 n k f) q = ix2 n 0 := fun q => by
      funext b; refine Fin.ext ?_
      match b with
      | ⟨0, _⟩ => rfl
      | ⟨1, _⟩ => exact congrArg Fin.val (Subsingleton.elim (α := Fin 1) _ _)
    refine Eq.trans (congrArg (fun q => q + 0 + 0) (show GatherDims.start _ _ _ _ = _ by unfold GatherDims.start; exact dif_pos (show (0 : Fin 3) ∈ ([0] : List (Fin 3)) by decide))) ?_
    rw [hsi, word_lt _ h]
    show min _ 31 + 0 + 0 = (idx (ix2 n 0)).toNat
    omega
  | ⟨1, _⟩ =>
    refine Eq.trans (congrArg (fun q => q + 0 + _) (show GatherDims.start _ _ _ _ = 0 by unfold GatherDims.start; exact dif_neg (show (1 : Fin 3) ∉ ([0] : List (Fin 3)) by decide))) ?_
    show 0 + 0 + k.val = k.val
    omega
  | ⟨2, _⟩ =>
    refine Eq.trans (congrArg (fun q => q + 0 + _) (show GatherDims.start _ _ _ _ = 0 by unfold GatherDims.start; exact dif_neg (show (2 : Fin 3) ∉ ([0] : List (Fin 3)) by decide))) ?_
    show 0 + 0 + f.val = f.val
    omega

/-- A bias gathered by the block's table entry. -/
theorem gatherB (w : FVec Ideal S32x1x1024 .f32) (idx : IVec S290x1 32) (n : Fin 290) (f : Fin 1024) (h : (idx (ix2 n 0)).toNat < 32) :
    Host.gather gather_S32x1x1024_S290x1_S290x1x1024_12_0_n_n_0_1_111024 w idx (ix3 n 0 f) = w (ix3 ⟨(idx (ix2 n 0)).toNat, h⟩ 0 f) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    have hsi : ∀ q, gather_S32x1x1024_S290x1_S290x1x1024_12_0_n_n_0_1_111024.siIdx (ix3 n 0 f) q = ix2 n 0 := fun q => by
      funext b; refine Fin.ext ?_
      match b with
      | ⟨0, _⟩ => rfl
      | ⟨1, _⟩ => exact congrArg Fin.val (Subsingleton.elim (α := Fin 1) _ _)
    refine Eq.trans (congrArg (fun q => q + 0 + 0) (show GatherDims.start _ _ _ _ = _ by unfold GatherDims.start; exact dif_pos (show (0 : Fin 3) ∈ ([0] : List (Fin 3)) by decide))) ?_
    rw [hsi, word_lt _ h]
    show min _ 31 + 0 + 0 = (idx (ix2 n 0)).toNat
    omega
  | ⟨1, _⟩ =>
    refine Eq.trans (congrArg (fun q => q + 0 + _) (show GatherDims.start _ _ _ _ = 0 by unfold GatherDims.start; exact dif_neg (show (1 : Fin 3) ∉ ([0] : List (Fin 3)) by decide))) ?_
    show 0 + 0 + 0 = 0
    omega
  | ⟨2, _⟩ =>
    refine Eq.trans (congrArg (fun q => q + 0 + _) (show GatherDims.start _ _ _ _ = 0 by unfold GatherDims.start; exact dif_neg (show (2 : Fin 3) ∉ ([0] : List (Fin 3)) by decide))) ?_
    show 0 + 0 + f.val = f.val
    omega

variable (x0 : IVec S290 32) (x1 : IVec S1 32) (x2 : FVec Ideal S74240x1024 .f32) (x3 : FVec Ideal S32x1024x1024 .f32) (x4 : FVec Ideal S32x1x1024 .f32)
  (x5 : FVec Ideal S32x1024x1024 .f32) (x6 : FVec Ideal S32x1x1024 .f32) (x7 : FVec Ideal S32x1024x1024 .f32) (x8 : FVec Ideal S32x1x1024 .f32)

theorem v6_at (n : Fin 290) (h : (x0 (ix1 n)).toNat < 32) : val_main_v6 (F := Ideal) x0 (ix2 n 0) = x0 (ix1 n) := by
  refine Eq.trans ?_ (wrap _ h)
  pointwise [val_main_v6, val_main_v5, val_main_v4, val_main_v3, val_main_v2, val_main_v1, val_main_c, val_main_c_0]
  rfl

/-- The six index arrays are the same one. -/
theorem v14_eq : val_main_v14 (F := Ideal) x0 = val_main_v6 (F := Ideal) x0 := rfl
theorem v23_eq : val_main_v23 (F := Ideal) x0 = val_main_v6 (F := Ideal) x0 := rfl
theorem v31_eq : val_main_v31 (F := Ideal) x0 = val_main_v6 (F := Ideal) x0 := rfl
theorem v55_eq : val_main_v55 (F := Ideal) x0 = val_main_v6 (F := Ideal) x0 := rfl
theorem v63_eq : val_main_v63 (F := Ideal) x0 = val_main_v6 (F := Ideal) x0 := rfl

/-- Row `r` of block `n` in the buffer. -/
abbrev tok (n : Fin 290) (r : Fin 256) : Fin 74240 := ⟨256 * n.val + r.val, by omega⟩

theorem v72_at (p : Fin 74240) (d : Fin 1024) :
    val_main_v72 (F := Ideal) x0 x1 x2 x3 x4 x5 x6 x7 x8 (ix2 p d)
      = val_main_v71 (F := Ideal) x0 x1 x2 x3 x4 x5 x6 x7 x8 (ix3 ⟨p.val / 256, by omega⟩ ⟨p.val % 256, by omega⟩ d) := by
  pointwise [val_main_v72]

variable (n : Fin 290) (h : (x0 (ix1 n)).toNat < 32)

theorem pickW (w : FVec Ideal S32x1024x1024 .f32) (k f : Fin 1024) :
    Host.gather gather_S32x1024x1024_S290x1_S290x1024x1024_12_0_n_n_0_1_110241024 w (val_main_v6 (F := Ideal) x0) (ix3 n k f)
      = w (ix3 ⟨(x0 (ix1 n)).toNat, h⟩ k f) := by
  have e := v6_at x0 n h
  rw [gatherW w _ n k f (by rw [e]; exact h)]
  exact congrArg (fun q => w (ix3 q k f)) (Fin.ext (congrArg BitVec.toNat e))

theorem pickB (w : FVec Ideal S32x1x1024 .f32) (f : Fin 1024) :
    Host.gather gather_S32x1x1024_S290x1_S290x1x1024_12_0_n_n_0_1_111024 w (val_main_v6 (F := Ideal) x0) (ix3 n 0 f)
      = w (ix3 ⟨(x0 (ix1 n)).toNat, h⟩ 0 f) := by
  have e := v6_at x0 n h
  rw [gatherB w _ n f (by rw [e]; exact h)]
  exact congrArg (fun q => w (ix3 q 0 f)) (Fin.ext (congrArg BitVec.toNat e))

theorem v0_at (r : Fin 256) (k : Fin 1024) : val_main_v0 (F := Ideal) x2 (ix3 n r k) = x2 (ix2 (tok n r) k) := by
  pointwise [val_main_v0]
  exact congrArg (fun q => x2 (ix2 q k)) (Fin.ext (by show n.val * 256 + r.val = 256 * n.val + r.val; omega))

theorem v17_at (r : Fin 256) (f : Fin 1024) :
    val_main_v17 (F := Ideal) x0 x2 x3 x4 (ix3 n r f) = lin x2 x3 x4 ⟨(x0 (ix1 n)).toNat, h⟩ (tok n r) f := by
  unfold lin
  pointwise [val_main_v17, val_main_v8, val_main_v16, val_main_v7, val_main_v15]
  simp only [v14_eq, pickW x0 n h, pickB x0 n h, v0_at]

theorem v34_at (r : Fin 256) (f : Fin 1024) :
    val_main_v34 (F := Ideal) x0 x2 x5 x6 (ix3 n r f) = lin x2 x5 x6 ⟨(x0 (ix1 n)).toNat, h⟩ (tok n r) f := by
  unfold lin
  pointwise [val_main_v34, val_main_v25, val_main_v33, val_main_v24, val_main_v32]
  simp only [v23_eq, v31_eq, pickW x0 n h, pickB x0 n h, v0_at]

theorem v49_at (r : Fin 256) (f : Fin 1024) :
    val_main_v49 (F := Ideal) x0 x2 x3 x4 x5 x6 (ix3 n r f)
      = gated (val_main_v17 (F := Ideal) x0 x2 x3 x4 (ix3 n r f)) (val_main_v34 (F := Ideal) x0 x2 x5 x6 (ix3 n r f)) := by
  unfold gated Ideal.logistic
  rw [← one_bits]
  pointwise [val_main_v49, val_main_v46, val_main_v48, val_main_v45, val_main_v47, val_main_v44, val_main_v43, val_main_v42, val_main_v41, val_main_v40,
    val_main_v39, val_main_v38, val_main_v37, val_main_call0_v4, val_main_call0_v3, val_main_call0_v2, val_main_call0_v1, val_main_call0_v0, val_main_v36,
    val_main_v35, val_main_cst, val_main_cst_7, val_main_cst_8, val_main_cst_9, val_main_cst_10, val_main_cst_11, val_main_cst_12]
  rfl

theorem v66_at (r : Fin 256) (d : Fin 1024) :
    val_main_v66 (F := Ideal) x0 x2 x3 x4 x5 x6 x7 x8 (ix3 n r d) = expert x2 x3 x4 x5 x6 x7 x8 ⟨(x0 (ix1 n)).toNat, h⟩ (tok n r) d := by
  unfold expert
  pointwise [val_main_v66, val_main_v57, val_main_v65, val_main_v56, val_main_v64]
  simp only [v55_eq, v63_eq, pickW x0 n h, pickB x0 n h, v49_at, v17_at x0 x2 x3 x4 n h, v34_at x0 x2 x5 x6 n h]

/-- A block below the number in use holds its expert's output, any other block zeros. -/
theorem v71_at (r : Fin 256) (d : Fin 1024) :
    val_main_v71 (F := Ideal) x0 x1 x2 x3 x4 x5 x6 x7 x8 (ix3 n r d)
      = if (BitVec.ofNat 32 n.val).toInt < (x1 (ix1 0)).toInt then expert x2 x3 x4 x5 x6 x7 x8 ⟨(x0 (ix1 n)).toNat, h⟩ (tok n r) d else 0 := by
  rw [← v66_at x0 x2 x3 x4 x5 x6 x7 x8 n h r d]
  have e : val_main_call1_v1 (F := Ideal) x1 (ix3 n r d) = Scalar.cmpi .slt (BitVec.ofNat 32 n.val) (x1 (ix1 0)) := by
    pointwise [val_main_call1_v1, val_main_v70, val_main_v69, val_main_v68, val_main_v67]
    rfl
  have z : val_main_call1_v2 (F := Ideal) (ix3 n r d) = 0 := by
    pointwise [val_main_call1_v2, val_main_call1_v0, val_main_cst_17]
    exact zero_bits
  rw [val_main_v71_apply, e, z, show Scalar.cmpi .slt (BitVec.ofNat 32 n.val) (x1 (ix1 0)) = _ from WordCmp.cmpi_slt_eq _ _]
  by_cases hc : (BitVec.ofNat 32 n.val).toInt < (x1 (ix1 0)).toInt
  · simp only [hc, if_true]; rfl
  · simp only [hc, if_false]; rfl

end Cert.ExpertsRefIdeal.Val
end
-- ==== Proof.Exp.Claim.lean ====
/- The claims of the experts call: its frames over extended reals and over floats, and the equation of the two runs. -/
module

public import proofs.«01_k».proof.Proof.Exp.Ref
public import proofs.«01_k».proof.Proof.Gen.ExpertsRefIdeal.Run
public import proofs.«01_k».proof.Proof.Gen.Experts
public import proofs.«01_k».proof.Defs
public import Idealize.ShloMosaic.Lib.Quiescent

@[expose] public section

set_option maxRecDepth 16384

noncomputable section

namespace Cert.ExpertsIdeal.Exp

open Idealize.ShloMosaic Idealize.SL.Sem

theorem frame_ideal : Cert.quiescent_ExpertsIdeal := fun m g h =>
  frame m g (ok_of_range m fun n => range_of_pre _ _ _ _ _ _ _ _ _ (h 0) n)

section Bits
variable {F : FTy → Type} [FloatOps F]

/-- The program over floats has the same body as the one over extended reals, name by name. -/
theorem defs₀_eq : @Cert.Experts.defs₀ F _ _ = @Cert.ExpertsIdeal.defs₀ F _ _ := by
  unfold Cert.Experts.defs₀ Cert.ExpertsIdeal.defs₀
  refine congrArg (Defs.onTc (sig := Cert.ExpertsIdeal.sig) (Λ := Cert.ExpertsIdeal.Λ₀)) ?_
  funext l a
  match l, a with
  | 0, (t, s) => rfl

theorem defs_eq : @Cert.Experts.defs F _ _ = @Cert.ExpertsIdeal.defs F _ _ :=
  congrArg (Pipeline.defs (@Cert.ExpertsIdeal.pcfgs F _ _)) defs₀_eq

/-- So the frame proved for both carriers is the frame of the program over floats. -/
theorem frame_bits : Cert.quiescent_Experts := fun m g h => by
  have e := frame (F := Bits) m g (ok_of_range (F := Bits) m fun n => range_of_pre (F := Bits) _ _ _ _ _ _ _ _ _ (h 0) n)
  rw [← defs_eq] at e
  exact e

end Bits

theorem ref_frame : Cert.quiescent_ExpertsRefIdeal := fun m g _ =>
  θ_run_mono (Cert.ExpertsRefIdeal.Value.run m g) fun r h => ⟨fun c => (h c).2, sem_eq_zero_of_no_sems (by decide) r.2⟩

variable (m : (ℓ : Loc nD τ sig) → Buf (Elt Ideal) ℓ)

/-- The kernel's result array is the reference's. -/
theorem array_eq (hO : Ok m) (c : Dev nD) :
    result m hO c = Cert.ExpertsRefIdeal.Read.val_main_v72 (F := Ideal) (m (c.tc.loc main_arg0)) (m (c.tc.loc main_arg1)) (m (c.tc.loc main_arg2))
      (m (c.tc.loc main_arg3)) (m (c.tc.loc main_arg4)) (m (c.tc.loc main_arg5)) (m (c.tc.loc main_arg6)) (m (c.tc.loc main_arg7)) (m (c.tc.loc main_arg8)) := by
  obtain rfl : c = 0 := Subsingleton.elim _ _
  funext i
  obtain ⟨p, d, rfl⟩ : ∃ (p : Fin 74240) (d : Fin 1024), i = ix2 p d := ⟨i 0, i 1, eq_ix2 i⟩
  have hn : p.val / 256 < 290 := by omega
  rw [Cert.ExpertsRefIdeal.Val.v72_at]
  refine Eq.trans ?_ (Cert.ExpertsRefIdeal.Val.v71_at _ _ _ _ _ _ _ _ _ ⟨p.val / 256, hn⟩ (ex_lt m hO ⟨p.val / 256, hn⟩) _ d).symm
  show outN m hO 0 ⟨p.val / 256, hn⟩ (ix2 ⟨p.val % 256, _⟩ d) = _
  unfold outN
  by_cases h : Act m ⟨p.val / 256, hn⟩
  · rw [if_pos h]
    refine Eq.trans ?_ (if_pos h).symm
    exact blockOut_at _ _ _ _ _ _ _ _ _ _ _
  · rw [if_neg h]
    refine Eq.trans ?_ (if_neg h).symm
    exact pay4_at _ _

/-- The claimed equation of the two runs. -/
theorem algebraic : Cert.algebraic_ExpertsIdeal_ExpertsRefIdeal := by
  intro m g m' g' hpre hargs
  have hO : Ok m := ok_of_range m fun n => range_of_pre _ _ _ _ _ _ _ _ _ (hpre 0) n
  refine ⟨fun c => result m hO c, ?_, ?_⟩
  · refine θ_run_mono (run_main_quiescent m g hO) (fun r h c => ?_)
    exact ⟨((h.1 c).1 7).trans (final m hO c), args_kept m hO r h.1 c⟩
  · refine θ_run_mono (Cert.ExpertsRefIdeal.Value.run m' g') (fun r h c => ?_)
    obtain ⟨h0, h1⟩ := h c
    refine ⟨h0.trans ?_, h1⟩
    rw [Cert.ExpertsRefIdeal.Read.val_main_v72_eq]
    obtain ⟨e0, e1, e2, e3, e4, e5, e6, e7, e8⟩ := hargs c
    rw [e0, e1, e2, e3, e4, e5, e6, e7, e8]
    exact (array_eq m hO c).symm

end Cert.ExpertsIdeal.Exp
end
-- ==== Proof.Inp.Rope.lean ====
/- Rotary embedding on four blocks of 128 lanes (two heads each), by lane rotations and three tables, read at an index;
   and its equality with the pairwise rotation of each head's first sixteen lanes. -/
module

public import Idealize.ShloMosaic.Lib.Pointwise
public import Idealize.ShloMosaic.PureOps.Ideal.Laws

@[expose] public section

set_option maxRecDepth 16384

noncomputable section

namespace Cert.Inp

open Idealize.ShloMosaic

/-- A matrix of extended reals. -/
abbrev M (n k : ℕ) : Type := FVec Ideal ⟨2, ![n, k]⟩ .f32

section
variable {n : ℕ}

/-- Two heads' lanes with the three tables: each lane, the lane eight above and the lane eight below. -/
def lanes (p c sa sb : M n 128) (h : (⟨2, ![n, 128]⟩ : Shape).Rotates 1 none) : M n 128 :=
  addf (addf (mulf p c) (mulf (dynamicRotate 1 120#32 none p h) sa)) (mulf (dynamicRotate 1 8#32 none p h) sb)

theorem rotate_at (p : M n 128) (k : BitVec 32) (h : (⟨2, ![n, 128]⟩ : Shape).Rotates 1 none) (r : Fin n) (q : Fin 128) :
    dynamicRotate 1 k none p h (ix2 r q) = p (ix2 r ⟨(q.val + 128 - k.toNat % 128) % 128, Nat.mod_lt _ (by decide)⟩) := by
  unfold dynamicRotate
  refine congrArg p (funext fun b => ?_)
  match b with
  | ⟨0, _⟩ => rfl
  | ⟨1, _⟩ => rfl

theorem lanes_at (p c sa sb : M n 128) (h : (⟨2, ![n, 128]⟩ : Shape).Rotates 1 none) (r : Fin n) (q : Fin 128) :
    lanes p c sa sb h (ix2 r q) = p (ix2 r q) * c (ix2 r q) + p (ix2 r ⟨(q.val + 8) % 128, Nat.mod_lt _ (by decide)⟩) * sa (ix2 r q)
      + p (ix2 r ⟨(q.val + 120) % 128, Nat.mod_lt _ (by decide)⟩) * sb (ix2 r q) := by
  show p (ix2 r q) * c (ix2 r q) + dynamicRotate 1 120#32 none p h (ix2 r q) * sa (ix2 r q) + dynamicRotate 1 8#32 none p h (ix2 r q) * sb (ix2 r q) = _
  rw [rotate_at, rotate_at]
  rfl

/-- The 512 lanes by their four blocks. -/
def heads (p : M n 512) (c sa sb : M n 128) (h : (⟨2, ![n, 128]⟩ : Shape).Rotates 1 none)
    (s0 : (⟨2, ![n, 512]⟩ : Shape).Slices ![0, 0] ⟨2, ![n, 128]⟩) (s1 : (⟨2, ![n, 512]⟩ : Shape).Slices ![0, 128] ⟨2, ![n, 128]⟩)
    (s2 : (⟨2, ![n, 512]⟩ : Shape).Slices ![0, 256] ⟨2, ![n, 128]⟩) (s3 : (⟨2, ![n, 512]⟩ : Shape).Slices ![0, 384] ⟨2, ![n, 128]⟩)
    (k : Shape.Concatenates [(⟨2, ![n, 128]⟩ : Shape), ⟨2, ![n, 128]⟩, ⟨2, ![n, 128]⟩, ⟨2, ![n, 128]⟩] ⟨2, ![n, 512]⟩ 1) : M n 512 :=
  concatenate ⟨2, ![n, 512]⟩ 1
    [⟨⟨2, ![n, 128]⟩, lanes (extractStridedSlice ⟨2, ![n, 128]⟩ ![0, 0] p s0) c sa sb h⟩,
     ⟨⟨2, ![n, 128]⟩, lanes (extractStridedSlice ⟨2, ![n, 128]⟩ ![0, 128] p s1) c sa sb h⟩,
     ⟨⟨2, ![n, 128]⟩, lanes (extractStridedSlice ⟨2, ![n, 128]⟩ ![0, 256] p s2) c sa sb h⟩,
     ⟨⟨2, ![n, 128]⟩, lanes (extractStridedSlice ⟨2, ![n, 128]⟩ ![0, 384] p s3) c sa sb h⟩] k

/-- Lane `l` of row `r` from the row `f` and the tables' entries. -/
def mix (f : Fin 512 → EReal) (c sa sb : Fin 128 → EReal) (l : Fin 512) : EReal :=
  f l * c ⟨l.val % 128, Nat.mod_lt _ (by decide)⟩
    + f ⟨l.val / 128 * 128 + (l.val % 128 + 8) % 128, by omega⟩ * sa ⟨l.val % 128, Nat.mod_lt _ (by decide)⟩
    + f ⟨l.val / 128 * 128 + (l.val % 128 + 120) % 128, by omega⟩ * sb ⟨l.val % 128, Nat.mod_lt _ (by decide)⟩

theorem block_at (p : M n 512) (c sa sb : M n 128) (h : (⟨2, ![n, 128]⟩ : Shape).Rotates 1 none) (o : ℕ) (ho : o % 128 = 0)
    (s : (⟨2, ![n, 512]⟩ : Shape).Slices ![0, o] ⟨2, ![n, 128]⟩) (r : Fin n) (l : Fin 512) (q : Fin 128) (hq : l.val = o + q.val) :
    lanes (extractStridedSlice ⟨2, ![n, 128]⟩ ![0, o] p s) c sa sb h (ix2 r q)
      = mix (fun l => p (ix2 r l)) (fun q => c (ix2 r q)) (fun q => sa (ix2 r q)) (fun q => sb (ix2 r q)) l := by
  have e : ∀ (q' : Fin 128) (l' : Fin 512), l'.val = o + q'.val → extractStridedSlice ⟨2, ![n, 128]⟩ ![0, o] p s (ix2 r q') = p (ix2 r l') := fun q' l' hl => by
    refine congrArg p (funext fun b => ?_)
    match b with
    | ⟨0, _⟩ => exact Fin.ext (Nat.zero_add _)
    | ⟨1, _⟩ => exact Fin.ext hl.symm
  rw [lanes_at]
  have hl := l.isLt
  unfold mix
  rw [e q l hq, e _ ⟨l.val / 128 * 128 + (l.val % 128 + 8) % 128, by omega⟩ (by show l.val / 128 * 128 + (l.val % 128 + 8) % 128 = o + (q.val + 8) % 128; omega),
    e _ ⟨l.val / 128 * 128 + (l.val % 128 + 120) % 128, by omega⟩ (by show l.val / 128 * 128 + (l.val % 128 + 120) % 128 = o + (q.val + 120) % 128; omega)]
  have hm : (⟨l.val % 128, Nat.mod_lt _ (by decide)⟩ : Fin 128) = q := Fin.ext (by show l.val % 128 = q.val; omega)
  rw [hm]

theorem heads_at (p : M n 512) (c sa sb : M n 128) (h s0 s1 s2 s3 k) (r : Fin n) (l : Fin 512) :
    heads p c sa sb h s0 s1 s2 s3 k (ix2 r l)
      = mix (fun l => p (ix2 r l)) (fun q => c (ix2 r q)) (fun q => sa (ix2 r q)) (fun q => sb (ix2 r q)) l := by
  unfold heads
  have key : ∀ (o : ℕ) (ho : o % 128 = 0) (s : (⟨2, ![n, 512]⟩ : Shape).Slices ![0, o] ⟨2, ![n, 128]⟩) (i : (⟨2, ![n, 128]⟩ : Shape).Idx)
      (h0 : (i 0).val = r.val) (h1 : l.val = o + (i 1).val), lanes (extractStridedSlice ⟨2, ![n, 128]⟩ ![0, o] p s) c sa sb h i
        = mix (fun l => p (ix2 r l)) (fun q => c (ix2 r q)) (fun q => sa (ix2 r q)) (fun q => sb (ix2 r q)) l := fun o ho s i h0 h1 => by
    have hi : i = ix2 r (i 1) := funext fun b => match b with
      | ⟨0, _⟩ => Fin.ext h0
      | ⟨1, _⟩ => rfl
    rw [hi]
    exact block_at p c sa sb h o ho s r l (i 1) h1
  pointwise
  split
  · exact key 0 rfl s0 _ rfl (Nat.zero_add _).symm
  · split
    · exact key 128 rfl s1 _ rfl (by show l.val = 128 + (l.val - 128); omega)
    · split
      · exact key 256 rfl s2 _ rfl (by show l.val = 256 + (l.val - 128 - 128); omega)
      · exact key 384 rfl s3 _ rfl (by show l.val = 384 + (l.val - 128 - 128 - 128); omega)
end

/-! ## The three tables and the rotation they make -/

/-- The table of cosines: both halves of a head's first sixteen lanes, one elsewhere. -/
def cosOf (c : Fin 8 → EReal) (q : Fin 128) : EReal :=
  if h : q.val % 64 < 8 then c ⟨q.val % 64, h⟩ else if h' : q.val % 64 < 16 then c ⟨q.val % 64 - 8, by omega⟩ else 1

/-- Minus the sines on a head's first eight lanes, zero elsewhere. -/
def negOf (s : Fin 8 → EReal) (q : Fin 128) : EReal :=
  if h : q.val % 64 < 8 then -s ⟨q.val % 64, h⟩ else 0

/-- The sines on a head's lanes eight to fifteen, zero elsewhere. -/
def sinOf (s : Fin 8 → EReal) (q : Fin 128) : EReal :=
  if h : q.val % 64 < 8 then 0 else if h' : q.val % 64 < 16 then s ⟨q.val % 64 - 8, by omega⟩ else 0

/-- A head's first sixteen lanes rotated in pairs eight apart, the others as they are. -/
def rot (f : Fin 512 → EReal) (c s : Fin 8 → EReal) (l : Fin 512) : EReal :=
  if h : l.val % 64 < 8 then f l * c ⟨l.val % 64, h⟩ - f ⟨l.val + 8, by omega⟩ * s ⟨l.val % 64, h⟩
  else if h' : l.val % 64 < 16 then f l * c ⟨l.val % 64 - 8, by omega⟩ + f ⟨l.val - 8, by omega⟩ * s ⟨l.val % 64 - 8, by omega⟩
  else f l

/-- The rotation spelt by head `h` and lane `d` of it. -/
theorem rot_head (f : Fin 512 → EReal) (c s : Fin 8 → EReal) (h : Fin 8) (d : Fin 64) :
    (if h1 : d.val < 8 then f ⟨h.val * 64 + d.val, by omega⟩ * c ⟨d.val, h1⟩ - f ⟨h.val * 64 + (8 + d.val), by omega⟩ * s ⟨d.val, h1⟩
      else if h2 : d.val - 8 < 8 then f ⟨h.val * 64 + (8 + (d.val - 8)), by omega⟩ * c ⟨d.val - 8, h2⟩ + f ⟨h.val * 64 + (d.val - 8), by omega⟩ * s ⟨d.val - 8, h2⟩
      else f ⟨h.val * 64 + (16 + (d.val - 8 - 8)), by omega⟩) = rot f c s ⟨64 * h.val + d.val, by omega⟩ := by
  have e : (64 * h.val + d.val) % 64 = d.val := by omega
  have e1 : h.val * 64 = 64 * h.val := Nat.mul_comm _ _
  unfold rot
  simp only [e, e1]
  by_cases h1 : d.val < 8
  · have e2 : 64 * h.val + (8 + d.val) = 64 * h.val + d.val + 8 := by omega
    simp only [dif_pos h1, e2]
  · by_cases h2 : d.val < 16
    · have e3 : 64 * h.val + (8 + (d.val - 8)) = 64 * h.val + d.val := by omega
      have e4 : 64 * h.val + (d.val - 8) = 64 * h.val + d.val - 8 := by omega
      simp only [dif_neg h1, dif_pos h2, dif_pos (show d.val - 8 < 8 by omega), e3, e4]
    · have e5 : 64 * h.val + (16 + (d.val - 8 - 8)) = 64 * h.val + d.val := by omega
      simp only [dif_neg h1, dif_neg h2, dif_neg (show ¬d.val - 8 < 8 by omega), e5]

theorem mix_eq (f : Fin 512 → EReal) (c s : Fin 8 → EReal) (l : Fin 512) :
    mix f (cosOf c) (negOf s) (sinOf s) l = rot f c s l := by
  have e : l.val % 128 % 64 = l.val % 64 := by omega
  unfold mix cosOf negOf sinOf rot
  simp only [e]
  by_cases h : l.val % 64 < 8
  · simp only [dif_pos h, mul_zero, add_zero, mul_neg, ← sub_eq_add_neg]
    have i : (⟨l.val / 128 * 128 + (l.val % 128 + 8) % 128, by omega⟩ : Fin 512) = ⟨l.val + 8, by omega⟩ :=
      Fin.ext (by show l.val / 128 * 128 + (l.val % 128 + 8) % 128 = l.val + 8; omega)
    rw [i]
  · by_cases h' : l.val % 64 < 16
    · simp only [dif_neg h, dif_pos h', mul_zero, add_zero]
      have i : (⟨l.val / 128 * 128 + (l.val % 128 + 120) % 128, by omega⟩ : Fin 512) = ⟨l.val - 8, by omega⟩ :=
        Fin.ext (by show l.val / 128 * 128 + (l.val % 128 + 120) % 128 = l.val - 8; omega)
      rw [i]
    · simp only [dif_neg h, dif_neg h', mul_zero, add_zero, mul_one]

/-! ## The normalised row and its projection -/

/-- Entry `k` of the row `x` over its root mean square, times its gain. -/
def nrm (x g : Fin 1024 → EReal) (k : Fin 1024) : EReal :=
  x k * Ideal.rsqrt (Ideal.div (∑ j : Fin 1024, x j * x j) (Ideal.ofBits .f32 0x44800000#32) + Ideal.ofBits .f32 0x3727C5AC#32) * g k

/-- Column `l` of section `s` of the projection of the normalised row. -/
def sec (x g : Fin 1024 → EReal) (w : Fin 1024 → Fin 3072 → EReal) (s : Fin 6) (l : Fin 512) : EReal :=
  ∑ k : Fin 1024, nrm x g k * w k ⟨512 * s.val + l.val, by omega⟩

/-- The angle of pair `j` at the position `z`: the position times `500000 ^ (-j / 8)`. -/
def angle (z : BitVec 32) (j : Fin 8) : EReal :=
  FloatOps.sitofp (F := Ideal) FTy.f32 z
    * Ideal.pow (Ideal.ofBits .f32 0x48F42400#32) (-FloatOps.sitofp (F := Ideal) FTy.f32 (BitVec.ofNat 32 j.val) * Ideal.ofBits .f32 0x3E000000#32)

/-- Column `l` of section `s` at the position `z`: queries and keys (sections 0, 1, 3 and 4) rotated, values as they are. -/
def out (x g : Fin 1024 → EReal) (w : Fin 1024 → Fin 3072 → EReal) (z : BitVec 32) (s : Fin 6) (l : Fin 512) : EReal :=
  if s = 2 ∨ s = 5 then sec x g w s l
  else rot (sec x g w s) (fun j => Ideal.cos (angle z j)) (fun j => Ideal.sin (angle z j)) l

theorem out_rot (x g : Fin 1024 → EReal) (w : Fin 1024 → Fin 3072 → EReal) (z : BitVec 32) (s : Fin 6) (l : Fin 512) (h : ¬(s = 2 ∨ s = 5)) :
    out x g w z s l = rot (sec x g w s) (fun j => Ideal.cos (angle z j)) (fun j => Ideal.sin (angle z j)) l := if_neg h

theorem out_sec (x g : Fin 1024 → EReal) (w : Fin 1024 → Fin 3072 → EReal) (z : BitVec 32) (s : Fin 6) (l : Fin 512) (h : s = 2 ∨ s = 5) :
    out x g w z s l = sec x g w s l := if_pos h

theorem zero_bits : Ideal.ofBits FTy.f32 0x00000000#32 = 0 := by simp [Ideal.ofBits, Ideal.ieee]

theorem one_bits : Ideal.ofBits FTy.f32 0x3F800000#32 = 1 := by
  simp [Ideal.ofBits, Ideal.ieee]; rw [← EReal.coe_mul]; norm_num

end Cert.Inp
-- ==== Proof.Inp.Host.lean ====
/- The prompt's host lines before the call: the three rotary tables and the projection matrix in the narrower float. -/
module

public import proofs.«01_k».proof.Proof.Inp.Rope
public import proofs.«01_k».proof.Proof.Gen.InProjIdeal.Frame

@[expose] public section

set_option maxRecDepth 16384

noncomputable section

namespace Cert.Inp.Kern

open Cert.InProjIdeal Cert.InProjIdeal.Gen Idealize.ShloMosaic Idealize.ShloMosaic.TcCoe Idealize.SL.Sem

variable (m : (ℓ : Loc nD τ sig) → Buf (Elt Ideal) ℓ)

/-- The matrix the call reads is the argument. -/
theorem V_w (c : Dev nD) (k : Fin 1024) (l : Fin 3072) :
    (V m c main_v0 : FVec Ideal S1024x3072 .bf16) (ix2 k l) = (m ((c : Thread nD τ).loc main_arg2) : FVec Ideal S1024x3072 .f32) (ix2 k l) := by
  unfold_abbrev_sides
  after_results
  rfl

/-- The table of cosines at position `t`. -/
theorem V_cos (c : Dev nD) (t : Fin 2048) (q : Fin 128) :
    (V m c main_v26 : FVec Ideal S2048x128 .f32) (ix2 t q) = cosOf (fun j => Ideal.cos (angle (BitVec.ofNat 32 t.val) j)) q := by
  unfold angle cosOf
  unfold_abbrev_sides
  after_results
  pointwise
  by_cases h : q.val % 64 < 8
  · rw [dif_pos h, dif_pos h]
    refine (congrFun (StableHlo.unary_result_ne (τ := τ) (Val := Elt Ideal) (y := main_v16) (r := main_v14) (h := by decide) ..) _).trans ?_
    refine (congrFun (StableHlo.nullary_result_ne (τ := τ) (Val := Elt Ideal) (y := main_cst_1) (r := main_v14) (h := by decide) ..) _).trans ?_
    refine (congrFun (StableHlo.unary_result_ne (τ := τ) (Val := Elt Ideal) (y := main_v15) (r := main_v14) (h := by decide) ..) _).trans ?_
    refine (congrFun (StableHlo.unary_result (τ := τ) (Val := Elt Ideal) main_v13 main_v14 _ _ _ _) _).trans ?_
    simp only [↓ StableHlo.readResult, ↓ StableHlo.readPieces, -eq_self]
    pointwise
  · rw [dif_neg h, dif_neg h]
    by_cases h' : q.val % 64 < 16
    · rw [dif_pos h', dif_pos (show q.val % 64 - 8 < 8 by omega)]
      refine (congrFun (StableHlo.unary_result_ne (τ := τ) (Val := Elt Ideal) (y := main_v16) (r := main_v14) (h := by decide) ..) _).trans ?_
      refine (congrFun (StableHlo.nullary_result_ne (τ := τ) (Val := Elt Ideal) (y := main_cst_1) (r := main_v14) (h := by decide) ..) _).trans ?_
      refine (congrFun (StableHlo.unary_result_ne (τ := τ) (Val := Elt Ideal) (y := main_v15) (r := main_v14) (h := by decide) ..) _).trans ?_
      refine (congrFun (StableHlo.unary_result (τ := τ) (Val := Elt Ideal) main_v13 main_v14 _ _ _ _) _).trans ?_
      simp only [↓ StableHlo.readResult, ↓ StableHlo.readPieces, -eq_self]
      pointwise
    · refine (dif_neg (show ¬q.val % 64 - 8 < 8 by omega)).trans (Eq.trans ?_ (dif_neg h').symm)
      refine (congrFun (StableHlo.unary_result (τ := τ) (Val := Elt Ideal) main_cst_1 main_v16 _ _ _ _) _).trans ?_
      exact (congrFun (StableHlo.nullary_result (τ := τ) (Val := Elt Ideal) main_cst_1 _ _ _) _).trans one_bits

/-- The table of the sines negated. -/
theorem V_neg (c : Dev nD) (t : Fin 2048) (q : Fin 128) :
    (V m c main_v29 : FVec Ideal S2048x128 .f32) (ix2 t q) = negOf (fun j => Ideal.sin (angle (BitVec.ofNat 32 t.val) j)) q := by
  unfold angle negOf
  unfold_abbrev_sides
  after_results
  pointwise

/-- The table of the sines. -/
theorem V_sin (c : Dev nD) (t : Fin 2048) (q : Fin 128) :
    (V m c main_v32 : FVec Ideal S2048x128 .f32) (ix2 t q) = sinOf (fun j => Ideal.sin (angle (BitVec.ofNat 32 t.val) j)) q := by
  unfold angle sinOf
  unfold_abbrev_sides
  after_results
  pointwise
  by_cases h : q.val % 64 < 8
  · rw [dif_pos h, dif_pos h]
    refine (congrFun (StableHlo.unary_result_ne (τ := τ) (Val := Elt Ideal) (y := main_v22) (r := main_v21) (h := by decide) ..) _).trans ?_
    refine (congrFun (StableHlo.nullary_result_ne (τ := τ) (Val := Elt Ideal) (y := main_cst_4) (r := main_v21) (h := by decide) ..) _).trans ?_
    refine (congrFun (StableHlo.unary_result (τ := τ) (Val := Elt Ideal) main_cst_3 main_v21 _ _ _ _) _).trans ?_
    exact (congrFun (StableHlo.nullary_result (τ := τ) (Val := Elt Ideal) main_cst_3 _ _ _) _).trans zero_bits
  · rw [dif_neg h, dif_neg h]
    by_cases h' : q.val % 64 < 16
    · rw [dif_pos h', dif_pos (show q.val % 64 - 8 < 8 by omega)]
      refine (congrFun (StableHlo.unary_result_ne (τ := τ) (Val := Elt Ideal) (y := main_v22) (r := main_v15) (h := by decide) ..) _).trans ?_
      refine (congrFun (StableHlo.nullary_result_ne (τ := τ) (Val := Elt Ideal) (y := main_cst_4) (r := main_v15) (h := by decide) ..) _).trans ?_
      refine (congrFun (StableHlo.unary_result_ne (τ := τ) (Val := Elt Ideal) (y := main_v21) (r := main_v15) (h := by decide) ..) _).trans ?_
      refine (congrFun (StableHlo.nullary_result_ne (τ := τ) (Val := Elt Ideal) (y := main_cst_3) (r := main_v15) (h := by decide) ..) _).trans ?_
      refine (congrFun (StableHlo.binary_result_ne (τ := τ) (Val := Elt Ideal) (y := main_v20) (r := main_v15) (h := by decide) ..) _).trans ?_
      refine (congrFun (StableHlo.unary_result_ne (τ := τ) (Val := Elt Ideal) (y := main_v19) (r := main_v15) (h := by decide) ..) _).trans ?_
      refine (congrFun (StableHlo.nullary_result_ne (τ := τ) (Val := Elt Ideal) (y := main_cst_2) (r := main_v15) (h := by decide) ..) _).trans ?_
      refine (congrFun (StableHlo.unary_result_ne (τ := τ) (Val := Elt Ideal) (y := main_v18) (r := main_v15) (h := by decide) ..) _).trans ?_
      refine (congrFun (StableHlo.nary_result_ne (τ := τ) (Val := Elt Ideal) (y := main_v17) (r := main_v15) (h := by decide) ..) _).trans ?_
      refine (congrFun (StableHlo.unary_result_ne (τ := τ) (Val := Elt Ideal) (y := main_v16) (r := main_v15) (h := by decide) ..) _).trans ?_
      refine (congrFun (StableHlo.nullary_result_ne (τ := τ) (Val := Elt Ideal) (y := main_cst_1) (r := main_v15) (h := by decide) ..) _).trans ?_
      refine (congrFun (StableHlo.unary_result (τ := τ) (Val := Elt Ideal) main_v13 main_v15 _ _ _ _) _).trans ?_
      simp only [↓ StableHlo.readResult, ↓ StableHlo.readPieces, -eq_self]
      pointwise
    · refine (dif_neg (show ¬q.val % 64 - 8 < 8 by omega)).trans (Eq.trans ?_ (dif_neg h').symm)
      refine (congrFun (StableHlo.unary_result (τ := τ) (Val := Elt Ideal) main_cst_4 main_v22 _ _ _ _) _).trans ?_
      exact (congrFun (StableHlo.nullary_result (τ := τ) (Val := Elt Ideal) main_cst_4 _ _ _) _).trans zero_bits

end Cert.Inp.Kern
-- ==== Proof.Inp.Kern.lean ====
/- The prompt's body: what each of its eight stores leaves at an index of its block, as a section of the projected row. -/
module

public import proofs.«01_k».proof.Proof.Inp.Rope
public import proofs.«01_k».proof.Proof.Gen.InProjIdeal.Value
public import Idealize.ShloMosaic.Lib.Pointwise

@[expose] public section

set_option maxRecDepth 16384

noncomputable section

namespace Cert.Inp.Kern

open Cert.InProjIdeal Cert.InProjIdeal.Gen Idealize.ShloMosaic Idealize.ShloMosaic.TcCoe Idealize.SL.Sem

variable (x : Vec Ideal S1x256x1024 .f32) (g : Vec Ideal S1x1024 .f32) (w : Vec Ideal S1024x3072 .bf16) (c sa sb : Vec Ideal S256x128 .f32)

/-- A section of the block: the normalised rows times 512 columns of the matrix. -/
theorem pay8_at (v : Vec Ideal S1024x512 .bf16) (r : Fin 256) (l : Fin 512) :
    k0_pay8 (F := Ideal) x g v (ix2 r l) = ∑ k : Fin 1024, nrm (fun k => x (ix3 0 r k)) (fun k => g (ix2 0 k)) k * (v (ix2 k l) : EReal) := by
  unfold nrm
  pointwise [k0_pay8, k0_pay4]

/-- A section with its four groups of 128 columns turned by the tables. -/
abbrev turned (v : Vec Ideal S1024x512 .bf16) : M 256 512 :=
  heads (k0_pay8 (F := Ideal) x g v) (k0_pay5 c) (k0_pay6 sa) (k0_pay7 sb) rotates_S256x128_d1 slices_S256x512_o0_0_S256x128
    slices_S256x512_o0_128_S256x128 slices_S256x512_o0_256_S256x128 slices_S256x512_o0_384_S256x128
    concatenates_S256x128_S256x128_S256x128_S256x128_S256x512_d1

theorem sec0 (v : Vec Ideal S1024x512 .bf16) : k0_pay12 (k0_pay5 c) (k0_pay6 sa) (k0_pay7 sb) (k0_pay8 x g v) (k0_pay9 x g c sa sb v) (k0_pay10 x g v) (k0_pay11 x g c sa v)
    = turned x g c sa sb v := rfl

theorem sec1 (v : Vec Ideal S1024x512 .bf16) : k0_pay19 (k0_pay5 c) (k0_pay6 sa) (k0_pay7 sb) (k0_pay13 (k0_pay4 x g) v)
      (k0_pay14 (k0_pay4 x g) (k0_pay5 c) (k0_pay6 sa) (k0_pay7 sb) v) (k0_pay15 (k0_pay4 x g) (k0_pay5 c) (k0_pay6 sa) (k0_pay7 sb) v)
      (k0_pay17 (k0_pay4 x g) (k0_pay5 c) (k0_pay6 sa) v) (k0_pay18 (k0_pay4 x g) (k0_pay7 sb) v)
    = turned x g c sa sb v := rfl

theorem sec3 (v : Vec Ideal S1024x512 .bf16) : k0_pay27 (k0_pay7 sb) (k0_pay22 (k0_pay4 x g) (k0_pay5 c) (k0_pay6 sa) (k0_pay7 sb) v)
      (k0_pay23 (k0_pay4 x g) (k0_pay5 c) (k0_pay6 sa) (k0_pay7 sb) v) (k0_pay24 (k0_pay4 x g) (k0_pay5 c) (k0_pay6 sa) (k0_pay7 sb) v)
      (k0_pay25 (k0_pay4 x g) v) (k0_pay26 (k0_pay4 x g) (k0_pay5 c) (k0_pay6 sa) v)
    = turned x g c sa sb v := rfl

theorem sec4 (v : Vec Ideal S1024x512 .bf16) : k0_pay28 (k0_pay4 x g) (k0_pay5 c) (k0_pay6 sa) (k0_pay7 sb) v = turned x g c sa sb v := rfl

theorem sec2 (v : Vec Ideal S1024x512 .bf16) : k0_pay20 (k0_pay4 x g) v = k0_pay8 x g v := rfl

theorem sec5 (v : Vec Ideal S1024x512 .bf16) : k0_pay29 (k0_pay4 x g) v = k0_pay8 x g v := rfl

theorem pay5_at (r : Fin 256) (q : Fin 128) : k0_pay5 (F := Ideal) c (ix2 r q) = (c (ix2 r q) : EReal) := by pointwise [k0_pay5]
theorem pay6_at (r : Fin 256) (q : Fin 128) : k0_pay6 (F := Ideal) c (ix2 r q) = (c (ix2 r q) : EReal) := by pointwise [k0_pay6]
theorem pay7_at (r : Fin 256) (q : Fin 128) : k0_pay7 (F := Ideal) c (ix2 r q) = (c (ix2 r q) : EReal) := by pointwise [k0_pay7]

/-- What the three tables hold for the rows of the block, whose positions are `z`. -/
structure Tables (z : Fin 256 → BitVec 32) : Prop where
  cos : ∀ r q, c (ix2 r q) = cosOf (fun j => Ideal.cos (angle (z r) j)) q
  neg : ∀ r q, sa (ix2 r q) = negOf (fun j => Ideal.sin (angle (z r) j)) q
  sin : ∀ r q, sb (ix2 r q) = sinOf (fun j => Ideal.sin (angle (z r) j)) q

variable {x g w c sa sb}

/-- The columns of section `s` of the matrix, taken out. -/
theorem ld_at (s : Fin 6) (o : ℕ) (ho : o = 512 * s.val) (inb) (k : Fin 1024) (l : Fin 512) :
    View.ld w (Rect.unit (s := S1024x3072) ![0, o] S1024x512.size inb) (ix2 k l) = w (ix2 k ⟨512 * s.val + l.val, by omega⟩) := by
  subst ho
  unfold View.ld
  refine congrArg w (funext fun a => ?_)
  match a with
  | ⟨0, _⟩ => exact Fin.ext (show 0 + 1 * k.val = k.val by omega)
  | ⟨1, _⟩ => exact Fin.ext (show 512 * s.val + 1 * l.val = 512 * s.val + l.val by omega)

theorem plain_at (s : Fin 6) (o : ℕ) (ho : o = 512 * s.val) (inb) (r : Fin 256) (l : Fin 512) :
    k0_pay8 (F := Ideal) x g (View.ld w (Rect.unit (s := S1024x3072) ![0, o] S1024x512.size inb)) (ix2 r l)
      = sec (fun k => x (ix3 0 r k)) (fun k => g (ix2 0 k)) (fun k l => w (ix2 k l)) s l := by
  rw [pay8_at]
  unfold sec
  exact Finset.sum_congr rfl fun k _ => congrArg (_ * ·) (ld_at s o ho inb k l)

theorem turned_at {z : Fin 256 → BitVec 32} (T : Tables c sa sb z) (s : Fin 6) (o : ℕ) (ho : o = 512 * s.val) (inb) (r : Fin 256) (l : Fin 512) :
    turned x g c sa sb (View.ld w (Rect.unit (s := S1024x3072) ![0, o] S1024x512.size inb)) (ix2 r l)
      = rot (sec (fun k => x (ix3 0 r k)) (fun k => g (ix2 0 k)) (fun k l => w (ix2 k l)) s)
          (fun j => Ideal.cos (angle (z r) j)) (fun j => Ideal.sin (angle (z r) j)) l := by
  refine (heads_at _ _ _ _ _ _ _ _ _ _ r l).trans ?_
  rw [← mix_eq]
  have e1 : (fun q => k0_pay5 (F := Ideal) c (ix2 r q)) = cosOf (fun j => Ideal.cos (angle (z r) j)) := funext fun q => (pay5_at c r q).trans (T.cos r q)
  have e2 : (fun q => k0_pay6 (F := Ideal) sa (ix2 r q)) = negOf (fun j => Ideal.sin (angle (z r) j)) := funext fun q => (pay6_at sa r q).trans (T.neg r q)
  have e3 : (fun q => k0_pay7 (F := Ideal) sb (ix2 r q)) = sinOf (fun j => Ideal.sin (angle (z r) j)) := funext fun q => (pay7_at sb r q).trans (T.sin r q)
  have e0 : (fun l => k0_pay8 (F := Ideal) x g (View.ld w (Rect.unit (s := S1024x3072) ![0, o] S1024x512.size inb)) (ix2 r l))
      = sec (fun k => x (ix3 0 r k)) (fun k => g (ix2 0 k)) (fun k l => w (ix2 k l)) s := funext fun l => plain_at s o ho inb r l
  exact congr (congr (congr (congr (congrArg mix e0) e1) e2) e3) rfl

theorem ldx (inb) : View.ld x (Rect.unit (s := S1x256x1024) ![0, 0, 0] (no_index S1x256x1024.size) inb) = x :=
  View.ld_unit_zero (S := S1x256x1024) (by funext a; match a with | ⟨0, _⟩ => rfl | ⟨1, _⟩ => rfl | ⟨2, _⟩ => rfl) inb x
theorem ldg (inb) : View.ld g (Rect.unit (s := S1x1024) ![0, 0] (no_index S1x1024.size) inb) = g :=
  View.ld_unit_zero (S := S1x1024) (by funext a; match a with | ⟨0, _⟩ => rfl | ⟨1, _⟩ => rfl) inb g
theorem ldt (inb) : View.ld c (Rect.unit (s := S256x128) ![0, 0] (no_index S256x128.size) inb) = c :=
  View.ld_unit_zero (S := S256x128) (by funext a; match a with | ⟨0, _⟩ => rfl | ⟨1, _⟩ => rfl) inb c

theorem out6_at {z : Fin 256 → BitVec 32} (T : Tables c sa sb z) (y : S1x256x512.Idx) : out0_6 x g w c sa sb y
    = out (fun k => x (ix3 0 (y 1) k)) (fun k => g (ix2 0 k)) (fun k l => w (ix2 k l)) (z (y 1)) 0 (y 2) := by
  unfold_out out0_6
  rw [ldx, ldg, ldt, ldt, ldt]
  refine (Value.canon6_eq c sa sb x g (View.ld w r0_3) y).trans ?_
  have e : Value.ix6_0 y = ix2 (y 1) ((y 2) : Fin 512) := by
    funext a
    match a with
    | ⟨0, _⟩ => rfl
    | ⟨1, _⟩ => rfl
  show (turned x g c sa sb (View.ld w r0_3)) (Value.ix6_0 y) = _
  rw [e]
  exact (turned_at T 0 _ rfl _ (y 1) (y 2)).trans (out_rot _ _ _ _ _ _ (by decide)).symm

theorem out7_at {z : Fin 256 → BitVec 32} (T : Tables c sa sb z) (y : S1x256x512.Idx) : out0_7 x g w c sa sb y
    = out (fun k => x (ix3 0 (y 1) k)) (fun k => g (ix2 0 k)) (fun k l => w (ix2 k l)) (z (y 1)) 1 (y 2) := by
  unfold_out out0_7
  rw [ldx, ldg, ldt, ldt, ldt]
  refine (Value.canon7_eq c sa sb x g (View.ld w r0_4) y).trans ?_
  have e : Value.ix7_0 y = ix2 (y 1) ((y 2) : Fin 512) := by
    funext a
    match a with
    | ⟨0, _⟩ => rfl
    | ⟨1, _⟩ => rfl
  show (turned x g c sa sb (View.ld w r0_4)) (Value.ix7_0 y) = _
  rw [e]
  exact (turned_at T 1 _ rfl _ (y 1) (y 2)).trans (out_rot _ _ _ _ _ _ (by decide)).symm

theorem out8_at {z : Fin 256 → BitVec 32} (T : Tables c sa sb z) (y : S1x256x512.Idx) : out0_8 x g w c sa sb y
    = out (fun k => x (ix3 0 (y 1) k)) (fun k => g (ix2 0 k)) (fun k l => w (ix2 k l)) (z (y 1)) 2 (y 2) := by
  unfold_out out0_8
  rw [ldx, ldg]
  refine (Value.canon8_eq x g (View.ld w r0_5) y).trans ?_
  have e : Value.ix8_0 y = ix2 (y 1) ((y 2) : Fin 512) := by
    funext a
    match a with
    | ⟨0, _⟩ => rfl
    | ⟨1, _⟩ => rfl
  show (k0_pay8 x g (View.ld w r0_5)) (Value.ix8_0 y) = _
  rw [e]
  exact (plain_at 2 _ rfl _ (y 1) (y 2)).trans (out_sec _ _ _ _ _ _ (by decide)).symm

theorem out9_at {z : Fin 256 → BitVec 32} (T : Tables c sa sb z) (y : S1x256x512.Idx) : out0_9 x g w c sa sb y
    = out (fun k => x (ix3 0 (y 1) k)) (fun k => g (ix2 0 k)) (fun k l => w (ix2 k l)) (z (y 1)) 3 (y 2) := by
  unfold_out out0_9
  rw [ldx, ldg, ldt, ldt, ldt]
  refine (Value.canon9_eq sb x g c sa (View.ld w r0_6) y).trans ?_
  have e : Value.ix9_0 y = ix2 (y 1) ((y 2) : Fin 512) := by
    funext a
    match a with
    | ⟨0, _⟩ => rfl
    | ⟨1, _⟩ => rfl
  show (turned x g c sa sb (View.ld w r0_6)) (Value.ix9_0 y) = _
  rw [e]
  exact (turned_at T 3 _ rfl _ (y 1) (y 2)).trans (out_rot _ _ _ _ _ _ (by decide)).symm

theorem out10_at {z : Fin 256 → BitVec 32} (T : Tables c sa sb z) (y : S1x1x8x256x64.Idx) : out0_10 x g w c sa sb y
    = out (fun k => x (ix3 0 (y 3) k)) (fun k => g (ix2 0 k)) (fun k l => w (ix2 k l)) (z (y 3)) 1 ⟨64 * (y 2).val + (y 4).val, by have h2 : (y 2).val < 8 := (y 2).isLt; have h4 : (y 4).val < 64 := (y 4).isLt; omega⟩ := by
  unfold_out out0_10
  rw [ldx, ldg, ldt, ldt, ldt]
  refine (Value.canon10_eq c sa sb x g (View.ld w r0_4) y).trans ?_
  have e : Value.ix10_0 y = ix2 (y 3) (⟨64 * (y 2).val + (y 4).val, by have h2 : (y 2).val < 8 := (y 2).isLt; have h4 : (y 4).val < 64 := (y 4).isLt; omega⟩ : Fin 512) := by
    funext a
    match a with
    | ⟨0, _⟩ => rfl
    | ⟨1, _⟩ => exact Fin.ext (show (y 2).val * 64 + (y 4).val = 64 * (y 2).val + (y 4).val by omega)
  show (turned x g c sa sb (View.ld w r0_4)) (Value.ix10_0 y) = _
  rw [e]
  exact (turned_at T 1 _ rfl _ (y 3) ⟨64 * (y 2).val + (y 4).val, by have h2 : (y 2).val < 8 := (y 2).isLt; have h4 : (y 4).val < 64 := (y 4).isLt; omega⟩).trans (out_rot _ _ _ _ _ _ (by decide)).symm

theorem out11_at {z : Fin 256 → BitVec 32} (T : Tables c sa sb z) (y : S1x1x8x256x64.Idx) : out0_11 x g w c sa sb y
    = out (fun k => x (ix3 0 (y 3) k)) (fun k => g (ix2 0 k)) (fun k l => w (ix2 k l)) (z (y 3)) 2 ⟨64 * (y 2).val + (y 4).val, by have h2 : (y 2).val < 8 := (y 2).isLt; have h4 : (y 4).val < 64 := (y 4).isLt; omega⟩ := by
  unfold_out out0_11
  rw [ldx, ldg]
  refine (Value.canon11_eq x g (View.ld w r0_5) y).trans ?_
  have e : Value.ix11_0 y = ix2 (y 3) (⟨64 * (y 2).val + (y 4).val, by have h2 : (y 2).val < 8 := (y 2).isLt; have h4 : (y 4).val < 64 := (y 4).isLt; omega⟩ : Fin 512) := by
    funext a
    match a with
    | ⟨0, _⟩ => rfl
    | ⟨1, _⟩ => exact Fin.ext (show (y 2).val * 64 + (y 4).val = 64 * (y 2).val + (y 4).val by omega)
  show (k0_pay8 x g (View.ld w r0_5)) (Value.ix11_0 y) = _
  rw [e]
  exact (plain_at 2 _ rfl _ (y 3) ⟨64 * (y 2).val + (y 4).val, by have h2 : (y 2).val < 8 := (y 2).isLt; have h4 : (y 4).val < 64 := (y 4).isLt; omega⟩).trans (out_sec _ _ _ _ _ _ (by decide)).symm

theorem out12_at {z : Fin 256 → BitVec 32} (T : Tables c sa sb z) (y : S1x1x4x256x128.Idx) : out0_12 x g w c sa sb y
    = out (fun k => x (ix3 0 (y 3) k)) (fun k => g (ix2 0 k)) (fun k l => w (ix2 k l)) (z (y 3)) 4 ⟨128 * (y 2).val + (y 4).val, by have h2 : (y 2).val < 4 := (y 2).isLt; have h4 : (y 4).val < 128 := (y 4).isLt; omega⟩ := by
  unfold_out out0_12
  rw [ldx, ldg, ldt, ldt, ldt]
  refine (Value.canon12_eq x g c sa sb (View.ld w r0_7) y).trans ?_
  have e : Value.ix12_0 y = ix2 (y 3) (⟨128 * (y 2).val + (y 4).val, by have h2 : (y 2).val < 4 := (y 2).isLt; have h4 : (y 4).val < 128 := (y 4).isLt; omega⟩ : Fin 512) := by
    funext a
    match a with
    | ⟨0, _⟩ => rfl
    | ⟨1, _⟩ => exact Fin.ext (show (y 2).val * 128 + (y 4).val = 128 * (y 2).val + (y 4).val by omega)
  show (turned x g c sa sb (View.ld w r0_7)) (Value.ix12_0 y) = _
  rw [e]
  exact (turned_at T 4 _ rfl _ (y 3) ⟨128 * (y 2).val + (y 4).val, by have h2 : (y 2).val < 4 := (y 2).isLt; have h4 : (y 4).val < 128 := (y 4).isLt; omega⟩).trans (out_rot _ _ _ _ _ _ (by decide)).symm

theorem out13_at {z : Fin 256 → BitVec 32} (T : Tables c sa sb z) (y : S1x1x4x256x128.Idx) : out0_13 x g w c sa sb y
    = out (fun k => x (ix3 0 (y 3) k)) (fun k => g (ix2 0 k)) (fun k l => w (ix2 k l)) (z (y 3)) 5 ⟨128 * (y 2).val + (y 4).val, by have h2 : (y 2).val < 4 := (y 2).isLt; have h4 : (y 4).val < 128 := (y 4).isLt; omega⟩ := by
  unfold_out out0_13
  rw [ldx, ldg]
  refine (Value.canon13_eq x g (View.ld w r0_8) y).trans ?_
  have e : Value.ix13_0 y = ix2 (y 3) (⟨128 * (y 2).val + (y 4).val, by have h2 : (y 2).val < 4 := (y 2).isLt; have h4 : (y 4).val < 128 := (y 4).isLt; omega⟩ : Fin 512) := by
    funext a
    match a with
    | ⟨0, _⟩ => rfl
    | ⟨1, _⟩ => exact Fin.ext (show (y 2).val * 128 + (y 4).val = 128 * (y 2).val + (y 4).val by omega)
  show (k0_pay8 x g (View.ld w r0_8)) (Value.ix13_0 y) = _
  rw [e]
  exact (plain_at 5 _ rfl _ (y 3) ⟨128 * (y 2).val + (y 4).val, by have h2 : (y 2).val < 4 := (y 2).isLt; have h4 : (y 4).val < 128 := (y 4).isLt; omega⟩).trans (out_sec _ _ _ _ _ _ (by decide)).symm

end Cert.Inp.Kern
end
-- ==== Proof.Inp.Ref.lean ====
/- The prompt's reference at an index: every result is a column of a section of the projection, queries and keys rotated. -/
module

public import proofs.«01_k».proof.Proof.Inp.Rope
public import proofs.«01_k».proof.Proof.Gen.InProjRefIdeal.Read

@[expose] public section

set_option maxRecDepth 16384

noncomputable section

namespace Cert.Inp.Ref

open Idealize.ShloMosaic Cert.InProjRefIdeal Cert.InProjRefIdeal.Gen Cert.InProjRefIdeal.Read

section
variable (x0 : FVec Ideal S8x2048x1024 .f32) (x1 : FVec Ideal S1x1024 .f32) (x2 : FVec Ideal S1024x3072 .f32)

/-- The call's value at token `t` of sequence `b`. -/
abbrev val (b : Fin 8) (t : Fin 2048) (s : Fin 6) (l : Fin 512) : EReal :=
  out (fun k => x0 (ix3 b t k)) (fun k => x1 (ix2 0 k)) (fun k l => x2 (ix2 k l)) (BitVec.ofNat 32 t.val) s l

/-- One section's column. -/
abbrev col (b : Fin 8) (t : Fin 2048) (s : Fin 6) (l : Fin 512) : EReal :=
  sec (fun k => x0 (ix3 b t k)) (fun k => x1 (ix2 0 k)) (fun k l => x2 (ix2 k l)) s l

theorem v15_at (b : Fin 8) (t : Fin 2048) (l : Fin 3072) :
    val_main_v15 (F := Ideal) x0 x1 x2 (ix3 b t l) = ∑ k, nrm (fun k => x0 (ix3 b t k)) (fun k => x1 (ix2 0 k)) k * x2 (ix2 k l) := by
  unfold nrm
  pointwise [val_main_v15, val_main_v14, val_main_v13, val_main_v12, val_main_v11, val_main_v10, val_main_v9, val_main_v8, val_main_v7, val_main_v6, val_main_v5, val_main_v4, val_main_v3, val_main_v2, val_main_v0]
  rw [show val_main_cst (F := Ideal) (Shape.Idx.first Gen.h_S_) = 0 from zero_bits]
  simp only [zero_add]
  rfl

theorem split_at (s : Fin 6) (q : FVec Ideal S8x2048x512 .f32) (hq : ∀ b t l, q (ix3 b t l) = val_main_v15 (F := Ideal) x0 x1 x2 (ix3 b t ⟨512 * s.val + l.val, by omega⟩))
    (b : Fin 8) (t : Fin 2048) (l : Fin 512) : q (ix3 b t l) = col x0 x1 x2 b t s l := by
  rw [hq, v15_at]
  rfl

theorem v16_at (b : Fin 8) (t : Fin 2048) (l : Fin 512) : val_main_v16 (F := Ideal) x0 x1 x2 (ix3 b t l) = col x0 x1 x2 b t 0 l :=
  split_at x0 x1 x2 0 _ (fun b t l => by pointwise [val_main_v16]) b t l

theorem v17_at (b : Fin 8) (t : Fin 2048) (l : Fin 512) : val_main_v17 (F := Ideal) x0 x1 x2 (ix3 b t l) = col x0 x1 x2 b t 1 l :=
  split_at x0 x1 x2 1 _ (fun b t l => by pointwise [val_main_v17]) b t l

theorem v18_at (b : Fin 8) (t : Fin 2048) (l : Fin 512) : val_main_v18 (F := Ideal) x0 x1 x2 (ix3 b t l) = col x0 x1 x2 b t 2 l :=
  split_at x0 x1 x2 2 _ (fun b t l => by pointwise [val_main_v18]) b t l

theorem v19_at (b : Fin 8) (t : Fin 2048) (l : Fin 512) : val_main_v19 (F := Ideal) x0 x1 x2 (ix3 b t l) = col x0 x1 x2 b t 3 l :=
  split_at x0 x1 x2 3 _ (fun b t l => by pointwise [val_main_v19]) b t l

theorem v20_at (b : Fin 8) (t : Fin 2048) (l : Fin 512) : val_main_v20 (F := Ideal) x0 x1 x2 (ix3 b t l) = col x0 x1 x2 b t 4 l :=
  split_at x0 x1 x2 4 _ (fun b t l => by pointwise [val_main_v20]) b t l

theorem v21_at (b : Fin 8) (t : Fin 2048) (l : Fin 512) : val_main_v21 (F := Ideal) x0 x1 x2 (ix3 b t l) = col x0 x1 x2 b t 5 l :=
  split_at x0 x1 x2 5 _ (fun b t l => by pointwise [val_main_v21]) b t l

theorem cosA (t : Fin 2048) (j : Fin 8) : val_main_v35 (F := Ideal) (ix2 t j) = Ideal.cos (angle (BitVec.ofNat 32 t.val) j) := by
  unfold angle
  pointwise [val_main_v35, val_main_v34, val_main_v33, val_main_v32, val_main_v31, val_main_v30, val_main_v29, val_main_v28, val_main_v27, val_main_v26, val_main_v25, val_main_v24, val_main_v23, val_main_v1]
  rfl

theorem sinA (t : Fin 2048) (j : Fin 8) : val_main_v37 (F := Ideal) (ix2 t j) = Ideal.sin (angle (BitVec.ofNat 32 t.val) j) := by
  unfold angle
  pointwise [val_main_v37, val_main_v34, val_main_v33, val_main_v32, val_main_v31, val_main_v30, val_main_v29, val_main_v28, val_main_v27, val_main_v26, val_main_v25, val_main_v24, val_main_v23, val_main_v1]
  rfl

theorem ropeA (b : Fin 8) (t : Fin 2048) (h : Fin 8) (d : Fin 64) :
    val_main_v56 (F := Ideal) x0 x1 x2 (ix4 b t h d) = val x0 x1 x2 b t 0 ⟨64 * h.val + d.val, by omega⟩ := by
  refine Eq.trans ?_ (out_rot _ _ _ _ _ _ (by decide)).symm
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v36, val_main_v22]
  simp only [cosA, sinA, v16_at]
  exact rot_head (col x0 x1 x2 b t 0) (fun j => Ideal.cos (angle (BitVec.ofNat 32 t.val) j)) (fun j => Ideal.sin (angle (BitVec.ofNat 32 t.val) j)) h d

theorem cosB (t : Fin 2048) (j : Fin 8) : val_main_v70 (F := Ideal) (ix2 t j) = Ideal.cos (angle (BitVec.ofNat 32 t.val) j) := by
  unfold angle
  pointwise [val_main_v70, val_main_v69, val_main_v68, val_main_v67, val_main_v66, val_main_v65, val_main_v64, val_main_v63, val_main_v62, val_main_v61, val_main_v60, val_main_v59, val_main_v58, val_main_v1]
  rfl

theorem sinB (t : Fin 2048) (j : Fin 8) : val_main_v72 (F := Ideal) (ix2 t j) = Ideal.sin (angle (BitVec.ofNat 32 t.val) j) := by
  unfold angle
  pointwise [val_main_v72, val_main_v69, val_main_v68, val_main_v67, val_main_v66, val_main_v65, val_main_v64, val_main_v63, val_main_v62, val_main_v61, val_main_v60, val_main_v59, val_main_v58, val_main_v1]
  rfl

theorem ropeB (b : Fin 8) (t : Fin 2048) (h : Fin 8) (d : Fin 64) :
    val_main_v91 (F := Ideal) x0 x1 x2 (ix4 b t h d) = val x0 x1 x2 b t 1 ⟨64 * h.val + d.val, by omega⟩ := by
  refine Eq.trans ?_ (out_rot _ _ _ _ _ _ (by decide)).symm
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v71, val_main_v57]
  simp only [cosB, sinB, v17_at]
  exact rot_head (col x0 x1 x2 b t 1) (fun j => Ideal.cos (angle (BitVec.ofNat 32 t.val) j)) (fun j => Ideal.sin (angle (BitVec.ofNat 32 t.val) j)) h d

theorem cosC (t : Fin 2048) (j : Fin 8) : val_main_v106 (F := Ideal) (ix2 t j) = Ideal.cos (angle (BitVec.ofNat 32 t.val) j) := by
  unfold angle
  pointwise [val_main_v106, val_main_v105, val_main_v104, val_main_v103, val_main_v102, val_main_v101, val_main_v100, val_main_v99, val_main_v98, val_main_v97, val_main_v96, val_main_v95, val_main_v94, val_main_v1]
  rfl

theorem sinC (t : Fin 2048) (j : Fin 8) : val_main_v108 (F := Ideal) (ix2 t j) = Ideal.sin (angle (BitVec.ofNat 32 t.val) j) := by
  unfold angle
  pointwise [val_main_v108, val_main_v105, val_main_v104, val_main_v103, val_main_v102, val_main_v101, val_main_v100, val_main_v99, val_main_v98, val_main_v97, val_main_v96, val_main_v95, val_main_v94, val_main_v1]
  rfl

theorem ropeC (b : Fin 8) (t : Fin 2048) (h : Fin 8) (d : Fin 64) :
    val_main_v127 (F := Ideal) x0 x1 x2 (ix4 b t h d) = val x0 x1 x2 b t 3 ⟨64 * h.val + d.val, by omega⟩ := by
  refine Eq.trans ?_ (out_rot _ _ _ _ _ _ (by decide)).symm
  pointwise [val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v107, val_main_v93]
  simp only [cosC, sinC, v19_at]
  exact rot_head (col x0 x1 x2 b t 3) (fun j => Ideal.cos (angle (BitVec.ofNat 32 t.val) j)) (fun j => Ideal.sin (angle (BitVec.ofNat 32 t.val) j)) h d

theorem cosD (t : Fin 2048) (j : Fin 8) : val_main_v142 (F := Ideal) (ix2 t j) = Ideal.cos (angle (BitVec.ofNat 32 t.val) j) := by
  unfold angle
  pointwise [val_main_v142, val_main_v141, val_main_v140, val_main_v139, val_main_v138, val_main_v137, val_main_v136, val_main_v135, val_main_v134, val_main_v133, val_main_v132, val_main_v131, val_main_v130, val_main_v1]
  rfl

theorem sinD (t : Fin 2048) (j : Fin 8) : val_main_v144 (F := Ideal) (ix2 t j) = Ideal.sin (angle (BitVec.ofNat 32 t.val) j) := by
  unfold angle
  pointwise [val_main_v144, val_main_v141, val_main_v140, val_main_v139, val_main_v138, val_main_v137, val_main_v136, val_main_v135, val_main_v134, val_main_v133, val_main_v132, val_main_v131, val_main_v130, val_main_v1]
  rfl

theorem ropeD (b : Fin 8) (t : Fin 2048) (h : Fin 8) (d : Fin 64) :
    val_main_v163 (F := Ideal) x0 x1 x2 (ix4 b t h d) = val x0 x1 x2 b t 4 ⟨64 * h.val + d.val, by omega⟩ := by
  refine Eq.trans ?_ (out_rot _ _ _ _ _ _ (by decide)).symm
  pointwise [val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v143, val_main_v129]
  simp only [cosD, sinD, v20_at]
  exact rot_head (col x0 x1 x2 b t 4) (fun j => Ideal.cos (angle (BitVec.ofNat 32 t.val) j)) (fun j => Ideal.sin (angle (BitVec.ofNat 32 t.val) j)) h d

theorem val_congr (b : Fin 8) (t : Fin 2048) (s : Fin 6) (l l' : Fin 512) (h : l.val = l'.val) : val x0 x1 x2 b t s l = val x0 x1 x2 b t s l' := by
  rw [Fin.ext h]

theorem val_sec (b : Fin 8) (t : Fin 2048) (s : Fin 6) (h : s = 2 ∨ s = 5) (l l' : Fin 512) (e : l.val = l'.val) : col x0 x1 x2 b t s l = val x0 x1 x2 b t s l' := by
  rw [Fin.ext e]
  exact (out_sec _ _ _ _ _ _ h).symm

theorem v166_at (b : Fin 8) (t : Fin 2048) (l : Fin 512) : val_main_v166 (F := Ideal) x0 x1 x2 (ix3 b t l) = val x0 x1 x2 b t 0 l := by
  pointwise [val_main_v166]
  rw [ropeA]
  exact val_congr x0 x1 x2 b t 0 _ _ (Nat.div_add_mod l.val 64)

theorem v167_at (b : Fin 8) (t : Fin 2048) (l : Fin 512) : val_main_v167 (F := Ideal) x0 x1 x2 (ix3 b t l) = val x0 x1 x2 b t 1 l := by
  pointwise [val_main_v167]
  rw [ropeB]
  exact val_congr x0 x1 x2 b t 1 _ _ (Nat.div_add_mod l.val 64)

theorem v168_at (b : Fin 8) (t : Fin 2048) (l : Fin 512) : val_main_v168 (F := Ideal) x0 x1 x2 (ix3 b t l) = val x0 x1 x2 b t 2 l := by
  pointwise [val_main_v168, val_main_v92]
  rw [v18_at]
  exact val_sec x0 x1 x2 b t 2 (.inl rfl) _ _ rfl

theorem v169_at (b : Fin 8) (t : Fin 2048) (l : Fin 512) : val_main_v169 (F := Ideal) x0 x1 x2 (ix3 b t l) = val x0 x1 x2 b t 3 l := by
  pointwise [val_main_v169, val_main_v128]
  rw [ropeC]
  exact val_congr x0 x1 x2 b t 3 _ _ (by show 64 * (l.val / 128 * 2 + l.val % 128 / 64) + l.val % 128 % 64 = l.val; omega)

theorem v164_at (b : Fin 8) (t : Fin 2048) (h : Fin 4) (d : Fin 128) :
    val_main_v164 (F := Ideal) x0 x1 x2 (ix4 b t h d) = val x0 x1 x2 b t 4 ⟨128 * h.val + d.val, by omega⟩ := by
  have e : 64 * (h.val * 2 + d.val / 64) + d.val % 64 = 128 * h.val + d.val := by omega
  unfold val_main_v164
  refine (shapeCast_apply (val_main_v163 (F := Ideal) x0 x1 x2) shapeCasts_S8x2048x8x64_S8x2048x4x128 (ix4 b t h d)
    (ix4 b t ⟨h.val * 2 + d.val / 64, by omega⟩ ⟨d.val % 64, by omega⟩) ?_).trans ((ropeD x0 x1 x2 b t _ _).trans (val_congr x0 x1 x2 b t 4 _ _ e))
  rw [Shape.rowMajor_val_four, Shape.rowMajor_val_four]
  show ((b.val * 2048 + t.val) * 8 + (h.val * 2 + d.val / 64)) * 64 + d.val % 64 = ((b.val * 2048 + t.val) * 4 + h.val) * 128 + d.val
  omega

theorem v171_at (b : Fin 8) (o : Fin 1) (h : Fin 8) (t : Fin 2048) (d : Fin 64) :
    val_main_v171 (F := Ideal) x0 x1 x2 (ix5 b o h t d) = val x0 x1 x2 b t 1 ⟨64 * h.val + d.val, by omega⟩ := by
  pointwise [val_main_v171, val_main_v170]
  rw [ropeB]

theorem v173_at (b : Fin 8) (o : Fin 1) (h : Fin 8) (t : Fin 2048) (d : Fin 64) :
    val_main_v173 (F := Ideal) x0 x1 x2 (ix5 b o h t d) = val x0 x1 x2 b t 2 ⟨64 * h.val + d.val, by omega⟩ := by
  pointwise [val_main_v173, val_main_v172, val_main_v92]
  rw [v18_at]
  exact val_sec x0 x1 x2 b t 2 (.inl rfl) _ _ (by show h.val * 64 + d.val = 64 * h.val + d.val; omega)

theorem v175_at (b : Fin 8) (o : Fin 1) (h : Fin 4) (t : Fin 2048) (d : Fin 128) :
    val_main_v175 (F := Ideal) x0 x1 x2 (ix5 b o h t d) = val x0 x1 x2 b t 4 ⟨128 * h.val + d.val, by omega⟩ := by
  have e : val_main_v175 (F := Ideal) x0 x1 x2 (ix5 b o h t d) = val_main_v164 (F := Ideal) x0 x1 x2 (ix4 b t h d) := by
    rw [val_main_v175_apply, val_main_v174_apply]
    refine congrArg (val_main_v164 (F := Ideal) x0 x1 x2) (funext fun a => ?_)
    match a with
    | ⟨0, _⟩ => rfl
    | ⟨1, _⟩ => rfl
    | ⟨2, _⟩ => rfl
    | ⟨3, _⟩ => rfl
  rw [e, v164_at]

theorem v177_at (b : Fin 8) (o : Fin 1) (h : Fin 4) (t : Fin 2048) (d : Fin 128) :
    val_main_v177 (F := Ideal) x0 x1 x2 (ix5 b o h t d) = val x0 x1 x2 b t 5 ⟨128 * h.val + d.val, by omega⟩ := by
  pointwise [val_main_v177, val_main_v176, val_main_v165]
  rw [v21_at]
  exact val_sec x0 x1 x2 b t 5 (.inr rfl) _ _ (by show h.val * 128 + d.val = 128 * h.val + d.val; omega)

end

end Cert.Inp.Ref
-- ==== Proof.Inp.Array.lean ====
/- The prompt's eight result arrays after the run: at each index what the point covering it computes from the arguments. -/
module

public import proofs.«01_k».proof.Proof.Inp.Host
public import proofs.«01_k».proof.Proof.Inp.Kern
public import proofs.«01_k».proof.Proof.Inp.Ref

@[expose] public section

set_option maxRecDepth 16384

noncomputable section

namespace Cert.Inp.Kern

open Cert.InProjIdeal Cert.InProjIdeal.Gen Idealize.ShloMosaic Idealize.ShloMosaic.TcCoe Idealize.SL.Sem

theorem c0 (t : Fin cfg0.N) : (grid0.coords t 0).val = t.val / 8 % 8 := Pipeline.Grid.coords_val t 0 (by decide) rfl
theorem c1 (t : Fin cfg0.N) : (grid0.coords t 1).val = t.val % 8 :=
  (Pipeline.Grid.coords_val t 1 (S := 1) (B := 8) (by decide) rfl).trans (by rw [Nat.div_one])

theorem lt0 (t : Fin cfg0.N) : (grid0.coords t 0).val < 8 := (grid0.coords t 0).isLt
theorem lt1 (t : Fin cfg0.N) : (grid0.coords t 1).val < 8 := (grid0.coords t 1).isLt

theorem word8 (n : ℕ) (h : n < 8) : (BitVec.ofNat 32 n).toNat = n := by rw [BitVec.toNat_ofNat]; omega

variable (m : (ℓ : Loc nD τ sig) → Buf (Elt Ideal) ℓ)

/-- The arguments, as vectors. -/
abbrev aX (c : Dev nD) : FVec Ideal S8x2048x1024 .f32 := m ((c : Thread nD τ).loc main_arg0)
abbrev aG (c : Dev nD) : FVec Ideal S1x1024 .f32 := m ((c : Thread nD τ).loc main_arg1)
abbrev aW (c : Dev nD) : FVec Ideal S1024x3072 .f32 := m ((c : Thread nD τ).loc main_arg2)

/-- Row `r` of the token block that point `t` takes. -/
def tok (t : Fin cfg0.N) (r : Fin 256) : Fin 2048 := ⟨256 * (grid0.coords t 1).val + r.val, by have := lt1 t; omega⟩

theorem blk0 (c : Dev nD) (t : Fin cfg0.N) (r : Fin 256) (k : Fin 1024) :
    (iblk m c 0 t : FVec Ideal S1x256x1024 .f32) (ix3 0 r k) = aX m c (ix3 (grid0.coords t 0) (tok t r) k) := by
  refine Eq.trans ?_ (congrFun (V_main_arg0 m c) _)
  unfold iblk
  rw [View.read_apply]
  refine congrArg (V m c main_arg0) (funext fun a => Fin.ext ?_)
  match a with
  | ⟨0, _⟩ => show (BitVec.ofNat 32 (grid0.coords t 0).val).toNat * 1 + 1 * 0 = (grid0.coords t 0).val; rw [word8 _ (lt0 t)]; omega
  | ⟨1, _⟩ => show (BitVec.ofNat 32 (grid0.coords t 1).val).toNat * 256 + 1 * r.val = 256 * (grid0.coords t 1).val + r.val; rw [word8 _ (lt1 t)]; omega
  | ⟨2, _⟩ => show 0 * 1024 + 1 * k.val = k.val; omega

theorem blk1 (c : Dev nD) (t : Fin cfg0.N) (k : Fin 1024) : (iblk m c 1 t : FVec Ideal S1x1024 .f32) (ix2 0 k) = aG m c (ix2 0 k) := by
  refine Eq.trans ?_ (congrFun (V_main_arg1 m c) _)
  unfold iblk
  rw [View.read_apply]
  refine congrArg (V m c main_arg1) (funext fun a => Fin.ext ?_)
  match a with
  | ⟨0, _⟩ => show 0 * 1 + 1 * 0 = 0; omega
  | ⟨1, _⟩ => show 0 * 1024 + 1 * k.val = k.val; omega

theorem blk2 (c : Dev nD) (t : Fin cfg0.N) (k : Fin 1024) (l : Fin 3072) :
    (iblk m c 2 t : FVec Ideal S1024x3072 .bf16) (ix2 k l) = (aW m c (ix2 k l) : EReal) := by
  refine Eq.trans ?_ (V_w m c k l)
  unfold iblk
  rw [View.read_apply]
  refine congrArg (V m c main_v0) (funext fun a => Fin.ext ?_)
  match a with
  | ⟨0, _⟩ => show 0 * 1024 + 1 * k.val = k.val; omega
  | ⟨1, _⟩ => show 0 * 3072 + 1 * l.val = l.val; omega

theorem blk3 (c : Dev nD) (t : Fin cfg0.N) (r : Fin 256) (q : Fin 128) :
    (iblk m c 3 t : FVec Ideal S256x128 .f32) (ix2 r q) = cosOf (fun j => Ideal.cos (angle (BitVec.ofNat 32 (tok t r).val) j)) q := by
  refine Eq.trans ?_ (V_cos m c (tok t r) q)
  unfold iblk
  rw [View.read_apply]
  refine congrArg (V m c main_v26) (funext fun a => Fin.ext ?_)
  match a with
  | ⟨0, _⟩ => show (BitVec.ofNat 32 (grid0.coords t 1).val).toNat * 256 + 1 * r.val = 256 * (grid0.coords t 1).val + r.val; rw [word8 _ (lt1 t)]; omega
  | ⟨1, _⟩ => show 0 * 128 + 1 * q.val = q.val; omega

theorem blk4 (c : Dev nD) (t : Fin cfg0.N) (r : Fin 256) (q : Fin 128) :
    (iblk m c 4 t : FVec Ideal S256x128 .f32) (ix2 r q) = negOf (fun j => Ideal.sin (angle (BitVec.ofNat 32 (tok t r).val) j)) q := by
  refine Eq.trans ?_ (V_neg m c (tok t r) q)
  unfold iblk
  rw [View.read_apply]
  refine congrArg (V m c main_v29) (funext fun a => Fin.ext ?_)
  match a with
  | ⟨0, _⟩ => show (BitVec.ofNat 32 (grid0.coords t 1).val).toNat * 256 + 1 * r.val = 256 * (grid0.coords t 1).val + r.val; rw [word8 _ (lt1 t)]; omega
  | ⟨1, _⟩ => show 0 * 128 + 1 * q.val = q.val; omega

theorem blk5 (c : Dev nD) (t : Fin cfg0.N) (r : Fin 256) (q : Fin 128) :
    (iblk m c 5 t : FVec Ideal S256x128 .f32) (ix2 r q) = sinOf (fun j => Ideal.sin (angle (BitVec.ofNat 32 (tok t r).val) j)) q := by
  refine Eq.trans ?_ (V_sin m c (tok t r) q)
  unfold iblk
  rw [View.read_apply]
  refine congrArg (V m c main_v32) (funext fun a => Fin.ext ?_)
  match a with
  | ⟨0, _⟩ => show (BitVec.ofNat 32 (grid0.coords t 1).val).toNat * 256 + 1 * r.val = 256 * (grid0.coords t 1).val + r.val; rw [word8 _ (lt1 t)]; omega
  | ⟨1, _⟩ => show 0 * 128 + 1 * q.val = q.val; omega

theorem tables (c : Dev nD) (t : Fin cfg0.N) : Tables (iblk m c 3 t) (iblk m c 4 t) (iblk m c 5 t) (fun r => BitVec.ofNat 32 (tok t r).val) :=
  ⟨blk3 m c t, blk4 m c t, blk5 m c t⟩

/-- A result laid out by token: section `s`, columns as they are. -/
def byTok (c : Dev nD) (s : Fin 6) : Vec Ideal S8x2048x512 .f32 := fun i => Ref.val (aX m c) (aG m c) (aW m c) (i 0) (i 1) s (i 2)

/-- A result laid out by head of 64 lanes. -/
def by64 (c : Dev nD) (s : Fin 6) : Vec Ideal S8x1x8x2048x64 .f32 := fun i =>
  Ref.val (aX m c) (aG m c) (aW m c) (i 0) (i 3) s ⟨64 * (i 2).val + (i 4).val, by have h2 : (i 2).val < 8 := (i 2).isLt; have h4 : (i 4).val < 64 := (i 4).isLt; omega⟩

/-- A result laid out by head of 128 lanes. -/
def by128 (c : Dev nD) (s : Fin 6) : Vec Ideal S8x1x4x2048x128 .f32 := fun i =>
  Ref.val (aX m c) (aG m c) (aW m c) (i 0) (i 3) s ⟨128 * (i 2).val + (i 4).val, by have h2 : (i 2).val < 4 := (i 2).isLt; have h4 : (i 4).val < 128 := (i 4).isLt; omega⟩

/-- What a point computes for row `r`, from the arguments. -/
theorem point (c : Dev nD) (t : Fin cfg0.N) (s : Fin 6) (r : Fin 256) (l : Fin 512) :
    out (fun k => (iblk m c 0 t : FVec Ideal S1x256x1024 .f32) (ix3 0 r k)) (fun k => (iblk m c 1 t : FVec Ideal S1x1024 .f32) (ix2 0 k))
      (fun k l => (iblk m c 2 t : FVec Ideal S1024x3072 .bf16) (ix2 k l)) (BitVec.ofNat 32 (tok t r).val) s l
      = Ref.val (aX m c) (aG m c) (aW m c) (grid0.coords t 0) (tok t r) s l := by
  rw [funext fun k => blk0 m c t r k, funext fun k => blk1 m c t k, funext fun k => funext fun l => blk2 m c t k l]

theorem val_congr (c : Dev nD) (s : Fin 6) {b b' : Fin 8} {t t' : Fin 2048} {l l' : Fin 512} (hb : b'.val = b.val) (ht : t'.val = t.val) (hl : l'.val = l.val) :
    Ref.val (aX m c) (aG m c) (aW m c) b t s l = Ref.val (aX m c) (aG m c) (aW m c) b' t' s l' := by
  obtain rfl := Fin.ext hb
  obtain rfl := Fin.ext ht
  obtain rfl := Fin.ext hl
  rfl

/-- The point whose block holds token `t` of sequence `b`. -/
def at_ (b : Fin 8) (t : Fin 2048) : Fin cfg0.N := ⟨b.val * 8 + t.val / 256, by have hN : cfg0.N = 64 := N_0; rw [hN]; omega⟩
theorem at0 (b : Fin 8) (t : Fin 2048) : (BitVec.ofNat 32 (grid0.coords (at_ b t) 0).val).toNat = b.val := by
  rw [word8 _ (lt0 _), c0]; show (b.val * 8 + t.val / 256) / 8 % 8 = _; omega
theorem at1 (b : Fin 8) (t : Fin 2048) : (BitVec.ofNat 32 (grid0.coords (at_ b t) 1).val).toNat = t.val / 256 := by
  rw [word8 _ (lt1 _), c1]; show (b.val * 8 + t.val / 256) % 8 = _; omega

theorem final6 (c : Dev nD) : (dats m 0 c).arrAt 6 cfg0.N = byTok m c 0 := by
  refine funext fun (i : S8x2048x512.Idx) => ?_
  refine (dats m 0 c).arrAt_forall_of_cover 6 (fun i v => v = byTok m c 0 i) (fun t _ (y : S1x256x512.Idx) => ?_) (fun (i : S8x2048x512.Idx) => ?_) i
  · rw [Value.flushed6]
    have w0 := word8 _ (lt0 t)
    have w1 := word8 _ (lt1 t)
    have y0 : (y 0).val < 1 := (y 0).isLt
    have e := (out6_at (x := iblk m c 0 t) (g := iblk m c 1 t) (w := iblk m c 2 t) (tables m c t) y).trans (point m c t 0 (y 1) (y 2))
    generalize out0_6 (iblk m c 0 t) (iblk m c 1 t) (iblk m c 2 t) (iblk m c 3 t) (iblk m c 4 t) (iblk m c 5 t) = f at e ⊢
    dsimp only
    refine e.trans ?_
    show _ = Ref.val _ _ _ _ _ _ _
    refine val_congr m c 0 ?_ ?_ ?_
    · show (BitVec.ofNat 32 (grid0.coords t 0).val).toNat * 1 + 1 * (y 0).val = (grid0.coords t 0).val; omega
    · show (BitVec.ofNat 32 (grid0.coords t 1).val).toNat * 256 + 1 * (y 1).val = 256 * (grid0.coords t 1).val + (y 1).val; omega
    · show 0 * 512 + 1 * (y 2).val = (y 2).val; omega
  · refine ⟨at_ (i 0) (i 1), flush0_6 _, ?_⟩
    have b0 := at0 (i 0) (i 1)
    have b1 := at1 (i 0) (i 1)
    show i ∈ ((View.whole main_v33_0).slice (win0_6.rect (at_ (i 0) (i 1)))).set
    rw [View.set_slice_whole, Rect.mem_set_unit]
    intro a
    match a with
    | ⟨0, _⟩ => show (BitVec.ofNat 32 (grid0.coords (at_ (i 0) (i 1)) 0).val).toNat * 1 ≤ (i 0).val ∧ (i 0).val < (BitVec.ofNat 32 (grid0.coords (at_ (i 0) (i 1)) 0).val).toNat * 1 + 1; omega
    | ⟨1, _⟩ => show (BitVec.ofNat 32 (grid0.coords (at_ (i 0) (i 1)) 1).val).toNat * 256 ≤ (i 1).val ∧ (i 1).val < (BitVec.ofNat 32 (grid0.coords (at_ (i 0) (i 1)) 1).val).toNat * 256 + 256; omega
    | ⟨2, _⟩ => show 0 * 512 ≤ (i 2).val ∧ (i 2).val < 0 * 512 + 512; have h : (i 2).val < 512 := (i 2).isLt; omega

theorem final7 (c : Dev nD) : (dats m 0 c).arrAt 7 cfg0.N = byTok m c 1 := by
  refine funext fun (i : S8x2048x512.Idx) => ?_
  refine (dats m 0 c).arrAt_forall_of_cover 7 (fun i v => v = byTok m c 1 i) (fun t _ (y : S1x256x512.Idx) => ?_) (fun (i : S8x2048x512.Idx) => ?_) i
  · rw [Value.flushed7]
    have w0 := word8 _ (lt0 t)
    have w1 := word8 _ (lt1 t)
    have y0 : (y 0).val < 1 := (y 0).isLt
    have e := (out7_at (x := iblk m c 0 t) (g := iblk m c 1 t) (w := iblk m c 2 t) (tables m c t) y).trans (point m c t 1 (y 1) (y 2))
    generalize out0_7 (iblk m c 0 t) (iblk m c 1 t) (iblk m c 2 t) (iblk m c 3 t) (iblk m c 4 t) (iblk m c 5 t) = f at e ⊢
    dsimp only
    refine e.trans ?_
    show _ = Ref.val _ _ _ _ _ _ _
    refine val_congr m c 1 ?_ ?_ ?_
    · show (BitVec.ofNat 32 (grid0.coords t 0).val).toNat * 1 + 1 * (y 0).val = (grid0.coords t 0).val; omega
    · show (BitVec.ofNat 32 (grid0.coords t 1).val).toNat * 256 + 1 * (y 1).val = 256 * (grid0.coords t 1).val + (y 1).val; omega
    · show 0 * 512 + 1 * (y 2).val = (y 2).val; omega
  · refine ⟨at_ (i 0) (i 1), flush0_7 _, ?_⟩
    have b0 := at0 (i 0) (i 1)
    have b1 := at1 (i 0) (i 1)
    show i ∈ ((View.whole main_v33_1).slice (win0_7.rect (at_ (i 0) (i 1)))).set
    rw [View.set_slice_whole, Rect.mem_set_unit]
    intro a
    match a with
    | ⟨0, _⟩ => show (BitVec.ofNat 32 (grid0.coords (at_ (i 0) (i 1)) 0).val).toNat * 1 ≤ (i 0).val ∧ (i 0).val < (BitVec.ofNat 32 (grid0.coords (at_ (i 0) (i 1)) 0).val).toNat * 1 + 1; omega
    | ⟨1, _⟩ => show (BitVec.ofNat 32 (grid0.coords (at_ (i 0) (i 1)) 1).val).toNat * 256 ≤ (i 1).val ∧ (i 1).val < (BitVec.ofNat 32 (grid0.coords (at_ (i 0) (i 1)) 1).val).toNat * 256 + 256; omega
    | ⟨2, _⟩ => show 0 * 512 ≤ (i 2).val ∧ (i 2).val < 0 * 512 + 512; have h : (i 2).val < 512 := (i 2).isLt; omega

theorem final8 (c : Dev nD) : (dats m 0 c).arrAt 8 cfg0.N = byTok m c 2 := by
  refine funext fun (i : S8x2048x512.Idx) => ?_
  refine (dats m 0 c).arrAt_forall_of_cover 8 (fun i v => v = byTok m c 2 i) (fun t _ (y : S1x256x512.Idx) => ?_) (fun (i : S8x2048x512.Idx) => ?_) i
  · rw [Value.flushed8]
    have w0 := word8 _ (lt0 t)
    have w1 := word8 _ (lt1 t)
    have y0 : (y 0).val < 1 := (y 0).isLt
    have e := (out8_at (x := iblk m c 0 t) (g := iblk m c 1 t) (w := iblk m c 2 t) (tables m c t) y).trans (point m c t 2 (y 1) (y 2))
    generalize out0_8 (iblk m c 0 t) (iblk m c 1 t) (iblk m c 2 t) (iblk m c 3 t) (iblk m c 4 t) (iblk m c 5 t) = f at e ⊢
    dsimp only
    refine e.trans ?_
    show _ = Ref.val _ _ _ _ _ _ _
    refine val_congr m c 2 ?_ ?_ ?_
    · show (BitVec.ofNat 32 (grid0.coords t 0).val).toNat * 1 + 1 * (y 0).val = (grid0.coords t 0).val; omega
    · show (BitVec.ofNat 32 (grid0.coords t 1).val).toNat * 256 + 1 * (y 1).val = 256 * (grid0.coords t 1).val + (y 1).val; omega
    · show 0 * 512 + 1 * (y 2).val = (y 2).val; omega
  · refine ⟨at_ (i 0) (i 1), flush0_8 _, ?_⟩
    have b0 := at0 (i 0) (i 1)
    have b1 := at1 (i 0) (i 1)
    show i ∈ ((View.whole main_v33_2).slice (win0_8.rect (at_ (i 0) (i 1)))).set
    rw [View.set_slice_whole, Rect.mem_set_unit]
    intro a
    match a with
    | ⟨0, _⟩ => show (BitVec.ofNat 32 (grid0.coords (at_ (i 0) (i 1)) 0).val).toNat * 1 ≤ (i 0).val ∧ (i 0).val < (BitVec.ofNat 32 (grid0.coords (at_ (i 0) (i 1)) 0).val).toNat * 1 + 1; omega
    | ⟨1, _⟩ => show (BitVec.ofNat 32 (grid0.coords (at_ (i 0) (i 1)) 1).val).toNat * 256 ≤ (i 1).val ∧ (i 1).val < (BitVec.ofNat 32 (grid0.coords (at_ (i 0) (i 1)) 1).val).toNat * 256 + 256; omega
    | ⟨2, _⟩ => show 0 * 512 ≤ (i 2).val ∧ (i 2).val < 0 * 512 + 512; have h : (i 2).val < 512 := (i 2).isLt; omega

theorem final9 (c : Dev nD) : (dats m 0 c).arrAt 9 cfg0.N = byTok m c 3 := by
  refine funext fun (i : S8x2048x512.Idx) => ?_
  refine (dats m 0 c).arrAt_forall_of_cover 9 (fun i v => v = byTok m c 3 i) (fun t _ (y : S1x256x512.Idx) => ?_) (fun (i : S8x2048x512.Idx) => ?_) i
  · rw [Value.flushed9]
    have w0 := word8 _ (lt0 t)
    have w1 := word8 _ (lt1 t)
    have y0 : (y 0).val < 1 := (y 0).isLt
    have e := (out9_at (x := iblk m c 0 t) (g := iblk m c 1 t) (w := iblk m c 2 t) (tables m c t) y).trans (point m c t 3 (y 1) (y 2))
    generalize out0_9 (iblk m c 0 t) (iblk m c 1 t) (iblk m c 2 t) (iblk m c 3 t) (iblk m c 4 t) (iblk m c 5 t) = f at e ⊢
    dsimp only
    refine e.trans ?_
    show _ = Ref.val _ _ _ _ _ _ _
    refine val_congr m c 3 ?_ ?_ ?_
    · show (BitVec.ofNat 32 (grid0.coords t 0).val).toNat * 1 + 1 * (y 0).val = (grid0.coords t 0).val; omega
    · show (BitVec.ofNat 32 (grid0.coords t 1).val).toNat * 256 + 1 * (y 1).val = 256 * (grid0.coords t 1).val + (y 1).val; omega
    · show 0 * 512 + 1 * (y 2).val = (y 2).val; omega
  · refine ⟨at_ (i 0) (i 1), flush0_9 _, ?_⟩
    have b0 := at0 (i 0) (i 1)
    have b1 := at1 (i 0) (i 1)
    show i ∈ ((View.whole main_v33_3).slice (win0_9.rect (at_ (i 0) (i 1)))).set
    rw [View.set_slice_whole, Rect.mem_set_unit]
    intro a
    match a with
    | ⟨0, _⟩ => show (BitVec.ofNat 32 (grid0.coords (at_ (i 0) (i 1)) 0).val).toNat * 1 ≤ (i 0).val ∧ (i 0).val < (BitVec.ofNat 32 (grid0.coords (at_ (i 0) (i 1)) 0).val).toNat * 1 + 1; omega
    | ⟨1, _⟩ => show (BitVec.ofNat 32 (grid0.coords (at_ (i 0) (i 1)) 1).val).toNat * 256 ≤ (i 1).val ∧ (i 1).val < (BitVec.ofNat 32 (grid0.coords (at_ (i 0) (i 1)) 1).val).toNat * 256 + 256; omega
    | ⟨2, _⟩ => show 0 * 512 ≤ (i 2).val ∧ (i 2).val < 0 * 512 + 512; have h : (i 2).val < 512 := (i 2).isLt; omega

theorem final10 (c : Dev nD) : (dats m 0 c).arrAt 10 cfg0.N = by64 m c 1 := by
  refine funext fun (i : S8x1x8x2048x64.Idx) => ?_
  refine (dats m 0 c).arrAt_forall_of_cover 10 (fun i v => v = by64 m c 1 i) (fun t _ (y : S1x1x8x256x64.Idx) => ?_) (fun (i : S8x1x8x2048x64.Idx) => ?_) i
  · rw [Value.flushed10]
    have w0 := word8 _ (lt0 t)
    have w1 := word8 _ (lt1 t)
    have y0 : (y 0).val < 1 := (y 0).isLt
    have e := (out10_at (x := iblk m c 0 t) (g := iblk m c 1 t) (w := iblk m c 2 t) (tables m c t) y).trans (point m c t 1 (y 3) ⟨64 * (y 2).val + (y 4).val, by have h2 : (y 2).val < 8 := (y 2).isLt; have h4 : (y 4).val < 64 := (y 4).isLt; omega⟩)
    generalize out0_10 (iblk m c 0 t) (iblk m c 1 t) (iblk m c 2 t) (iblk m c 3 t) (iblk m c 4 t) (iblk m c 5 t) = f at e ⊢
    dsimp only
    refine e.trans ?_
    show _ = Ref.val _ _ _ _ _ _ _
    refine val_congr m c 1 ?_ ?_ ?_
    · show (BitVec.ofNat 32 (grid0.coords t 0).val).toNat * 1 + 1 * (y 0).val = (grid0.coords t 0).val; omega
    · show (BitVec.ofNat 32 (grid0.coords t 1).val).toNat * 256 + 1 * (y 3).val = 256 * (grid0.coords t 1).val + (y 3).val; omega
    · show 64 * (0 * 8 + 1 * (y 2).val) + (0 * 64 + 1 * (y 4).val) = 64 * (y 2).val + (y 4).val; omega
  · refine ⟨at_ (i 0) (i 3), flush0_10 _, ?_⟩
    have b0 := at0 (i 0) (i 3)
    have b1 := at1 (i 0) (i 3)
    show i ∈ ((View.whole main_v33_4).slice (win0_10.rect (at_ (i 0) (i 3)))).set
    rw [View.set_slice_whole, Rect.mem_set_unit]
    intro a
    match a with
    | ⟨0, _⟩ => show (BitVec.ofNat 32 (grid0.coords (at_ (i 0) (i 3)) 0).val).toNat * 1 ≤ (i 0).val ∧ (i 0).val < (BitVec.ofNat 32 (grid0.coords (at_ (i 0) (i 3)) 0).val).toNat * 1 + 1; omega
    | ⟨1, _⟩ => show 0 * 1 ≤ (i 1).val ∧ (i 1).val < 0 * 1 + 1; have h : (i 1).val < 1 := (i 1).isLt; omega
    | ⟨2, _⟩ => show 0 * 8 ≤ (i 2).val ∧ (i 2).val < 0 * 8 + 8; have h : (i 2).val < 8 := (i 2).isLt; omega
    | ⟨3, _⟩ => show (BitVec.ofNat 32 (grid0.coords (at_ (i 0) (i 3)) 1).val).toNat * 256 ≤ (i 3).val ∧ (i 3).val < (BitVec.ofNat 32 (grid0.coords (at_ (i 0) (i 3)) 1).val).toNat * 256 + 256; omega
    | ⟨4, _⟩ => show 0 * 64 ≤ (i 4).val ∧ (i 4).val < 0 * 64 + 64; have h : (i 4).val < 64 := (i 4).isLt; omega

theorem final11 (c : Dev nD) : (dats m 0 c).arrAt 11 cfg0.N = by64 m c 2 := by
  refine funext fun (i : S8x1x8x2048x64.Idx) => ?_
  refine (dats m 0 c).arrAt_forall_of_cover 11 (fun i v => v = by64 m c 2 i) (fun t _ (y : S1x1x8x256x64.Idx) => ?_) (fun (i : S8x1x8x2048x64.Idx) => ?_) i
  · rw [Value.flushed11]
    have w0 := word8 _ (lt0 t)
    have w1 := word8 _ (lt1 t)
    have y0 : (y 0).val < 1 := (y 0).isLt
    have e := (out11_at (x := iblk m c 0 t) (g := iblk m c 1 t) (w := iblk m c 2 t) (tables m c t) y).trans (point m c t 2 (y 3) ⟨64 * (y 2).val + (y 4).val, by have h2 : (y 2).val < 8 := (y 2).isLt; have h4 : (y 4).val < 64 := (y 4).isLt; omega⟩)
    generalize out0_11 (iblk m c 0 t) (iblk m c 1 t) (iblk m c 2 t) (iblk m c 3 t) (iblk m c 4 t) (iblk m c 5 t) = f at e ⊢
    dsimp only
    refine e.trans ?_
    show _ = Ref.val _ _ _ _ _ _ _
    refine val_congr m c 2 ?_ ?_ ?_
    · show (BitVec.ofNat 32 (grid0.coords t 0).val).toNat * 1 + 1 * (y 0).val = (grid0.coords t 0).val; omega
    · show (BitVec.ofNat 32 (grid0.coords t 1).val).toNat * 256 + 1 * (y 3).val = 256 * (grid0.coords t 1).val + (y 3).val; omega
    · show 64 * (0 * 8 + 1 * (y 2).val) + (0 * 64 + 1 * (y 4).val) = 64 * (y 2).val + (y 4).val; omega
  · refine ⟨at_ (i 0) (i 3), flush0_11 _, ?_⟩
    have b0 := at0 (i 0) (i 3)
    have b1 := at1 (i 0) (i 3)
    show i ∈ ((View.whole main_v33_5).slice (win0_11.rect (at_ (i 0) (i 3)))).set
    rw [View.set_slice_whole, Rect.mem_set_unit]
    intro a
    match a with
    | ⟨0, _⟩ => show (BitVec.ofNat 32 (grid0.coords (at_ (i 0) (i 3)) 0).val).toNat * 1 ≤ (i 0).val ∧ (i 0).val < (BitVec.ofNat 32 (grid0.coords (at_ (i 0) (i 3)) 0).val).toNat * 1 + 1; omega
    | ⟨1, _⟩ => show 0 * 1 ≤ (i 1).val ∧ (i 1).val < 0 * 1 + 1; have h : (i 1).val < 1 := (i 1).isLt; omega
    | ⟨2, _⟩ => show 0 * 8 ≤ (i 2).val ∧ (i 2).val < 0 * 8 + 8; have h : (i 2).val < 8 := (i 2).isLt; omega
    | ⟨3, _⟩ => show (BitVec.ofNat 32 (grid0.coords (at_ (i 0) (i 3)) 1).val).toNat * 256 ≤ (i 3).val ∧ (i 3).val < (BitVec.ofNat 32 (grid0.coords (at_ (i 0) (i 3)) 1).val).toNat * 256 + 256; omega
    | ⟨4, _⟩ => show 0 * 64 ≤ (i 4).val ∧ (i 4).val < 0 * 64 + 64; have h : (i 4).val < 64 := (i 4).isLt; omega

theorem final12 (c : Dev nD) : (dats m 0 c).arrAt 12 cfg0.N = by128 m c 4 := by
  refine funext fun (i : S8x1x4x2048x128.Idx) => ?_
  refine (dats m 0 c).arrAt_forall_of_cover 12 (fun i v => v = by128 m c 4 i) (fun t _ (y : S1x1x4x256x128.Idx) => ?_) (fun (i : S8x1x4x2048x128.Idx) => ?_) i
  · rw [Value.flushed12]
    have w0 := word8 _ (lt0 t)
    have w1 := word8 _ (lt1 t)
    have y0 : (y 0).val < 1 := (y 0).isLt
    have e := (out12_at (x := iblk m c 0 t) (g := iblk m c 1 t) (w := iblk m c 2 t) (tables m c t) y).trans (point m c t 4 (y 3) ⟨128 * (y 2).val + (y 4).val, by have h2 : (y 2).val < 4 := (y 2).isLt; have h4 : (y 4).val < 128 := (y 4).isLt; omega⟩)
    generalize out0_12 (iblk m c 0 t) (iblk m c 1 t) (iblk m c 2 t) (iblk m c 3 t) (iblk m c 4 t) (iblk m c 5 t) = f at e ⊢
    dsimp only
    refine e.trans ?_
    show _ = Ref.val _ _ _ _ _ _ _
    refine val_congr m c 4 ?_ ?_ ?_
    · show (BitVec.ofNat 32 (grid0.coords t 0).val).toNat * 1 + 1 * (y 0).val = (grid0.coords t 0).val; omega
    · show (BitVec.ofNat 32 (grid0.coords t 1).val).toNat * 256 + 1 * (y 3).val = 256 * (grid0.coords t 1).val + (y 3).val; omega
    · show 128 * (0 * 4 + 1 * (y 2).val) + (0 * 128 + 1 * (y 4).val) = 128 * (y 2).val + (y 4).val; omega
  · refine ⟨at_ (i 0) (i 3), flush0_12 _, ?_⟩
    have b0 := at0 (i 0) (i 3)
    have b1 := at1 (i 0) (i 3)
    show i ∈ ((View.whole main_v33_6).slice (win0_12.rect (at_ (i 0) (i 3)))).set
    rw [View.set_slice_whole, Rect.mem_set_unit]
    intro a
    match a with
    | ⟨0, _⟩ => show (BitVec.ofNat 32 (grid0.coords (at_ (i 0) (i 3)) 0).val).toNat * 1 ≤ (i 0).val ∧ (i 0).val < (BitVec.ofNat 32 (grid0.coords (at_ (i 0) (i 3)) 0).val).toNat * 1 + 1; omega
    | ⟨1, _⟩ => show 0 * 1 ≤ (i 1).val ∧ (i 1).val < 0 * 1 + 1; have h : (i 1).val < 1 := (i 1).isLt; omega
    | ⟨2, _⟩ => show 0 * 4 ≤ (i 2).val ∧ (i 2).val < 0 * 4 + 4; have h : (i 2).val < 4 := (i 2).isLt; omega
    | ⟨3, _⟩ => show (BitVec.ofNat 32 (grid0.coords (at_ (i 0) (i 3)) 1).val).toNat * 256 ≤ (i 3).val ∧ (i 3).val < (BitVec.ofNat 32 (grid0.coords (at_ (i 0) (i 3)) 1).val).toNat * 256 + 256; omega
    | ⟨4, _⟩ => show 0 * 128 ≤ (i 4).val ∧ (i 4).val < 0 * 128 + 128; have h : (i 4).val < 128 := (i 4).isLt; omega

theorem final13 (c : Dev nD) : (dats m 0 c).arrAt 13 cfg0.N = by128 m c 5 := by
  refine funext fun (i : S8x1x4x2048x128.Idx) => ?_
  refine (dats m 0 c).arrAt_forall_of_cover 13 (fun i v => v = by128 m c 5 i) (fun t _ (y : S1x1x4x256x128.Idx) => ?_) (fun (i : S8x1x4x2048x128.Idx) => ?_) i
  · rw [Value.flushed13]
    have w0 := word8 _ (lt0 t)
    have w1 := word8 _ (lt1 t)
    have y0 : (y 0).val < 1 := (y 0).isLt
    have e := (out13_at (x := iblk m c 0 t) (g := iblk m c 1 t) (w := iblk m c 2 t) (tables m c t) y).trans (point m c t 5 (y 3) ⟨128 * (y 2).val + (y 4).val, by have h2 : (y 2).val < 4 := (y 2).isLt; have h4 : (y 4).val < 128 := (y 4).isLt; omega⟩)
    generalize out0_13 (iblk m c 0 t) (iblk m c 1 t) (iblk m c 2 t) (iblk m c 3 t) (iblk m c 4 t) (iblk m c 5 t) = f at e ⊢
    dsimp only
    refine e.trans ?_
    show _ = Ref.val _ _ _ _ _ _ _
    refine val_congr m c 5 ?_ ?_ ?_
    · show (BitVec.ofNat 32 (grid0.coords t 0).val).toNat * 1 + 1 * (y 0).val = (grid0.coords t 0).val; omega
    · show (BitVec.ofNat 32 (grid0.coords t 1).val).toNat * 256 + 1 * (y 3).val = 256 * (grid0.coords t 1).val + (y 3).val; omega
    · show 128 * (0 * 4 + 1 * (y 2).val) + (0 * 128 + 1 * (y 4).val) = 128 * (y 2).val + (y 4).val; omega
  · refine ⟨at_ (i 0) (i 3), flush0_13 _, ?_⟩
    have b0 := at0 (i 0) (i 3)
    have b1 := at1 (i 0) (i 3)
    show i ∈ ((View.whole main_v33_7).slice (win0_13.rect (at_ (i 0) (i 3)))).set
    rw [View.set_slice_whole, Rect.mem_set_unit]
    intro a
    match a with
    | ⟨0, _⟩ => show (BitVec.ofNat 32 (grid0.coords (at_ (i 0) (i 3)) 0).val).toNat * 1 ≤ (i 0).val ∧ (i 0).val < (BitVec.ofNat 32 (grid0.coords (at_ (i 0) (i 3)) 0).val).toNat * 1 + 1; omega
    | ⟨1, _⟩ => show 0 * 1 ≤ (i 1).val ∧ (i 1).val < 0 * 1 + 1; have h : (i 1).val < 1 := (i 1).isLt; omega
    | ⟨2, _⟩ => show 0 * 4 ≤ (i 2).val ∧ (i 2).val < 0 * 4 + 4; have h : (i 2).val < 4 := (i 2).isLt; omega
    | ⟨3, _⟩ => show (BitVec.ofNat 32 (grid0.coords (at_ (i 0) (i 3)) 1).val).toNat * 256 ≤ (i 3).val ∧ (i 3).val < (BitVec.ofNat 32 (grid0.coords (at_ (i 0) (i 3)) 1).val).toNat * 256 + 256; omega
    | ⟨4, _⟩ => show 0 * 128 ≤ (i 4).val ∧ (i 4).val < 0 * 128 + 128; have h : (i 4).val < 128 := (i 4).isLt; omega

end Cert.Inp.Kern
end
-- ==== Proof.Inp.Claim.lean ====
/- The prompt's eight result arrays are the reference's: the claimed equation of the two runs, and the reference's frame. -/
module

public import proofs.«01_k».proof.Proof.Inp.Array
public import proofs.«01_k».proof.Proof.Gen.InProjRefIdeal.Run
public import proofs.«01_k».proof.Defs
public import Idealize.ShloMosaic.Lib.Quiescent

@[expose] public section

set_option maxRecDepth 16384

noncomputable section

namespace Cert.Inp.Kern

open Cert.InProjIdeal Cert.InProjIdeal.Gen Idealize.ShloMosaic Idealize.ShloMosaic.TcCoe Idealize.SL.Sem

variable (m : (ℓ : Loc nD τ sig) → Buf (Elt Ideal) ℓ)

theorem eq166 (c : Dev nD) : Cert.InProjRefIdeal.Read.val_main_v166 (F := Ideal) (aX m c) (aG m c) (aW m c) = byTok m c 0 := by
  funext i
  obtain ⟨b, t, l, rfl⟩ : ∃ (b : Fin 8) (t : Fin 2048) (l : Fin 512), i = ix3 b t l := ⟨i 0, i 1, i 2, eq_ix3 i⟩
  exact Ref.v166_at (aX m c) (aG m c) (aW m c) b t l

theorem eq167 (c : Dev nD) : Cert.InProjRefIdeal.Read.val_main_v167 (F := Ideal) (aX m c) (aG m c) (aW m c) = byTok m c 1 := by
  funext i
  obtain ⟨b, t, l, rfl⟩ : ∃ (b : Fin 8) (t : Fin 2048) (l : Fin 512), i = ix3 b t l := ⟨i 0, i 1, i 2, eq_ix3 i⟩
  exact Ref.v167_at (aX m c) (aG m c) (aW m c) b t l

theorem eq168 (c : Dev nD) : Cert.InProjRefIdeal.Read.val_main_v168 (F := Ideal) (aX m c) (aG m c) (aW m c) = byTok m c 2 := by
  funext i
  obtain ⟨b, t, l, rfl⟩ : ∃ (b : Fin 8) (t : Fin 2048) (l : Fin 512), i = ix3 b t l := ⟨i 0, i 1, i 2, eq_ix3 i⟩
  exact Ref.v168_at (aX m c) (aG m c) (aW m c) b t l

theorem eq169 (c : Dev nD) : Cert.InProjRefIdeal.Read.val_main_v169 (F := Ideal) (aX m c) (aG m c) (aW m c) = byTok m c 3 := by
  funext i
  obtain ⟨b, t, l, rfl⟩ : ∃ (b : Fin 8) (t : Fin 2048) (l : Fin 512), i = ix3 b t l := ⟨i 0, i 1, i 2, eq_ix3 i⟩
  exact Ref.v169_at (aX m c) (aG m c) (aW m c) b t l

theorem eq171 (c : Dev nD) : Cert.InProjRefIdeal.Read.val_main_v171 (F := Ideal) (aX m c) (aG m c) (aW m c) = by64 m c 1 := by
  funext i
  obtain ⟨b, o, h, t, d, rfl⟩ : ∃ (b : Fin 8) (o : Fin 1) (h : Fin 8) (t : Fin 2048) (d : Fin 64), i = ix5 b o h t d := ⟨i 0, i 1, i 2, i 3, i 4, eq_ix5 i⟩
  exact Ref.v171_at (aX m c) (aG m c) (aW m c) b o h t d

theorem eq173 (c : Dev nD) : Cert.InProjRefIdeal.Read.val_main_v173 (F := Ideal) (aX m c) (aG m c) (aW m c) = by64 m c 2 := by
  funext i
  obtain ⟨b, o, h, t, d, rfl⟩ : ∃ (b : Fin 8) (o : Fin 1) (h : Fin 8) (t : Fin 2048) (d : Fin 64), i = ix5 b o h t d := ⟨i 0, i 1, i 2, i 3, i 4, eq_ix5 i⟩
  exact Ref.v173_at (aX m c) (aG m c) (aW m c) b o h t d

theorem eq175 (c : Dev nD) : Cert.InProjRefIdeal.Read.val_main_v175 (F := Ideal) (aX m c) (aG m c) (aW m c) = by128 m c 4 := by
  funext i
  obtain ⟨b, o, h, t, d, rfl⟩ : ∃ (b : Fin 8) (o : Fin 1) (h : Fin 4) (t : Fin 2048) (d : Fin 128), i = ix5 b o h t d := ⟨i 0, i 1, i 2, i 3, i 4, eq_ix5 i⟩
  exact Ref.v175_at (aX m c) (aG m c) (aW m c) b o h t d

theorem eq177 (c : Dev nD) : Cert.InProjRefIdeal.Read.val_main_v177 (F := Ideal) (aX m c) (aG m c) (aW m c) = by128 m c 5 := by
  funext i
  obtain ⟨b, o, h, t, d, rfl⟩ : ∃ (b : Fin 8) (o : Fin 1) (h : Fin 4) (t : Fin 2048) (d : Fin 128), i = ix5 b o h t d := ⟨i 0, i 1, i 2, i 3, i 4, eq_ix5 i⟩
  exact Ref.v177_at (aX m c) (aG m c) (aW m c) b o h t d

theorem ref_frame : Cert.quiescent_InProjRefIdeal := fun m g _ =>
  θ_run_mono (Cert.InProjRefIdeal.Value.run m g) fun r h => ⟨fun c => (h c).2.2.2.2.2.2.2.2, sem_eq_zero_of_no_sems (by decide) r.2⟩

/-- The claimed equation of the two runs. -/
theorem algebraic : Cert.algebraic_InProjIdeal_InProjRefIdeal := by
  intro m g m' g' _ hargs
  refine ⟨fun c => byTok m c 0, fun c => byTok m c 1, fun c => byTok m c 2, fun c => byTok m c 3, fun c => by64 m c 1, fun c => by64 m c 2, fun c => by128 m c 4, fun c => by128 m c 5, ?_, ?_⟩
  · refine θ_run_mono (Value.run_blocks m g) (fun r h c => ?_)
    obtain ⟨h0, h1, h2, h3, h4, h5, h6, h7, k⟩ := h c
    exact ⟨h0.trans (final6 m c), h1.trans (final7 m c), h2.trans (final8 m c), h3.trans (final9 m c), h4.trans (final10 m c), h5.trans (final11 m c), h6.trans (final12 m c), h7.trans (final13 m c), k⟩
  · refine θ_run_mono (Cert.InProjRefIdeal.Value.run m' g') (fun r h c => ?_)
    obtain ⟨h0, h1, h2, h3, h4, h5, h6, h7, k⟩ := h c
    obtain ⟨a0, a1, a2⟩ := hargs c
    refine ⟨?_, ?_, ?_, ?_, ?_, ?_, ?_, ?_, k⟩
    · refine (h0.trans (Cert.InProjRefIdeal.Read.val_main_v166_eq _)).trans (Eq.trans ?_ (eq166 m c))
      exact congr (congr (congrArg (Cert.InProjRefIdeal.Read.val_main_v166 (F := Ideal)) a0) a1) a2
    · refine (h1.trans (Cert.InProjRefIdeal.Read.val_main_v167_eq _)).trans (Eq.trans ?_ (eq167 m c))
      exact congr (congr (congrArg (Cert.InProjRefIdeal.Read.val_main_v167 (F := Ideal)) a0) a1) a2
    · refine (h2.trans (Cert.InProjRefIdeal.Read.val_main_v168_eq _)).trans (Eq.trans ?_ (eq168 m c))
      exact congr (congr (congrArg (Cert.InProjRefIdeal.Read.val_main_v168 (F := Ideal)) a0) a1) a2
    · refine (h3.trans (Cert.InProjRefIdeal.Read.val_main_v169_eq _)).trans (Eq.trans ?_ (eq169 m c))
      exact congr (congr (congrArg (Cert.InProjRefIdeal.Read.val_main_v169 (F := Ideal)) a0) a1) a2
    · refine (h4.trans (Cert.InProjRefIdeal.Read.val_main_v171_eq _)).trans (Eq.trans ?_ (eq171 m c))
      exact congr (congr (congrArg (Cert.InProjRefIdeal.Read.val_main_v171 (F := Ideal)) a0) a1) a2
    · refine (h5.trans (Cert.InProjRefIdeal.Read.val_main_v173_eq _)).trans (Eq.trans ?_ (eq173 m c))
      exact congr (congr (congrArg (Cert.InProjRefIdeal.Read.val_main_v173 (F := Ideal)) a0) a1) a2
    · refine (h6.trans (Cert.InProjRefIdeal.Read.val_main_v175_eq _)).trans (Eq.trans ?_ (eq175 m c))
      exact congr (congr (congrArg (Cert.InProjRefIdeal.Read.val_main_v175 (F := Ideal)) a0) a1) a2
    · refine (h7.trans (Cert.InProjRefIdeal.Read.val_main_v177_eq _)).trans (Eq.trans ?_ (eq177 m c))
      exact congr (congr (congrArg (Cert.InProjRefIdeal.Read.val_main_v177 (F := Ideal)) a0) a1) a2

end Cert.Inp.Kern
end
-- ==== Proof.Outp.Ref.lean ====
/- The output projection's reference at an index: the residual after the projection, and the norm of its row. -/
module

public import proofs.«01_k».proof.Proof.Inp.Rope
public import proofs.«01_k».proof.Proof.Gen.OutProjRefIdeal.Read

@[expose] public section

set_option maxRecDepth 16384

noncomputable section

namespace Cert.Outp

open Idealize.ShloMosaic Cert.Inp

/-- Two rows of 512 side by side. -/
def side (a d : Fin 512 → EReal) (k : Fin 1024) : EReal :=
  if h : k.val < 512 then a ⟨k.val, h⟩ else d ⟨k.val - 512, by omega⟩

/-- A row after the output projection: the row before plus the two attentions' rows times the matrix. -/
def res (x : Fin 1024 → EReal) (a d : Fin 512 → EReal) (w : Fin 1024 → Fin 1024 → EReal) (l : Fin 1024) : EReal :=
  x l + ∑ k, side a d k * w k l

namespace Ref

open Cert.OutProjRefIdeal Cert.OutProjRefIdeal.Gen Cert.OutProjRefIdeal.Read

variable (x0 : FVec Ideal S16384x1024 .f32) (x1 x2 : FVec Ideal S16384x512 .f32) (x3 : FVec Ideal S1024x1024 .f32) (x4 : FVec Ideal S1x1024 .f32)

/-- Token `t`'s row after the projection. -/
abbrev row (t : Fin 16384) : Fin 1024 → EReal :=
  res (fun k => x0 (ix2 t k)) (fun k => x1 (ix2 t k)) (fun k => x2 (ix2 t k)) (fun k l => x3 (ix2 k l))

theorem v0_at (t : Fin 16384) (k : Fin 1024) :
    val_main_v0 (F := Ideal) x1 x2 (ix2 t k) = side (fun k => x1 (ix2 t k)) (fun k => x2 (ix2 t k)) k := by
  unfold side
  pointwise [val_main_v0]

theorem v2_at (t : Fin 16384) (l : Fin 1024) : val_main_v2 (F := Ideal) x0 x1 x2 x3 (ix2 t l) = row x0 x1 x2 x3 t l := by
  unfold row res
  pointwise [val_main_v2, val_main_v1]
  simp only [v0_at]

theorem v16_at (t : Fin 16384) (l : Fin 1024) :
    val_main_v16 (F := Ideal) x0 x1 x2 x3 x4 (ix2 t l) = nrm (row x0 x1 x2 x3 t) (fun k => x4 (ix2 0 k)) l := by
  unfold nrm
  pointwise [val_main_v16, val_main_v15, val_main_v14, val_main_v13, val_main_v12, val_main_v11, val_main_v10, val_main_v9, val_main_v8, val_main_v7, val_main_v6, val_main_v5, val_main_v4, val_main_v3]
  simp only [v2_at]
  rw [show val_main_cst (F := Ideal) (Shape.Idx.first Gen.h_S_) = 0 from zero_bits]
  simp only [zero_add]
  rfl

end Ref

end Cert.Outp
-- ==== Proof.Outp.Host.lean ====
/- What the output projection computes for a row of its block, read at an index; and the matrix it reads. -/
module

public import proofs.«01_k».proof.Proof.Outp.Ref
public import proofs.«01_k».proof.Proof.Gen.OutProjIdeal.Frame

@[expose] public section

set_option maxRecDepth 16384

noncomputable section

namespace Cert.Outp.Kern

open Cert.Inp Cert.OutProjIdeal Cert.OutProjIdeal.Gen Idealize.ShloMosaic Idealize.ShloMosaic.TcCoe Idealize.SL.Sem

variable (m : (ℓ : Loc nD τ sig) → Buf (Elt Ideal) ℓ)

/-- The matrix the call reads is the argument. -/
theorem V_w (c : Dev nD) (k l : Fin 1024) :
    (V m c main_v0 : FVec Ideal S1024x1024 .bf16) (ix2 k l) = (m ((c : Thread nD τ).loc main_arg3) : FVec Ideal S1024x1024 .f32) (ix2 k l) := by
  unfold_abbrev_sides
  after_results
  rfl

section
variable (x : Vec Ideal S512x1024 .f32) (a d : Vec Ideal S512x512 .f32) (w : Vec Ideal S1024x1024 .bf16) (g : Vec Ideal S1x1024 .f32)

/-- Row `r` of the block after the projection. -/
abbrev row (r : Fin 512) : Fin 1024 → EReal :=
  res (fun k => x (ix2 r k)) (fun k => a (ix2 r k)) (fun k => d (ix2 r k)) (fun k l => w (ix2 k l))

theorem pay5_at (r : Fin 512) (l : Fin 1024) : k0_pay5 (F := Ideal) a d x w (ix2 r l) = row x a d w r l := by
  unfold row res side
  pointwise [k0_pay5]

theorem pay6_at (r : Fin 512) (l : Fin 1024) : k0_pay6 (F := Ideal) a d x w g (ix2 r l) = nrm (row x a d w r) (fun k => g (ix2 0 k)) l := by
  unfold nrm
  pointwise [k0_pay6]
  simp only [pay5_at]

end

end Cert.Outp.Kern
end
-- ==== Proof.Outp.Kern.lean ====
/- What a point of the output projection leaves in its first two output blocks, at its first point and at the others. -/
module

public import proofs.«01_k».proof.Proof.Outp.Host
public import proofs.«01_k».proof.Proof.Gen.OutProjIdeal.Value
public import Idealize.ShloMosaic.Lib.Pipeline.ValueKit.Acc

@[expose] public section

set_option maxRecDepth 16384

noncomputable section

namespace Cert.Outp.Kern

open Cert.OutProjIdeal Cert.OutProjIdeal.Gen Idealize.ShloMosaic Idealize.ShloMosaic.TcCoe Idealize.SL.Sem

variable (m : (ℓ : Loc nD τ sig) → Buf (Elt Ideal) ℓ)

theorem flush7_A (c : Dev nD) (t : Fin cfg0.N) (h0 : t.val % 32 = 0) :
    (dats m 0 c).flushed 7 t = (cfg0.win 7).cut (grid0.coords t) (k0_pay5 (F := Ideal) (iblk m c 1 t) (iblk m c 2 t) (iblk m c 0 t) (iblk m c 3 t) : Vec Ideal S512x1024 .f32) := by
  rw [Value.flushed7_A m c t h0]
  refine congrArg _ ?_
  frame_out

theorem flush7_B (c : Dev nD) (t : Fin cfg0.N) (h0 : ¬ t.val % 32 = 0) :
    (dats m 0 c).flushed 7 t = (cfg0.win 7).cut (grid0.coords t) (k0_pay5 (F := Ideal) (iblk m c 1 t) (iblk m c 2 t) (iblk m c 0 t) (iblk m c 3 t) : Vec Ideal S512x1024 .f32) := by
  rw [Value.flushed7_B m c t h0]
  refine congrArg _ ?_
  frame_out

theorem flush8_A (c : Dev nD) (t : Fin cfg0.N) (h0 : t.val % 32 = 0) :
    (dats m 0 c).flushed 8 t = (cfg0.win 8).cut (grid0.coords t) (k0_pay6 (F := Ideal) (iblk m c 1 t) (iblk m c 2 t) (iblk m c 0 t) (iblk m c 3 t) (iblk m c 4 t) : Vec Ideal S512x1024 .f32) := by
  rw [Value.flushed8_A m c t h0]
  refine congrArg _ ?_
  frame_out

theorem flush8_B (c : Dev nD) (t : Fin cfg0.N) (h0 : ¬ t.val % 32 = 0) :
    (dats m 0 c).flushed 8 t = (cfg0.win 8).cut (grid0.coords t) (k0_pay6 (F := Ideal) (iblk m c 1 t) (iblk m c 2 t) (iblk m c 0 t) (iblk m c 3 t) (iblk m c 4 t) : Vec Ideal S512x1024 .f32) := by
  rw [Value.flushed8_B m c t h0]
  refine congrArg _ ?_
  frame_out

end Cert.Outp.Kern
end
-- ==== Proof.Outp.Array.lean ====
/- The output projection's first two result arrays after the run: at each token the row from the arguments, and its norm. -/
module

public import proofs.«01_k».proof.Proof.Outp.Kern

@[expose] public section

set_option maxRecDepth 16384

noncomputable section

namespace Cert.Outp.Kern

open Cert.Inp Cert.OutProjIdeal Cert.OutProjIdeal.Gen Idealize.ShloMosaic Idealize.ShloMosaic.TcCoe Idealize.SL.Sem

theorem c0 (t : Fin cfg0.N) : (grid0.coords t 0).val = t.val % 32 :=
  (Pipeline.Grid.coords_val t 0 (S := 1) (B := 32) (by decide) rfl).trans (by rw [Nat.div_one])

theorem lt0 (t : Fin cfg0.N) : (grid0.coords t 0).val < 32 := (grid0.coords t 0).isLt

theorem word (n : ℕ) (h : n < 32) : (BitVec.ofNat 32 n).toNat = n := by rw [BitVec.toNat_ofNat]; omega

variable (m : (ℓ : Loc nD τ sig) → Buf (Elt Ideal) ℓ)

/-- The arguments, as vectors. -/
abbrev aX (c : Dev nD) : FVec Ideal S16384x1024 .f32 := m ((c : Thread nD τ).loc main_arg0)
abbrev aA (c : Dev nD) : FVec Ideal S16384x512 .f32 := m ((c : Thread nD τ).loc main_arg1)
abbrev aD (c : Dev nD) : FVec Ideal S16384x512 .f32 := m ((c : Thread nD τ).loc main_arg2)
abbrev aW (c : Dev nD) : FVec Ideal S1024x1024 .f32 := m ((c : Thread nD τ).loc main_arg3)
abbrev aG (c : Dev nD) : FVec Ideal S1x1024 .f32 := m ((c : Thread nD τ).loc main_arg4)

/-- The token in row `r` of the block that point `t` takes. -/
def tok (t : Fin cfg0.N) (r : Fin 512) : Fin 16384 := ⟨512 * (grid0.coords t 0).val + r.val, by have := lt0 t; omega⟩

theorem blk0 (c : Dev nD) (t : Fin cfg0.N) (r : Fin 512) (k : Fin 1024) :
    (iblk m c 0 t : FVec Ideal S512x1024 .f32) (ix2 r k) = aX m c (ix2 (tok t r) k) := by
  refine Eq.trans ?_ (congrFun (V_main_arg0 m c) _)
  unfold iblk
  rw [View.read_apply]
  refine congrArg (V m c main_arg0) (funext fun a => Fin.ext ?_)
  match a with
  | ⟨0, _⟩ => show (BitVec.ofNat 32 (grid0.coords t 0).val).toNat * 512 + 1 * r.val = 512 * (grid0.coords t 0).val + r.val; rw [word _ (lt0 t)]; omega
  | ⟨1, _⟩ => show 0 * 1024 + 1 * k.val = k.val; omega

theorem blk1 (c : Dev nD) (t : Fin cfg0.N) (r : Fin 512) (k : Fin 512) :
    (iblk m c 1 t : FVec Ideal S512x512 .f32) (ix2 r k) = aA m c (ix2 (tok t r) k) := by
  refine Eq.trans ?_ (congrFun (V_main_arg1 m c) _)
  unfold iblk
  rw [View.read_apply]
  refine congrArg (V m c main_arg1) (funext fun a => Fin.ext ?_)
  match a with
  | ⟨0, _⟩ => show (BitVec.ofNat 32 (grid0.coords t 0).val).toNat * 512 + 1 * r.val = 512 * (grid0.coords t 0).val + r.val; rw [word _ (lt0 t)]; omega
  | ⟨1, _⟩ => show 0 * 512 + 1 * k.val = k.val; omega

theorem blk2 (c : Dev nD) (t : Fin cfg0.N) (r : Fin 512) (k : Fin 512) :
    (iblk m c 2 t : FVec Ideal S512x512 .f32) (ix2 r k) = aD m c (ix2 (tok t r) k) := by
  refine Eq.trans ?_ (congrFun (V_main_arg2 m c) _)
  unfold iblk
  rw [View.read_apply]
  refine congrArg (V m c main_arg2) (funext fun a => Fin.ext ?_)
  match a with
  | ⟨0, _⟩ => show (BitVec.ofNat 32 (grid0.coords t 0).val).toNat * 512 + 1 * r.val = 512 * (grid0.coords t 0).val + r.val; rw [word _ (lt0 t)]; omega
  | ⟨1, _⟩ => show 0 * 512 + 1 * k.val = k.val; omega

theorem blk3 (c : Dev nD) (t : Fin cfg0.N) (k l : Fin 1024) :
    (iblk m c 3 t : FVec Ideal S1024x1024 .bf16) (ix2 k l) = (aW m c (ix2 k l) : EReal) := by
  refine Eq.trans ?_ (V_w m c k l)
  unfold iblk
  rw [View.read_apply]
  refine congrArg (V m c main_v0) (funext fun a => Fin.ext ?_)
  match a with
  | ⟨0, _⟩ => show 0 * 1024 + 1 * k.val = k.val; omega
  | ⟨1, _⟩ => show 0 * 1024 + 1 * l.val = l.val; omega

theorem blk4 (c : Dev nD) (t : Fin cfg0.N) (k : Fin 1024) : (iblk m c 4 t : FVec Ideal S1x1024 .f32) (ix2 0 k) = aG m c (ix2 0 k) := by
  refine Eq.trans ?_ (congrFun (V_main_arg4 m c) _)
  unfold iblk
  rw [View.read_apply]
  refine congrArg (V m c main_arg4) (funext fun a => Fin.ext ?_)
  match a with
  | ⟨0, _⟩ => show 0 * 1 + 1 * 0 = 0; omega
  | ⟨1, _⟩ => show 0 * 1024 + 1 * k.val = k.val; omega

/-- The row a point computes, from the arguments. -/
theorem point (c : Dev nD) (t : Fin cfg0.N) (r : Fin 512) :
    row (iblk m c 0 t) (iblk m c 1 t) (iblk m c 2 t) (iblk m c 3 t) r = Ref.row (aX m c) (aA m c) (aD m c) (aW m c) (tok t r) := by
  unfold row Ref.row
  rw [funext fun k => blk0 m c t r k, funext fun k => blk1 m c t r k, funext fun k => blk2 m c t r k, funext fun k => funext fun l => blk3 m c t k l]

/-- The residual, and its norm. -/
def resid (c : Dev nD) : Vec Ideal S16384x1024 .f32 := fun i => Ref.row (aX m c) (aA m c) (aD m c) (aW m c) (i 0) (i 1)
def normed (c : Dev nD) : Vec Ideal S16384x1024 .f32 := fun i =>
  nrm (Ref.row (aX m c) (aA m c) (aD m c) (aW m c) (i 0)) (fun k => aG m c (ix2 0 k)) (i 1)

/-- What a point leaves in the two blocks, from the arguments. -/
theorem resid_at (c : Dev nD) (t : Fin cfg0.N) (y : S512x1024.Idx) :
    (k0_pay5 (F := Ideal) (iblk m c 1 t) (iblk m c 2 t) (iblk m c 0 t) (iblk m c 3 t) : Vec Ideal S512x1024 .f32) y
      = resid m c (ix2 (tok t (y 0)) (y 1 : Fin 1024)) := by
  obtain ⟨r, l, rfl⟩ : ∃ (r : Fin 512) (l : Fin 1024), y = ix2 r l := ⟨y 0, y 1, eq_ix2 y⟩
  exact (pay5_at _ _ _ _ r l).trans (congrFun (point m c t r) l)

theorem normed_at (c : Dev nD) (t : Fin cfg0.N) (y : S512x1024.Idx) :
    (k0_pay6 (F := Ideal) (iblk m c 1 t) (iblk m c 2 t) (iblk m c 0 t) (iblk m c 3 t) (iblk m c 4 t) : Vec Ideal S512x1024 .f32) y
      = normed m c (ix2 (tok t (y 0)) (y 1 : Fin 1024)) := by
  obtain ⟨r, l, rfl⟩ : ∃ (r : Fin 512) (l : Fin 1024), y = ix2 r l := ⟨y 0, y 1, eq_ix2 y⟩
  refine (pay6_at _ _ _ _ _ r l).trans ?_
  rw [point m c t r, funext fun k => blk4 m c t k]
  rfl

/-- The point whose block holds token `n`. -/
def at_ (n : Fin 16384) : Fin cfg0.N := ⟨n.val / 512, by have hN : cfg0.N = 32 := N_0; rw [hN]; omega⟩
theorem at0 (n : Fin 16384) : (BitVec.ofNat 32 (grid0.coords (at_ n) 0).val).toNat = n.val / 512 := by
  rw [word _ (lt0 _), c0]; show n.val / 512 % 32 = _; omega

theorem flush7 (c : Dev nD) (t : Fin cfg0.N) :
    (dats m 0 c).flushed 7 t = (cfg0.win 7).cut (grid0.coords t) (k0_pay5 (F := Ideal) (iblk m c 1 t) (iblk m c 2 t) (iblk m c 0 t) (iblk m c 3 t) : Vec Ideal S512x1024 .f32) :=
  if h0 : t.val % 32 = 0 then flush7_A m c t h0 else flush7_B m c t h0

theorem final7 (c : Dev nD) : (dats m 0 c).arrAt 7 cfg0.N = resid m c := by
  refine funext fun (i : S16384x1024.Idx) => ?_
  refine (dats m 0 c).arrAt_forall_of_cover 7 (fun i v => v = resid m c i) (fun t _ (y : S512x1024.Idx) => ?_) (fun (i : S16384x1024.Idx) => ?_) i
  · rw [flush7]
    have w0 := word _ (lt0 t)
    have e := resid_at m c t y
    generalize (k0_pay5 (F := Ideal) (iblk m c 1 t) (iblk m c 2 t) (iblk m c 0 t) (iblk m c 3 t) : Vec Ideal S512x1024 .f32) = f at e ⊢
    dsimp only
    refine e.trans (congrArg (resid m c) (funext fun a => Fin.ext ?_))
    match a with
    | ⟨0, _⟩ => show 512 * (grid0.coords t 0).val + (y 0).val = (BitVec.ofNat 32 (grid0.coords t 0).val).toNat * 512 + 1 * (y 0).val; omega
    | ⟨1, _⟩ => show (y 1).val = 0 * 1024 + 1 * (y 1).val; omega
  · refine ⟨at_ (i 0), flush0_7 _, ?_⟩
    have b0 := at0 (i 0)
    show i ∈ ((View.whole main_v1_0).slice (win0_7.rect (at_ (i 0)))).set
    rw [View.set_slice_whole, Rect.mem_set_unit]
    intro a
    match a with
    | ⟨0, _⟩ => show (BitVec.ofNat 32 (grid0.coords (at_ (i 0)) 0).val).toNat * 512 ≤ (i 0).val ∧ (i 0).val < (BitVec.ofNat 32 (grid0.coords (at_ (i 0)) 0).val).toNat * 512 + 512; omega
    | ⟨1, _⟩ => show 0 * 1024 ≤ (i 1).val ∧ (i 1).val < 0 * 1024 + 1024; have h : (i 1).val < 1024 := (i 1).isLt; omega

theorem flush8 (c : Dev nD) (t : Fin cfg0.N) :
    (dats m 0 c).flushed 8 t = (cfg0.win 8).cut (grid0.coords t) (k0_pay6 (F := Ideal) (iblk m c 1 t) (iblk m c 2 t) (iblk m c 0 t) (iblk m c 3 t) (iblk m c 4 t) : Vec Ideal S512x1024 .f32) :=
  if h0 : t.val % 32 = 0 then flush8_A m c t h0 else flush8_B m c t h0

theorem final8 (c : Dev nD) : (dats m 0 c).arrAt 8 cfg0.N = normed m c := by
  refine funext fun (i : S16384x1024.Idx) => ?_
  refine (dats m 0 c).arrAt_forall_of_cover 8 (fun i v => v = normed m c i) (fun t _ (y : S512x1024.Idx) => ?_) (fun (i : S16384x1024.Idx) => ?_) i
  · rw [flush8]
    have w0 := word _ (lt0 t)
    have e := normed_at m c t y
    generalize (k0_pay6 (F := Ideal) (iblk m c 1 t) (iblk m c 2 t) (iblk m c 0 t) (iblk m c 3 t) (iblk m c 4 t) : Vec Ideal S512x1024 .f32) = f at e ⊢
    dsimp only
    refine e.trans (congrArg (normed m c) (funext fun a => Fin.ext ?_))
    match a with
    | ⟨0, _⟩ => show 512 * (grid0.coords t 0).val + (y 0).val = (BitVec.ofNat 32 (grid0.coords t 0).val).toNat * 512 + 1 * (y 0).val; omega
    | ⟨1, _⟩ => show (y 1).val = 0 * 1024 + 1 * (y 1).val; omega
  · refine ⟨at_ (i 0), flush0_8 _, ?_⟩
    have b0 := at0 (i 0)
    show i ∈ ((View.whole main_v1_1).slice (win0_8.rect (at_ (i 0)))).set
    rw [View.set_slice_whole, Rect.mem_set_unit]
    intro a
    match a with
    | ⟨0, _⟩ => show (BitVec.ofNat 32 (grid0.coords (at_ (i 0)) 0).val).toNat * 512 ≤ (i 0).val ∧ (i 0).val < (BitVec.ofNat 32 (grid0.coords (at_ (i 0)) 0).val).toNat * 512 + 512; omega
    | ⟨1, _⟩ => show 0 * 1024 ≤ (i 1).val ∧ (i 1).val < 0 * 1024 + 1024; have h : (i 1).val < 1024 := (i 1).isLt; omega

end Cert.Outp.Kern
end
-- ==== Proof.Outp.Claim.lean ====
/- The output projection's two result arrays are the reference's: the claimed equation of the two runs, and the reference's frame. -/
module

public import proofs.«01_k».proof.Proof.Outp.Array
public import proofs.«01_k».proof.Proof.Gen.OutProjRefIdeal.Run
public import proofs.«01_k».proof.Defs
public import Idealize.ShloMosaic.Lib.Quiescent

@[expose] public section

set_option maxRecDepth 16384

noncomputable section

namespace Cert.Outp.Kern

open Cert.OutProjIdeal Cert.OutProjIdeal.Gen Idealize.ShloMosaic Idealize.ShloMosaic.TcCoe Idealize.SL.Sem

variable (m : (ℓ : Loc nD τ sig) → Buf (Elt Ideal) ℓ)

theorem eq2 (c : Dev nD) : Cert.OutProjRefIdeal.Read.val_main_v2 (F := Ideal) (aX m c) (aA m c) (aD m c) (aW m c) = resid m c := by
  funext i
  obtain ⟨t, l, rfl⟩ : ∃ (t : Fin 16384) (l : Fin 1024), i = ix2 t l := ⟨i 0, i 1, eq_ix2 i⟩
  exact Ref.v2_at (aX m c) (aA m c) (aD m c) (aW m c) t l

theorem eq16 (c : Dev nD) : Cert.OutProjRefIdeal.Read.val_main_v16 (F := Ideal) (aX m c) (aA m c) (aD m c) (aW m c) (aG m c) = normed m c := by
  funext i
  obtain ⟨t, l, rfl⟩ : ∃ (t : Fin 16384) (l : Fin 1024), i = ix2 t l := ⟨i 0, i 1, eq_ix2 i⟩
  exact Ref.v16_at (aX m c) (aA m c) (aD m c) (aW m c) (aG m c) t l

theorem ref_frame : Cert.quiescent_OutProjRefIdeal := fun m g _ =>
  θ_run_mono (Cert.OutProjRefIdeal.Value.run m g) fun r h => ⟨fun c => (h c).2.2, sem_eq_zero_of_no_sems (by decide) r.2⟩

/-- The claimed equation of the two runs. -/
theorem algebraic : Cert.algebraic_OutProjIdeal_OutProjRefIdeal := by
  intro m g m' g' _ hargs
  refine ⟨fun c => resid m c, fun c => normed m c, ?_, ?_⟩
  · refine θ_run_mono (Value.run_blocks m g) (fun r h c => ?_)
    obtain ⟨h0, h1, _, _, _, _, k⟩ := h c
    exact ⟨h0.trans (final7 m c), h1.trans (final8 m c), k⟩
  · refine θ_run_mono (Cert.OutProjRefIdeal.Value.run m' g') (fun r h c => ?_)
    obtain ⟨h0, h1, k⟩ := h c
    obtain ⟨a0, a1, a2, a3, a4, _, _⟩ := hargs c
    refine ⟨?_, ?_, k⟩
    · refine (h0.trans (Cert.OutProjRefIdeal.Read.val_main_v2_eq _ _ _ _)).trans (Eq.trans ?_ (eq2 m c))
      exact congr (congr (congr (congrArg (Cert.OutProjRefIdeal.Read.val_main_v2 (F := Ideal)) a0) a1) a2) a3
    · refine (h1.trans (Cert.OutProjRefIdeal.Read.val_main_v16_eq _ _ _ _ _)).trans (Eq.trans ?_ (eq16 m c))
      exact congr (congr (congr (congr (congrArg (Cert.OutProjRefIdeal.Read.val_main_v16 (F := Ideal)) a0) a1) a2) a3) a4

end Cert.Outp.Kern
end
-- ==== Proof.Outp.Sample.Ref.lean ====
/- The sample's output projection's reference at an index: the residual after the projection, and the norm of its row. -/
module

public import proofs.«01_k».proof.Proof.Outp.Ref
public import proofs.«01_k».proof.Proof.Gen.OutProjSRefIdeal.Read

@[expose] public section

set_option maxRecDepth 16384

noncomputable section

namespace Cert.Outp.Sample

open Idealize.ShloMosaic Cert.Inp Cert.Outp

namespace Ref

open Cert.OutProjSRefIdeal Cert.OutProjSRefIdeal.Gen Cert.OutProjSRefIdeal.Read

variable (x0 : FVec Ideal S128x1024 .f32) (x1 x2 : FVec Ideal S128x512 .f32) (x3 : FVec Ideal S1024x1024 .f32) (x4 : FVec Ideal S1x1024 .f32)

/-- Token `t`'s row after the projection. -/
abbrev row (t : Fin 128) : Fin 1024 → EReal :=
  res (fun k => x0 (ix2 t k)) (fun k => x1 (ix2 t k)) (fun k => x2 (ix2 t k)) (fun k l => x3 (ix2 k l))

theorem v0_at (t : Fin 128) (k : Fin 1024) :
    val_main_v0 (F := Ideal) x1 x2 (ix2 t k) = side (fun k => x1 (ix2 t k)) (fun k => x2 (ix2 t k)) k := by
  unfold side
  pointwise [val_main_v0]

theorem v2_at (t : Fin 128) (l : Fin 1024) : val_main_v2 (F := Ideal) x0 x1 x2 x3 (ix2 t l) = row x0 x1 x2 x3 t l := by
  unfold row res
  pointwise [val_main_v2, val_main_v1]
  simp only [v0_at]

theorem v16_at (t : Fin 128) (l : Fin 1024) :
    val_main_v16 (F := Ideal) x0 x1 x2 x3 x4 (ix2 t l) = nrm (row x0 x1 x2 x3 t) (fun k => x4 (ix2 0 k)) l := by
  unfold nrm
  pointwise [val_main_v16, val_main_v15, val_main_v14, val_main_v13, val_main_v12, val_main_v11, val_main_v10, val_main_v9, val_main_v8, val_main_v7, val_main_v6, val_main_v5, val_main_v4, val_main_v3]
  simp only [v2_at]
  rw [show val_main_cst (F := Ideal) (Shape.Idx.first Gen.h_S_) = 0 from zero_bits]
  simp only [zero_add]
  rfl

end Ref

end Cert.Outp.Sample
-- ==== Proof.Outp.Sample.Host.lean ====
/- What the sample's output projection computes for a row of its block, read at an index; and the matrix it reads. -/
module

public import proofs.«01_k».proof.Proof.Outp.Sample.Ref
public import proofs.«01_k».proof.Proof.Gen.OutProjSIdeal.Frame

@[expose] public section

set_option maxRecDepth 16384

noncomputable section

namespace Cert.Outp.Sample.Kern

open Cert.Inp Cert.Outp Cert.OutProjSIdeal Cert.OutProjSIdeal.Gen Idealize.ShloMosaic Idealize.ShloMosaic.TcCoe Idealize.SL.Sem

variable (m : (ℓ : Loc nD τ sig) → Buf (Elt Ideal) ℓ)

/-- The matrix the call reads is the argument. -/
theorem V_w (c : Dev nD) (k l : Fin 1024) :
    (V m c main_v0 : FVec Ideal S1024x1024 .bf16) (ix2 k l) = (m ((c : Thread nD τ).loc main_arg3) : FVec Ideal S1024x1024 .f32) (ix2 k l) := by
  unfold_abbrev_sides
  after_results
  rfl

section
variable (x : Vec Ideal S128x1024 .f32) (a d : Vec Ideal S128x512 .f32) (w : Vec Ideal S1024x1024 .bf16) (g : Vec Ideal S1x1024 .f32)

/-- Row `r` of the block after the projection. -/
abbrev row (r : Fin 128) : Fin 1024 → EReal :=
  res (fun k => x (ix2 r k)) (fun k => a (ix2 r k)) (fun k => d (ix2 r k)) (fun k l => w (ix2 k l))

theorem pay5_at (r : Fin 128) (l : Fin 1024) : k0_pay5 (F := Ideal) a d x w (ix2 r l) = row x a d w r l := by
  unfold row res side
  pointwise [k0_pay5]

theorem pay6_at (r : Fin 128) (l : Fin 1024) : k0_pay6 (F := Ideal) a d x w g (ix2 r l) = nrm (row x a d w r) (fun k => g (ix2 0 k)) l := by
  unfold nrm
  pointwise [k0_pay6]
  simp only [pay5_at]

end

end Cert.Outp.Sample.Kern
end
-- ==== Proof.Outp.Sample.Kern.lean ====
/- What a point of the sample's output projection leaves in its first two output blocks. -/
module

public import proofs.«01_k».proof.Proof.Outp.Sample.Host
public import proofs.«01_k».proof.Proof.Gen.OutProjSIdeal.Value
public import Idealize.ShloMosaic.Lib.Pipeline.ValueKit.Acc

@[expose] public section

set_option maxRecDepth 16384

noncomputable section

namespace Cert.Outp.Sample.Kern

open Cert.OutProjSIdeal Cert.OutProjSIdeal.Gen Idealize.ShloMosaic Idealize.ShloMosaic.TcCoe Idealize.SL.Sem

variable (m : (ℓ : Loc nD τ sig) → Buf (Elt Ideal) ℓ)

theorem flush7 (c : Dev nD) (t : Fin cfg0.N) :
    (dats m 0 c).flushed 7 t = (cfg0.win 7).cut (grid0.coords t) (k0_pay5 (F := Ideal) (iblk m c 1 t) (iblk m c 2 t) (iblk m c 0 t) (iblk m c 3 t) : Vec Ideal S128x1024 .f32) := by
  rw [Value.flushed7_A m c t]
  refine congrArg _ ?_
  frame_out

theorem flush8 (c : Dev nD) (t : Fin cfg0.N) :
    (dats m 0 c).flushed 8 t = (cfg0.win 8).cut (grid0.coords t) (k0_pay6 (F := Ideal) (iblk m c 1 t) (iblk m c 2 t) (iblk m c 0 t) (iblk m c 3 t) (iblk m c 4 t) : Vec Ideal S128x1024 .f32) := by
  rw [Value.flushed8_A m c t]
  refine congrArg _ ?_
  frame_out

end Cert.Outp.Sample.Kern
end
-- ==== Proof.Outp.Sample.Array.lean ====
/- The sample's output projection's first two result arrays after the run: at each token the row from the arguments, and its norm. -/
module

public import proofs.«01_k».proof.Proof.Outp.Sample.Kern

@[expose] public section

set_option maxRecDepth 16384

noncomputable section

namespace Cert.Outp.Sample.Kern

open Cert.Inp Cert.Outp Cert.OutProjSIdeal Cert.OutProjSIdeal.Gen Idealize.ShloMosaic Idealize.ShloMosaic.TcCoe Idealize.SL.Sem

theorem c0 (t : Fin cfg0.N) : (grid0.coords t 0).val = t.val % 1 :=
  (Pipeline.Grid.coords_val t 0 (S := 1) (B := 1) (by decide) rfl).trans (by rw [Nat.div_one])

theorem lt0 (t : Fin cfg0.N) : (grid0.coords t 0).val < 1 := (grid0.coords t 0).isLt

theorem word (n : ℕ) (h : n < 1) : (BitVec.ofNat 32 n).toNat = n := by rw [BitVec.toNat_ofNat]; omega

variable (m : (ℓ : Loc nD τ sig) → Buf (Elt Ideal) ℓ)

/-- The arguments, as vectors. -/
abbrev aX (c : Dev nD) : FVec Ideal S128x1024 .f32 := m ((c : Thread nD τ).loc main_arg0)
abbrev aA (c : Dev nD) : FVec Ideal S128x512 .f32 := m ((c : Thread nD τ).loc main_arg1)
abbrev aD (c : Dev nD) : FVec Ideal S128x512 .f32 := m ((c : Thread nD τ).loc main_arg2)
abbrev aW (c : Dev nD) : FVec Ideal S1024x1024 .f32 := m ((c : Thread nD τ).loc main_arg3)
abbrev aG (c : Dev nD) : FVec Ideal S1x1024 .f32 := m ((c : Thread nD τ).loc main_arg4)

/-- The token in row `r` of the block that point `t` takes. -/
def tok (t : Fin cfg0.N) (r : Fin 128) : Fin 128 := ⟨128 * (grid0.coords t 0).val + r.val, by have := lt0 t; omega⟩

theorem blk0 (c : Dev nD) (t : Fin cfg0.N) (r : Fin 128) (k : Fin 1024) :
    (iblk m c 0 t : FVec Ideal S128x1024 .f32) (ix2 r k) = aX m c (ix2 (tok t r) k) := by
  refine Eq.trans ?_ (congrFun (V_main_arg0 m c) _)
  unfold iblk
  rw [View.read_apply]
  refine congrArg (V m c main_arg0) (funext fun a => Fin.ext ?_)
  match a with
  | ⟨0, _⟩ => show (BitVec.ofNat 32 (grid0.coords t 0).val).toNat * 128 + 1 * r.val = 128 * (grid0.coords t 0).val + r.val; rw [word _ (lt0 t)]; omega
  | ⟨1, _⟩ => show 0 * 1024 + 1 * k.val = k.val; omega

theorem blk1 (c : Dev nD) (t : Fin cfg0.N) (r : Fin 128) (k : Fin 512) :
    (iblk m c 1 t : FVec Ideal S128x512 .f32) (ix2 r k) = aA m c (ix2 (tok t r) k) := by
  refine Eq.trans ?_ (congrFun (V_main_arg1 m c) _)
  unfold iblk
  rw [View.read_apply]
  refine congrArg (V m c main_arg1) (funext fun a => Fin.ext ?_)
  match a with
  | ⟨0, _⟩ => show (BitVec.ofNat 32 (grid0.coords t 0).val).toNat * 128 + 1 * r.val = 128 * (grid0.coords t 0).val + r.val; rw [word _ (lt0 t)]; omega
  | ⟨1, _⟩ => show 0 * 512 + 1 * k.val = k.val; omega

theorem blk2 (c : Dev nD) (t : Fin cfg0.N) (r : Fin 128) (k : Fin 512) :
    (iblk m c 2 t : FVec Ideal S128x512 .f32) (ix2 r k) = aD m c (ix2 (tok t r) k) := by
  refine Eq.trans ?_ (congrFun (V_main_arg2 m c) _)
  unfold iblk
  rw [View.read_apply]
  refine congrArg (V m c main_arg2) (funext fun a => Fin.ext ?_)
  match a with
  | ⟨0, _⟩ => show (BitVec.ofNat 32 (grid0.coords t 0).val).toNat * 128 + 1 * r.val = 128 * (grid0.coords t 0).val + r.val; rw [word _ (lt0 t)]; omega
  | ⟨1, _⟩ => show 0 * 512 + 1 * k.val = k.val; omega

theorem blk3 (c : Dev nD) (t : Fin cfg0.N) (k l : Fin 1024) :
    (iblk m c 3 t : FVec Ideal S1024x1024 .bf16) (ix2 k l) = (aW m c (ix2 k l) : EReal) := by
  refine Eq.trans ?_ (V_w m c k l)
  unfold iblk
  rw [View.read_apply]
  refine congrArg (V m c main_v0) (funext fun a => Fin.ext ?_)
  match a with
  | ⟨0, _⟩ => show 0 * 1024 + 1 * k.val = k.val; omega
  | ⟨1, _⟩ => show 0 * 1024 + 1 * l.val = l.val; omega

theorem blk4 (c : Dev nD) (t : Fin cfg0.N) (k : Fin 1024) : (iblk m c 4 t : FVec Ideal S1x1024 .f32) (ix2 0 k) = aG m c (ix2 0 k) := by
  refine Eq.trans ?_ (congrFun (V_main_arg4 m c) _)
  unfold iblk
  rw [View.read_apply]
  refine congrArg (V m c main_arg4) (funext fun a => Fin.ext ?_)
  match a with
  | ⟨0, _⟩ => show 0 * 1 + 1 * 0 = 0; omega
  | ⟨1, _⟩ => show 0 * 1024 + 1 * k.val = k.val; omega

/-- The row a point computes, from the arguments. -/
theorem point (c : Dev nD) (t : Fin cfg0.N) (r : Fin 128) :
    row (iblk m c 0 t) (iblk m c 1 t) (iblk m c 2 t) (iblk m c 3 t) r = Ref.row (aX m c) (aA m c) (aD m c) (aW m c) (tok t r) := by
  unfold row Ref.row
  rw [funext fun k => blk0 m c t r k, funext fun k => blk1 m c t r k, funext fun k => blk2 m c t r k, funext fun k => funext fun l => blk3 m c t k l]

/-- The residual, and its norm. -/
def resid (c : Dev nD) : Vec Ideal S128x1024 .f32 := fun i => Ref.row (aX m c) (aA m c) (aD m c) (aW m c) (i 0) (i 1)
def normed (c : Dev nD) : Vec Ideal S128x1024 .f32 := fun i =>
  nrm (Ref.row (aX m c) (aA m c) (aD m c) (aW m c) (i 0)) (fun k => aG m c (ix2 0 k)) (i 1)

/-- What a point leaves in the two blocks, from the arguments. -/
theorem resid_at (c : Dev nD) (t : Fin cfg0.N) (y : S128x1024.Idx) :
    (k0_pay5 (F := Ideal) (iblk m c 1 t) (iblk m c 2 t) (iblk m c 0 t) (iblk m c 3 t) : Vec Ideal S128x1024 .f32) y
      = resid m c (ix2 (tok t (y 0)) (y 1 : Fin 1024)) := by
  obtain ⟨r, l, rfl⟩ : ∃ (r : Fin 128) (l : Fin 1024), y = ix2 r l := ⟨y 0, y 1, eq_ix2 y⟩
  exact (pay5_at _ _ _ _ r l).trans (congrFun (point m c t r) l)

theorem normed_at (c : Dev nD) (t : Fin cfg0.N) (y : S128x1024.Idx) :
    (k0_pay6 (F := Ideal) (iblk m c 1 t) (iblk m c 2 t) (iblk m c 0 t) (iblk m c 3 t) (iblk m c 4 t) : Vec Ideal S128x1024 .f32) y
      = normed m c (ix2 (tok t (y 0)) (y 1 : Fin 1024)) := by
  obtain ⟨r, l, rfl⟩ : ∃ (r : Fin 128) (l : Fin 1024), y = ix2 r l := ⟨y 0, y 1, eq_ix2 y⟩
  refine (pay6_at _ _ _ _ _ r l).trans ?_
  rw [point m c t r, funext fun k => blk4 m c t k]
  rfl

/-- The point whose block holds token `n`. -/
def at_ (n : Fin 128) : Fin cfg0.N := ⟨n.val / 128, by have hN : cfg0.N = 1 := N_0; rw [hN]; omega⟩
theorem at0 (n : Fin 128) : (BitVec.ofNat 32 (grid0.coords (at_ n) 0).val).toNat = n.val / 128 := by
  rw [word _ (lt0 _), c0]; show n.val / 128 % 1 = _; omega

theorem final7 (c : Dev nD) : (dats m 0 c).arrAt 7 cfg0.N = resid m c := by
  refine funext fun (i : S128x1024.Idx) => ?_
  refine (dats m 0 c).arrAt_forall_of_cover 7 (fun i v => v = resid m c i) (fun t _ (y : S128x1024.Idx) => ?_) (fun (i : S128x1024.Idx) => ?_) i
  · rw [flush7]
    have w0 := word _ (lt0 t)
    have e := resid_at m c t y
    generalize (k0_pay5 (F := Ideal) (iblk m c 1 t) (iblk m c 2 t) (iblk m c 0 t) (iblk m c 3 t) : Vec Ideal S128x1024 .f32) = f at e ⊢
    dsimp only
    refine e.trans (congrArg (resid m c) (funext fun a => Fin.ext ?_))
    match a with
    | ⟨0, _⟩ => show 128 * (grid0.coords t 0).val + (y 0).val = (BitVec.ofNat 32 (grid0.coords t 0).val).toNat * 128 + 1 * (y 0).val; omega
    | ⟨1, _⟩ => show (y 1).val = 0 * 1024 + 1 * (y 1).val; omega
  · refine ⟨at_ (i 0), flush0_7 _, ?_⟩
    have b0 := at0 (i 0)
    show i ∈ ((View.whole main_v1_0).slice (win0_7.rect (at_ (i 0)))).set
    rw [View.set_slice_whole, Rect.mem_set_unit]
    intro a
    match a with
    | ⟨0, _⟩ => show (BitVec.ofNat 32 (grid0.coords (at_ (i 0)) 0).val).toNat * 128 ≤ (i 0).val ∧ (i 0).val < (BitVec.ofNat 32 (grid0.coords (at_ (i 0)) 0).val).toNat * 128 + 128; omega
    | ⟨1, _⟩ => show 0 * 1024 ≤ (i 1).val ∧ (i 1).val < 0 * 1024 + 1024; have h : (i 1).val < 1024 := (i 1).isLt; omega

theorem final8 (c : Dev nD) : (dats m 0 c).arrAt 8 cfg0.N = normed m c := by
  refine funext fun (i : S128x1024.Idx) => ?_
  refine (dats m 0 c).arrAt_forall_of_cover 8 (fun i v => v = normed m c i) (fun t _ (y : S128x1024.Idx) => ?_) (fun (i : S128x1024.Idx) => ?_) i
  · rw [flush8]
    have w0 := word _ (lt0 t)
    have e := normed_at m c t y
    generalize (k0_pay6 (F := Ideal) (iblk m c 1 t) (iblk m c 2 t) (iblk m c 0 t) (iblk m c 3 t) (iblk m c 4 t) : Vec Ideal S128x1024 .f32) = f at e ⊢
    dsimp only
    refine e.trans (congrArg (normed m c) (funext fun a => Fin.ext ?_))
    match a with
    | ⟨0, _⟩ => show 128 * (grid0.coords t 0).val + (y 0).val = (BitVec.ofNat 32 (grid0.coords t 0).val).toNat * 128 + 1 * (y 0).val; omega
    | ⟨1, _⟩ => show (y 1).val = 0 * 1024 + 1 * (y 1).val; omega
  · refine ⟨at_ (i 0), flush0_8 _, ?_⟩
    have b0 := at0 (i 0)
    show i ∈ ((View.whole main_v1_1).slice (win0_8.rect (at_ (i 0)))).set
    rw [View.set_slice_whole, Rect.mem_set_unit]
    intro a
    match a with
    | ⟨0, _⟩ => show (BitVec.ofNat 32 (grid0.coords (at_ (i 0)) 0).val).toNat * 128 ≤ (i 0).val ∧ (i 0).val < (BitVec.ofNat 32 (grid0.coords (at_ (i 0)) 0).val).toNat * 128 + 128; omega
    | ⟨1, _⟩ => show 0 * 1024 ≤ (i 1).val ∧ (i 1).val < 0 * 1024 + 1024; have h : (i 1).val < 1024 := (i 1).isLt; omega

end Cert.Outp.Sample.Kern
end
-- ==== Proof.Outp.Sample.Claim.lean ====
/- The sample's output projection's two result arrays are the reference's: the claimed equation of the two runs, and the reference's frame. -/
module

public import proofs.«01_k».proof.Proof.Outp.Sample.Array
public import proofs.«01_k».proof.Proof.Gen.OutProjSRefIdeal.Run
public import proofs.«01_k».proof.Defs
public import Idealize.ShloMosaic.Lib.Quiescent

@[expose] public section

set_option maxRecDepth 16384

noncomputable section

namespace Cert.Outp.Sample.Kern

open Cert.OutProjSIdeal Cert.OutProjSIdeal.Gen Idealize.ShloMosaic Idealize.ShloMosaic.TcCoe Idealize.SL.Sem

variable (m : (ℓ : Loc nD τ sig) → Buf (Elt Ideal) ℓ)

theorem eq2 (c : Dev nD) : Cert.OutProjSRefIdeal.Read.val_main_v2 (F := Ideal) (aX m c) (aA m c) (aD m c) (aW m c) = resid m c := by
  funext i
  obtain ⟨t, l, rfl⟩ : ∃ (t : Fin 128) (l : Fin 1024), i = ix2 t l := ⟨i 0, i 1, eq_ix2 i⟩
  exact Ref.v2_at (aX m c) (aA m c) (aD m c) (aW m c) t l

theorem eq16 (c : Dev nD) : Cert.OutProjSRefIdeal.Read.val_main_v16 (F := Ideal) (aX m c) (aA m c) (aD m c) (aW m c) (aG m c) = normed m c := by
  funext i
  obtain ⟨t, l, rfl⟩ : ∃ (t : Fin 128) (l : Fin 1024), i = ix2 t l := ⟨i 0, i 1, eq_ix2 i⟩
  exact Ref.v16_at (aX m c) (aA m c) (aD m c) (aW m c) (aG m c) t l

theorem ref_frame : Cert.quiescent_OutProjSRefIdeal := fun m g _ =>
  θ_run_mono (Cert.OutProjSRefIdeal.Value.run m g) fun r h => ⟨fun c => (h c).2.2, sem_eq_zero_of_no_sems (by decide) r.2⟩

/-- The claimed equation of the two runs. -/
theorem algebraic : Cert.algebraic_OutProjSIdeal_OutProjSRefIdeal := by
  intro m g m' g' _ hargs
  refine ⟨fun c => resid m c, fun c => normed m c, ?_, ?_⟩
  · refine θ_run_mono (Value.run_blocks m g) (fun r h c => ?_)
    obtain ⟨h0, h1, _, _, _, _, k⟩ := h c
    exact ⟨h0.trans (final7 m c), h1.trans (final8 m c), k⟩
  · refine θ_run_mono (Cert.OutProjSRefIdeal.Value.run m' g') (fun r h c => ?_)
    obtain ⟨h0, h1, k⟩ := h c
    obtain ⟨a0, a1, a2, a3, a4, _, _⟩ := hargs c
    refine ⟨?_, ?_, k⟩
    · refine (h0.trans (Cert.OutProjSRefIdeal.Read.val_main_v2_eq _ _ _ _)).trans (Eq.trans ?_ (eq2 m c))
      exact congr (congr (congr (congrArg (Cert.OutProjSRefIdeal.Read.val_main_v2 (F := Ideal)) a0) a1) a2) a3
    · refine (h1.trans (Cert.OutProjSRefIdeal.Read.val_main_v16_eq _ _ _ _ _)).trans (Eq.trans ?_ (eq16 m c))
      exact congr (congr (congr (congr (congrArg (Cert.OutProjSRefIdeal.Read.val_main_v16 (F := Ideal)) a0) a1) a2) a3) a4

end Cert.Outp.Sample.Kern
end
-- ==== Proof.Inp.Sample.Host.lean ====
/- The sample's host lines before the call: the three rotary tables and the projection matrix in the narrower float. -/
module

public import proofs.«01_k».proof.Proof.Inp.Rope
public import proofs.«01_k».proof.Proof.Gen.InProjSIdeal.Frame

@[expose] public section

set_option maxRecDepth 16384

noncomputable section

namespace Cert.Inp.Sample.Kern

open Cert.InProjSIdeal Cert.InProjSIdeal.Gen Idealize.ShloMosaic Idealize.ShloMosaic.TcCoe Idealize.SL.Sem

variable (m : (ℓ : Loc nD τ sig) → Buf (Elt Ideal) ℓ)

/-- The matrix the call reads is the argument. -/
theorem V_w (c : Dev nD) (k : Fin 1024) (l : Fin 3072) :
    (V m c main_v35 : FVec Ideal S1024x3072 .bf16) (ix2 k l) = (m ((c : Thread nD τ).loc main_arg2) : FVec Ideal S1024x3072 .f32) (ix2 k l) := by
  unfold_abbrev_sides
  after_results
  rfl

/-- The rows the call reads are the argument's, one per sequence. -/
theorem V_x (c : Dev nD) (r : Fin 128) (k : Fin 1024) :
    (V m c main_v34 : FVec Ideal S1x128x1024 .f32) (ix3 0 r k) = (m ((c : Thread nD τ).loc main_arg0) : FVec Ideal S128x1x1024 .f32) (ix3 r 0 k) := by
  unfold_abbrev_sides
  after_results
  pointwise

/-- The table of cosines: every row is at position 8192. -/
theorem V_cos (c : Dev nD) (t : Fin 128) (q : Fin 128) :
    (V m c main_v27 : FVec Ideal S128x128 .f32) (ix2 t q) = cosOf (fun j => Ideal.cos (angle (8192#32) j)) q := by
  unfold angle cosOf
  unfold_abbrev_sides
  after_results
  pointwise
  by_cases h : q.val % 64 < 8
  · rw [dif_pos h, dif_pos h]
    refine (congrFun (StableHlo.unary_result_ne (τ := τ) (Val := Elt Ideal) (y := main_v17) (r := main_v15) (h := by decide) ..) _).trans ?_
    refine (congrFun (StableHlo.nullary_result_ne (τ := τ) (Val := Elt Ideal) (y := main_cst_2) (r := main_v15) (h := by decide) ..) _).trans ?_
    refine (congrFun (StableHlo.unary_result_ne (τ := τ) (Val := Elt Ideal) (y := main_v16) (r := main_v15) (h := by decide) ..) _).trans ?_
    refine (congrFun (StableHlo.unary_result (τ := τ) (Val := Elt Ideal) main_v14 main_v15 _ _ _ _) _).trans ?_
    simp only [↓ StableHlo.readResult, ↓ StableHlo.readPieces, -eq_self]
    pointwise
    rfl
  · rw [dif_neg h, dif_neg h]
    by_cases h' : q.val % 64 < 16
    · rw [dif_pos h', dif_pos (show q.val % 64 - 8 < 8 by omega)]
      refine (congrFun (StableHlo.unary_result_ne (τ := τ) (Val := Elt Ideal) (y := main_v17) (r := main_v15) (h := by decide) ..) _).trans ?_
      refine (congrFun (StableHlo.nullary_result_ne (τ := τ) (Val := Elt Ideal) (y := main_cst_2) (r := main_v15) (h := by decide) ..) _).trans ?_
      refine (congrFun (StableHlo.unary_result_ne (τ := τ) (Val := Elt Ideal) (y := main_v16) (r := main_v15) (h := by decide) ..) _).trans ?_
      refine (congrFun (StableHlo.unary_result (τ := τ) (Val := Elt Ideal) main_v14 main_v15 _ _ _ _) _).trans ?_
      simp only [↓ StableHlo.readResult, ↓ StableHlo.readPieces, -eq_self]
      pointwise
      rfl
    · refine (dif_neg (show ¬q.val % 64 - 8 < 8 by omega)).trans (Eq.trans ?_ (dif_neg h').symm)
      refine (congrFun (StableHlo.unary_result (τ := τ) (Val := Elt Ideal) main_cst_2 main_v17 _ _ _ _) _).trans ?_
      exact (congrFun (StableHlo.nullary_result (τ := τ) (Val := Elt Ideal) main_cst_2 _ _ _) _).trans one_bits

/-- The table of the sines negated. -/
theorem V_neg (c : Dev nD) (t : Fin 128) (q : Fin 128) :
    (V m c main_v30 : FVec Ideal S128x128 .f32) (ix2 t q) = negOf (fun j => Ideal.sin (angle (8192#32) j)) q := by
  unfold angle negOf
  unfold_abbrev_sides
  after_results
  pointwise
  rfl

/-- The table of the sines. -/
theorem V_sin (c : Dev nD) (t : Fin 128) (q : Fin 128) :
    (V m c main_v33 : FVec Ideal S128x128 .f32) (ix2 t q) = sinOf (fun j => Ideal.sin (angle (8192#32) j)) q := by
  unfold angle sinOf
  unfold_abbrev_sides
  after_results
  pointwise
  by_cases h : q.val % 64 < 8
  · rw [dif_pos h, dif_pos h]
    refine (congrFun (StableHlo.unary_result_ne (τ := τ) (Val := Elt Ideal) (y := main_v23) (r := main_v22) (h := by decide) ..) _).trans ?_
    refine (congrFun (StableHlo.nullary_result_ne (τ := τ) (Val := Elt Ideal) (y := main_cst_5) (r := main_v22) (h := by decide) ..) _).trans ?_
    refine (congrFun (StableHlo.unary_result (τ := τ) (Val := Elt Ideal) main_cst_4 main_v22 _ _ _ _) _).trans ?_
    exact (congrFun (StableHlo.nullary_result (τ := τ) (Val := Elt Ideal) main_cst_4 _ _ _) _).trans zero_bits
  · rw [dif_neg h, dif_neg h]
    by_cases h' : q.val % 64 < 16
    · rw [dif_pos h', dif_pos (show q.val % 64 - 8 < 8 by omega)]
      refine (congrFun (StableHlo.unary_result_ne (τ := τ) (Val := Elt Ideal) (y := main_v23) (r := main_v16) (h := by decide) ..) _).trans ?_
      refine (congrFun (StableHlo.nullary_result_ne (τ := τ) (Val := Elt Ideal) (y := main_cst_5) (r := main_v16) (h := by decide) ..) _).trans ?_
      refine (congrFun (StableHlo.unary_result_ne (τ := τ) (Val := Elt Ideal) (y := main_v22) (r := main_v16) (h := by decide) ..) _).trans ?_
      refine (congrFun (StableHlo.nullary_result_ne (τ := τ) (Val := Elt Ideal) (y := main_cst_4) (r := main_v16) (h := by decide) ..) _).trans ?_
      refine (congrFun (StableHlo.binary_result_ne (τ := τ) (Val := Elt Ideal) (y := main_v21) (r := main_v16) (h := by decide) ..) _).trans ?_
      refine (congrFun (StableHlo.unary_result_ne (τ := τ) (Val := Elt Ideal) (y := main_v20) (r := main_v16) (h := by decide) ..) _).trans ?_
      refine (congrFun (StableHlo.nullary_result_ne (τ := τ) (Val := Elt Ideal) (y := main_cst_3) (r := main_v16) (h := by decide) ..) _).trans ?_
      refine (congrFun (StableHlo.unary_result_ne (τ := τ) (Val := Elt Ideal) (y := main_v19) (r := main_v16) (h := by decide) ..) _).trans ?_
      refine (congrFun (StableHlo.nary_result_ne (τ := τ) (Val := Elt Ideal) (y := main_v18) (r := main_v16) (h := by decide) ..) _).trans ?_
      refine (congrFun (StableHlo.unary_result_ne (τ := τ) (Val := Elt Ideal) (y := main_v17) (r := main_v16) (h := by decide) ..) _).trans ?_
      refine (congrFun (StableHlo.nullary_result_ne (τ := τ) (Val := Elt Ideal) (y := main_cst_2) (r := main_v16) (h := by decide) ..) _).trans ?_
      refine (congrFun (StableHlo.unary_result (τ := τ) (Val := Elt Ideal) main_v14 main_v16 _ _ _ _) _).trans ?_
      simp only [↓ StableHlo.readResult, ↓ StableHlo.readPieces, -eq_self]
      pointwise
      rfl
    · refine (dif_neg (show ¬q.val % 64 - 8 < 8 by omega)).trans (Eq.trans ?_ (dif_neg h').symm)
      refine (congrFun (StableHlo.unary_result (τ := τ) (Val := Elt Ideal) main_cst_5 main_v23 _ _ _ _) _).trans ?_
      exact (congrFun (StableHlo.nullary_result (τ := τ) (Val := Elt Ideal) main_cst_5 _ _ _) _).trans zero_bits

end Cert.Inp.Sample.Kern
-- ==== Proof.Inp.Sample.Kern.lean ====
/- The sample's body: what its six stores leave at an index of its one block, as a section of the projected row. -/
module

public import proofs.«01_k».proof.Proof.Inp.Rope
public import proofs.«01_k».proof.Proof.Gen.InProjSIdeal.Value
public import Idealize.ShloMosaic.Lib.Pointwise

@[expose] public section

set_option maxRecDepth 16384

noncomputable section

namespace Cert.Inp.Sample.Kern

open Cert.InProjSIdeal Cert.InProjSIdeal.Gen Idealize.ShloMosaic Idealize.ShloMosaic.TcCoe Idealize.SL.Sem

variable (x : Vec Ideal S1x128x1024 .f32) (g : Vec Ideal S1x1024 .f32) (w : Vec Ideal S1024x3072 .bf16) (c sa sb : Vec Ideal S128x128 .f32)

/-- A section of the block: the normalised rows times 512 columns of the matrix. -/
theorem pay8_at (v : Vec Ideal S1024x512 .bf16) (r : Fin 128) (l : Fin 512) :
    k0_pay11 (F := Ideal) x g v (ix2 r l) = ∑ k : Fin 1024, nrm (fun k => x (ix3 0 r k)) (fun k => g (ix2 0 k)) k * (v (ix2 k l) : EReal) := by
  unfold nrm
  pointwise [k0_pay11, k0_pay7]

/-- A section with its four groups of 128 columns turned by the tables. -/
abbrev turned (v : Vec Ideal S1024x512 .bf16) : M 128 512 :=
  heads (k0_pay11 (F := Ideal) x g v) (k0_pay8 c) (k0_pay9 sa) (k0_pay10 sb) rotates_S128x128_d1 slices_S128x512_o0_0_S128x128
    slices_S128x512_o0_128_S128x128 slices_S128x512_o0_256_S128x128 slices_S128x512_o0_384_S128x128
    concatenates_S128x128_S128x128_S128x128_S128x128_S128x512_d1

theorem sec0 (v : Vec Ideal S1024x512 .bf16) : k0_pay15 (k0_pay8 c) (k0_pay9 sa) (k0_pay10 sb) (k0_pay11 x g v) (k0_pay12 x g c sa sb v) (k0_pay13 x g v) (k0_pay14 x g c sa v)
    = turned x g c sa sb v := rfl

theorem sec1 (v : Vec Ideal S1024x512 .bf16) : k0_pay22 (k0_pay8 c) (k0_pay9 sa) (k0_pay10 sb) (k0_pay16 (k0_pay7 x g) v)
      (k0_pay17 (k0_pay7 x g) (k0_pay8 c) (k0_pay9 sa) (k0_pay10 sb) v) (k0_pay18 (k0_pay7 x g) (k0_pay8 c) (k0_pay9 sa) (k0_pay10 sb) v)
      (k0_pay20 (k0_pay7 x g) (k0_pay8 c) (k0_pay9 sa) v) (k0_pay21 (k0_pay7 x g) (k0_pay10 sb) v)
    = turned x g c sa sb v := rfl

theorem sec3 (v : Vec Ideal S1024x512 .bf16) : k0_pay30 (k0_pay10 sb) (k0_pay25 (k0_pay7 x g) (k0_pay8 c) (k0_pay9 sa) (k0_pay10 sb) v)
      (k0_pay26 (k0_pay7 x g) (k0_pay8 c) (k0_pay9 sa) (k0_pay10 sb) v) (k0_pay27 (k0_pay7 x g) (k0_pay8 c) (k0_pay9 sa) (k0_pay10 sb) v)
      (k0_pay28 (k0_pay7 x g) v) (k0_pay29 (k0_pay7 x g) (k0_pay8 c) (k0_pay9 sa) v)
    = turned x g c sa sb v := rfl

theorem sec4 (v : Vec Ideal S1024x512 .bf16) : k0_pay31 (k0_pay7 x g) (k0_pay8 c) (k0_pay9 sa) (k0_pay10 sb) v = turned x g c sa sb v := rfl

theorem sec2 (v : Vec Ideal S1024x512 .bf16) : k0_pay23 (k0_pay7 x g) v = k0_pay11 x g v := rfl

theorem sec5 (v : Vec Ideal S1024x512 .bf16) : k0_pay32 (k0_pay7 x g) v = k0_pay11 x g v := rfl

theorem pay5_at (r : Fin 128) (q : Fin 128) : k0_pay8 (F := Ideal) c (ix2 r q) = (c (ix2 r q) : EReal) := by pointwise [k0_pay8]
theorem pay6_at (r : Fin 128) (q : Fin 128) : k0_pay9 (F := Ideal) c (ix2 r q) = (c (ix2 r q) : EReal) := by pointwise [k0_pay9]
theorem pay7_at (r : Fin 128) (q : Fin 128) : k0_pay10 (F := Ideal) c (ix2 r q) = (c (ix2 r q) : EReal) := by pointwise [k0_pay10]

/-- What the three tables hold for the rows of the block, whose positions are `z`. -/
structure Tables (z : Fin 128 → BitVec 32) : Prop where
  cos : ∀ r q, c (ix2 r q) = cosOf (fun j => Ideal.cos (angle (z r) j)) q
  neg : ∀ r q, sa (ix2 r q) = negOf (fun j => Ideal.sin (angle (z r) j)) q
  sin : ∀ r q, sb (ix2 r q) = sinOf (fun j => Ideal.sin (angle (z r) j)) q

variable {x g w c sa sb}

/-- The columns of section `s` of the matrix, taken out. -/
theorem ld_at (s : Fin 6) (o : ℕ) (ho : o = 512 * s.val) (inb) (k : Fin 1024) (l : Fin 512) :
    View.ld w (Rect.unit (s := S1024x3072) ![0, o] S1024x512.size inb) (ix2 k l) = w (ix2 k ⟨512 * s.val + l.val, by omega⟩) := by
  subst ho
  unfold View.ld
  refine congrArg w (funext fun a => ?_)
  match a with
  | ⟨0, _⟩ => exact Fin.ext (show 0 + 1 * k.val = k.val by omega)
  | ⟨1, _⟩ => exact Fin.ext (show 512 * s.val + 1 * l.val = 512 * s.val + l.val by omega)

theorem plain_at (s : Fin 6) (o : ℕ) (ho : o = 512 * s.val) (inb) (r : Fin 128) (l : Fin 512) :
    k0_pay11 (F := Ideal) x g (View.ld w (Rect.unit (s := S1024x3072) ![0, o] S1024x512.size inb)) (ix2 r l)
      = sec (fun k => x (ix3 0 r k)) (fun k => g (ix2 0 k)) (fun k l => w (ix2 k l)) s l := by
  rw [pay8_at]
  unfold sec
  exact Finset.sum_congr rfl fun k _ => congrArg (_ * ·) (ld_at s o ho inb k l)

theorem turned_at {z : Fin 128 → BitVec 32} (T : Tables c sa sb z) (s : Fin 6) (o : ℕ) (ho : o = 512 * s.val) (inb) (r : Fin 128) (l : Fin 512) :
    turned x g c sa sb (View.ld w (Rect.unit (s := S1024x3072) ![0, o] S1024x512.size inb)) (ix2 r l)
      = rot (sec (fun k => x (ix3 0 r k)) (fun k => g (ix2 0 k)) (fun k l => w (ix2 k l)) s)
          (fun j => Ideal.cos (angle (z r) j)) (fun j => Ideal.sin (angle (z r) j)) l := by
  refine (heads_at _ _ _ _ _ _ _ _ _ _ r l).trans ?_
  rw [← mix_eq]
  have e1 : (fun q => k0_pay8 (F := Ideal) c (ix2 r q)) = cosOf (fun j => Ideal.cos (angle (z r) j)) := funext fun q => (pay5_at c r q).trans (T.cos r q)
  have e2 : (fun q => k0_pay9 (F := Ideal) sa (ix2 r q)) = negOf (fun j => Ideal.sin (angle (z r) j)) := funext fun q => (pay6_at sa r q).trans (T.neg r q)
  have e3 : (fun q => k0_pay10 (F := Ideal) sb (ix2 r q)) = sinOf (fun j => Ideal.sin (angle (z r) j)) := funext fun q => (pay7_at sb r q).trans (T.sin r q)
  have e0 : (fun l => k0_pay11 (F := Ideal) x g (View.ld w (Rect.unit (s := S1024x3072) ![0, o] S1024x512.size inb)) (ix2 r l))
      = sec (fun k => x (ix3 0 r k)) (fun k => g (ix2 0 k)) (fun k l => w (ix2 k l)) s := funext fun l => plain_at s o ho inb r l
  exact congr (congr (congr (congr (congrArg mix e0) e1) e2) e3) rfl

theorem ldx (inb) : View.ld x (Rect.unit (s := S1x128x1024) ![0, 0, 0] (no_index S1x128x1024.size) inb) = x :=
  View.ld_unit_zero (S := S1x128x1024) (by funext a; match a with | ⟨0, _⟩ => rfl | ⟨1, _⟩ => rfl | ⟨2, _⟩ => rfl) inb x
theorem ldg (inb) : View.ld g (Rect.unit (s := S1x1024) ![0, 0] (no_index S1x1024.size) inb) = g :=
  View.ld_unit_zero (S := S1x1024) (by funext a; match a with | ⟨0, _⟩ => rfl | ⟨1, _⟩ => rfl) inb g
theorem ldt (inb) : View.ld c (Rect.unit (s := S128x128) ![0, 0] (no_index S128x128.size) inb) = c :=
  View.ld_unit_zero (S := S128x128) (by funext a; match a with | ⟨0, _⟩ => rfl | ⟨1, _⟩ => rfl) inb c

/-- What the whole block holds: the six sections side by side. -/
def whole (x : Vec Ideal S1x128x1024 .f32) (g : Vec Ideal S1x1024 .f32) (w : Vec Ideal S1024x3072 .bf16) (z : Fin 128 → BitVec 32) : Vec Ideal S1x128x3072 .f32 := fun y =>
  out (fun k => x (ix3 0 (y 1) k)) (fun k => g (ix2 0 k)) (fun k l => w (ix2 k l)) (z (y 1))
    ⟨(y 2).val / 512, by have h : (y 2).val < 3072 := (y 2).isLt; omega⟩ ⟨(y 2).val % 512, Nat.mod_lt _ (by decide)⟩

theorem lay_at (q : FVec Ideal S128x512 .f32) (r : Fin 128) (l : Fin 512) : k0_pay1 (F := Ideal) q (ix3 0 r l) = (q (ix2 r l) : EReal) := by pointwise [k0_pay1]

/-- A store of section `s` at the columns from `512 * s` on is part of the whole. -/
theorem part_at {z : Fin 128 → BitVec 32} (q : FVec Ideal S128x512 .f32) (s : Fin 6) (o : ℕ) (ho : o = 512 * s.val) (inb)
    (hq : ∀ r l, q (ix2 r l) = out (fun k => x (ix3 0 r k)) (fun k => g (ix2 0 k)) (fun k l => w (ix2 k l)) (z r) s l) (i : S1x128x512.Idx) :
    k0_pay1 (F := Ideal) q i = whole x g w z ((Rect.unit (s := S1x128x3072) ![0, 0, o] S1x128x512.size inb).emb i) := by
  subst ho
  obtain ⟨a, r, l, rfl⟩ : ∃ (a : Fin 1) (r : Fin 128) (l : Fin 512), i = ix3 a r l := ⟨i 0, i 1, i 2, eq_ix3 i⟩
  obtain rfl : a = 0 := Subsingleton.elim _ _
  refine (lay_at q r l).trans ((hq r l).trans ?_)
  have e1 : r = ((Rect.unit (s := S1x128x3072) ![0, 0, 512 * s.val] S1x128x512.size inb).emb (ix3 0 r l)) 1 := Fin.ext (show r.val = 0 + 1 * r.val by omega)
  have e2 : s = ⟨(512 * s.val + 1 * l.val) / 512, by omega⟩ := Fin.ext (show s.val = (512 * s.val + 1 * l.val) / 512 by omega)
  have e3 : l = ⟨(512 * s.val + 1 * l.val) % 512, Nat.mod_lt _ (by decide)⟩ := Fin.ext (show l.val = (512 * s.val + 1 * l.val) % 512 by omega)
  have key : ∀ (r' : Fin 128) (s' : Fin 6) (l' : Fin 512), r = r' → s = s' → l = l' →
      out (fun k => x (ix3 0 r k)) (fun k => g (ix2 0 k)) (fun k l => w (ix2 k l)) (z r) s l
        = out (fun k => x (ix3 0 r' k)) (fun k => g (ix2 0 k)) (fun k l => w (ix2 k l)) (z r') s' l' := by
    intro r' s' l' h1 h2 h3
    rw [h1, h2, h3]
  exact key _ _ _ e1 e2 e3

theorem rot_part {z : Fin 128 → BitVec 32} (T : Tables c sa sb z) (s : Fin 6) (hs : ¬(s = 2 ∨ s = 5)) (o : ℕ) (ho : o = 512 * s.val) (inb) (inb') (i : S1x128x512.Idx) :
    k0_pay1 (F := Ideal) (turned x g c sa sb (View.ld w (Rect.unit (s := S1024x3072) ![0, o] S1024x512.size inb))) i
      = whole x g w z ((Rect.unit (s := S1x128x3072) ![0, 0, o] S1x128x512.size inb').emb i) :=
  part_at _ s o ho inb' (fun r l => (turned_at T s o ho inb r l).trans (out_rot _ _ _ _ _ _ hs).symm) i

theorem sec_part (z : Fin 128 → BitVec 32) (s : Fin 6) (hs : s = 2 ∨ s = 5) (o : ℕ) (ho : o = 512 * s.val) (inb) (inb') (i : S1x128x512.Idx) :
    k0_pay1 (F := Ideal) (k0_pay11 x g (View.ld w (Rect.unit (s := S1024x3072) ![0, o] S1024x512.size inb))) i
      = whole x g w z ((Rect.unit (s := S1x128x3072) ![0, 0, o] S1x128x512.size inb').emb i) :=
  part_at _ s o ho inb' (fun r l => (plain_at s o ho inb r l).trans (out_sec _ _ _ _ _ _ hs).symm) i

/-- The body's block is the whole. -/
theorem out6_at {z : Fin 128 → BitVec 32} (T : Tables c sa sb z) (y : S1x128x3072.Idx) : out0_6 x g w c sa sb y = whole x g w z y := by
  unfold_out out0_6
  rw [ldx, ldg, ldt, ldt, ldt]
  refine View.canon_apply_of_pieces (whole x g w z) _ ?_ y (cover0_6 _ _ _ _ _ _ y)
  intro pc hpc
  rcases List.mem_cons.mp hpc with rfl | hpc
  · exact fun i => sec_part z 5 (by decide) 2560 rfl inb_S1024x3072_S1024x512_0_2560 inb_S1x128x3072_S1x128x512_0_0_2560 i
  rcases List.mem_cons.mp hpc with rfl | hpc
  · exact fun i => rot_part T 4 (by decide) 2048 rfl inb_S1024x3072_S1024x512_0_2048 inb_S1x128x3072_S1x128x512_0_0_2048 i
  rcases List.mem_cons.mp hpc with rfl | hpc
  · exact fun i => rot_part T 3 (by decide) 1536 rfl inb_S1024x3072_S1024x512_0_1536 inb_S1x128x3072_S1x128x512_0_0_1536 i
  rcases List.mem_cons.mp hpc with rfl | hpc
  · exact fun i => sec_part z 2 (by decide) 1024 rfl inb_S1024x3072_S1024x512_0_1024 inb_S1x128x3072_S1x128x512_0_0_1024 i
  rcases List.mem_cons.mp hpc with rfl | hpc
  · exact fun i => rot_part T 1 (by decide) 512 rfl inb_S1024x3072_S1024x512_0_512 inb_S1x128x3072_S1x128x512_0_0_512 i
  rcases List.mem_cons.mp hpc with rfl | hpc
  · exact fun i => rot_part T 0 (by decide) 0 rfl inb_S1024x3072_S1024x512_0_0 inb_S1x128x3072_S1x128x512_0_0_0 i
  nomatch hpc

end Cert.Inp.Sample.Kern
end
-- ==== Proof.Inp.Sample.Ref.lean ====
/- The sample's reference at an index: its one array holds the six sections of every new token's projection, queries and keys rotated. -/
module

public import proofs.«01_k».proof.Proof.Inp.Rope
public import proofs.«01_k».proof.Proof.Gen.InProjSRefIdeal.Read

@[expose] public section

set_option maxRecDepth 16384

noncomputable section

namespace Cert.Inp.Sample.Ref

open Idealize.ShloMosaic Cert.InProjSRefIdeal Cert.InProjSRefIdeal.Gen Cert.InProjSRefIdeal.Read

section
variable (x0 : FVec Ideal S128x1x1024 .f32) (x1 : FVec Ideal S1x1024 .f32) (x2 : FVec Ideal S1024x3072 .f32)

/-- The call's value for the new token of sequence `b`, whose position is 8192. -/
abbrev val (b : Fin 128) (s : Fin 6) (l : Fin 512) : EReal :=
  out (fun k => x0 (ix3 b 0 k)) (fun k => x1 (ix2 0 k)) (fun k l => x2 (ix2 k l)) 8192#32 s l

/-- One section's column. -/
abbrev col (b : Fin 128) (s : Fin 6) (l : Fin 512) : EReal :=
  sec (fun k => x0 (ix3 b 0 k)) (fun k => x1 (ix2 0 k)) (fun k l => x2 (ix2 k l)) s l

theorem v17_at (b : Fin 128) (l : Fin 3072) :
    val_main_v17 (F := Ideal) x0 x1 x2 (ix3 b 0 l) = ∑ k, nrm (fun k => x0 (ix3 b 0 k)) (fun k => x1 (ix2 0 k)) k * x2 (ix2 k l) := by
  unfold nrm
  pointwise [val_main_v17, val_main_v16, val_main_v15, val_main_v14, val_main_v13, val_main_v12, val_main_v11, val_main_v10, val_main_v9, val_main_v8, val_main_v7, val_main_v6, val_main_v5, val_main_v4, val_main_v0]
  rw [show val_main_cst (F := Ideal) (Shape.Idx.first Gen.h_S_) = 0 from zero_bits]
  simp only [zero_add]
  rfl

theorem split_at (s : Fin 6) (q : FVec Ideal S128x1x512 .f32) (hq : ∀ b l, q (ix3 b 0 l) = val_main_v17 (F := Ideal) x0 x1 x2 (ix3 b 0 ⟨512 * s.val + l.val, by omega⟩))
    (b : Fin 128) (l : Fin 512) : q (ix3 b 0 l) = col x0 x1 x2 b s l := by
  rw [hq, v17_at]
  rfl

theorem v18_at (b : Fin 128) (l : Fin 512) : val_main_v18 (F := Ideal) x0 x1 x2 (ix3 b 0 l) = col x0 x1 x2 b 0 l :=
  split_at x0 x1 x2 0 _ (fun b l => by pointwise [val_main_v18]) b l

theorem v19_at (b : Fin 128) (l : Fin 512) : val_main_v19 (F := Ideal) x0 x1 x2 (ix3 b 0 l) = col x0 x1 x2 b 1 l :=
  split_at x0 x1 x2 1 _ (fun b l => by pointwise [val_main_v19]) b l

theorem v20_at (b : Fin 128) (l : Fin 512) : val_main_v20 (F := Ideal) x0 x1 x2 (ix3 b 0 l) = col x0 x1 x2 b 2 l :=
  split_at x0 x1 x2 2 _ (fun b l => by pointwise [val_main_v20]) b l

theorem v21_at (b : Fin 128) (l : Fin 512) : val_main_v21 (F := Ideal) x0 x1 x2 (ix3 b 0 l) = col x0 x1 x2 b 3 l :=
  split_at x0 x1 x2 3 _ (fun b l => by pointwise [val_main_v21]) b l

theorem v22_at (b : Fin 128) (l : Fin 512) : val_main_v22 (F := Ideal) x0 x1 x2 (ix3 b 0 l) = col x0 x1 x2 b 4 l :=
  split_at x0 x1 x2 4 _ (fun b l => by pointwise [val_main_v22]) b l

theorem v23_at (b : Fin 128) (l : Fin 512) : val_main_v23 (F := Ideal) x0 x1 x2 (ix3 b 0 l) = col x0 x1 x2 b 5 l :=
  split_at x0 x1 x2 5 _ (fun b l => by pointwise [val_main_v23]) b l

theorem cosA (j : Fin 8) : val_main_v36 (F := Ideal) (ix2 0 j) = Ideal.cos (angle 8192#32 j) := by
  unfold angle
  pointwise [val_main_v36, val_main_v35, val_main_v34, val_main_v33, val_main_v32, val_main_v31, val_main_v30, val_main_v29, val_main_v28, val_main_v27, val_main_v26, val_main_v25, val_main_v3, val_main_v2, val_main_v1]
  rfl

theorem sinA (j : Fin 8) : val_main_v38 (F := Ideal) (ix2 0 j) = Ideal.sin (angle 8192#32 j) := by
  unfold angle
  pointwise [val_main_v38, val_main_v35, val_main_v34, val_main_v33, val_main_v32, val_main_v31, val_main_v30, val_main_v29, val_main_v28, val_main_v27, val_main_v26, val_main_v25, val_main_v3, val_main_v2, val_main_v1]
  rfl

theorem ropeA (b : Fin 128) (h : Fin 8) (d : Fin 64) :
    val_main_v57 (F := Ideal) x0 x1 x2 (ix4 b 0 h d) = val x0 x1 x2 b 0 ⟨64 * h.val + d.val, by omega⟩ := by
  refine Eq.trans ?_ (out_rot _ _ _ _ _ _ (by decide)).symm
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v37, val_main_v24]
  simp only [cosA, sinA, v18_at]
  exact rot_head (col x0 x1 x2 b 0) (fun j => Ideal.cos (angle 8192#32 j)) (fun j => Ideal.sin (angle 8192#32 j)) h d

theorem cosB (j : Fin 8) : val_main_v70 (F := Ideal) (ix2 0 j) = Ideal.cos (angle 8192#32 j) := by
  unfold angle
  pointwise [val_main_v70, val_main_v69, val_main_v68, val_main_v67, val_main_v66, val_main_v65, val_main_v64, val_main_v63, val_main_v62, val_main_v61, val_main_v60, val_main_v59, val_main_v3, val_main_v2, val_main_v1]
  rfl

theorem sinB (j : Fin 8) : val_main_v72 (F := Ideal) (ix2 0 j) = Ideal.sin (angle 8192#32 j) := by
  unfold angle
  pointwise [val_main_v72, val_main_v69, val_main_v68, val_main_v67, val_main_v66, val_main_v65, val_main_v64, val_main_v63, val_main_v62, val_main_v61, val_main_v60, val_main_v59, val_main_v3, val_main_v2, val_main_v1]
  rfl

theorem ropeB (b : Fin 128) (h : Fin 8) (d : Fin 64) :
    val_main_v91 (F := Ideal) x0 x1 x2 (ix4 b 0 h d) = val x0 x1 x2 b 1 ⟨64 * h.val + d.val, by omega⟩ := by
  refine Eq.trans ?_ (out_rot _ _ _ _ _ _ (by decide)).symm
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v71, val_main_v58]
  simp only [cosB, sinB, v19_at]
  exact rot_head (col x0 x1 x2 b 1) (fun j => Ideal.cos (angle 8192#32 j)) (fun j => Ideal.sin (angle 8192#32 j)) h d

theorem cosC (j : Fin 8) : val_main_v105 (F := Ideal) (ix2 0 j) = Ideal.cos (angle 8192#32 j) := by
  unfold angle
  pointwise [val_main_v105, val_main_v104, val_main_v103, val_main_v102, val_main_v101, val_main_v100, val_main_v99, val_main_v98, val_main_v97, val_main_v96, val_main_v95, val_main_v94, val_main_v3, val_main_v2, val_main_v1]
  rfl

theorem sinC (j : Fin 8) : val_main_v107 (F := Ideal) (ix2 0 j) = Ideal.sin (angle 8192#32 j) := by
  unfold angle
  pointwise [val_main_v107, val_main_v104, val_main_v103, val_main_v102, val_main_v101, val_main_v100, val_main_v99, val_main_v98, val_main_v97, val_main_v96, val_main_v95, val_main_v94, val_main_v3, val_main_v2, val_main_v1]
  rfl

theorem ropeC (b : Fin 128) (h : Fin 8) (d : Fin 64) :
    val_main_v126 (F := Ideal) x0 x1 x2 (ix4 b 0 h d) = val x0 x1 x2 b 3 ⟨64 * h.val + d.val, by omega⟩ := by
  refine Eq.trans ?_ (out_rot _ _ _ _ _ _ (by decide)).symm
  pointwise [val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v106, val_main_v93]
  simp only [cosC, sinC, v21_at]
  exact rot_head (col x0 x1 x2 b 3) (fun j => Ideal.cos (angle 8192#32 j)) (fun j => Ideal.sin (angle 8192#32 j)) h d

theorem cosD (j : Fin 8) : val_main_v140 (F := Ideal) (ix2 0 j) = Ideal.cos (angle 8192#32 j) := by
  unfold angle
  pointwise [val_main_v140, val_main_v139, val_main_v138, val_main_v137, val_main_v136, val_main_v135, val_main_v134, val_main_v133, val_main_v132, val_main_v131, val_main_v130, val_main_v129, val_main_v3, val_main_v2, val_main_v1]
  rfl

theorem sinD (j : Fin 8) : val_main_v142 (F := Ideal) (ix2 0 j) = Ideal.sin (angle 8192#32 j) := by
  unfold angle
  pointwise [val_main_v142, val_main_v139, val_main_v138, val_main_v137, val_main_v136, val_main_v135, val_main_v134, val_main_v133, val_main_v132, val_main_v131, val_main_v130, val_main_v129, val_main_v3, val_main_v2, val_main_v1]
  rfl

theorem ropeD (b : Fin 128) (h : Fin 8) (d : Fin 64) :
    val_main_v161 (F := Ideal) x0 x1 x2 (ix4 b 0 h d) = val x0 x1 x2 b 4 ⟨64 * h.val + d.val, by omega⟩ := by
  refine Eq.trans ?_ (out_rot _ _ _ _ _ _ (by decide)).symm
  pointwise [val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v141, val_main_v128]
  simp only [cosD, sinD, v22_at]
  exact rot_head (col x0 x1 x2 b 4) (fun j => Ideal.cos (angle 8192#32 j)) (fun j => Ideal.sin (angle 8192#32 j)) h d

theorem val_congr (b : Fin 128) (s : Fin 6) (l l' : Fin 512) (h : l.val = l'.val) : val x0 x1 x2 b s l = val x0 x1 x2 b s l' := by
  rw [Fin.ext h]

theorem val_sec (b : Fin 128) (s : Fin 6) (h : s = 2 ∨ s = 5) (l l' : Fin 512) (e : l.val = l'.val) : col x0 x1 x2 b s l = val x0 x1 x2 b s l' := by
  rw [Fin.ext e]
  exact (out_sec _ _ _ _ _ _ h).symm

theorem v164_at (b : Fin 128) (l : Fin 512) : val_main_v164 (F := Ideal) x0 x1 x2 (ix3 0 b l) = val x0 x1 x2 b 0 l := by
  pointwise [val_main_v164]
  rw [ropeA]
  exact val_congr x0 x1 x2 b 0 _ _ (Nat.div_add_mod l.val 64)

theorem v165_at (b : Fin 128) (l : Fin 512) : val_main_v165 (F := Ideal) x0 x1 x2 (ix3 0 b l) = val x0 x1 x2 b 1 l := by
  pointwise [val_main_v165]
  rw [ropeB]
  exact val_congr x0 x1 x2 b 1 _ _ (Nat.div_add_mod l.val 64)

theorem v166_at (b : Fin 128) (l : Fin 512) : val_main_v166 (F := Ideal) x0 x1 x2 (ix3 0 b l) = val x0 x1 x2 b 2 l := by
  pointwise [val_main_v166, val_main_v92]
  rw [v20_at]
  exact val_sec x0 x1 x2 b 2 (by decide) _ _ rfl

theorem v167_at (b : Fin 128) (l : Fin 512) : val_main_v167 (F := Ideal) x0 x1 x2 (ix3 0 b l) = val x0 x1 x2 b 3 l := by
  pointwise [val_main_v167, val_main_v127]
  rw [ropeC]
  exact val_congr x0 x1 x2 b 3 _ _ (by show 64 * (l.val / 128 * 2 + l.val % 128 / 64) + l.val % 128 % 64 = l.val; omega)

theorem v168_at (b : Fin 128) (l : Fin 512) : val_main_v168 (F := Ideal) x0 x1 x2 (ix3 0 b l) = val x0 x1 x2 b 4 l := by
  pointwise [val_main_v168, val_main_v162]
  rw [ropeD]
  exact val_congr x0 x1 x2 b 4 _ _ (by show 64 * (l.val / 128 * 2 + l.val % 128 / 64) + l.val % 128 % 64 = l.val; omega)

theorem v169_at (b : Fin 128) (l : Fin 512) : val_main_v169 (F := Ideal) x0 x1 x2 (ix3 0 b l) = val x0 x1 x2 b 5 l := by
  pointwise [val_main_v169, val_main_v163]
  rw [v23_at]
  exact val_sec x0 x1 x2 b 5 (by decide) _ _ rfl

theorem place (b : Fin 128) (s : Fin 6) (l : Fin 512) (i : Fin 3072) (h : 512 * s.val + l.val = i.val) :
    val x0 x1 x2 b s l = val x0 x1 x2 b ⟨i.val / 512, by omega⟩ ⟨i.val % 512, Nat.mod_lt _ (by decide)⟩ := by
  have e1 : s = ⟨i.val / 512, by omega⟩ := Fin.ext (by show s.val = i.val / 512; omega)
  have e2 : l = ⟨i.val % 512, Nat.mod_lt _ (by decide)⟩ := Fin.ext (by show l.val = i.val % 512; omega)
  exact congr (congrArg (val x0 x1 x2 b) e1) e2

theorem v170_at (b : Fin 128) (i : Fin 3072) : val_main_v170 (F := Ideal) x0 x1 x2 (ix3 0 b i)
    = val x0 x1 x2 b ⟨i.val / 512, by omega⟩ ⟨i.val % 512, Nat.mod_lt _ (by decide)⟩ := by
  pointwise [val_main_v170]
  by_cases h0 : i.val < 512
  · exact (dif_pos h0).trans ((v164_at x0 x1 x2 b _).trans (place x0 x1 x2 b 0 _ i (by show 512 * 0 + (i.val) = i.val; omega)))
  refine (dif_neg h0).trans ?_
  by_cases h1 : i.val - 512 < 512
  · exact (dif_pos h1).trans ((v165_at x0 x1 x2 b _).trans (place x0 x1 x2 b 1 _ i (by show 512 * 1 + (i.val - 512) = i.val; omega)))
  refine (dif_neg h1).trans ?_
  by_cases h2 : i.val - 512 - 512 < 512
  · exact (dif_pos h2).trans ((v166_at x0 x1 x2 b _).trans (place x0 x1 x2 b 2 _ i (by show 512 * 2 + (i.val - 512 - 512) = i.val; omega)))
  refine (dif_neg h2).trans ?_
  by_cases h3 : i.val - 512 - 512 - 512 < 512
  · exact (dif_pos h3).trans ((v167_at x0 x1 x2 b _).trans (place x0 x1 x2 b 3 _ i (by show 512 * 3 + (i.val - 512 - 512 - 512) = i.val; omega)))
  refine (dif_neg h3).trans ?_
  by_cases h4 : i.val - 512 - 512 - 512 - 512 < 512
  · exact (dif_pos h4).trans ((v168_at x0 x1 x2 b _).trans (place x0 x1 x2 b 4 _ i (by show 512 * 4 + (i.val - 512 - 512 - 512 - 512) = i.val; omega)))
  refine (dif_neg h4).trans ?_
  exact (v169_at x0 x1 x2 b _).trans (place x0 x1 x2 b 5 _ i (by show 512 * 5 + (i.val - 512 - 512 - 512 - 512 - 512) = i.val; omega))

end

end Cert.Inp.Sample.Ref
-- ==== Proof.Inp.Sample.Array.lean ====
/- The sample's result array after the run: its one point writes the whole of it. -/
module

public import proofs.«01_k».proof.Proof.Inp.Sample.Host
public import proofs.«01_k».proof.Proof.Inp.Sample.Kern
public import proofs.«01_k».proof.Proof.Inp.Sample.Ref

@[expose] public section

set_option maxRecDepth 16384

noncomputable section

namespace Cert.Inp.Sample.Kern

open Cert.InProjSIdeal Cert.InProjSIdeal.Gen Idealize.ShloMosaic Idealize.ShloMosaic.TcCoe Idealize.SL.Sem

/-- Both coordinates of the one point are zero. -/
theorem word0 (t : Fin cfg0.N) : (BitVec.ofNat 32 (grid0.coords t 0).val).toNat = 0 := by
  have h : (grid0.coords t 0).val < 1 := (grid0.coords t 0).isLt
  rw [BitVec.toNat_ofNat]; omega
theorem word1 (t : Fin cfg0.N) : (BitVec.ofNat 32 (grid0.coords t 1).val).toNat = 0 := by
  have h : (grid0.coords t 1).val < 1 := (grid0.coords t 1).isLt
  rw [BitVec.toNat_ofNat]; omega

variable (m : (ℓ : Loc nD τ sig) → Buf (Elt Ideal) ℓ)

/-- The arguments, as vectors. -/
abbrev aX (c : Dev nD) : FVec Ideal S128x1x1024 .f32 := m ((c : Thread nD τ).loc main_arg0)
abbrev aG (c : Dev nD) : FVec Ideal S1x1024 .f32 := m ((c : Thread nD τ).loc main_arg1)
abbrev aW (c : Dev nD) : FVec Ideal S1024x3072 .f32 := m ((c : Thread nD τ).loc main_arg2)

theorem blk0 (c : Dev nD) (t : Fin cfg0.N) (r : Fin 128) (k : Fin 1024) :
    (iblk m c 0 t : FVec Ideal S1x128x1024 .f32) (ix3 0 r k) = aX m c (ix3 r 0 k) := by
  refine Eq.trans ?_ (V_x m c r k)
  unfold iblk
  rw [View.read_apply]
  refine congrArg (V m c main_v34) (funext fun a => Fin.ext ?_)
  have w0 := word0 t
  have w1 := word1 t
  match a with
  | ⟨0, _⟩ => show (BitVec.ofNat 32 (grid0.coords t 0).val).toNat * 1 + 1 * 0 = 0; omega
  | ⟨1, _⟩ => show (BitVec.ofNat 32 (grid0.coords t 1).val).toNat * 128 + 1 * r.val = r.val; omega
  | ⟨2, _⟩ => show 0 * 1024 + 1 * k.val = k.val; omega

theorem blk1 (c : Dev nD) (t : Fin cfg0.N) (k : Fin 1024) : (iblk m c 1 t : FVec Ideal S1x1024 .f32) (ix2 0 k) = aG m c (ix2 0 k) := by
  refine Eq.trans ?_ (congrFun (V_main_arg1 m c) _)
  unfold iblk
  rw [View.read_apply]
  refine congrArg (V m c main_arg1) (funext fun a => Fin.ext ?_)
  match a with
  | ⟨0, _⟩ => show 0 * 1 + 1 * 0 = 0; omega
  | ⟨1, _⟩ => show 0 * 1024 + 1 * k.val = k.val; omega

theorem blk2 (c : Dev nD) (t : Fin cfg0.N) (k : Fin 1024) (l : Fin 3072) :
    (iblk m c 2 t : FVec Ideal S1024x3072 .bf16) (ix2 k l) = (aW m c (ix2 k l) : EReal) := by
  refine Eq.trans ?_ (V_w m c k l)
  unfold iblk
  rw [View.read_apply]
  refine congrArg (V m c main_v35) (funext fun a => Fin.ext ?_)
  match a with
  | ⟨0, _⟩ => show 0 * 1024 + 1 * k.val = k.val; omega
  | ⟨1, _⟩ => show 0 * 3072 + 1 * l.val = l.val; omega

theorem blk3 (c : Dev nD) (t : Fin cfg0.N) (r q : Fin 128) :
    (iblk m c 3 t : FVec Ideal S128x128 .f32) (ix2 r q) = cosOf (fun j => Ideal.cos (angle (8192#32) j)) q := by
  refine Eq.trans ?_ (V_cos m c r q)
  unfold iblk
  rw [View.read_apply]
  refine congrArg (V m c main_v27) (funext fun a => Fin.ext ?_)
  have w1 := word1 t
  match a with
  | ⟨0, _⟩ => show (BitVec.ofNat 32 (grid0.coords t 1).val).toNat * 128 + 1 * r.val = r.val; omega
  | ⟨1, _⟩ => show 0 * 128 + 1 * q.val = q.val; omega

theorem blk4 (c : Dev nD) (t : Fin cfg0.N) (r q : Fin 128) :
    (iblk m c 4 t : FVec Ideal S128x128 .f32) (ix2 r q) = negOf (fun j => Ideal.sin (angle (8192#32) j)) q := by
  refine Eq.trans ?_ (V_neg m c r q)
  unfold iblk
  rw [View.read_apply]
  refine congrArg (V m c main_v30) (funext fun a => Fin.ext ?_)
  have w1 := word1 t
  match a with
  | ⟨0, _⟩ => show (BitVec.ofNat 32 (grid0.coords t 1).val).toNat * 128 + 1 * r.val = r.val; omega
  | ⟨1, _⟩ => show 0 * 128 + 1 * q.val = q.val; omega

theorem blk5 (c : Dev nD) (t : Fin cfg0.N) (r q : Fin 128) :
    (iblk m c 5 t : FVec Ideal S128x128 .f32) (ix2 r q) = sinOf (fun j => Ideal.sin (angle (8192#32) j)) q := by
  refine Eq.trans ?_ (V_sin m c r q)
  unfold iblk
  rw [View.read_apply]
  refine congrArg (V m c main_v33) (funext fun a => Fin.ext ?_)
  have w1 := word1 t
  match a with
  | ⟨0, _⟩ => show (BitVec.ofNat 32 (grid0.coords t 1).val).toNat * 128 + 1 * r.val = r.val; omega
  | ⟨1, _⟩ => show 0 * 128 + 1 * q.val = q.val; omega

theorem tables (c : Dev nD) (t : Fin cfg0.N) : Tables (iblk m c 3 t) (iblk m c 4 t) (iblk m c 5 t) (fun _ => 8192#32) :=
  ⟨blk3 m c t, blk4 m c t, blk5 m c t⟩

/-- The result: for each sequence its six sections side by side. -/
def rows (c : Dev nD) : Vec Ideal S1x128x3072 .f32 := fun i =>
  Ref.val (aX m c) (aG m c) (aW m c) (i 1) ⟨(i 2).val / 512, by have h : (i 2).val < 3072 := (i 2).isLt; omega⟩ ⟨(i 2).val % 512, Nat.mod_lt _ (by decide)⟩

/-- What the point computes, from the arguments. -/
theorem point (c : Dev nD) (t : Fin cfg0.N) (y : S1x128x3072.Idx) :
    whole (iblk m c 0 t) (iblk m c 1 t) (iblk m c 2 t) (fun _ => 8192#32) y = rows m c y := by
  unfold whole rows
  rw [funext fun k => blk0 m c t (y 1) k, funext fun k => blk1 m c t k, funext fun k => funext fun l => blk2 m c t k l]

theorem final6 (c : Dev nD) : (dats m 0 c).arrAt 6 cfg0.N = rows m c := by
  refine funext fun (i : S1x128x3072.Idx) => ?_
  refine (dats m 0 c).arrAt_forall_of_cover 6 (fun i v => v = rows m c i) (fun t _ (y : S1x128x3072.Idx) => ?_) (fun (i : S1x128x3072.Idx) => ?_) i
  · rw [Value.flushed6]
    have w0 := word0 t
    have e := (out6_at (x := iblk m c 0 t) (g := iblk m c 1 t) (w := iblk m c 2 t) (tables m c t) y).trans (point m c t y)
    generalize out0_6 (iblk m c 0 t) (iblk m c 1 t) (iblk m c 2 t) (iblk m c 3 t) (iblk m c 4 t) (iblk m c 5 t) = f at e ⊢
    dsimp only
    refine e.trans (congrArg (rows m c) (funext fun a => Fin.ext ?_))
    match a with
    | ⟨0, _⟩ => show (y 0).val = (BitVec.ofNat 32 (grid0.coords t 0).val).toNat * 1 + 1 * (y 0).val; omega
    | ⟨1, _⟩ => show (y 1).val = 0 * 128 + 1 * (y 1).val; omega
    | ⟨2, _⟩ => show (y 2).val = 0 * 3072 + 1 * (y 2).val; omega
  · refine ⟨⟨0, by have hN : cfg0.N = 1 := N_0; rw [hN]; omega⟩, flush0_6 _, ?_⟩
    generalize (⟨0, _⟩ : Fin cfg0.N) = t
    have w0 := word0 t
    have i0 : (i 0).val < 1 := (i 0).isLt
    have i1 : (i 1).val < 128 := (i 1).isLt
    have i2 : (i 2).val < 3072 := (i 2).isLt
    show i ∈ ((View.whole main_v36).slice (win0_6.rect t)).set
    rw [View.set_slice_whole, Rect.mem_set_unit]
    intro a
    match a with
    | ⟨0, _⟩ => show (BitVec.ofNat 32 (grid0.coords t 0).val).toNat * 1 ≤ (i 0).val ∧ (i 0).val < (BitVec.ofNat 32 (grid0.coords t 0).val).toNat * 1 + 1; omega
    | ⟨1, _⟩ => show 0 * 128 ≤ (i 1).val ∧ (i 1).val < 0 * 128 + 128; omega
    | ⟨2, _⟩ => show 0 * 3072 ≤ (i 2).val ∧ (i 2).val < 0 * 3072 + 3072; omega

end Cert.Inp.Sample.Kern
end
-- ==== Proof.Inp.Sample.Claim.lean ====
/- The sample's result array is the reference's: the claimed equation of the two runs, and the reference's frame. -/
module

public import proofs.«01_k».proof.Proof.Inp.Sample.Array
public import proofs.«01_k».proof.Proof.Gen.InProjSRefIdeal.Run
public import proofs.«01_k».proof.Defs
public import Idealize.ShloMosaic.Lib.Quiescent

@[expose] public section

set_option maxRecDepth 16384

noncomputable section

namespace Cert.Inp.Sample.Kern

open Cert.InProjSIdeal Cert.InProjSIdeal.Gen Idealize.ShloMosaic Idealize.ShloMosaic.TcCoe Idealize.SL.Sem

variable (m : (ℓ : Loc nD τ sig) → Buf (Elt Ideal) ℓ)

theorem eq170 (c : Dev nD) : Cert.InProjSRefIdeal.Read.val_main_v170 (F := Ideal) (aX m c) (aG m c) (aW m c) = rows m c := by
  funext i
  obtain ⟨a, b, l, rfl⟩ : ∃ (a : Fin 1) (b : Fin 128) (l : Fin 3072), i = ix3 a b l := ⟨i 0, i 1, i 2, eq_ix3 i⟩
  obtain rfl : a = 0 := Subsingleton.elim _ _
  exact Ref.v170_at (aX m c) (aG m c) (aW m c) b l

theorem ref_frame : Cert.quiescent_InProjSRefIdeal := fun m g _ =>
  θ_run_mono (Cert.InProjSRefIdeal.Value.run m g) fun r h => ⟨fun c => (h c).2, sem_eq_zero_of_no_sems (by decide) r.2⟩

/-- The claimed equation of the two runs. -/
theorem algebraic : Cert.algebraic_InProjSIdeal_InProjSRefIdeal := by
  intro m g m' g' _ hargs
  refine ⟨fun c => rows m c, ?_, ?_⟩
  · refine θ_run_mono (Value.run_blocks m g) (fun r h c => ?_)
    obtain ⟨h0, k⟩ := h c
    exact ⟨h0.trans (final6 m c), k⟩
  · refine θ_run_mono (Cert.InProjSRefIdeal.Value.run m' g') (fun r h c => ?_)
    obtain ⟨h0, k⟩ := h c
    obtain ⟨a0, a1, a2⟩ := hargs c
    refine ⟨?_, k⟩
    refine (h0.trans (Cert.InProjSRefIdeal.Read.val_main_v170_eq _)).trans (Eq.trans ?_ (eq170 m c))
    exact congr (congr (congrArg (Cert.InProjSRefIdeal.Read.val_main_v170 (F := Ideal)) a0) a1) a2

end Cert.Inp.Sample.Kern
end
-- ==== Proof.Moba.Body.lean ====
/- What one grid point of the block-attention kernel computes, as a function of its blocks.

   The kernel keeps the keys, the transposed values and the blocks' mean keys of two heads in scratch buffers,
   chooses for each query the past blocks it looks at, and folds first the query's own block, then the blocks
   before it, into a running maximum, a running normaliser and a running weighted sum, once per head. -/
module

public import proofs.«01_k».proof.Proof.Gen.MobaIdeal.Value
public import Idealize.ShloMosaic.Lib.Pointwise
public import Idealize.ShloMosaic.Lib.LoopRemainder

@[expose] public section

set_option maxRecDepth 16384

noncomputable section

namespace Cert.MobaIdeal.Val

open Cert.MobaIdeal Cert.MobaIdeal.Gen Idealize.ShloMosaic Idealize.ShloMosaic.TcCoe Idealize.SL.Sem

variable {F : FTy → Type} [FloatOps F] [Named F]

theorem zero3 : (![0, 0, 0] : Fin 3 → ℕ) = fun _ => 0 := by
  funext a; match a with | 0 => rfl | 1 => rfl | 2 => rfl

theorem zero2 : (![0, 0] : Fin 2 → ℕ) = fun _ => 0 := by
  funext a; match a with | 0 => rfl | 1 => rfl

/-- The running maximum, normaliser and weighted sum of the two heads. -/
abbrev St (F : FTy → Type) := FVec F S1x256 .f32 × FVec F S1x256 .f32 × FVec F S64x256 .f32 × FVec F S1x256 .f32 × FVec F S1x256 .f32 × FVec F S64x256 .f32

/-- Block `j` of the staged keys. -/
def kAt (X : Vec F S8x256x128 .bf16) (j : Fin 8) : Vec F S1x256x128 .bf16 := fun y => X (ix3 j (y 1) (y 2))

/-- Block `j` of the staged transposed values, the first head's rows. -/
def v0At (X : Vec F S8x128x256 .bf16) (j : Fin 8) : Vec F S1x64x256 .bf16 :=
  fun y => X (ix3 j ⟨(y 1).val, lt_of_lt_of_le (y 1).isLt (by decide)⟩ (y 2))

/-- … the second head's. -/
def v1At (X : Vec F S8x128x256 .bf16) (j : Fin 8) : Vec F S1x64x256 .bf16 :=
  fun y => X (ix3 j ⟨64 + (y 1).val, by have : (y 1).val < 64 := (y 1).isLt; show _ < 128; omega⟩ (y 2))

/-- Row `j` of one head's choice. -/
def sAt (S : FVec F S1x8x256 .f32) (j : Fin 8) : Vec F S1x1x256 .f32 := fun y => S (ix3 0 j (y 2))

/-- One further block folded in. -/
def step (q0 q1 : FVec F S256x128 .bf16) (K : Vec F S1x256x128 .bf16) (V0 V1 : Vec F S1x64x256 .bf16) (S0 S1 : Vec F S1x1x256 .f32) (s : St F) : St F :=
  (k0_pay28 q0 s.1 K S0, k0_pay31 q0 s.1 s.2.1 K S0, k0_pay32 q0 s.1 s.2.2.1 K V0 S0,
    k0_pay82 q1 s.2.2.2.1 (k0_pay26 K) (k0_pay34 S1) (constant S256x256 .f32 0x00000000#32),
    k0_pay85 q1 s.2.2.2.1 s.2.2.2.2.1 (k0_pay26 K) (k0_pay34 S1) (constant S256x256 .f32 0x00000000#32),
    k0_pay86 q1 s.2.2.2.1 s.2.2.2.2.2 (k0_pay26 K) (k0_pay33 V1) (k0_pay34 S1) (constant S256x256 .f32 0x00000000#32))

/-- The lane of each entry of a query block. -/
def lanes : IVec S256x128 32 := iota Kind.tc S256x128 32 [1] iota_S256x128_d1_w32

/-- The block of each entry of a gate. -/
def rows : IVec S8x256 32 := iota Kind.tc S8x256 32 [0] iota_S8x256_d0_w32

/-- The queries of the block, scaled, the first head's lanes kept. -/
def q0 (x0 : Vec F S1x256x128 .f32) : FVec F S256x128 .bf16 := k0_pay58 (k0_pay48 x0)

/-- … the second head's. -/
def q1 (x0 : Vec F S1x256x128 .f32) : FVec F S256x128 .bf16 := k0_pay66 (k0_pay59 (k0_pay47 x0) lanes)

/-- The first head's choice. -/
def sel0 (x0 : Vec F S1x256x128 .f32) (M : Vec F S8x128 .f32) (i : grid0.Coords) : FVec F S1x8x256 .f32 :=
  k0_pay57 (BitVec.ofNat 32 (i 2).val) rows (k0_pay51 (k0_pay49 x0 M) (k0_pay50 i)) (k0_pay52 rows (k0_pay49 x0 M) (k0_pay50 i))
    (k0_pay54 (k0_pay49 x0 M) (k0_pay50 i)) (k0_pay55 (k0_pay49 x0 M) (k0_pay50 i)) k0_pay56

/-- The second head's gate. -/
def gate1 (x0 : Vec F S1x256x128 .f32) (M : Vec F S8x128 .f32) (i : grid0.Coords) : FVec F S8x256 .f32 :=
  k0_pay60 (BitVec.ofNat 32 (i 2).val) (k0_pay47 x0) lanes rows M

/-- The second head's choice. -/
def sel1 (x0 : Vec F S1x256x128 .f32) (M : Vec F S8x128 .f32) (i : grid0.Coords) : FVec F S1x8x256 .f32 :=
  k0_pay65 (BitVec.ofNat 32 (i 2).val) rows (gate1 x0 M i)
    (k0_pay63 rows (gate1 x0 M i) k0_pay61 (k0_pay62 (BitVec.ofNat 32 (i 2).val) (k0_pay47 x0) lanes rows M))
    (k0_pay64 rows (gate1 x0 M i))

/-- The block the queries themselves lie in, under the causal mask. -/
def own (x0 : Vec F S1x256x128 .f32) (K : Vec F S1x256x128 .bf16) (V0 V1 : Vec F S1x64x256 .bf16) : St F :=
  (k0_pay72 (k0_pay69 (q0 x0) K) k0_pay70 (Named.named κ "mask" 0xF149F2CA#32),
    k0_pay74 (k0_pay69 (q0 x0) K) k0_pay70 (Named.named κ "mask" 0xF149F2CA#32),
    k0_pay75 (k0_pay68 V0) (k0_pay69 (q0 x0) K) k0_pay70 (Named.named κ "mask" 0xF149F2CA#32),
    k0_pay77 (q1 x0) (k0_pay67 K), k0_pay79 (q1 x0) (k0_pay67 K), k0_pay80 (q1 x0) (k0_pay67 K) V1)

/-- The own block `b`, then the blocks `0 … n-1` before it. -/
def flash (x0 : Vec F S1x256x128 .f32) (X : Vec F S8x256x128 .bf16) (Y : Vec F S8x128x256 .bf16) (S0 S1 : FVec F S1x8x256 .f32) (b : Fin 8) : ℕ → St F
  | 0 => own x0 (kAt X b) (v0At Y b) (v1At Y b)
  | n + 1 => if h : n < 8 then step (q0 x0) (q1 x0) (kAt X ⟨n, h⟩) (v0At Y ⟨n, h⟩) (v1At Y ⟨n, h⟩) (sAt S0 ⟨n, h⟩) (sAt S1 ⟨n, h⟩) (flash x0 X Y S0 S1 b n)
      else flash x0 X Y S0 S1 b n

/-- What the point stores. -/
def outAt (x0 : Vec F S1x256x128 .f32) (X : Vec F S8x256x128 .bf16) (Y : Vec F S8x128x256 .bf16) (M : Vec F S8x128 .f32)
    (i : grid0.Coords) : FVec F S1x256x128 .f32 :=
  k0_pay1 (k0_pay93 (flash x0 X Y (sel0 x0 M i) (sel1 x0 M i) (i 2) (i 2).val).2.1 (flash x0 X Y (sel0 x0 M i) (sel1 x0 M i) (i 2) (i 2).val).2.2.1
    (flash x0 X Y (sel0 x0 M i) (sel1 x0 M i) (i 2) (i 2).val).2.2.2.2.1 (flash x0 X Y (sel0 x0 M i) (sel1 x0 M i) (i 2) (i 2).val).2.2.2.2.2)

theorem flash_succ (x0 : Vec F S1x256x128 .f32) (X : Vec F S8x256x128 .bf16) (Y : Vec F S8x128x256 .bf16) (S0 S1 : FVec F S1x8x256 .f32) (b : Fin 8) {n : ℕ} (h : n < 8) :
    flash x0 X Y S0 S1 b (n + 1) = step (q0 x0) (q1 x0) (kAt X ⟨n, h⟩) (v0At Y ⟨n, h⟩) (v1At Y ⟨n, h⟩) (sAt S0 ⟨n, h⟩) (sAt S1 ⟨n, h⟩) (flash x0 X Y S0 S1 b n) :=
  dif_pos h

theorem word_lt {n : ℕ} (h : n < 8) : (BitVec.ofNat 32 n).toNat = n := by
  rw [BitVec.toNat_ofNat]; omega

theorem ld_k (X : Vec F S8x256x128 .bf16) (off : Fin 3 → ℕ) (j : Fin 8) (h : off = ![j.val, 0, 0]) (inb) :
    View.ld X (Rect.unit (s := S8x256x128) off (no_index S1x256x128.size) inb) = kAt X j := by
  subst h
  funext y
  unfold View.ld kAt
  refine congrArg X ?_
  funext a
  match a with
  | ⟨0, _⟩ => exact Fin.ext (show j.val + 1 * (y 0).val = j.val by have : (y 0).val < 1 := (y 0).isLt; omega)
  | ⟨1, _⟩ => exact Fin.ext (show 0 + 1 * (y 1).val = (y 1).val by omega)
  | ⟨2, _⟩ => exact Fin.ext (show 0 + 1 * (y 2).val = (y 2).val by omega)

theorem ld_v0 (X : Vec F S8x128x256 .bf16) (off : Fin 3 → ℕ) (j : Fin 8) (h : off = ![j.val, 0, 0]) (inb) :
    View.ld X (Rect.unit (s := S8x128x256) off (no_index S1x64x256.size) inb) = v0At X j := by
  subst h
  funext y
  unfold View.ld v0At
  refine congrArg X ?_
  funext a
  match a with
  | ⟨0, _⟩ => exact Fin.ext (show j.val + 1 * (y 0).val = j.val by have : (y 0).val < 1 := (y 0).isLt; omega)
  | ⟨1, _⟩ => exact Fin.ext (show 0 + 1 * (y 1).val = (y 1).val by omega)
  | ⟨2, _⟩ => exact Fin.ext (show 0 + 1 * (y 2).val = (y 2).val by omega)

theorem ld_v1 (X : Vec F S8x128x256 .bf16) (off : Fin 3 → ℕ) (j : Fin 8) (h : off = ![j.val, 64, 0]) (inb) :
    View.ld X (Rect.unit (s := S8x128x256) off (no_index S1x64x256.size) inb) = v1At X j := by
  subst h
  funext y
  unfold View.ld v1At
  refine congrArg X ?_
  funext a
  match a with
  | ⟨0, _⟩ => exact Fin.ext (show j.val + 1 * (y 0).val = j.val by have : (y 0).val < 1 := (y 0).isLt; omega)
  | ⟨1, _⟩ => exact Fin.ext (show 64 + 1 * (y 1).val = 64 + (y 1).val by omega)
  | ⟨2, _⟩ => exact Fin.ext (show 0 + 1 * (y 2).val = (y 2).val by omega)

/-- The choice as the scratch holds it. -/
def selBuf (S0 S1 : FVec F S1x8x256 .f32) : Vec F S2x8x256 .f32 :=
  fun y => if (y 0).val = 0 then S0 (ix3 0 (y 1) (y 2)) else S1 (ix3 0 (y 1) (y 2))

theorem ld_s0 (S0 S1 : FVec F S1x8x256 .f32) (off : Fin 3 → ℕ) (j : Fin 8) (h : off = ![0, j.val, 0]) (inb) :
    View.ld (selBuf S0 S1) (Rect.unit (s := S2x8x256) off (no_index S1x1x256.size) inb) = sAt S0 j := by
  subst h
  funext y
  unfold View.ld sAt selBuf
  have h0 : (y 0).val < 1 := (y 0).isLt
  have h1 : (y 1).val < 1 := (y 1).isLt
  refine (if_pos (show 0 + 1 * (y 0).val = 0 by omega)).trans (congrArg S0 ?_)
  funext a
  match a with
  | ⟨0, _⟩ => rfl
  | ⟨1, _⟩ => exact Fin.ext (show j.val + 1 * (y 1).val = j.val by omega)
  | ⟨2, _⟩ => exact Fin.ext (show 0 + 1 * (y 2).val = (y 2).val by omega)

theorem ld_s1 (S0 S1 : FVec F S1x8x256 .f32) (off : Fin 3 → ℕ) (j : Fin 8) (h : off = ![1, j.val, 0]) (inb) :
    View.ld (selBuf S0 S1) (Rect.unit (s := S2x8x256) off (no_index S1x1x256.size) inb) = sAt S1 j := by
  subst h
  funext y
  unfold View.ld sAt selBuf
  have h0 : (y 0).val < 1 := (y 0).isLt
  have h1 : (y 1).val < 1 := (y 1).isLt
  refine (if_neg (show ¬ 1 + 1 * (y 0).val = 0 by omega)).trans (congrArg S1 ?_)
  funext a
  match a with
  | ⟨0, _⟩ => rfl
  | ⟨1, _⟩ => exact Fin.ext (show j.val + 1 * (y 1).val = j.val by omega)
  | ⟨2, _⟩ => exact Fin.ext (show 0 + 1 * (y 2).val = (y 2).val by omega)

theorem sel_canon (S0 S1 : FVec F S1x8x256 .f32) (inb0) (inb1) :
    View.canon ([⟨Rect.unit (s := S2x8x256) ![1, 0, 0] ![1, 8, 256] inb1, S1⟩, ⟨Rect.unit (s := S2x8x256) ![0, 0, 0] ![1, 8, 256] inb0, S0⟩] : List (View.Piece (Elt F) S2x8x256 .f32))
      = selBuf S0 S1 := by
  funext y
  refine View.canon_apply_of_pieces _ _ ?_ y ?_
  · simp only [List.forall_mem_cons]
    refine ⟨fun x => ?_, fun x => ?_, fun _ h => absurd h List.not_mem_nil⟩
    · have h0 : (x 0).val < 1 := (x 0).isLt
      unfold selBuf
      refine Eq.trans (congrArg S1 ?_) (if_neg (show ¬ 1 + 1 * (x 0).val = 0 by omega)).symm
      funext a
      match a with
      | ⟨0, _⟩ => exact Fin.ext (show (x 0).val = 0 by omega)
      | ⟨1, _⟩ => exact Fin.ext (show (x 1).val = 0 + 1 * (x 1).val by omega)
      | ⟨2, _⟩ => exact Fin.ext (show (x 2).val = 0 + 1 * (x 2).val by omega)
    · have h0 : (x 0).val < 1 := (x 0).isLt
      unfold selBuf
      refine Eq.trans (congrArg S0 ?_) (if_pos (show 0 + 1 * (x 0).val = 0 by omega)).symm
      funext a
      match a with
      | ⟨0, _⟩ => exact Fin.ext (show (x 0).val = 0 by omega)
      | ⟨1, _⟩ => exact Fin.ext (show (x 1).val = 0 + 1 * (x 1).val by omega)
      | ⟨2, _⟩ => exact Fin.ext (show (x 2).val = 0 + 1 * (x 2).val by omega)
  · have h0 : (y 0).val < 2 := (y 0).isLt
    have h1 : (y 1).val < 8 := (y 1).isLt
    have h2 : (y 2).val < 256 := (y 2).isLt
    by_cases h : (y 0).val = 0
    · refine ⟨_, List.mem_cons_of_mem _ (List.mem_cons_self ..), ?_⟩
      rw [Rect.mem_set_unit]
      intro a
      match a with
      | ⟨0, _⟩ => show 0 ≤ (y 0).val ∧ (y 0).val < 0 + 1; omega
      | ⟨1, _⟩ => show 0 ≤ (y 1).val ∧ (y 1).val < 0 + 8; omega
      | ⟨2, _⟩ => show 0 ≤ (y 2).val ∧ (y 2).val < 0 + 256; omega
    · refine ⟨_, List.mem_cons_self .., ?_⟩
      rw [Rect.mem_set_unit]
      intro a
      match a with
      | ⟨0, _⟩ => show 1 ≤ (y 0).val ∧ (y 0).val < 1 + 1; omega
      | ⟨1, _⟩ => show 0 ≤ (y 1).val ∧ (y 1).val < 0 + 8; omega
      | ⟨2, _⟩ => show 0 ≤ (y 2).val ∧ (y 2).val < 0 + 256; omega

/-- The first loop runs over the blocks before the point's own. -/
theorem trips1 (i : grid0.Coords) : (k0_t1_loop i).trips = (i 2).val :=
  (by decide +kernel : ∀ b : Fin 8, Scf.trips (0#32) (Scalar.addi 0#32 (Scalar.muli (Scalar.divsi (Scalar.subi (BitVec.ofNat 32 b.val) 0#32) 1#32) 1#32)) 1#32 = b.val) (i 2)

/-- The second does not run. -/
theorem trips2 (i : grid0.Coords) : (k0_t2_loop i).trips = 0 := Scf.rem_trips _ _

theorem iv_eq {n : ℕ} (h : n < 8) : (Scf.iv 0#32 1#32 n).toNat = n :=
  (by decide +kernel : ∀ b : Fin 8, (Scf.iv 0#32 1#32 b.val).toNat = b.val) ⟨n, h⟩

theorem off4_eq (i : grid0.Coords) (k : Fin (k0_t1_loop i).trips) (h : k.val < 8) : k0_off4 i k = ![k.val, 0, 0] := by
  show ![(Scf.iv 0#32 1#32 k.val).toNat, 0, 0] = _
  rw [iv_eq h]

theorem off5_eq (i : grid0.Coords) (k : Fin (k0_t1_loop i).trips) (h : k.val < 8) : k0_off5 i k = ![k.val, 0, 0] := off4_eq i k h

theorem off6_eq (i : grid0.Coords) (k : Fin (k0_t1_loop i).trips) (h : k.val < 8) : k0_off6 i k = ![0, k.val, 0] := by
  show ![0, (Scf.iv 0#32 1#32 k.val).toNat, 0] = _
  rw [iv_eq h]

theorem off7_eq (i : grid0.Coords) (k : Fin (k0_t1_loop i).trips) (h : k.val < 8) : k0_off7 i k = ![k.val, 64, 0] := by
  show ![(Scf.iv 0#32 1#32 k.val).toNat, 64, 0] = _
  rw [iv_eq h]

theorem off8_eq (i : grid0.Coords) (k : Fin (k0_t1_loop i).trips) (h : k.val < 8) : k0_off8 i k = ![1, k.val, 0] := by
  show ![1, (Scf.iv 0#32 1#32 k.val).toNat, 0] = _
  rw [iv_eq h]

set_option backward.isDefEq.respectTransparency false in
theorem trip_eq (𝒱 : Variants) (c : Dev nD) (bd : Option 𝒱.V) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256x128 .f32) (harg6 : arg6.IsWhole) (arg7 : Memref sig .tc .vmem S8x256x128 .bf16) (harg7 : arg7.IsWhole) (arg8 : Memref sig .tc .vmem S8x128x256 .bf16) (harg8 : arg8.IsWhole) (arg9 : Memref sig .tc .vmem S8x128 .f32) (harg9 : arg9.IsWhole) (arg10 : Memref sig .tc .vmem S2x8x256 .f32) (harg10 : arg10.IsWhole) (arg2 : BitVec 32) (w1 w2 : FVec F S256x128 .bf16)
    (v281 : FVec F S256x128 .bf16) (v284 : FVec F S64x256 .bf16) (v285 : FVec F S256x256 .f32) (v288 : IVec S256x256 1) (cst : F .f32)
    (X : Vec F S8x256x128 .bf16) (Y : Vec F S8x128x256 .bf16) (S0 S1 : FVec F S1x8x256 .f32) (Z : BufTy.Contents (Elt F) arg10.view.ty)
    (hZ : arg10.view.read (Elt F) Z = selBuf S0 S1) (k : Fin (k0_t1_loop i).trips) (h : k.val < 8) (s : St F) :
    tripR_k0_t1 (F := F) 𝒱 c bd i arg3 harg3 arg4 harg4 arg5 harg5 arg6 harg6 arg7 harg7 arg8 harg8 arg9 harg9 arg10 harg10 arg2 w1 w2 v281 v284 v285 v288 cst (harg7.unread X) (harg8.unread Y) Z k s
      = step w1 w2 (kAt X ⟨k.val, h⟩) (v0At Y ⟨k.val, h⟩) (v1At Y ⟨k.val, h⟩) (sAt S0 ⟨k.val, h⟩) (sAt S1 ⟨k.val, h⟩) s := by
  obtain ⟨s1, s2, s3, s4, s5, s6⟩ := s
  unfold tripR_k0_t1 trip_k0_t1
  dsimp only
  sl_unfold_words
  simp only [View.readAt_eq_ld, harg7.read_unread, harg8.read_unread, hZ]
  rw [← ld_k X _ ⟨k.val, h⟩ (off4_eq i k h) (k0_off4_inb i k), ← ld_v0 Y _ ⟨k.val, h⟩ (off5_eq i k h) (k0_off5_inb i k),
    ← ld_v1 Y _ ⟨k.val, h⟩ (off7_eq i k h) (k0_off7_inb i k), ← ld_s0 S0 S1 _ ⟨k.val, h⟩ (off6_eq i k h) (k0_off6_inb i k),
    ← ld_s1 S0 S1 _ ⟨k.val, h⟩ (off8_eq i k h) (k0_off8_inb i k)]
  rfl

theorem st_eq (𝒱 : Variants) (c : Dev nD) (bd : Option 𝒱.V) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256x128 .f32) (harg6 : arg6.IsWhole) (arg7 : Memref sig .tc .vmem S8x256x128 .bf16) (harg7 : arg7.IsWhole) (arg8 : Memref sig .tc .vmem S8x128x256 .bf16) (harg8 : arg8.IsWhole) (arg9 : Memref sig .tc .vmem S8x128 .f32) (harg9 : arg9.IsWhole) (arg10 : Memref sig .tc .vmem S2x8x256 .f32) (harg10 : arg10.IsWhole) (arg2 : BitVec 32) (x0 : Vec F S1x256x128 .f32)
    (v281 : FVec F S256x128 .bf16) (v284 : FVec F S64x256 .bf16) (v285 : FVec F S256x256 .f32) (v288 : IVec S256x256 1) (cst : F .f32)
    (X : Vec F S8x256x128 .bf16) (Y : Vec F S8x128x256 .bf16) (S0 S1 : FVec F S1x8x256 .f32) (Z : BufTy.Contents (Elt F) arg10.view.ty)
    (hZ : arg10.view.read (Elt F) Z = selBuf S0 S1) (s : St F) (hs : s = own x0 (kAt X (i 2)) (v0At Y (i 2)) (v1At Y (i 2))) :
    ∀ n, n ≤ (i 2).val → st_k0_t1 (F := F) 𝒱 c bd i arg3 harg3 arg4 harg4 arg5 harg5 arg6 harg6 arg7 harg7 arg8 harg8 arg9 harg9 arg10 harg10 arg2 (q0 x0) (q1 x0) v281 v284 v285 v288 cst (harg7.unread X) (harg8.unread Y) Z s n
      = flash x0 X Y S0 S1 (i 2) n
  | 0, _ => hs
  | n + 1, hn => by
    have h8 : (i 2).val < 8 := (i 2).isLt
    have hk : n < (k0_t1_loop i).trips := by rw [trips1 i]; omega
    rw [st_k0_t1_succ (F := F) 𝒱 c bd i arg3 harg3 arg4 harg4 arg5 harg5 arg6 harg6 arg7 harg7 arg8 harg8 arg9 harg9 arg10 harg10 arg2 (q0 x0) (q1 x0) v281 v284 v285 v288 cst (harg7.unread X) (harg8.unread Y) Z s ⟨n, hk⟩]
    rw [show (⟨n, hk⟩ : Fin _).val = n from rfl, st_eq 𝒱 c bd i arg3 harg3 arg4 harg4 arg5 harg5 arg6 harg6 arg7 harg7 arg8 harg8 arg9 harg9 arg10 harg10 arg2 x0 v281 v284 v285 v288 cst X Y S0 S1 Z hZ s hs n (by omega),
      trip_eq 𝒱 c bd i arg3 harg3 arg4 harg4 arg5 harg5 arg6 harg6 arg7 harg7 arg8 harg8 arg9 harg9 arg10 harg10 arg2 (q0 x0) (q1 x0) v281 v284 v285 v288 cst X Y S0 S1 Z hZ ⟨n, hk⟩ (by show n < 8; omega)]
    exact (flash_succ x0 X Y S0 S1 (i 2) (show n < 8 by omega)).symm

theorem ld_kw (X : Vec F S8x256x128 .bf16) (j : Fin 8) (inb) :
    View.ld X (Rect.unit (s := S8x256x128) ![(Scalar.indexCast (BitVec.ofNat 32 j.val)).toNat, 0, 0] (no_index S1x256x128.size) inb) = kAt X j :=
  ld_k X _ j (by show ![(BitVec.ofNat 32 j.val).toNat, 0, 0] = _; rw [word_lt j.isLt]) inb

theorem ld_v0w (X : Vec F S8x128x256 .bf16) (j : Fin 8) (inb) :
    View.ld X (Rect.unit (s := S8x128x256) ![(Scalar.indexCast (BitVec.ofNat 32 j.val)).toNat, 0, 0] (no_index S1x64x256.size) inb) = v0At X j :=
  ld_v0 X _ j (by show ![(BitVec.ofNat 32 j.val).toNat, 0, 0] = _; rw [word_lt j.isLt]) inb

theorem ld_v1w (X : Vec F S8x128x256 .bf16) (j : Fin 8) (inb) :
    View.ld X (Rect.unit (s := S8x128x256) ![(Scalar.indexCast (BitVec.ofNat 32 j.val)).toNat, 64, 0] (no_index S1x64x256.size) inb) = v1At X j :=
  ld_v1 X _ j (by show ![(BitVec.ofNat 32 j.val).toNat, 64, 0] = _; rw [word_lt j.isLt]) inb

theorem ld_wq (X : Vec F S1x256x128 .f32) (inb) :
    View.ld X (Rect.unit (s := S1x256x128) ![0, 0, 0] (no_index S1x256x128.size) inb) = X :=
  View.ld_unit_zero (S := S1x256x128) zero3 inb X

theorem ld_wm (X : Vec F S8x128 .f32) (inb) :
    View.ld X (Rect.unit (s := S8x128) ![0, 0] (no_index S8x128.size) inb) = X :=
  View.ld_unit_zero (S := S8x128) zero2 inb X

set_option backward.isDefEq.respectTransparency false in
/-- The output of a point that finds the scratch filled. -/
theorem out_B (c : Dev nD) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256x128 .f32) (harg6 : arg6.IsWhole) (arg7 : Memref sig .tc .vmem S8x256x128 .bf16) (harg7 : arg7.IsWhole) (arg8 : Memref sig .tc .vmem S8x128x256 .bf16) (harg8 : arg8.IsWhole) (arg9 : Memref sig .tc .vmem S8x128 .f32) (harg9 : arg9.IsWhole) (arg10 : Memref sig .tc .vmem S2x8x256 .f32) (harg10 : arg10.IsWhole) (hc0 : ¬cond0_0 i)
    (x0 : Vec F S1x256x128 .f32) (x1 : Vec F S1x2048x128 .f32) (x2 : Vec F S1x2048x128 .f32) (xs0 : Vec F S8x256x128 .bf16) (xs1 : Vec F S8x128x256 .bf16) (xs2 : Vec F S8x128 .f32) :
    out0_B_3 c i arg3 harg3 arg4 harg4 arg5 harg5 arg6 harg6 arg7 harg7 arg8 harg8 arg9 harg9 arg10 harg10 hc0 x0 x1 x2 xs0 xs1 xs2 = outAt x0 xs0 xs1 xs2 i := by
  unfold out0_B_3
  rw [View.read_writes_eq_canon _ _ _ (cover0_B_3 c i arg3 harg3 arg4 harg4 arg5 harg5 arg6 harg6 arg7 harg7 arg8 harg8 arg9 harg9 arg10 harg10 hc0 x0 x1 x2 xs0 xs1 xs2)]
  unfold kernelRun0_B
  dsimp only
  rw [View.canon_unit_zero zero3]
  sl_unfold_words
  have e1 : Scf.trips 0#32 (Scalar.addi 0#32 (Scalar.muli (Scalar.divsi (Scalar.subi (BitVec.ofNat 32 (i 2).val) 0#32) 1#32) 1#32)) 1#32 = (i 2).val := trips1 i
  have e2 : Scf.trips (Scalar.addi 0#32 (Scalar.muli (Scalar.divsi (Scalar.subi (BitVec.ofNat 32 (i 2).val) 0#32) 1#32) 1#32))
      (Scalar.addi 0#32 (Scalar.subi (BitVec.ofNat 32 (i 2).val) 0#32)) 1#32 = 0 := trips2 i
  simp (disch := decide) only [View.readAt_eq_ld, harg3.read_unread, harg7.read_unread, harg8.read_unread, harg9.read_unread,
    ld_wq, ld_wm, ld_kw, ld_v0w, ld_v1w, e1, e2, st_k0_t2_zero]
  have hZ := (View.read_writes_junk_eq_canon arg10.view _).trans (sel_canon (sel0 x0 xs2 i) (sel1 x0 xs2 i) inb_S2x8x256_S1x8x256_0_0_0 inb_S2x8x256_S1x8x256_1_0_0)
  have key := st_eq Variants.none c none i arg3 harg3 arg4 harg4 arg5 harg5 arg6 harg6 arg7 harg7 arg8 harg8 arg9 harg9 arg10 harg10 (BitVec.ofNat 32 (i 2).val) x0 (k0_pay67 (kAt xs0 (i 2))) (k0_pay68 (v0At xs1 (i 2))) (k0_pay69 (q0 x0) (kAt xs0 (i 2))) k0_pay70 (Named.named κ "mask" 0xF149F2CA#32) xs0 xs1 (sel0 x0 xs2 i) (sel1 x0 xs2 i) _ hZ _ rfl (i 2).val le_rfl
  exact congrArg (fun s : St F => k0_pay1 (k0_pay93 s.2.1 s.2.2.1 s.2.2.2.2.1 s.2.2.2.2.2)) key

end Cert.MobaIdeal.Val

end
-- ==== Proof.Moba.Head.lean ====
/- The first point of a pair of heads: it fills the three scratch buffers from the pair's keys and values, then
   folds the block it has just written. -/
module

public import proofs.«01_k».proof.Proof.Moba.Body

@[expose] public section

set_option maxRecDepth 16384

noncomputable section

namespace Cert.MobaIdeal.Val

open Cert.MobaIdeal Cert.MobaIdeal.Gen Idealize.ShloMosaic Idealize.ShloMosaic.TcCoe Idealize.SL.Sem

/-- The keys as the scratch holds them: eight blocks of 256. -/
def stK (x1 : Vec Ideal S1x2048x128 .f32) : Vec Ideal S8x256x128 .bf16 := fun y =>
  x1 (ix3 0 ⟨256 * (y 0).val + (y 1).val, by have h0 : (y 0).val < 8 := (y 0).isLt; have h1 : (y 1).val < 256 := (y 1).isLt; show _ < 2048; omega⟩ (y 2))

/-- The values as the scratch holds them: eight blocks of 256, each transposed. -/
def stV (x2 : Vec Ideal S1x2048x128 .f32) : Vec Ideal S8x128x256 .bf16 := fun y =>
  x2 (ix3 0 ⟨256 * (y 0).val + (y 2).val, by have h0 : (y 0).val < 8 := (y 0).isLt; have h1 : (y 2).val < 256 := (y 2).isLt; show _ < 2048; omega⟩ (y 1))

/-- The blocks' mean keys. -/
def stM (x1 : Vec Ideal S1x2048x128 .f32) : Vec Ideal S8x128 .f32 := fun y =>
  Ideal.div (∑ kk : Fin 256, x1 (ix3 0 ⟨256 * (y 0).val + kk.val, by have h0 : (y 0).val < 8 := (y 0).isLt; have h1 : kk.val < 256 := kk.isLt; show _ < 2048; omega⟩ (y 1)))
    (Ideal.ofBits .f32 0x43800000#32)

theorem ld3 (x1 : Vec Ideal S1x2048x128 .f32) (n o : ℕ) (hn : n < 8) (ho : o = 256 * n) (inb) (r : Fin 256) (d : Fin 128) :
    View.ld x1 (Rect.unit (s := S1x2048x128) ![0, o, 0] S1x256x128.size inb) (ix3 0 r d : S1x256x128.Idx)
      = x1 (ix3 0 ⟨256 * n + r.val, by omega⟩ d) := by
  subst ho
  unfold View.ld
  refine congrArg x1 ?_
  funext a
  match a with
  | ⟨0, _⟩ => rfl
  | ⟨1, _⟩ => exact Fin.ext (show 256 * n + 1 * r.val = 256 * n + r.val by omega)
  | ⟨2, _⟩ => exact Fin.ext (show 0 + 1 * d.val = d.val by omega)

theorem pieceK (X : Vec Ideal S1x2048x128 .f32) (W : FVec Ideal S1x256x128 .f32) (n : ℕ) (hn : n < 8)
    (hW : ∀ (r : Fin 256) (d : Fin 128), W (ix3 0 r d) = X (ix3 0 ⟨256 * n + r.val, by omega⟩ d)) (inb')
    (x : S1x256x128.Idx) :
    k0_pay2 (F := Ideal) W x = stK X ((Rect.unit (s := S8x256x128) ![n, 0, 0] S1x256x128.size inb').emb x) := by
  obtain ⟨x0, r, d, rfl⟩ : ∃ (a : Fin 1) (b : Fin 256) (e : Fin 128), x = ix3 a b e := ⟨x 0, x 1, x 2, eq_ix3 x⟩
  obtain rfl : x0 = 0 := Subsingleton.elim _ _
  unfold k0_pay2
  pointwise [stK]
  rw [hW]
  refine congrArg X ?_
  funext a
  match a with
  | ⟨0, _⟩ => rfl
  | ⟨1, _⟩ => exact Fin.ext (show 256 * n + r.val = 256 * (n + 1 * 0) + (0 + 1 * r.val) by omega)
  | ⟨2, _⟩ => exact Fin.ext (show d.val = 0 + 1 * d.val by omega)

theorem pieceV (X : Vec Ideal S1x2048x128 .f32) (W : FVec Ideal S1x256x128 .f32) (n : ℕ) (hn : n < 8)
    (hW : ∀ (r : Fin 256) (d : Fin 128), W (ix3 0 r d) = X (ix3 0 ⟨256 * n + r.val, by omega⟩ d)) (inb')
    (x : S1x128x256.Idx) :
    k0_pay3 (F := Ideal) W x = stV X ((Rect.unit (s := S8x128x256) ![n, 0, 0] S1x128x256.size inb').emb x) := by
  obtain ⟨x0, d, r, rfl⟩ : ∃ (a : Fin 1) (b : Fin 128) (e : Fin 256), x = ix3 a b e := ⟨x 0, x 1, x 2, eq_ix3 x⟩
  obtain rfl : x0 = 0 := Subsingleton.elim _ _
  unfold k0_pay3
  pointwise [stV]
  rw [hW]
  refine congrArg X ?_
  funext a
  match a with
  | ⟨0, _⟩ => rfl
  | ⟨1, _⟩ => exact Fin.ext (show 256 * n + r.val = 256 * (n + 1 * 0) + (0 + 1 * r.val) by omega)
  | ⟨2, _⟩ => exact Fin.ext (show d.val = 0 + 1 * d.val by omega)

theorem pieceM (X : Vec Ideal S1x2048x128 .f32) (W : FVec Ideal S1x256x128 .f32) (n : ℕ) (hn : n < 8)
    (hW : ∀ (r : Fin 256) (d : Fin 128), W (ix3 0 r d) = X (ix3 0 ⟨256 * n + r.val, by omega⟩ d)) (inb')
    (x : S1x128.Idx) :
    k0_pay20 (F := Ideal) W x = stM X ((Rect.unit (s := S8x128) ![n, 0] S1x128.size inb').emb x) := by
  obtain ⟨x0, d, rfl⟩ : ∃ (a : Fin 1) (b : Fin 128), x = ix2 a b := ⟨x 0, x 1, eq_ix2 x⟩
  obtain rfl : x0 = 0 := Subsingleton.elim _ _
  unfold k0_pay20
  pointwise [stM]
  congr 1
  refine Finset.sum_congr rfl fun kk _ => ?_
  rw [hW]
  refine congrArg X ?_
  funext a
  match a with
  | ⟨0, _⟩ => rfl
  | ⟨1, _⟩ => exact Fin.ext (show 256 * n + kk.val = 256 * (n + 1 * 0) + kk.val by omega)
  | ⟨2, _⟩ => exact Fin.ext (show d.val = 0 + 1 * d.val by omega)

set_option backward.isDefEq.respectTransparency false in
theorem pieces0 (c : Dev nD) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256x128 .f32) (harg6 : arg6.IsWhole) (arg7 : Memref sig .tc .vmem S8x256x128 .bf16) (harg7 : arg7.IsWhole) (arg8 : Memref sig .tc .vmem S8x128x256 .bf16) (harg8 : arg8.IsWhole) (arg9 : Memref sig .tc .vmem S8x128 .f32) (harg9 : arg9.IsWhole) (arg10 : Memref sig .tc .vmem S2x8x256 .f32) (harg10 : arg10.IsWhole) (hc0 : cond0_0 i)
    (x0 : Vec Ideal S1x256x128 .f32) (x1 : Vec Ideal S1x2048x128 .f32) (x2 : Vec Ideal S1x2048x128 .f32) :
    ∀ p ∈ (kernelRun0_A (F := Ideal) c i arg3 harg3 arg4 harg4 arg5 harg5 arg6 harg6 arg7 harg7 arg8 harg8 arg9 harg9 arg10 harg10 hc0 x0 x1 x2).2.1, ∀ x : p.1.shape.Idx, p.2 x = stK x1 (p.1.emb x) := by
  unfold kernelRun0_A
  dsimp only
  sl_unfold_words
  simp only [View.readAt_eq_ld, harg4.read_unread]
  simp only [List.forall_mem_cons]
  exact ⟨pieceK x1 _ 7 (by decide) (ld3 x1 7 1792 (by decide) rfl _) _, pieceK x1 _ 6 (by decide) (ld3 x1 6 1536 (by decide) rfl _) _, pieceK x1 _ 5 (by decide) (ld3 x1 5 1280 (by decide) rfl _) _, pieceK x1 _ 4 (by decide) (ld3 x1 4 1024 (by decide) rfl _) _, pieceK x1 _ 3 (by decide) (ld3 x1 3 768 (by decide) rfl _) _, pieceK x1 _ 2 (by decide) (ld3 x1 2 512 (by decide) rfl _) _, pieceK x1 _ 1 (by decide) (ld3 x1 1 256 (by decide) rfl _) _, pieceK x1 _ 0 (by decide) (ld3 x1 0 0 (by decide) rfl _) _, fun _ h => absurd h List.not_mem_nil⟩

theorem canon0 (c : Dev nD) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256x128 .f32) (harg6 : arg6.IsWhole) (arg7 : Memref sig .tc .vmem S8x256x128 .bf16) (harg7 : arg7.IsWhole) (arg8 : Memref sig .tc .vmem S8x128x256 .bf16) (harg8 : arg8.IsWhole) (arg9 : Memref sig .tc .vmem S8x128 .f32) (harg9 : arg9.IsWhole) (arg10 : Memref sig .tc .vmem S2x8x256 .f32) (harg10 : arg10.IsWhole) (hc0 : cond0_0 i)
    (x0 : Vec Ideal S1x256x128 .f32) (x1 : Vec Ideal S1x2048x128 .f32) (x2 : Vec Ideal S1x2048x128 .f32) :
    View.canon (kernelRun0_A (F := Ideal) c i arg3 harg3 arg4 harg4 arg5 harg5 arg6 harg6 arg7 harg7 arg8 harg8 arg9 harg9 arg10 harg10 hc0 x0 x1 x2).2.1 = stK x1 :=
  funext fun y => View.canon_apply_of_pieces _ _ (pieces0 c i arg3 harg3 arg4 harg4 arg5 harg5 arg6 harg6 arg7 harg7 arg8 harg8 arg9 harg9 arg10 harg10 hc0 x0 x1 x2) y (scover0_A_0 (F := Ideal) c i arg3 harg3 arg4 harg4 arg5 harg5 arg6 harg6 arg7 harg7 arg8 harg8 arg9 harg9 arg10 harg10 hc0 x0 x1 x2 y)

theorem sout0 (c : Dev nD) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256x128 .f32) (harg6 : arg6.IsWhole) (arg7 : Memref sig .tc .vmem S8x256x128 .bf16) (harg7 : arg7.IsWhole) (arg8 : Memref sig .tc .vmem S8x128x256 .bf16) (harg8 : arg8.IsWhole) (arg9 : Memref sig .tc .vmem S8x128 .f32) (harg9 : arg9.IsWhole) (arg10 : Memref sig .tc .vmem S2x8x256 .f32) (harg10 : arg10.IsWhole) (hc0 : cond0_0 i)
    (x0 : Vec Ideal S1x256x128 .f32) (x1 : Vec Ideal S1x2048x128 .f32) (x2 : Vec Ideal S1x2048x128 .f32) :
    sout0_A_0 (F := Ideal) c i arg3 harg3 arg4 harg4 arg5 harg5 arg6 harg6 arg7 harg7 arg8 harg8 arg9 harg9 arg10 harg10 hc0 x0 x1 x2 = stK x1 := by
  unfold sout0_A_0
  rw [View.read_writes_eq_canon _ _ _ (scover0_A_0 (F := Ideal) c i arg3 harg3 arg4 harg4 arg5 harg5 arg6 harg6 arg7 harg7 arg8 harg8 arg9 harg9 arg10 harg10 hc0 x0 x1 x2), canon0]

set_option backward.isDefEq.respectTransparency false in
theorem pieces1 (c : Dev nD) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256x128 .f32) (harg6 : arg6.IsWhole) (arg7 : Memref sig .tc .vmem S8x256x128 .bf16) (harg7 : arg7.IsWhole) (arg8 : Memref sig .tc .vmem S8x128x256 .bf16) (harg8 : arg8.IsWhole) (arg9 : Memref sig .tc .vmem S8x128 .f32) (harg9 : arg9.IsWhole) (arg10 : Memref sig .tc .vmem S2x8x256 .f32) (harg10 : arg10.IsWhole) (hc0 : cond0_0 i)
    (x0 : Vec Ideal S1x256x128 .f32) (x1 : Vec Ideal S1x2048x128 .f32) (x2 : Vec Ideal S1x2048x128 .f32) :
    ∀ p ∈ (kernelRun0_A (F := Ideal) c i arg3 harg3 arg4 harg4 arg5 harg5 arg6 harg6 arg7 harg7 arg8 harg8 arg9 harg9 arg10 harg10 hc0 x0 x1 x2).2.2.1, ∀ x : p.1.shape.Idx, p.2 x = stV x2 (p.1.emb x) := by
  unfold kernelRun0_A
  dsimp only
  sl_unfold_words
  simp only [View.readAt_eq_ld, harg5.read_unread]
  simp only [List.forall_mem_cons]
  exact ⟨pieceV x2 _ 7 (by decide) (ld3 x2 7 1792 (by decide) rfl _) _, pieceV x2 _ 6 (by decide) (ld3 x2 6 1536 (by decide) rfl _) _, pieceV x2 _ 5 (by decide) (ld3 x2 5 1280 (by decide) rfl _) _, pieceV x2 _ 4 (by decide) (ld3 x2 4 1024 (by decide) rfl _) _, pieceV x2 _ 3 (by decide) (ld3 x2 3 768 (by decide) rfl _) _, pieceV x2 _ 2 (by decide) (ld3 x2 2 512 (by decide) rfl _) _, pieceV x2 _ 1 (by decide) (ld3 x2 1 256 (by decide) rfl _) _, pieceV x2 _ 0 (by decide) (ld3 x2 0 0 (by decide) rfl _) _, fun _ h => absurd h List.not_mem_nil⟩

theorem canon1 (c : Dev nD) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256x128 .f32) (harg6 : arg6.IsWhole) (arg7 : Memref sig .tc .vmem S8x256x128 .bf16) (harg7 : arg7.IsWhole) (arg8 : Memref sig .tc .vmem S8x128x256 .bf16) (harg8 : arg8.IsWhole) (arg9 : Memref sig .tc .vmem S8x128 .f32) (harg9 : arg9.IsWhole) (arg10 : Memref sig .tc .vmem S2x8x256 .f32) (harg10 : arg10.IsWhole) (hc0 : cond0_0 i)
    (x0 : Vec Ideal S1x256x128 .f32) (x1 : Vec Ideal S1x2048x128 .f32) (x2 : Vec Ideal S1x2048x128 .f32) :
    View.canon (kernelRun0_A (F := Ideal) c i arg3 harg3 arg4 harg4 arg5 harg5 arg6 harg6 arg7 harg7 arg8 harg8 arg9 harg9 arg10 harg10 hc0 x0 x1 x2).2.2.1 = stV x2 :=
  funext fun y => View.canon_apply_of_pieces _ _ (pieces1 c i arg3 harg3 arg4 harg4 arg5 harg5 arg6 harg6 arg7 harg7 arg8 harg8 arg9 harg9 arg10 harg10 hc0 x0 x1 x2) y (scover0_A_1 (F := Ideal) c i arg3 harg3 arg4 harg4 arg5 harg5 arg6 harg6 arg7 harg7 arg8 harg8 arg9 harg9 arg10 harg10 hc0 x0 x1 x2 y)

theorem sout1 (c : Dev nD) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256x128 .f32) (harg6 : arg6.IsWhole) (arg7 : Memref sig .tc .vmem S8x256x128 .bf16) (harg7 : arg7.IsWhole) (arg8 : Memref sig .tc .vmem S8x128x256 .bf16) (harg8 : arg8.IsWhole) (arg9 : Memref sig .tc .vmem S8x128 .f32) (harg9 : arg9.IsWhole) (arg10 : Memref sig .tc .vmem S2x8x256 .f32) (harg10 : arg10.IsWhole) (hc0 : cond0_0 i)
    (x0 : Vec Ideal S1x256x128 .f32) (x1 : Vec Ideal S1x2048x128 .f32) (x2 : Vec Ideal S1x2048x128 .f32) :
    sout0_A_1 (F := Ideal) c i arg3 harg3 arg4 harg4 arg5 harg5 arg6 harg6 arg7 harg7 arg8 harg8 arg9 harg9 arg10 harg10 hc0 x0 x1 x2 = stV x2 := by
  unfold sout0_A_1
  rw [View.read_writes_eq_canon _ _ _ (scover0_A_1 (F := Ideal) c i arg3 harg3 arg4 harg4 arg5 harg5 arg6 harg6 arg7 harg7 arg8 harg8 arg9 harg9 arg10 harg10 hc0 x0 x1 x2), canon1]

set_option backward.isDefEq.respectTransparency false in
theorem pieces2 (c : Dev nD) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256x128 .f32) (harg6 : arg6.IsWhole) (arg7 : Memref sig .tc .vmem S8x256x128 .bf16) (harg7 : arg7.IsWhole) (arg8 : Memref sig .tc .vmem S8x128x256 .bf16) (harg8 : arg8.IsWhole) (arg9 : Memref sig .tc .vmem S8x128 .f32) (harg9 : arg9.IsWhole) (arg10 : Memref sig .tc .vmem S2x8x256 .f32) (harg10 : arg10.IsWhole) (hc0 : cond0_0 i)
    (x0 : Vec Ideal S1x256x128 .f32) (x1 : Vec Ideal S1x2048x128 .f32) (x2 : Vec Ideal S1x2048x128 .f32) :
    ∀ p ∈ (kernelRun0_A (F := Ideal) c i arg3 harg3 arg4 harg4 arg5 harg5 arg6 harg6 arg7 harg7 arg8 harg8 arg9 harg9 arg10 harg10 hc0 x0 x1 x2).2.2.2.1, ∀ x : p.1.shape.Idx, p.2 x = stM x1 (p.1.emb x) := by
  unfold kernelRun0_A
  dsimp only
  sl_unfold_words
  simp only [View.readAt_eq_ld, harg4.read_unread]
  simp only [List.forall_mem_cons]
  exact ⟨pieceM x1 _ 7 (by decide) (ld3 x1 7 1792 (by decide) rfl _) _, pieceM x1 _ 6 (by decide) (ld3 x1 6 1536 (by decide) rfl _) _, pieceM x1 _ 5 (by decide) (ld3 x1 5 1280 (by decide) rfl _) _, pieceM x1 _ 4 (by decide) (ld3 x1 4 1024 (by decide) rfl _) _, pieceM x1 _ 3 (by decide) (ld3 x1 3 768 (by decide) rfl _) _, pieceM x1 _ 2 (by decide) (ld3 x1 2 512 (by decide) rfl _) _, pieceM x1 _ 1 (by decide) (ld3 x1 1 256 (by decide) rfl _) _, pieceM x1 _ 0 (by decide) (ld3 x1 0 0 (by decide) rfl _) _, fun _ h => absurd h List.not_mem_nil⟩

theorem canon2 (c : Dev nD) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256x128 .f32) (harg6 : arg6.IsWhole) (arg7 : Memref sig .tc .vmem S8x256x128 .bf16) (harg7 : arg7.IsWhole) (arg8 : Memref sig .tc .vmem S8x128x256 .bf16) (harg8 : arg8.IsWhole) (arg9 : Memref sig .tc .vmem S8x128 .f32) (harg9 : arg9.IsWhole) (arg10 : Memref sig .tc .vmem S2x8x256 .f32) (harg10 : arg10.IsWhole) (hc0 : cond0_0 i)
    (x0 : Vec Ideal S1x256x128 .f32) (x1 : Vec Ideal S1x2048x128 .f32) (x2 : Vec Ideal S1x2048x128 .f32) :
    View.canon (kernelRun0_A (F := Ideal) c i arg3 harg3 arg4 harg4 arg5 harg5 arg6 harg6 arg7 harg7 arg8 harg8 arg9 harg9 arg10 harg10 hc0 x0 x1 x2).2.2.2.1 = stM x1 :=
  funext fun y => View.canon_apply_of_pieces _ _ (pieces2 c i arg3 harg3 arg4 harg4 arg5 harg5 arg6 harg6 arg7 harg7 arg8 harg8 arg9 harg9 arg10 harg10 hc0 x0 x1 x2) y (scover0_A_2 (F := Ideal) c i arg3 harg3 arg4 harg4 arg5 harg5 arg6 harg6 arg7 harg7 arg8 harg8 arg9 harg9 arg10 harg10 hc0 x0 x1 x2 y)

theorem sout2 (c : Dev nD) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256x128 .f32) (harg6 : arg6.IsWhole) (arg7 : Memref sig .tc .vmem S8x256x128 .bf16) (harg7 : arg7.IsWhole) (arg8 : Memref sig .tc .vmem S8x128x256 .bf16) (harg8 : arg8.IsWhole) (arg9 : Memref sig .tc .vmem S8x128 .f32) (harg9 : arg9.IsWhole) (arg10 : Memref sig .tc .vmem S2x8x256 .f32) (harg10 : arg10.IsWhole) (hc0 : cond0_0 i)
    (x0 : Vec Ideal S1x256x128 .f32) (x1 : Vec Ideal S1x2048x128 .f32) (x2 : Vec Ideal S1x2048x128 .f32) :
    sout0_A_2 (F := Ideal) c i arg3 harg3 arg4 harg4 arg5 harg5 arg6 harg6 arg7 harg7 arg8 harg8 arg9 harg9 arg10 harg10 hc0 x0 x1 x2 = stM x1 := by
  unfold sout0_A_2
  rw [View.read_writes_eq_canon _ _ _ (scover0_A_2 (F := Ideal) c i arg3 harg3 arg4 harg4 arg5 harg5 arg6 harg6 arg7 harg7 arg8 harg8 arg9 harg9 arg10 harg10 hc0 x0 x1 x2), canon2]

theorem first_point (i : grid0.Coords) (h : cond0_0 i) : (i 2).val = 0 :=
  (by decide +kernel : ∀ b : Fin 8, Scalar.cmpi .ne (Scalar.extui (Scalar.cmpi .eq (BitVec.ofNat 32 b.val) 0#32)) 0#32 = 1#1 → b.val = 0) (i 2) h

set_option backward.isDefEq.respectTransparency false in
theorem out_A (c : Dev nD) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256x128 .f32) (harg6 : arg6.IsWhole) (arg7 : Memref sig .tc .vmem S8x256x128 .bf16) (harg7 : arg7.IsWhole) (arg8 : Memref sig .tc .vmem S8x128x256 .bf16) (harg8 : arg8.IsWhole) (arg9 : Memref sig .tc .vmem S8x128 .f32) (harg9 : arg9.IsWhole) (arg10 : Memref sig .tc .vmem S2x8x256 .f32) (harg10 : arg10.IsWhole) (hc0 : cond0_0 i)
    (x0 : Vec Ideal S1x256x128 .f32) (x1 : Vec Ideal S1x2048x128 .f32) (x2 : Vec Ideal S1x2048x128 .f32) :
    out0_A_3 (F := Ideal) c i arg3 harg3 arg4 harg4 arg5 harg5 arg6 harg6 arg7 harg7 arg8 harg8 arg9 harg9 arg10 harg10 hc0 x0 x1 x2 = outAt x0 (stK x1) (stV x2) (stM x1) i := by
  unfold out0_A_3
  rw [View.read_writes_eq_canon _ _ _ (cover0_A_3 (F := Ideal) c i arg3 harg3 arg4 harg4 arg5 harg5 arg6 harg6 arg7 harg7 arg8 harg8 arg9 harg9 arg10 harg10 hc0 x0 x1 x2)]
  unfold kernelRun0_A
  dsimp only
  have hC0 := canon0 c i arg3 harg3 arg4 harg4 arg5 harg5 arg6 harg6 arg7 harg7 arg8 harg8 arg9 harg9 arg10 harg10 hc0 x0 x1 x2
  have hC1 := canon1 c i arg3 harg3 arg4 harg4 arg5 harg5 arg6 harg6 arg7 harg7 arg8 harg8 arg9 harg9 arg10 harg10 hc0 x0 x1 x2
  unfold kernelRun0_A at hC0 hC1
  dsimp only at hC0 hC1
  rw [View.canon_unit_zero zero3]
  have h2 : (i 2).val = 0 := first_point i hc0
  have e1 : Scf.trips 0#32 (Scalar.addi 0#32 (Scalar.muli (Scalar.divsi (Scalar.subi (BitVec.ofNat 32 (i 2).val) 0#32) 1#32) 1#32)) 1#32 = 0 := (trips1 i).trans h2
  have e2 : Scf.trips (Scalar.addi 0#32 (Scalar.muli (Scalar.divsi (Scalar.subi (BitVec.ofNat 32 (i 2).val) 0#32) 1#32) 1#32))
      (Scalar.addi 0#32 (Scalar.subi (BitVec.ofNat 32 (i 2).val) 0#32)) 1#32 = 0 := trips2 i
  unfold kernelRun0_A.sl.r_17
  simp only [e1, e2, st_k0_t2_zero, st_k0_t1_zero]
  clear e1 e2
  unfold kernelRun0_A.sl.r_13 kernelRun0_A.sl.r_14 kernelRun0_A.sl.r_15 kernelRun0_A.sl.r_16
  generalize kernelRun0_A.sl.HS0_8 c arg4 harg4 x1 = L0 at hC0 ⊢
  generalize kernelRun0_A.sl.HS1_8 c arg5 harg5 x2 = L1 at hC1 ⊢
  sl_unfold_words
  simp only [View.read_writes_junk_eq_canon, hC0, hC1, View.readAt_eq_ld, harg3.read_unread, ld_wq, ld_kw, ld_v0w, ld_v1w]
  unfold outAt
  simp only [h2]
  rfl

end Cert.MobaIdeal.Val

end
-- ==== Proof.Moba.Array.lean ====
/- The result array after the run: at each index what the point covering it computes from the arguments. -/
module

public import proofs.«01_k».proof.Proof.Moba.Head

@[expose] public section

set_option maxRecDepth 16384

noncomputable section

namespace Cert.MobaIdeal.Val

open Cert.MobaIdeal Cert.MobaIdeal.Gen Idealize.ShloMosaic Idealize.ShloMosaic.TcCoe Idealize.SL.Sem

theorem c0 (t : Fin cfg0.N) : (grid0.coords t 0).val = t.val / 32 % 8 := Pipeline.Grid.coords_val t 0 (by decide) rfl
theorem c1 (t : Fin cfg0.N) : (grid0.coords t 1).val = t.val / 8 % 4 := Pipeline.Grid.coords_val t 1 (by decide) rfl
theorem c2 (t : Fin cfg0.N) : (grid0.coords t 2).val = t.val % 8 :=
  (Pipeline.Grid.coords_val t 2 (S := 1) (B := 8) (by decide) rfl).trans (by rw [Nat.div_one])

/-- Block `i` of 256 queries of head `h`. -/
def blkQ (q : Vec Ideal S8x2048x512 .f32) (b : Fin 8) (h : Fin 4) (i : Fin 8) : Vec Ideal S1x256x128 .f32 := fun y =>
  q (ix3 b ⟨256 * i.val + (y 1).val, by have h1 : (y 1).val < 256 := (y 1).isLt; show _ < 2048; omega⟩
    ⟨128 * h.val + (y 2).val, by have h1 : (y 2).val < 128 := (y 2).isLt; show _ < 512; omega⟩)

/-- The keys (or values) of the pair of heads `h`. -/
def blkK (k : Vec Ideal S8x2048x512 .f32) (b : Fin 8) (h : Fin 4) : Vec Ideal S1x2048x128 .f32 := fun y =>
  k (ix3 b (y 1) ⟨128 * h.val + (y 2).val, by have h1 : (y 2).val < 128 := (y 2).isLt; show _ < 512; omega⟩)

variable (m : (ℓ : Loc nD τ sig) → Buf (Elt Ideal) ℓ)

/-- The arguments, as vectors. -/
abbrev aQ (c : Dev nD) : Vec Ideal S8x2048x512 .f32 := m ((c : Thread nD τ).loc main_arg0)
abbrev aK (c : Dev nD) : Vec Ideal S8x2048x512 .f32 := m ((c : Thread nD τ).loc main_arg1)
abbrev aV (c : Dev nD) : Vec Ideal S8x2048x512 .f32 := m ((c : Thread nD τ).loc main_arg2)

theorem blk0 (c : Dev nD) (t : Fin cfg0.N) :
    (iblk m c 0 t : Vec Ideal S1x256x128 .f32) = blkQ (aQ m c) (grid0.coords t 0) (grid0.coords t 1) (grid0.coords t 2) := by
  funext j
  unfold iblk blkQ
  rw [View.read_apply]
  show V m c main_arg0 _ = m (c.tc.loc main_arg0) _
  unfold V
  congr 1
  funext a
  apply Fin.ext
  have h0 : (grid0.coords t 0).val < 8 := (grid0.coords t 0).isLt
  have h1 : (grid0.coords t 1).val < 4 := (grid0.coords t 1).isLt
  have h2 : (grid0.coords t 2).val < 8 := (grid0.coords t 2).isLt
  have hj : (j 0).val < 1 := (j 0).isLt
  match a with
  | ⟨0, _⟩ => show (BitVec.ofNat 32 (grid0.coords t 0).val).toNat * 1 + 1 * (j 0).val = (grid0.coords t 0).val; rw [BitVec.toNat_ofNat]; omega
  | ⟨1, _⟩ => show (BitVec.ofNat 32 (grid0.coords t 2).val).toNat * 256 + 1 * (j 1).val = 256 * (grid0.coords t 2).val + (j 1).val; rw [BitVec.toNat_ofNat]; omega
  | ⟨2, _⟩ => show (BitVec.ofNat 32 (grid0.coords t 1).val).toNat * 128 + 1 * (j 2).val = 128 * (grid0.coords t 1).val + (j 2).val; rw [BitVec.toNat_ofNat]; omega

theorem blk1 (c : Dev nD) (t : Fin cfg0.N) :
    (iblk m c 1 t : Vec Ideal S1x2048x128 .f32) = blkK (aK m c) (grid0.coords t 0) (grid0.coords t 1) := by
  funext j
  unfold iblk blkK
  rw [View.read_apply]
  show V m c main_arg1 _ = m (c.tc.loc main_arg1) _
  unfold V
  congr 1
  funext a
  apply Fin.ext
  have h0 : (grid0.coords t 0).val < 8 := (grid0.coords t 0).isLt
  have h1 : (grid0.coords t 1).val < 4 := (grid0.coords t 1).isLt
  have hj : (j 0).val < 1 := (j 0).isLt
  match a with
  | ⟨0, _⟩ => show (BitVec.ofNat 32 (grid0.coords t 0).val).toNat * 1 + 1 * (j 0).val = (grid0.coords t 0).val; rw [BitVec.toNat_ofNat]; omega
  | ⟨1, _⟩ => show 0 * 2048 + 1 * (j 1).val = (j 1).val; omega
  | ⟨2, _⟩ => show (BitVec.ofNat 32 (grid0.coords t 1).val).toNat * 128 + 1 * (j 2).val = 128 * (grid0.coords t 1).val + (j 2).val; rw [BitVec.toNat_ofNat]; omega

theorem blk2 (c : Dev nD) (t : Fin cfg0.N) :
    (iblk m c 2 t : Vec Ideal S1x2048x128 .f32) = blkK (aV m c) (grid0.coords t 0) (grid0.coords t 1) := by
  funext j
  unfold iblk blkK
  rw [View.read_apply]
  show V m c main_arg2 _ = m (c.tc.loc main_arg2) _
  unfold V
  congr 1
  funext a
  apply Fin.ext
  have h0 : (grid0.coords t 0).val < 8 := (grid0.coords t 0).isLt
  have h1 : (grid0.coords t 1).val < 4 := (grid0.coords t 1).isLt
  have hj : (j 0).val < 1 := (j 0).isLt
  match a with
  | ⟨0, _⟩ => show (BitVec.ofNat 32 (grid0.coords t 0).val).toNat * 1 + 1 * (j 0).val = (grid0.coords t 0).val; rw [BitVec.toNat_ofNat]; omega
  | ⟨1, _⟩ => show 0 * 2048 + 1 * (j 1).val = (j 1).val; omega
  | ⟨2, _⟩ => show (BitVec.ofNat 32 (grid0.coords t 1).val).toNat * 128 + 1 * (j 2).val = 128 * (grid0.coords t 1).val + (j 2).val; rw [BitVec.toNat_ofNat]; omega

theorem scratch_A (c : Dev nD) (t : Fin cfg0.N) (h0 : t.val % 8 = 0) :
    (outsAt0 m c t.val t.isLt).2 = (stK (iblk m c 1 t), stV (iblk m c 2 t), stM (iblk m c 1 t)) := by
  rw [outsAt0_A m c t h0]
  dsimp only
  rw [sout0, sout1, sout2]

theorem scratch_B (c : Dev nD) (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  dsimp only
  unfold sout0_B_0 sout0_B_1 sout0_B_2
  rfl

/-- The scratch after point `t`: the pair's keys, values and mean keys. -/
theorem scratch (c : Dev nD) : ∀ (n : ℕ) (h : n < cfg0.N),
    (outsAt0 m c n h).2 = (stK (iblk m c 1 ⟨n, h⟩), stV (iblk m c 2 ⟨n, h⟩), stM (iblk m c 1 ⟨n, h⟩))
  | 0, h => scratch_A m c ⟨0, h⟩ rfl
  | n + 1, h => by
    by_cases h0 : (n + 1) % 8 = 0
    · exact scratch_A m c ⟨n + 1, h⟩ h0
    · refine (scratch_B m c ⟨n + 1, h⟩ h0).trans ?_
      have ih := scratch c n (Nat.lt_of_succ_lt h)
      have e0 : grid0.coords (⟨n, Nat.lt_of_succ_lt h⟩ : Fin cfg0.N) 0 = grid0.coords (⟨n + 1, h⟩ : Fin cfg0.N) 0 :=
        Fin.ext (by rw [c0, c0]; show n / 32 % 8 = (n + 1) / 32 % 8; omega)
      have e1 : grid0.coords (⟨n, Nat.lt_of_succ_lt h⟩ : Fin cfg0.N) 1 = grid0.coords (⟨n + 1, h⟩ : Fin cfg0.N) 1 :=
        Fin.ext (by rw [c1, c1]; show n / 8 % 4 = (n + 1) / 8 % 4; omega)
      rw [blk1, blk2, e0, e1, ← blk1 m c ⟨n + 1, h⟩, ← blk2 m c ⟨n + 1, h⟩] at ih
      exact ih

/-- The result at an index, from the arguments, at the point `i`. -/
def resAt (q k v : Vec Ideal S8x2048x512 .f32) (i : grid0.Coords) : FVec Ideal S1x256x128 .f32 :=
  outAt (blkQ q (i 0) (i 1) (i 2)) (stK (blkK k (i 0) (i 1))) (stV (blkK v (i 0) (i 1))) (stM (blkK k (i 0) (i 1))) i

theorem out_point (c : Dev nD) (t : Fin cfg0.N) :
    (outsAt0 m c t.val t.isLt).1 = resAt (aQ m c) (aK m c) (aV m c) (grid0.coords t) := by
  unfold resAt
  by_cases h0 : t.val % 8 = 0
  · rw [outsAt0_A m c t h0]
    dsimp only
    rw [out_A, blk0, blk1, blk2]
  · have hs := (scratch_B m c t h0).symm.trans (scratch m c t.val t.isLt)
    rw [outsAt0_B m c t h0]
    dsimp only
    rw [out_B, hs, blk0, blk1, blk2]

/-- The point whose block holds the index. -/
def pt (b : Fin 8) (h : Fin 4) (j : Fin 8) : grid0.Coords := fun a => match a with
  | ⟨0, _⟩ => b
  | ⟨1, _⟩ => h
  | ⟨2, _⟩ => j

/-- The whole result array, from the arguments. -/
def resVec (q k v : Vec Ideal S8x2048x512 .f32) : Vec Ideal S8x2048x512 .f32 := fun i =>
  resAt q k v (pt (i 0)
    ⟨(i 2).val / 128, by have h : (i 2).val < 512 := (i 2).isLt; omega⟩ ⟨(i 1).val / 256, by have h : (i 1).val < 2048 := (i 1).isLt; omega⟩)
    (ix3 0 ⟨(i 1).val % 256, Nat.mod_lt _ (by decide)⟩ ⟨(i 2).val % 128, Nat.mod_lt _ (by decide)⟩)

/-- … of the run. -/
def result (c : Dev nD) : Vec Ideal S8x2048x512 .f32 := resVec (aQ m c) (aK m c) (aV m c)

theorem res_congr (c : Dev nD) (i : grid0.Coords) {b' : Fin 8} {h' : Fin 4} {i' : Fin 8} (y : S1x256x128.Idx) (r : Fin 256) (d : Fin 128)
    (hb : b'.val = (i 0).val) (hh : h'.val = (i 1).val) (hi : i'.val = (i 2).val) (hr : r.val = (y 1).val) (hd : d.val = (y 2).val) :
    resAt (aQ m c) (aK m c) (aV m c) i y = resAt (aQ m c) (aK m c) (aV m c) (pt b' h' i') (ix3 0 r d) := by
  have e : i = pt b' h' i' := by
    funext a
    match a with
    | ⟨0, _⟩ => exact Fin.ext hb.symm
    | ⟨1, _⟩ => exact Fin.ext hh.symm
    | ⟨2, _⟩ => exact Fin.ext hi.symm
  rw [e]
  congr 1
  funext a
  match a with
  | ⟨0, _⟩ => exact Fin.ext (by show (y 0).val = 0; have : (y 0).val < 1 := (y 0).isLt; omega)
  | ⟨1, _⟩ => exact Fin.ext hr.symm
  | ⟨2, _⟩ => exact Fin.ext hd.symm

theorem final (c : Dev nD) : (dats m 0 c).arrAt 3 cfg0.N = result m c := by
  funext i
  refine (dats m 0 c).arrAt_forall_of_cover 3 (fun i v => v = result m c i) (fun t _ y => ?_) (fun i => ?_) i
  · rw [Value.flushed3, out_point]
    have h0 : (grid0.coords t 0).val < 8 := (grid0.coords t 0).isLt
    have h1 : (grid0.coords t 1).val < 4 := (grid0.coords t 1).isLt
    have h2 : (grid0.coords t 2).val < 8 := (grid0.coords t 2).isLt
    have y0 : (y 0).val < 1 := (y 0).isLt
    have y1 : (y 1).val < 256 := (y 1).isLt
    have y2 : (y 2).val < 128 := (y 2).isLt
    have b0 : (BitVec.ofNat 32 (grid0.coords t 0).val).toNat = (grid0.coords t 0).val := by rw [BitVec.toNat_ofNat]; omega
    have b1 : (BitVec.ofNat 32 (grid0.coords t 1).val).toNat = (grid0.coords t 1).val := by rw [BitVec.toNat_ofNat]; omega
    have b2 : (BitVec.ofNat 32 (grid0.coords t 2).val).toNat = (grid0.coords t 2).val := by rw [BitVec.toNat_ofNat]; omega
    refine res_congr m c (grid0.coords t) y _ _ ?_ ?_ ?_ ?_ ?_
    · show (BitVec.ofNat 32 (grid0.coords t 0).val).toNat * 1 + 1 * (y 0).val = _; omega
    · show ((BitVec.ofNat 32 (grid0.coords t 1).val).toNat * 128 + 1 * (y 2).val) / 128 = _; omega
    · show ((BitVec.ofNat 32 (grid0.coords t 2).val).toNat * 256 + 1 * (y 1).val) / 256 = _; omega
    · show ((BitVec.ofNat 32 (grid0.coords t 2).val).toNat * 256 + 1 * (y 1).val) % 256 = _; omega
    · show ((BitVec.ofNat 32 (grid0.coords t 1).val).toNat * 128 + 1 * (y 2).val) % 128 = _; omega
  · have i0 : (i 0 : Nat) < 8 := (i 0).isLt
    have i1 : (i 1 : Nat) < 2048 := (i 1).isLt
    have i2 : (i 2 : Nat) < 512 := (i 2).isLt
    have hN : cfg0.N = 256 := N_0
    let t : Fin cfg0.N := ⟨(i 0 : Nat) * 32 + (i 2 : Nat) / 128 * 8 + (i 1 : Nat) / 256, by rw [hN]; omega⟩
    refine ⟨t, flush0_3 t, ?_⟩
    have t0 : (grid0.coords t 0).val = (i 0 : Nat) := by rw [c0]; show ((i 0 : Nat) * 32 + (i 2 : Nat) / 128 * 8 + (i 1 : Nat) / 256) / 32 % 8 = _; omega
    have t1 : (grid0.coords t 1).val = (i 2 : Nat) / 128 := by rw [c1]; show ((i 0 : Nat) * 32 + (i 2 : Nat) / 128 * 8 + (i 1 : Nat) / 256) / 8 % 4 = _; omega
    have t2 : (grid0.coords t 2).val = (i 1 : Nat) / 256 := by rw [c2]; show ((i 0 : Nat) * 32 + (i 2 : Nat) / 128 * 8 + (i 1 : Nat) / 256) % 8 = _; omega
    have b0 : (BitVec.ofNat 32 (grid0.coords t 0).val).toNat = (i 0 : Nat) := by rw [BitVec.toNat_ofNat, t0]; omega
    have b1 : (BitVec.ofNat 32 (grid0.coords t 1).val).toNat = (i 2 : Nat) / 128 := by rw [BitVec.toNat_ofNat, t1]; omega
    have b2 : (BitVec.ofNat 32 (grid0.coords t 2).val).toNat = (i 1 : Nat) / 256 := by rw [BitVec.toNat_ofNat, t2]; omega
    show i ∈ ((View.whole main_v0).slice (win0_3.rect t)).set
    rw [View.set_slice_whole, Rect.mem_set_unit]
    intro a
    match a with
    | ⟨0, _⟩ => show (BitVec.ofNat 32 (grid0.coords t 0).val).toNat * 1 ≤ (i 0 : Nat) ∧ (i 0 : Nat) < (BitVec.ofNat 32 (grid0.coords t 0).val).toNat * 1 + 1; omega
    | ⟨1, _⟩ => show (BitVec.ofNat 32 (grid0.coords t 2).val).toNat * 256 ≤ (i 1 : Nat) ∧ (i 1 : Nat) < (BitVec.ofNat 32 (grid0.coords t 2).val).toNat * 256 + 256; omega
    | ⟨2, _⟩ => show (BitVec.ofNat 32 (grid0.coords t 1).val).toNat * 128 ≤ (i 2 : Nat) ∧ (i 2 : Nat) < (BitVec.ofNat 32 (grid0.coords t 1).val).toNat * 128 + 128; omega

end Cert.MobaIdeal.Val

end
-- ==== Proof.Moba.Flash.lean ====
/- The running softmax of one head over its own block and the chosen blocks before it, at the extended
   reals: maximum, normaliser and weighted sum are those of the keys seen. -/
module

public import proofs.«01_k».proof.Proof.Moba.Body
public import proofs.«01_k».proof.Proof.Diff.Kern

@[expose] public section

set_option maxRecDepth 16384

noncomputable section

namespace Cert.MobaIdeal.Val

open Cert.MobaIdeal Cert.MobaIdeal.Gen Idealize.ShloMosaic Idealize.ShloMosaic.TcCoe Idealize.SL.Sem
open Softmax (W W_shift W_pos mean W_div key key_inj fold_real sum_real div_real exp_bot_sub exp_sub)
open Cert.DiffAttnIdeal.Val (neg_inf cond_le sle_ofNat sel half sum_half lane_half eighth pos)

theorem mask_bot : (Named.named (F := Ideal) Cert.MobaIdeal.κ "mask" 4048155338#32 : Ideal .f32) = (⊥ : EReal) :=
  IdealRules.named_const.ideal_named_scalar _ _ _ _ rfl

/-- The block of a key. -/
def blk (k : Fin 2048) : Fin 8 := ⟨k.val / 256, by omega⟩

/-- The keys of the chosen blocks below `n`, and those of block `b` up to the query. -/
def seen (c : Fin 8 → Bool) (b : Fin 8) (r : Fin 256) (n : ℕ) : Finset (Fin 2048) :=
  Finset.univ.filter fun k => (k.val < 256 * n ∧ c (blk k) = true) ∨ (256 * b.val ≤ k.val ∧ k.val ≤ 256 * b.val + r.val)

theorem blk_key (j : Fin 8) (kk : Fin 256) : blk (key j kk) = j := Fin.ext (by simp only [blk, key]; omega)

theorem W_own (f s : Fin 2048 → ℝ) (c : Fin 8 → Bool) (b : Fin 8) (r : Fin 256) (M : ℝ) :
    ∑ kk : Fin 256, (if kk.val ≤ r.val then f (key b kk) * Real.exp (s (key b kk) - M) else 0) = W f s (seen c b r 0) M := by
  unfold W
  rw [← Finset.sum_filter, ← Finset.sum_image (f := fun k => f k * Real.exp (s k - M)) (g := key b) (fun a _ c _ h => key_inj b h)]
  refine Finset.sum_congr ?_ fun _ _ => rfl
  ext k
  simp only [seen, Finset.mem_image, Finset.mem_filter, Finset.mem_univ, true_and]
  constructor
  · rintro ⟨kk, h, rfl⟩
    right
    simp only [key]; omega
  · rintro (⟨h, -⟩ | h)
    · omega
    · exact ⟨⟨k.val - 256 * b.val, by omega⟩, by dsimp only; omega, Fin.ext (by simp only [key]; omega)⟩

theorem W_in (f s : Fin 2048 → ℝ) (c : Fin 8 → Bool) (b : Fin 8) (r : Fin 256) (n : ℕ) (hn : n < b.val) (hc : c ⟨n, by omega⟩ = true) (M : ℝ) :
    W f s (seen c b r n) M + ∑ kk : Fin 256, f (key ⟨n, by omega⟩ kk) * Real.exp (s (key ⟨n, by omega⟩ kk) - M)
      = W f s (seen c b r (n + 1)) M := by
  unfold W
  rw [← Finset.sum_image (s := Finset.univ) (f := fun k => f k * Real.exp (s k - M)) (g := key ⟨n, by omega⟩) (fun a _ c _ h => key_inj _ h),
    ← Finset.sum_union]
  · refine Finset.sum_congr ?_ fun _ _ => rfl
    ext k
    simp only [seen, Finset.mem_union, Finset.mem_image, Finset.mem_filter, Finset.mem_univ, true_and]
    constructor
    · rintro ((⟨h, h'⟩ | h) | ⟨kk, rfl⟩)
      · exact Or.inl ⟨by omega, h'⟩
      · exact Or.inr h
      · refine Or.inl ⟨by simp only [key]; omega, ?_⟩
        rw [blk_key]; exact hc
    · rintro (⟨h, h'⟩ | h)
      · by_cases hk : k.val < 256 * n
        · exact Or.inl (Or.inl ⟨hk, h'⟩)
        · exact Or.inr ⟨⟨k.val - 256 * n, by omega⟩, Fin.ext (by simp only [key]; omega)⟩
      · exact Or.inl (Or.inr h)
  · rw [Finset.disjoint_left]
    intro k hk hk'
    simp only [seen, Finset.mem_image, Finset.mem_filter, Finset.mem_univ, true_and] at hk hk'
    obtain ⟨kk, rfl⟩ := hk'
    simp only [key] at hk
    rcases hk with ⟨h, -⟩ | h <;> omega

/-- The weighted sum of extended real values over the keys `S`, the weights being exponentials less `M`. -/
def wsum (y : Fin 2048 → EReal) (s : Fin 2048 → ℝ) (S : Finset (Fin 2048)) (M : ℝ) : EReal :=
  ∑ k ∈ S, y k * ((Real.exp (s k - M) : ℝ) : EReal)

/-- A nonnegative real factor goes into a sum of extended reals. -/
theorem sum_mul_real {ι : Type} (S : Finset ι) (f : ι → EReal) (c : ℝ) (hc : 0 ≤ c) :
    (∑ k ∈ S, f k) * ((c : ℝ) : EReal) = ∑ k ∈ S, f k * ((c : ℝ) : EReal) := by
  classical
  induction S using Finset.induction_on with
  | empty => rw [Finset.sum_empty, Finset.sum_empty, zero_mul]
  | insert a S ha ih =>
    rw [Finset.sum_insert ha, Finset.sum_insert ha, ← ih]
    exact EReal.right_distrib_of_nonneg_of_ne_top (EReal.coe_nonneg.2 hc) (EReal.coe_ne_top _) _ _

theorem wsum_shift (y : Fin 2048 → EReal) (s : Fin 2048 → ℝ) (S : Finset (Fin 2048)) (M M' : ℝ) :
    wsum y s S M * ((Real.exp (M - M') : ℝ) : EReal) = wsum y s S M' := by
  unfold wsum
  rw [sum_mul_real _ _ _ (Real.exp_pos _).le]
  refine Finset.sum_congr rfl fun k _ => ?_
  rw [mul_assoc, ← EReal.coe_mul, ← Real.exp_add]
  congr 3
  ring

theorem wsum_own (f : Fin 2048 → EReal) (s : Fin 2048 → ℝ) (c : Fin 8 → Bool) (b : Fin 8) (r : Fin 256) (M : ℝ) :
    ∑ kk : Fin 256, (if kk.val ≤ r.val then f (key b kk) * ((Real.exp (s (key b kk) - M) : ℝ) : EReal) else 0) = wsum f s (seen c b r 0) M := by
  unfold wsum
  rw [← Finset.sum_filter, ← Finset.sum_image (f := fun k => f k * ((Real.exp (s k - M) : ℝ) : EReal)) (g := key b) (fun a _ c _ h => key_inj b h)]
  refine Finset.sum_congr ?_ fun _ _ => rfl
  ext k
  simp only [seen, Finset.mem_image, Finset.mem_filter, Finset.mem_univ, true_and]
  constructor
  · rintro ⟨kk, h, rfl⟩
    right
    simp only [key]; omega
  · rintro (⟨h, -⟩ | h)
    · omega
    · exact ⟨⟨k.val - 256 * b.val, by omega⟩, by dsimp only; omega, Fin.ext (by simp only [key]; omega)⟩

theorem wsum_in (f : Fin 2048 → EReal) (s : Fin 2048 → ℝ) (c : Fin 8 → Bool) (b : Fin 8) (r : Fin 256) (n : ℕ) (hn : n < b.val) (hc : c ⟨n, by omega⟩ = true) (M : ℝ) :
    wsum f s (seen c b r n) M + ∑ kk : Fin 256, f (key ⟨n, by omega⟩ kk) * ((Real.exp (s (key ⟨n, by omega⟩ kk) - M) : ℝ) : EReal)
      = wsum f s (seen c b r (n + 1)) M := by
  unfold wsum
  rw [← Finset.sum_image (s := Finset.univ) (f := fun k => f k * ((Real.exp (s k - M) : ℝ) : EReal)) (g := key ⟨n, by omega⟩) (fun a _ c _ h => key_inj _ h),
    ← Finset.sum_union]
  · refine Finset.sum_congr ?_ fun _ _ => rfl
    ext k
    simp only [seen, Finset.mem_union, Finset.mem_image, Finset.mem_filter, Finset.mem_univ, true_and]
    constructor
    · rintro ((⟨h, h'⟩ | h) | ⟨kk, rfl⟩)
      · exact Or.inl ⟨by omega, h'⟩
      · exact Or.inr h
      · refine Or.inl ⟨by simp only [key]; omega, ?_⟩
        rw [blk_key]; exact hc
    · rintro (⟨h, h'⟩ | h)
      · by_cases hk : k.val < 256 * n
        · exact Or.inl (Or.inl ⟨hk, h'⟩)
        · exact Or.inr ⟨⟨k.val - 256 * n, by omega⟩, Fin.ext (by simp only [key]; omega)⟩
      · exact Or.inl (Or.inr h)
  · rw [Finset.disjoint_left]
    intro k hk hk'
    simp only [seen, Finset.mem_image, Finset.mem_filter, Finset.mem_univ, true_and] at hk hk'
    obtain ⟨kk, rfl⟩ := hk'
    simp only [key] at hk
    rcases hk with ⟨h, -⟩ | h <;> omega

theorem seen_out (c : Fin 8 → Bool) (b : Fin 8) (r : Fin 256) (n : ℕ) (hn : n < b.val) (hc : c ⟨n, by omega⟩ = false) :
    seen c b r (n + 1) = seen c b r n := by
  unfold seen
  ext k
  simp only [Finset.mem_filter, Finset.mem_univ, true_and]
  constructor
  · rintro (⟨h, h'⟩ | h)
    · by_cases hk : k.val < 256 * n
      · exact Or.inl ⟨hk, h'⟩
      · have : blk k = ⟨n, by omega⟩ := Fin.ext (by simp only [blk]; omega)
        rw [this, hc] at h'
        exact absurd h' (by decide)
    · exact Or.inr h
  · rintro (⟨h, h'⟩ | h)
    · exact Or.inl ⟨by omega, h'⟩
    · exact Or.inr h

/-- Maximum, normaliser and weighted sum over the keys seen, for one head. -/
def Inv (s : Fin 256 → Fin 2048 → ℝ) (y : Fin 64 → Fin 2048 → EReal) (c : Fin 256 → Fin 8 → Bool) (b : Fin 8) (n : ℕ)
    (m l : FVec Ideal S1x256 .f32) (a : FVec Ideal S64x256 .f32) : Prop :=
  ∀ r : Fin 256, ∃ M : ℝ, m (ix2 0 r) = ((M : ℝ) : EReal)
    ∧ l (ix2 0 r) = ((W (fun _ => 1) (s r) (seen (c r) b r n) M : ℝ) : EReal)
    ∧ ∀ d : Fin 64, a (ix2 d r) = wsum (y d) (s r) (seen (c r) b r n) M

theorem own_eq (x0 : Vec Ideal S1x256x128 .f32) (K : Vec Ideal S1x256x128 .bf16) (V0 V1 : Vec Ideal S1x64x256 .bf16) :
    own x0 K V0 V1 = (k0_pay77 (q0 x0) (k0_pay67 K), k0_pay79 (q0 x0) (k0_pay67 K), k0_pay80 (q0 x0) (k0_pay67 K) V0,
      k0_pay77 (q1 x0) (k0_pay67 K), k0_pay79 (q1 x0) (k0_pay67 K), k0_pay80 (q1 x0) (k0_pay67 K) V1) := rfl

theorem step_eq (q0 q1 : FVec Ideal S256x128 .bf16) (K : Vec Ideal S1x256x128 .bf16) (V0 V1 : Vec Ideal S1x64x256 .bf16) (S0 S1 : Vec Ideal S1x1x256 .f32) (s : St Ideal) :
    step q0 q1 K V0 V1 S0 S1 s = (k0_pay28 q0 s.1 K S0, k0_pay31 q0 s.1 s.2.1 K S0, k0_pay32 q0 s.1 s.2.2.1 K V0 S0,
      k0_pay28 q1 s.2.2.2.1 K S1, k0_pay31 q1 s.2.2.2.1 s.2.2.2.2.1 K S1, k0_pay32 q1 s.2.2.2.1 s.2.2.2.2.2 K V1 S1) := rfl

theorem flash_zero (x0 : Vec Ideal S1x256x128 .f32) (X : Vec Ideal S8x256x128 .bf16) (Y : Vec Ideal S8x128x256 .bf16) (S0 S1 : FVec Ideal S1x8x256 .f32) (b : Fin 8) :
    flash x0 X Y S0 S1 b 0 = own x0 (kAt X b) (v0At Y b) (v1At Y b) := rfl

theorem pay76_at (Q : FVec Ideal S256x128 .bf16) (K : Vec Ideal S1x256x128 .bf16) (x r : Fin 256) :
    k0_pay76 Q (k0_pay67 K) (ix2 x r) = if x.val ≤ r.val then ∑ d : Fin 128, K (ix3 0 x d) * Q (ix2 r d) else (⊥ : EReal) := by
  pointwise [k0_pay76, k0_pay67]
  rw [cond_le, mask_bot]
  split <;> rfl

theorem pay77_at (Q K : FVec Ideal S256x128 .bf16) (r : Fin 256) :
    k0_pay77 Q K (ix2 0 r) = Finset.univ.fold max ⊥ (fun x : Fin 256 => k0_pay76 Q K (ix2 x r)) := by
  pointwise [k0_pay77]
  rw [neg_inf]

theorem pay79_at (Q K : FVec Ideal S256x128 .bf16) (r : Fin 256) :
    k0_pay79 Q K (ix2 0 r) = ∑ x : Fin 256, Ideal.exp (k0_pay76 Q K (ix2 x r) - k0_pay77 Q K (ix2 0 r)) := by
  pointwise [k0_pay79, k0_pay78]

theorem pay80_at (Q K : FVec Ideal S256x128 .bf16) (V : Vec Ideal S1x64x256 .bf16) (d : Fin 64) (r : Fin 256) :
    k0_pay80 Q K V (ix2 d r) = ∑ x : Fin 256, V (ix3 0 d x) * Ideal.exp (k0_pay76 Q K (ix2 x r) - k0_pay77 Q K (ix2 0 r)) := by
  pointwise [k0_pay80, k0_pay78]

theorem pay27_at (Q : FVec Ideal S256x128 .bf16) (K : Vec Ideal S1x256x128 .bf16) (S : Vec Ideal S1x1x256 .f32) (x r : Fin 256) :
    k0_pay27 Q K S (ix2 x r) = Scalar.select (Ideal.cmp .ogt (S (ix3 0 0 r)) 0) (∑ d : Fin 128, K (ix3 0 x d) * Q (ix2 r d)) (⊥ : EReal) := by
  pointwise [k0_pay27, k0_pay26]
  rw [mask_bot]

theorem pay28_at (Q : FVec Ideal S256x128 .bf16) (a : FVec Ideal S1x256 .f32) (K : Vec Ideal S1x256x128 .bf16) (S : Vec Ideal S1x1x256 .f32) (r : Fin 256) :
    k0_pay28 Q a K S (ix2 0 r) = max (a (ix2 0 r)) (Finset.univ.fold max ⊥ (fun x : Fin 256 => k0_pay27 Q K S (ix2 x r))) := by
  pointwise [k0_pay28]
  rw [neg_inf]

theorem pay31_at (Q : FVec Ideal S256x128 .bf16) (a l : FVec Ideal S1x256 .f32) (K : Vec Ideal S1x256x128 .bf16) (S : Vec Ideal S1x1x256 .f32) (r : Fin 256) :
    k0_pay31 Q a l K S (ix2 0 r) = l (ix2 0 r) * Ideal.exp (a (ix2 0 r) - k0_pay28 Q a K S (ix2 0 r))
      + ∑ x : Fin 256, Ideal.exp (k0_pay27 Q K S (ix2 x r) - k0_pay28 Q a K S (ix2 0 r)) := by
  pointwise [k0_pay31, k0_pay29, k0_pay30]

theorem pay32_at (Q : FVec Ideal S256x128 .bf16) (a : FVec Ideal S1x256 .f32) (s : FVec Ideal S64x256 .f32) (K : Vec Ideal S1x256x128 .bf16) (V : Vec Ideal S1x64x256 .bf16) (S : Vec Ideal S1x1x256 .f32) (d : Fin 64) (r : Fin 256) :
    k0_pay32 Q a s K V S (ix2 d r) = s (ix2 d r) * Ideal.exp (a (ix2 0 r) - k0_pay28 Q a K S (ix2 0 r))
      + ∑ x : Fin 256, V (ix3 0 d x) * Ideal.exp (k0_pay27 Q K S (ix2 x r) - k0_pay28 Q a K S (ix2 0 r)) := by
  pointwise [k0_pay32, k0_pay29, k0_pay30]

theorem inv_own (s : Fin 256 → Fin 2048 → ℝ) (y : Fin 64 → Fin 2048 → EReal) (c : Fin 256 → Fin 8 → Bool) (b : Fin 8) (Q : FVec Ideal S256x128 .bf16)
    (K : Vec Ideal S1x256x128 .bf16) (V : Vec Ideal S1x64x256 .bf16)
    (hs : ∀ x r : Fin 256, ∑ d : Fin 128, K (ix3 0 x d) * Q (ix2 r d) = ((s r (key b x) : ℝ) : EReal))
    (hy : ∀ (d : Fin 64) (x : Fin 256), V (ix3 0 d x) = y d (key b x)) :
    Inv s y c b 0 (k0_pay77 Q (k0_pay67 K)) (k0_pay79 Q (k0_pay67 K)) (k0_pay80 Q (k0_pay67 K) V) := by
  intro r
  have h59 : ∀ x : Fin 256, k0_pay76 Q (k0_pay67 K) (ix2 x r) = if x.val ≤ r.val then ((s r (key b x) : ℝ) : EReal) else ⊥ :=
    fun x => by rw [pay76_at, hs]
  obtain ⟨M, hM⟩ := fold_real (fun x : Fin 256 => k0_pay76 Q (k0_pay67 K) (ix2 x r))
    (fun x => by
      show k0_pay76 Q (k0_pay67 K) (ix2 x r) ≠ ⊤
      rw [h59]; split
      · exact EReal.coe_ne_top _
      · exact bot_ne_top) r (s r (key b r))
    (by show k0_pay76 Q (k0_pay67 K) (ix2 r r) = _; rw [h59, if_pos le_rfl])
  rw [← pay77_at] at hM
  have he : ∀ x : Fin 256, Ideal.exp (k0_pay76 Q (k0_pay67 K) (ix2 x r) - k0_pay77 Q (k0_pay67 K) (ix2 0 r))
      = ((if x.val ≤ r.val then Real.exp (s r (key b x) - M) else 0 : ℝ) : EReal) := fun x => by
    rw [h59, hM]
    split
    · exact exp_sub _ _
    · exact exp_bot_sub M
  refine ⟨M, hM, ?_, fun d => ?_⟩
  · rw [pay79_at, ← W_own, ← sum_real]
    refine Finset.sum_congr rfl fun x _ => ?_
    rw [he]; simp only [one_mul]
  · rw [pay80_at, ← wsum_own]
    refine Finset.sum_congr rfl fun x _ => ?_
    rw [he, hy]
    split
    · rfl
    · exact mul_zero _

theorem gt_one : Ideal.cmp .ogt (1 : EReal) 0 = 1#1 := by simp [Ideal.cmp]

theorem gt_zero : Ideal.cmp .ogt (0 : EReal) 0 = 0#1 := by simp [Ideal.cmp]

theorem fold_bot (v : Fin 256 → EReal) (h : ∀ k, v k = ⊥) : Finset.univ.fold max (⊥ : EReal) v = ⊥ := by
  rw [show v = fun _ => ⊥ from funext h]
  induction (Finset.univ : Finset (Fin 256)) using Finset.induction_on with
  | empty => rfl
  | insert a s ha ih => rw [Finset.fold_insert ha, ih, max_self]

theorem inv_step (s : Fin 256 → Fin 2048 → ℝ) (y : Fin 64 → Fin 2048 → EReal) (c : Fin 256 → Fin 8 → Bool) (b : Fin 8) (n : ℕ) (hn : n < b.val) (Q : FVec Ideal S256x128 .bf16)
    (K : Vec Ideal S1x256x128 .bf16) (V : Vec Ideal S1x64x256 .bf16) (S : Vec Ideal S1x1x256 .f32) (m l : FVec Ideal S1x256 .f32) (a : FVec Ideal S64x256 .f32)
    (hs : ∀ x r : Fin 256, ∑ d : Fin 128, K (ix3 0 x d) * Q (ix2 r d) = ((s r (key ⟨n, by omega⟩ x) : ℝ) : EReal))
    (hy : ∀ (d : Fin 64) (x : Fin 256), V (ix3 0 d x) = y d (key ⟨n, by omega⟩ x))
    (hS : ∀ r : Fin 256, S (ix3 0 0 r) = if c r ⟨n, by omega⟩ = true then (1 : EReal) else 0)
    (h : Inv s y c b n m l a) :
    Inv s y c b (n + 1) (k0_pay28 Q m K S) (k0_pay31 Q m l K S) (k0_pay32 Q m a K V S) := by
  intro r
  obtain ⟨M, hm, hl, ha⟩ := h r
  have hSr := hS r
  cases hc : c r ⟨n, by omega⟩ with
  | true =>
    rw [hc, if_pos rfl] at hSr
    have h3 : ∀ x : Fin 256, k0_pay27 Q K S (ix2 x r) = ((s r (key ⟨n, by omega⟩ x) : ℝ) : EReal) := fun x => by
      rw [pay27_at, hs, hSr, gt_one]; rfl
    obtain ⟨M1, hM1⟩ := fold_real (fun x : Fin 256 => k0_pay27 Q K S (ix2 x r))
      (fun x => by show k0_pay27 Q K S (ix2 x r) ≠ ⊤; rw [h3]; exact EReal.coe_ne_top _) r _ (h3 r)
    have h4 : k0_pay28 Q m K S (ix2 0 r) = ((max M M1 : ℝ) : EReal) := by
      rw [pay28_at, hM1, hm, EReal.coe_strictMono.monotone.map_max]
    refine ⟨max M M1, h4, ?_, fun d => ?_⟩
    · rw [pay31_at, h4, hm, hl, exp_sub, ← EReal.coe_mul, W_shift, ← W_in _ _ _ _ _ _ hn hc, EReal.coe_add, ← sum_real]
      congr 1
      refine Finset.sum_congr rfl fun x _ => ?_
      rw [h3, exp_sub, one_mul]
    · rw [pay32_at, h4, hm, ha, exp_sub, wsum_shift, ← wsum_in _ _ _ _ _ _ hn hc]
      congr 1
      refine Finset.sum_congr rfl fun x _ => ?_
      rw [h3, exp_sub, hy]
  | false =>
    rw [hc, if_neg (by decide)] at hSr
    have h3 : ∀ x : Fin 256, k0_pay27 Q K S (ix2 x r) = (⊥ : EReal) := fun x => by
      rw [pay27_at, hSr, gt_zero]; rfl
    have h4 : k0_pay28 Q m K S (ix2 0 r) = ((M : ℝ) : EReal) := by
      rw [pay28_at, fold_bot _ h3, hm]; exact max_bot_right _
    refine ⟨M, h4, ?_, fun d => ?_⟩
    · rw [pay31_at, h4, hm, hl, exp_sub, ← EReal.coe_mul, W_shift, seen_out _ _ _ _ hn hc,
        Finset.sum_eq_zero fun x _ => by rw [h3, exp_bot_sub], add_zero]
    · rw [pay32_at, h4, hm, ha, exp_sub, wsum_shift, seen_out _ _ _ _ hn hc,
        Finset.sum_eq_zero fun x _ => by rw [h3, exp_bot_sub, mul_zero], add_zero]

/-- Both heads' fold over the first `n` blocks. -/
theorem inv_flash (s s' : Fin 256 → Fin 2048 → ℝ) (y y' : Fin 64 → Fin 2048 → EReal) (c c' : Fin 256 → Fin 8 → Bool) (b : Fin 8) (x0 : Vec Ideal S1x256x128 .f32)
    (X : Vec Ideal S8x256x128 .bf16) (Y : Vec Ideal S8x128x256 .bf16) (S0 S1 : FVec Ideal S1x8x256 .f32)
    (hs : ∀ (j : Fin 8) (x r : Fin 256), ∑ d : Fin 128, X (ix3 j x d) * q0 x0 (ix2 r d) = ((s r (key j x) : ℝ) : EReal))
    (hs' : ∀ (j : Fin 8) (x r : Fin 256), ∑ d : Fin 128, X (ix3 j x d) * q1 x0 (ix2 r d) = ((s' r (key j x) : ℝ) : EReal))
    (hy : ∀ (j : Fin 8) (d : Fin 64) (x : Fin 256), Y (ix3 j (half 0 d) x) = y d (key j x))
    (hy' : ∀ (j : Fin 8) (d : Fin 64) (x : Fin 256), Y (ix3 j (half 1 d) x) = y' d (key j x))
    (hS : ∀ (j : Fin 8) (r : Fin 256), S0 (ix3 0 j r) = if c r j = true then (1 : EReal) else 0)
    (hS' : ∀ (j : Fin 8) (r : Fin 256), S1 (ix3 0 j r) = if c' r j = true then (1 : EReal) else 0)
    (n : ℕ) (hn : n ≤ b.val) :
    Inv s y c b n (flash x0 X Y S0 S1 b n).1 (flash x0 X Y S0 S1 b n).2.1 (flash x0 X Y S0 S1 b n).2.2.1
      ∧ Inv s' y' c' b n (flash x0 X Y S0 S1 b n).2.2.2.1 (flash x0 X Y S0 S1 b n).2.2.2.2.1 (flash x0 X Y S0 S1 b n).2.2.2.2.2 := by
  have k1 : ∀ (j : Fin 8) (x r : Fin 256), ∑ d : Fin 128, kAt X j (ix3 0 x d) * q0 x0 (ix2 r d) = ((s r (key j x) : ℝ) : EReal) :=
    fun j x r => hs j x r
  have k2 : ∀ (j : Fin 8) (x r : Fin 256), ∑ d : Fin 128, kAt X j (ix3 0 x d) * q1 x0 (ix2 r d) = ((s' r (key j x) : ℝ) : EReal) :=
    fun j x r => hs' j x r
  have k3 : ∀ (j : Fin 8) (d : Fin 64) (x : Fin 256), v0At Y j (ix3 0 d x) = y d (key j x) := fun j d x => by
    rw [← hy j d x]
    refine congrArg (fun e => Y (ix3 j e x)) (Fin.ext ?_)
    show d.val = 64 * 0 + d.val
    omega
  have k4 : ∀ (j : Fin 8) (d : Fin 64) (x : Fin 256), v1At Y j (ix3 0 d x) = y' d (key j x) := fun j d x => hy' j d x
  have k5 : ∀ (j : Fin 8) (r : Fin 256), sAt S0 j (ix3 0 0 r) = if c r j = true then (1 : EReal) else 0 := fun j r => hS j r
  have k6 : ∀ (j : Fin 8) (r : Fin 256), sAt S1 j (ix3 0 0 r) = if c' r j = true then (1 : EReal) else 0 := fun j r => hS' j r
  induction n with
  | zero =>
    rw [flash_zero, own_eq]; dsimp only
    exact ⟨inv_own s y c b (q0 x0) (kAt X b) (v0At Y b) (k1 b) (k3 b), inv_own s' y' c' b (q1 x0) (kAt X b) (v1At Y b) (k2 b) (k4 b)⟩
  | succ n ih =>
    obtain ⟨h, h'⟩ := ih (by omega)
    rw [flash_succ x0 X Y S0 S1 b (n := n) (by omega), step_eq]; dsimp only
    exact ⟨inv_step s y c b n (by omega) (q0 x0) (kAt X ⟨n, by omega⟩) (v0At Y ⟨n, by omega⟩) (sAt S0 ⟨n, by omega⟩) _ _ _ (k1 _) (k3 _) (k5 _) h,
      inv_step s' y' c' b n (by omega) (q1 x0) (kAt X ⟨n, by omega⟩) (v1At Y ⟨n, by omega⟩) (sAt S1 ⟨n, by omega⟩) _ _ _ (k2 _) (k4 _) (k6 _) h'⟩

end Cert.MobaIdeal.Val

end
-- ==== Proof.Moba.Choice.lean ====
/- The choice of past blocks: the gate of a block and a query, the count of the blocks that come before
   it, and the kernel's flag. -/
module

public import proofs.«01_k».proof.Proof.Moba.Flash

@[expose] public section

set_option maxRecDepth 16384

noncomputable section

namespace Cert.MobaIdeal.Val

open Cert.MobaIdeal Cert.MobaIdeal.Gen Idealize.ShloMosaic Idealize.ShloMosaic.TcCoe Idealize.SL.Sem
open Cert.DiffAttnIdeal.Val (neg_inf cond_le sle_ofNat sel half sum_half lane_half eighth pos)

/-- Block `o` comes before block `j`: a greater gate, or an equal one and an earlier block. -/
def ahead (G : Fin 8 → EReal) (j o : Fin 8) : BitVec 1 :=
  IntOp.ori (Ideal.cmp .ogt (G o) (G j)) (IntOp.andi (Ideal.cmp .oeq (G o) (G j)) (IntOp.cmpi .sgt (BitVec.ofNat 32 j.val) (BitVec.ofNat 32 o.val)))

/-- The number of blocks that come before block `j`. -/
def count (G : Fin 8 → EReal) (j : Fin 8) : BitVec 32 :=
  IntOp.addi (IntOp.addi (IntOp.addi (IntOp.addi (IntOp.addi (IntOp.addi (IntOp.addi (IntOp.addi 0#32 ((ahead G j 0).setWidth 32))
    ((ahead G j 1).setWidth 32)) ((ahead G j 2).setWidth 32)) ((ahead G j 3).setWidth 32)) ((ahead G j 4).setWidth 32))
    ((ahead G j 5).setWidth 32)) ((ahead G j 6).setWidth 32)) ((ahead G j 7).setWidth 32)

/-- Block `j` is among the three first and lies before block `i`. -/
def kept (G : Fin 8 → EReal) (i j : Fin 8) : BitVec 1 :=
  IntOp.andi (IntOp.cmpi .slt (count G j) 3#32) (IntOp.cmpi .slt (BitVec.ofNat 32 j.val) (BitVec.ofNat 32 i.val))

theorem flag (w : BitVec 1) : (FloatOps.sitofp (F := Ideal) FTy.f32 (w.setWidth 32) : EReal) = if decide (w = 1#1) = true then (1 : EReal) else 0 := by
  have h : w = 0#1 ∨ w = 1#1 := by revert w; decide
  rcases h with rfl | rfl
  · show (((BitVec.setWidth 32 0#1).toInt : ℝ) : EReal) = _
    simp
  · show (((BitVec.setWidth 32 1#1).toInt : ℝ) : EReal) = _
    simp

theorem pick0 (v36 : FVec Ideal S8x256 .f32) (v38 : IVec S8x256 1) (i j : Fin 8) (r : Fin 256) :
    k0_pay57 (F := Ideal) (BitVec.ofNat 32 i.val) rows (k0_pay51 v36 v38) (k0_pay52 rows v36 v38) (k0_pay54 v36 v38) (k0_pay55 v36 v38) k0_pay56 (ix3 0 j r)
      = if decide (kept (fun o => k0_pay51 v36 v38 (ix2 o r)) i j = 1#1) = true then (1 : EReal) else 0 := by
  rw [← flag]
  pointwise [k0_pay57, k0_pay52, k0_pay53, k0_pay54, k0_pay55, k0_pay56, rows]
  rfl

theorem pick1 (G : FVec Ideal S8x256 .f32) (v4 : FVec Ideal S256x128 .f32) (v5 : IVec S256x128 32) (M : Vec Ideal S8x128 .f32) (i j : Fin 8) (r : Fin 256)
    (hG : G = k0_pay60 (BitVec.ofNat 32 i.val) v4 v5 rows M) :
    k0_pay65 (F := Ideal) (BitVec.ofNat 32 i.val) rows G
        (k0_pay63 rows G k0_pay61 (k0_pay62 (BitVec.ofNat 32 i.val) v4 v5 rows M)) (k0_pay64 rows G) (ix3 0 j r)
      = if decide (kept (fun o => G (ix2 o r)) i j = 1#1) = true then (1 : EReal) else 0 := by
  rw [← flag]
  have e : k0_pay62 (F := Ideal) (BitVec.ofNat 32 i.val) v4 v5 rows M (ix2 j r) = (ahead (fun o => G (ix2 o r)) j 0).setWidth 32 := by
    rw [hG]
    pointwise [k0_pay62, rows]
    rfl
  generalize k0_pay62 (F := Ideal) (BitVec.ofNat 32 i.val) v4 v5 rows M = C at e
  pointwise [k0_pay65, k0_pay63, k0_pay61, k0_pay64, rows]
  rw [e]
  rfl

theorem sum_halfE (t : Fin 2) (f : Fin 128 → EReal) : ∑ d : Fin 128, (if d.val / 64 = t.val then f d else 0) = ∑ d : Fin 64, f (half t d) := by
  have hi : Function.Injective (half t) := fun a c h => by
    have := congrArg Fin.val h
    simp only [half] at this
    exact Fin.ext (by omega)
  rw [← Finset.sum_filter, ← Finset.sum_image (g := half t) (f := f) (fun a _ c _ h => hi h)]
  refine Finset.sum_congr ?_ fun _ _ => rfl
  ext k
  simp only [Finset.mem_image, Finset.mem_filter, Finset.mem_univ, true_and]
  constructor
  · intro h
    exact ⟨⟨k.val - 64 * t.val, by omega⟩, Fin.ext (by simp only [half]; omega)⟩
  · rintro ⟨d, rfl⟩
    simp only [half]; omega

theorem slt_ofNat (x r : ℕ) (hx : x < 2 ^ 31) (hr : r < 2 ^ 31) :
    IntOp.cmpi CmpIPredicate.slt (BitVec.ofNat 32 x) (BitVec.ofNat 32 r) = if x < r then 1#1 else 0#1 := by
  show BitVec.ofBool (BitVec.slt _ _) = _
  rw [BitVec.slt_eq_decide, BitVec.toInt_ofNat', BitVec.toInt_ofNat', Int.bmod_eq_of_le (by omega) (by omega), Int.bmod_eq_of_le (by omega) (by omega)]
  by_cases h : x < r
  · rw [if_pos h, decide_eq_true (by exact_mod_cast h)]; rfl
  · rw [if_neg h, decide_eq_false (by exact_mod_cast h)]; rfl

/-- The first head's lanes of the queries. -/
theorem pay48_at (x0 : Vec Ideal S1x256x128 .f32) (r : Fin 256) (d : Fin 128) :
    k0_pay48 x0 (ix2 r d) = if d.val / 64 = (0 : Fin 2).val then x0 (ix3 0 r d) else (0 : EReal) := by
  have h := lane_half 0 d
  pointwise [k0_pay48, k0_pay47]
  refine (congrArg (fun w => Scalar.select w (x0 (ix3 0 r d)) (0 : EReal)) h).trans (sel _ _ _)

/-- … the second head's. -/
theorem pay59_at (x0 : Vec Ideal S1x256x128 .f32) (r : Fin 256) (d : Fin 128) :
    k0_pay59 (k0_pay47 x0) lanes (ix2 r d) = if d.val / 64 = (1 : Fin 2).val then x0 (ix3 0 r d) else (0 : EReal) := by
  have h := lane_half 1 d
  pointwise [k0_pay59, k0_pay47, lanes]
  refine (congrArg (fun w => Scalar.select w (x0 (ix3 0 r d)) (0 : EReal)) h).trans (sel _ _ _)

theorem q0_at (x0 : Vec Ideal S1x256x128 .f32) (r : Fin 256) (d : Fin 128) :
    q0 x0 (ix2 r d) = if d.val / 64 = (0 : Fin 2).val then x0 (ix3 0 r d) * ((1 / 8 : ℝ) : EReal) else (0 : EReal) := by
  have e : q0 x0 (ix2 r d) = k0_pay48 x0 (ix2 r d) * Ideal.ofBits FTy.f32 1040187392#32 := by
    pointwise [q0, k0_pay58]
  rw [e, eighth, pay48_at]
  split
  · rfl
  · exact zero_mul _

theorem q1_at (x0 : Vec Ideal S1x256x128 .f32) (r : Fin 256) (d : Fin 128) :
    q1 x0 (ix2 r d) = if d.val / 64 = (1 : Fin 2).val then x0 (ix3 0 r d) * ((1 / 8 : ℝ) : EReal) else (0 : EReal) := by
  have e : q1 x0 (ix2 r d) = k0_pay59 (k0_pay47 x0) lanes (ix2 r d) * Ideal.ofBits FTy.f32 1040187392#32 := by
    pointwise [q1, k0_pay66]
  rw [e, eighth, pay59_at]
  split
  · rfl
  · exact zero_mul _

/-- The gate of block `j` and query `r`, for one half of the lanes. -/
def gateAt (t : Fin 2) (x0 : Vec Ideal S1x256x128 .f32) (M : Vec Ideal S8x128 .f32) (i : Fin 8) (r : Fin 256) (j : Fin 8) : EReal :=
  if j.val < i.val then ∑ d : Fin 64, M (ix2 j (half t d)) * x0 (ix3 0 r (half t d)) else ⊥

theorem pay51_at (x0 : Vec Ideal S1x256x128 .f32) (M : Vec Ideal S8x128 .f32) (i : grid0.Coords) (ib : Fin 8) (hi : ib.val = (i 2).val) (r : Fin 256) (j : Fin 8) :
    k0_pay51 (k0_pay49 x0 M) (k0_pay50 i) (ix2 j r) = gateAt 0 x0 M ib r j := by
  have e : k0_pay49 x0 M (ix2 j r) = ∑ d : Fin 128, M (ix2 j d) * k0_pay48 x0 (ix2 r d) := by pointwise [k0_pay49]
  have e' : k0_pay50 i (ix2 j r) = if j.val < ib.val then 1#1 else 0#1 := by
    rw [hi]
    pointwise [k0_pay50]
    exact slt_ofNat _ _ (by omega) (by omega)
  have e2 : k0_pay49 x0 M (ix2 j r) = ∑ d : Fin 64, M (ix2 j (half 0 d)) * x0 (ix3 0 r (half 0 d)) := by
    rw [e, ← sum_halfE 0 fun d => M (ix2 j d) * x0 (ix3 0 r d)]
    refine Finset.sum_congr rfl fun d _ => ?_
    rw [pay48_at, mul_ite, mul_zero]
  pointwise [k0_pay51]
  rw [e', e2, mask_bot, sel]
  rfl

theorem pay60_at (x0 : Vec Ideal S1x256x128 .f32) (M : Vec Ideal S8x128 .f32) (i : Fin 8) (r : Fin 256) (j : Fin 8) :
    k0_pay60 (BitVec.ofNat 32 i.val) (k0_pay47 x0) lanes rows M (ix2 j r) = gateAt 1 x0 M i r j := by
  have e2 : ∑ d : Fin 128, M (ix2 j d) * k0_pay59 (k0_pay47 x0) lanes (ix2 r d) = ∑ d : Fin 64, M (ix2 j (half 1 d)) * x0 (ix3 0 r (half 1 d)) := by
    rw [← sum_halfE 1 fun d => M (ix2 j d) * x0 (ix3 0 r d)]
    refine Finset.sum_congr rfl fun d _ => ?_
    rw [pay59_at, mul_ite, mul_zero]
  pointwise [k0_pay60, rows]
  rw [e2, slt_ofNat _ _ (by omega) (by omega), mask_bot, sel]
  rfl

theorem sel0_at (x0 : Vec Ideal S1x256x128 .f32) (M : Vec Ideal S8x128 .f32) (i : grid0.Coords) (ib : Fin 8) (hi : ib.val = (i 2).val) (j : Fin 8) (r : Fin 256) :
    sel0 x0 M i (ix3 0 j r) = if decide (kept (gateAt 0 x0 M ib r) ib j = 1#1) = true then (1 : EReal) else 0 := by
  have e := pick0 (k0_pay49 x0 M) (k0_pay50 i) ib j r
  rw [funext fun o => pay51_at x0 M i ib hi r o] at e
  unfold sel0
  rw [← hi]
  exact e

theorem sel1_at (x0 : Vec Ideal S1x256x128 .f32) (M : Vec Ideal S8x128 .f32) (i : grid0.Coords) (ib : Fin 8) (hi : ib.val = (i 2).val) (j : Fin 8) (r : Fin 256) :
    sel1 x0 M i (ix3 0 j r) = if decide (kept (gateAt 1 x0 M ib r) ib j = 1#1) = true then (1 : EReal) else 0 := by
  have e := pick1 (gate1 x0 M i) (k0_pay47 x0) lanes M ib j r (by unfold gate1; rw [← hi])
  have e' : (fun o => gate1 x0 M i (ix2 o r)) = gateAt 1 x0 M ib r := by
    unfold gate1
    rw [← hi]
    exact funext fun o => pay60_at x0 M ib r o
  rw [e'] at e
  unfold sel1
  rw [← hi]
  exact e

end Cert.MobaIdeal.Val

end
-- ==== Proof.Moba.Kern.lean ====
/- The kernel's array at an index, for finite queries and keys: the softmax mean of the values
   over the keys the query may look at. -/
module

public import proofs.«01_k».proof.Proof.Moba.Array
public import proofs.«01_k».proof.Proof.Moba.Choice

@[expose] public section

set_option maxRecDepth 16384

noncomputable section

namespace Cert.MobaIdeal.Val

open Cert.MobaIdeal Cert.MobaIdeal.Gen Idealize.ShloMosaic Idealize.ShloMosaic.TcCoe Idealize.SL.Sem
open Softmax (W W_shift W_pos mean W_div key key_inj fold_real sum_real div_real exp_bot_sub exp_sub)
open Cert.DiffAttnIdeal.Val (neg_inf cond_le sle_ofNat sel half sum_half lane_half eighth pos lane)

/-- Head `t` of the pair `h`. -/
def hd (h : Fin 4) (t : Fin 2) : Fin 8 := ⟨2 * h.val + t.val, by omega⟩

/-- Lane `d` of head `h` in a row of 512. -/
def ln (h : Fin 8) (d : Fin 64) : Fin 512 := ⟨64 * h.val + d.val, by omega⟩

theorem lane_hd (h : Fin 4) (t : Fin 2) (d : Fin 64) : lane h (half t d) = ln (hd h t) d :=
  Fin.ext (by simp only [lane, half, ln, hd]; omega)

/-- The score of query `p` and key `j`: the product over the head's lanes, times 1/8. -/
def sc (q k : S8x2048x512.Idx → EReal) (b h : Fin 8) (p j : Fin 2048) : ℝ :=
  ∑ d : Fin 64, (k (ix3 b j (ln h d))).toReal * ((q (ix3 b p (ln h d))).toReal * (1 / 8))

/-- Value lane `d` of key `j`. -/
def vl (v : S8x2048x512.Idx → EReal) (b h : Fin 8) (d : Fin 64) (j : Fin 2048) : EReal := v (ix3 b j (ln h d))

/-- Lane `d` of the mean key of block `j`. -/
def mk (k : S8x2048x512.Idx → EReal) (b h j : Fin 8) (d : Fin 64) : EReal :=
  Ideal.div (∑ x : Fin 256, k (ix3 b (key j x) (ln h d))) (Ideal.ofBits FTy.f32 0x43800000#32)

/-- The gate of block `j` for query `p`. -/
def gate (q k : S8x2048x512.Idx → EReal) (b h : Fin 8) (p : Fin 2048) (j : Fin 8) : EReal :=
  if j.val < (blk p).val then ∑ d : Fin 64, mk k b h j d * q (ix3 b p (ln h d)) else ⊥

/-- Whether query `p` looks at block `j`. -/
def chosen (q k : S8x2048x512.Idx → EReal) (b h : Fin 8) (p : Fin 2048) (j : Fin 8) : Bool :=
  decide (kept (gate q k b h p) (blk p) j = 1#1)

/-- The keys query `p` looks at. -/
def keys (q k : S8x2048x512.Idx → EReal) (b h : Fin 8) (p : Fin 2048) : Finset (Fin 2048) :=
  Finset.univ.filter fun j => chosen q k b h p (blk j) = true ∨ (blk j = blk p ∧ j.val ≤ p.val)

theorem kept_lt (G : Fin 8 → EReal) (i j : Fin 8) (h : kept G i j = 1#1) : j.val < i.val := by
  have h2 := (IntOp.andi_eq_one.1 h).2
  rw [slt_ofNat _ _ (by omega) (by omega)] at h2
  by_contra hc
  rw [if_neg hc] at h2
  exact absurd h2 (by decide)

theorem blk_pos (i : Fin 8) (r : Fin 256) : blk (pos i r) = i := Fin.ext (by simp only [blk, pos]; omega)

theorem seen_all (q k : S8x2048x512.Idx → EReal) (b h i : Fin 8) (r : Fin 256) :
    seen (chosen q k b h (pos i r)) i r i.val = keys q k b h (pos i r) := by
  unfold seen keys
  ext x
  simp only [Finset.mem_filter, Finset.mem_univ, true_and, blk_pos]
  constructor
  · rintro (⟨-, h'⟩ | ⟨h1, h2⟩)
    · exact Or.inl h'
    · exact Or.inr ⟨Fin.ext (by simp only [blk]; omega), by simp only [pos]; omega⟩
  · rintro (h' | ⟨h1, h2⟩)
    · have h3 := kept_lt _ _ _ (of_decide_eq_true h')
      rw [blk_pos] at h3
      simp only [blk] at h3
      exact Or.inl ⟨by omega, h'⟩
    · have h3 := congrArg Fin.val h1
      simp only [blk] at h3
      simp only [pos] at h2
      exact Or.inr ⟨by omega, by omega⟩

theorem keys_ne (q k : S8x2048x512.Idx → EReal) (b h : Fin 8) (p : Fin 2048) : p ∈ keys q k b h p := by
  unfold keys
  simp

theorem gate_at (q k : S8x2048x512.Idx → EReal) (t : Fin 2) (b : Fin 8) (h : Fin 4) (i : Fin 8) (r : Fin 256) :
    gateAt t (blkQ q b h i) (stM (blkK k b h)) i r = gate q k b (hd h t) (pos i r) := by
  funext j
  unfold gateAt gate
  rw [blk_pos]
  refine if_congr Iff.rfl (Finset.sum_congr rfl fun d _ => ?_) rfl
  have e1 : blkQ q b h i (ix3 0 r (half t d)) = q (ix3 b (pos i r) (lane h (half t d))) := rfl
  have e2 : stM (blkK k b h) (ix2 j (half t d)) = Ideal.div (∑ x : Fin 256, k (ix3 b (key j x) (lane h (half t d)))) (Ideal.ofBits FTy.f32 0x43800000#32) := rfl
  rw [e1, e2, lane_hd]
  rfl

/-- The kernel's product of staged keys and the kept half of the scaled queries is the score. -/
theorem score_at (q k : S8x2048x512.Idx → EReal)
    (hq : ∀ i, q i = (((q i).toReal : ℝ) : EReal)) (hk : ∀ i, k i = (((k i).toReal : ℝ) : EReal))
    (t : Fin 2) (b : Fin 8) (h : Fin 4) (i : Fin 8) (Q : FVec Ideal S256x128 .bf16)
    (hQ : ∀ (r : Fin 256) (d : Fin 128), Q (ix2 r d) = if d.val / 64 = t.val then blkQ q b h i (ix3 0 r d) * ((1 / 8 : ℝ) : EReal) else 0)
    (j : Fin 8) (x r : Fin 256) :
    ∑ d : Fin 128, stK (blkK k b h) (ix3 j x d) * Q (ix2 r d) = ((sc q k b (hd h t) (pos i r) (key j x) : ℝ) : EReal) := by
  have e : ∀ d : Fin 128, stK (blkK k b h) (ix3 j x d) * Q (ix2 r d)
      = ((if d.val / 64 = t.val then (k (ix3 b (key j x) (lane h d))).toReal * ((q (ix3 b (pos i r) (lane h d))).toReal * (1 / 8)) else 0 : ℝ) : EReal) := by
    intro d
    rw [hQ]
    have e1 : stK (blkK k b h) (ix3 j x d) = k (ix3 b (key j x) (lane h d)) := rfl
    have e2 : blkQ q b h i (ix3 0 r d) = q (ix3 b (pos i r) (lane h d)) := rfl
    rw [e1, e2, hk, hq]
    split
    · rw [← EReal.coe_mul, ← EReal.coe_mul, EReal.toReal_coe, EReal.toReal_coe]
    · rw [mul_zero]; rfl
  rw [Finset.sum_congr rfl fun d _ => e d, sum_real]
  refine congrArg _ ((sum_half t fun d => (k (ix3 b (key j x) (lane h d))).toReal * ((q (ix3 b (pos i r) (lane h d))).toReal * (1 / 8))).trans ?_)
  simp only [lane_hd]
  rfl

theorem pay93_0 (l l' : FVec Ideal S1x256 .f32) (a a' : FVec Ideal S64x256 .f32) (r : Fin 256) (d : Fin 64) :
    k0_pay1 (k0_pay93 l a l' a') (ix3 0 r (half 0 d)) = Ideal.div (a (ix2 d r)) (l (ix2 0 r)) := by
  have hv : (half 0 d).val = d.val := by show 64 * 0 + d.val = d.val; omega
  pointwise [k0_pay1, k0_pay93]
  rw [dif_pos (by rw [hv]; exact d.isLt)]
  exact congrArg (fun e => Ideal.div (a (ix2 e r)) (l (ix2 0 r))) (Fin.ext hv)

theorem pay93_1 (l l' : FVec Ideal S1x256 .f32) (a a' : FVec Ideal S64x256 .f32) (r : Fin 256) (d : Fin 64) :
    k0_pay1 (k0_pay93 l a l' a') (ix3 0 r (half 1 d)) = Ideal.div (a' (ix2 d r)) (l' (ix2 0 r)) := by
  have hv : (half 1 d).val = 64 + d.val := by show 64 * 1 + d.val = 64 + d.val; omega
  pointwise [k0_pay1, k0_pay93]
  rw [dif_neg (by rw [hv]; omega)]
  exact congrArg (fun e => Ideal.div (a' (ix2 e r)) (l' (ix2 0 r))) (Fin.ext (by show (half 1 d).val - 64 = d.val; rw [hv]; omega))

/-- The probability a softmax over the keys `S` gives key `j`, its maximum being `M`. -/
def prob (s : Fin 2048 → ℝ) (S : Finset (Fin 2048)) (M : ℝ) (j : Fin 2048) : ℝ :=
  if j ∈ S then Real.exp (s j - M) / W (fun _ => 1) s S M else 0

theorem prob_shift (s : Fin 2048 → ℝ) (S : Finset (Fin 2048)) (M : ℝ) (j : Fin 2048) : prob s S M j = prob s S 0 j := by
  unfold prob
  split
  · have e : Real.exp (s j - M) = Real.exp (s j - 0) * Real.exp (0 - M) := by
      rw [← Real.exp_add]; congr 1; ring
    rw [← W_shift (fun _ => 1) s S 0 M, e]
    exact mul_div_mul_right _ _ (Real.exp_pos _).ne'
  · rfl

/-- The quotient of the weighted sum and the normaliser is the sum of all values, each by its probability. -/
theorem div_prob (y : Fin 2048 → EReal) (s : Fin 2048 → ℝ) (S : Finset (Fin 2048)) (M : ℝ) (hS : S.Nonempty) :
    Ideal.div (wsum y s S M) ((W (fun _ => 1) s S M : ℝ) : EReal) = ∑ j, ((prob s S 0 j : ℝ) : EReal) * y j := by
  have hW : 0 < W (fun _ => 1) s S M := W_pos _ _ _ hS
  unfold Ideal.div
  rw [if_neg (by exact_mod_cast hW.ne'), ← EReal.coe_inv]
  unfold wsum
  rw [sum_mul_real _ _ _ (inv_pos.2 hW).le, ← Finset.univ_inter S, ← Finset.sum_ite_mem, Finset.univ_inter]
  refine Finset.sum_congr rfl fun j _ => ?_
  rw [← prob_shift s S M j]
  unfold prob
  split
  · rw [mul_assoc, ← EReal.coe_mul, mul_comm, div_eq_mul_inv]
  · exact (zero_mul _).symm

/-- The mean of the values over the keys query `p` looks at. -/
def attn (q k v : S8x2048x512.Idx → EReal) (b h : Fin 8) (p : Fin 2048) (d : Fin 64) : EReal :=
  ∑ j, ((prob (sc q k b h p) (keys q k b h p) 0 j : ℝ) : EReal) * vl v b h d j

/-- An index of the kernel's block, for finite queries and keys. -/
theorem resAt_at (q k v : S8x2048x512.Idx → EReal)
    (hq : ∀ i, q i = (((q i).toReal : ℝ) : EReal)) (hk : ∀ i, k i = (((k i).toReal : ℝ) : EReal))
    (b : Fin 8) (h : Fin 4) (i : Fin 8) (r : Fin 256) (t : Fin 2) (d : Fin 64) :
    resAt q k v (pt b h i) (ix3 0 r (half t d)) = attn q k v b (hd h t) (pos i r) d := by
  have hy : ∀ (t : Fin 2) (j : Fin 8) (d : Fin 64) (x : Fin 256), stV (blkK v b h) (ix3 j (half t d) x) = vl v b (hd h t) d (key j x) :=
    fun t j d x => by
      have e : stV (blkK v b h) (ix3 j (half t d) x) = v (ix3 b (key j x) (lane h (half t d))) := rfl
      rw [e, lane_hd]
      rfl
  have hc0 : ∀ (j : Fin 8) (r : Fin 256), sel0 (blkQ q b h i) (stM (blkK k b h)) (pt b h i) (ix3 0 j r)
      = if chosen q k b (hd h 0) (pos i r) j = true then (1 : EReal) else 0 := fun j r => by
    rw [sel0_at _ _ (pt b h i) i rfl, gate_at]
    unfold chosen
    rw [blk_pos]
  have hc1 : ∀ (j : Fin 8) (r : Fin 256), sel1 (blkQ q b h i) (stM (blkK k b h)) (pt b h i) (ix3 0 j r)
      = if chosen q k b (hd h 1) (pos i r) j = true then (1 : EReal) else 0 := fun j r => by
    rw [sel1_at _ _ (pt b h i) i rfl, gate_at]
    unfold chosen
    rw [blk_pos]
  have hI := inv_flash (fun r => sc q k b (hd h 0) (pos i r)) (fun r => sc q k b (hd h 1) (pos i r)) (vl v b (hd h 0)) (vl v b (hd h 1))
    (fun r => chosen q k b (hd h 0) (pos i r)) (fun r => chosen q k b (hd h 1) (pos i r)) i (blkQ q b h i) (stK (blkK k b h)) (stV (blkK v b h))
    (sel0 (blkQ q b h i) (stM (blkK k b h)) (pt b h i)) (sel1 (blkQ q b h i) (stM (blkK k b h)) (pt b h i))
    (score_at q k hq hk 0 b h i _ (fun r d => q0_at _ r d)) (score_at q k hq hk 1 b h i _ (fun r d => q1_at _ r d)) (hy 0) (hy 1) hc0 hc1 i.val le_rfl
  have fin : ∀ (h : Fin 8) (L A : EReal) (M : ℝ) (y : Fin 2048 → EReal),
      L = ((W (fun _ => 1) (sc q k b h (pos i r)) (seen (chosen q k b h (pos i r)) i r i.val) M : ℝ) : EReal) →
      A = wsum y (sc q k b h (pos i r)) (seen (chosen q k b h (pos i r)) i r i.val) M →
      Ideal.div A L = ∑ j, ((prob (sc q k b h (pos i r)) (keys q k b h (pos i r)) 0 j : ℝ) : EReal) * y j := by
    intro h L A M y hL hA
    rw [hL, hA, seen_all]
    exact div_prob _ _ _ _ ⟨_, keys_ne q k b h (pos i r)⟩
  obtain ⟨M, -, hl, ha⟩ := hI.1 r
  obtain ⟨M', -, hl', ha'⟩ := hI.2 r
  show outAt (blkQ q b h i) (stK (blkK k b h)) (stV (blkK v b h)) (stM (blkK k b h)) (pt b h i) _ = _
  unfold outAt
  match t with
  | ⟨0, _⟩ => exact (pay93_0 _ _ _ _ r d).trans (fin _ _ _ M _ hl (ha d))
  | ⟨1, _⟩ => exact (pay93_1 _ _ _ _ r d).trans (fin _ _ _ M' _ hl' (ha' d))

end Cert.MobaIdeal.Val

end
-- ==== Proof.Moba.Ref.lean ====
/- The reference's array at an index, for finite queries and keys: the same softmax mean over the same keys. -/
module

public import proofs.«01_k».proof.Proof.Moba.Kern
public import proofs.«01_k».proof.Proof.Gen.MobaRefIdeal.Read

@[expose] public section

set_option maxRecDepth 16384

noncomputable section

namespace Cert.MobaRefIdeal.Val

open Cert.MobaRefIdeal Cert.MobaRefIdeal.Gen Cert.MobaRefIdeal.Read Idealize.ShloMosaic Idealize.SL.Sem
open Softmax (W W_shift W_pos mean W_div key key_inj fold_real sum_real div_real exp_bot_sub exp_sub)
open Cert.DiffAttnIdeal.Val (neg_inf sle_ofNat sel eighth)
open Cert.MobaIdeal.Val (sc vl ln mk gate chosen keys keys_ne attn prob prob_shift blk kept count ahead slt_ofNat)

/-- A softmax row over the keys `S`, in extended reals. -/
theorem soft (s : Fin 2048 → ℝ) (S : Finset (Fin 2048)) (p : Fin 2048) (hp : p ∈ S) (z : Fin 2048 → EReal)
    (hz : ∀ j, z j = if j ∈ S then ((s j : ℝ) : EReal) else ⊥) :
    ∃ M : ℝ, ∀ j, Ideal.div (Ideal.exp (z j - max ⊥ (Finset.univ.fold max ⊥ z)))
      (0 + ∑ x, Ideal.exp (z x - max ⊥ (Finset.univ.fold max ⊥ z))) = ((prob s S M j : ℝ) : EReal) := by
  obtain ⟨M, hM⟩ := fold_real z
    (fun x => by
      rw [hz]; split
      · exact EReal.coe_ne_top _
      · exact bot_ne_top) p (s p) (by rw [hz, if_pos hp])
  have he : ∀ x, Ideal.exp (z x - max ⊥ (Finset.univ.fold max ⊥ z)) = ((if x ∈ S then Real.exp (s x - M) else 0 : ℝ) : EReal) := fun x => by
    rw [hM, max_eq_right bot_le, hz]
    split
    · exact exp_sub _ _
    · exact exp_bot_sub M
  have hl : ∑ x, Ideal.exp (z x - max ⊥ (Finset.univ.fold max ⊥ z)) = ((W (fun _ => 1) s S M : ℝ) : EReal) := by
    rw [Finset.sum_congr rfl fun x _ => he x, sum_real]
    unfold W
    rw [Finset.sum_ite_mem, Finset.univ_inter]
    simp only [one_mul]
  refine ⟨M, fun j => ?_⟩
  rw [zero_add, hl, he, div_real _ _ (W_pos _ _ _ ⟨p, hp⟩).ne']
  unfold prob
  congr 1
  split
  · rfl
  · exact zero_div _

theorem sum8 (f : Fin 8 → BitVec 32) : Finset.univ.fold IntOp.addi 0#32 f
    = IntOp.addi (IntOp.addi (IntOp.addi (IntOp.addi (IntOp.addi (IntOp.addi (IntOp.addi (IntOp.addi 0#32 (f 0)) (f 1)) (f 2)) (f 3)) (f 4)) (f 5)) (f 6)) (f 7) := by
  have e : Finset.univ.fold IntOp.addi 0#32 f = ∑ i, f i := rfl
  rw [e, Fin.sum_univ_eight]
  have e0 : IntOp.addi 0#32 (f 0) = f 0 := by show 0#32 + f 0 = f 0; exact BitVec.zero_add _
  rw [e0]
  rfl

theorem bits (P Q R : Prop) [Decidable P] [Decidable Q] [Decidable R] :
    IntOp.ori (if P then 1#1 else 0#1) (IntOp.andi (if Q then 1#1 else 0#1) (if R then 1#1 else 0#1)) = if P ∨ (Q ∧ R) then 1#1 else 0#1 := by
  by_cases hP : P <;> by_cases hQ : Q <;> by_cases hR : R <;> simp [hP, hQ, hR, IntOp.ori, IntOp.andi]

theorem later (j o : Fin 8) : IntOp.cmpi CmpIPredicate.slt (BitVec.ofNat 32 o.val) (BitVec.ofNat 32 j.val)
    = IntOp.cmpi CmpIPredicate.sgt (BitVec.ofNat 32 j.val) (BitVec.ofNat 32 o.val) := by
  revert j o; decide

theorem same (i j : Fin 8) : IntOp.cmpi CmpIPredicate.eq (BitVec.ofNat 32 i.val) (BitVec.ofNat 32 j.val) = if i = j then 1#1 else 0#1 := by
  revert i j; decide

section
variable (x0 x1 x2 : FVec Ideal S8x2048x512 .f32)

theorem v1_at (b h : Fin 8) (p : Fin 2048) (d : Fin 64) : val_main_v1 (F := Ideal) x0 (ix4 b h p d) = x0 (ix3 b p (ln h d)) := by
  pointwise [val_main_v1, val_main_v0]
  refine congrArg (fun e => x0 (ix3 b p e)) (Fin.ext ?_)
  simp only [ln]; omega

theorem v3_at (b h : Fin 8) (p : Fin 2048) (d : Fin 64) : val_main_v3 (F := Ideal) x1 (ix4 b h p d) = x1 (ix3 b p (ln h d)) := by
  pointwise [val_main_v3, val_main_v2]
  refine congrArg (fun e => x1 (ix3 b p e)) (Fin.ext ?_)
  simp only [ln]; omega

theorem v5_at (b h : Fin 8) (p : Fin 2048) (d : Fin 64) : val_main_v5 (F := Ideal) x2 (ix4 b h p d) = x2 (ix3 b p (ln h d)) := by
  pointwise [val_main_v5, val_main_v4]
  refine congrArg (fun e => x2 (ix3 b p e)) (Fin.ext ?_)
  simp only [ln]; omega

theorem v6_at (b h j : Fin 8) (x : Fin 256) (d : Fin 64) : val_main_v6 (F := Ideal) x1 (ix5 b h j x d) = x1 (ix3 b (key j x) (ln h d)) := by
  rw [← v3_at x1, val_main_v6_apply]
  refine congrArg (val_main_v3 (F := Ideal) x1) ?_
  funext a
  match a with
  | ⟨0, _⟩ => exact Fin.ext (show ((((b.val * 8 + h.val) * 8 + j.val) * 256 + x.val) * 64 + d.val) / 1048576 = b.val by omega)
  | ⟨1, _⟩ => exact Fin.ext (show ((((b.val * 8 + h.val) * 8 + j.val) * 256 + x.val) * 64 + d.val) / 131072 % 8 = h.val by omega)
  | ⟨2, _⟩ => exact Fin.ext (show ((((b.val * 8 + h.val) * 8 + j.val) * 256 + x.val) * 64 + d.val) / 64 % 2048 = 256 * j.val + x.val by omega)
  | ⟨3, _⟩ => exact Fin.ext (show ((((b.val * 8 + h.val) * 8 + j.val) * 256 + x.val) * 64 + d.val) % 64 = d.val by omega)

theorem v9_at (b h j : Fin 8) (d : Fin 64) : val_main_v9 (F := Ideal) x1 (ix4 b h j d) = mk x1 b h j d := by
  have e' : val_main_cst (F := Ideal) (Shape.Idx.first h_S_) = (0 : EReal) := Ideal.ofBits_zero_f32
  pointwise [val_main_v9, val_main_v8, val_main_v7, val_main_cst_0]
  rw [e', zero_add]
  simp only [v6_at]
  rfl

theorem v12_at (p : Fin 2048) : val_main_v12 (F := Ideal) (ix1 p) = BitVec.ofNat 32 (blk p).val := by
  pointwise [val_main_v12, val_main_call0_v0, val_main_call0_v1, val_main_call0_v2, val_main_call0_v3, val_main_call0_v4, val_main_call0_v5, val_main_call0_v6, val_main_call0_v7,
    val_main_call0_v8, val_main_call0_v9, val_main_call0_v10, val_main_call0_v11, val_main_call0_v12, val_main_call0_v13, val_main_call0_c, val_main_call0_c_0, val_main_c, val_main_v10]
  revert p; decide +kernel

theorem v17_at (p : Fin 2048) (j : Fin 8) : val_main_v17 (F := Ideal) (ix2 p j) = IntOp.cmpi .slt (BitVec.ofNat 32 j.val) (BitVec.ofNat 32 (blk p).val) := by
  pointwise [val_main_v17, val_main_v16, val_main_v15, val_main_v14, val_main_v13, val_main_v11]
  rw [v12_at]

theorem call1_at : val_main_call1_v0 (F := Ideal) ix0 = (⊥ : EReal) := neg_inf

theorem v19_at (b h : Fin 8) (p : Fin 2048) (j : Fin 8) : val_main_v19 (F := Ideal) x0 x1 (ix4 b h p j) = gate x0 x1 b h p j := by
  pointwise [val_main_v19, val_main_call1_v1, val_main_call1_v2, val_main_v18]
  rw [v17_at, slt_ofNat _ _ (by omega) (by omega), sel, call1_at]
  simp only [v1_at, v9_at]
  unfold gate
  refine if_congr Iff.rfl (Finset.sum_congr rfl fun d _ => mul_comm _ _) rfl

theorem v36_at (b h : Fin 8) (p : Fin 2048) (j o : Fin 8) : val_main_v36 (F := Ideal) x0 x1 (ix5 b h p j o) = ahead (gate x0 x1 b h p) j o := by
  pointwise [val_main_v36, val_main_v35, val_main_v34, val_main_v33, val_main_v32, val_main_v31, val_main_v30, val_main_v29, val_main_v28, val_main_v27, val_main_v26,
    val_main_v25, val_main_v24, val_main_v23, val_main_v22, val_main_v21, val_main_v20, val_main_v11]
  rw [v19_at, v19_at, later]
  rfl

theorem v38_at (b h : Fin 8) (p : Fin 2048) (j : Fin 8) : val_main_v38 (F := Ideal) x0 x1 (ix4 b h p j) = count (gate x0 x1 b h p) j := by
  have e : ∀ o, val_main_v37 (F := Ideal) x0 x1 (ix5 b h p j o) = (ahead (gate x0 x1 b h p) j o).setWidth 32 := fun o => by
    rw [val_main_v37_apply, v36_at]
  have e' : val_main_v38 (F := Ideal) x0 x1 (ix4 b h p j) = Finset.univ.fold IntOp.addi 0#32 fun o => val_main_v37 (F := Ideal) x0 x1 (ix5 b h p j o) := by
    pointwise [val_main_v38, val_main_c_2]
  rw [e', sum8]
  simp only [e]
  rfl

theorem v43_at (b h : Fin 8) (p : Fin 2048) (j : Fin 8) :
    val_main_v43 (F := Ideal) x0 x1 (ix4 b h p j) = if chosen x0 x1 b h p j = true then 1#1 else 0#1 := by
  have e : val_main_v43 (F := Ideal) x0 x1 (ix4 b h p j) = kept (gate x0 x1 b h p) (blk p) j := by
    pointwise [val_main_v43, val_main_v42, val_main_v41, val_main_v40, val_main_v39, val_main_c_3]
    rw [v38_at, v17_at]
    rfl
  rw [e]
  unfold chosen
  generalize kept (gate x0 x1 b h p) (blk p) j = w
  revert w; decide

theorem v46_at (b h : Fin 8) (p j : Fin 2048) :
    val_main_v46 (F := Ideal) x0 x1 (ix4 b h p j) = if chosen x0 x1 b h p (blk j) = true then 1#1 else 0#1 := by
  have e : val_main_v45 (F := Ideal) x0 x1 (ix5 b h p (blk j) ⟨j.val % 256, Nat.mod_lt _ (by decide)⟩) = val_main_v43 (F := Ideal) x0 x1 (ix4 b h p (blk j)) := by
    pointwise [val_main_v45, val_main_v44]
  rw [← v43_at, ← e, val_main_v46_apply]
  refine congrArg (val_main_v45 (F := Ideal) x0 x1) ?_
  funext a
  match a with
  | ⟨0, _⟩ => exact Fin.ext (show (((b.val * 8 + h.val) * 2048 + p.val) * 2048 + j.val) / 33554432 = b.val by omega)
  | ⟨1, _⟩ => exact Fin.ext (show (((b.val * 8 + h.val) * 2048 + p.val) * 2048 + j.val) / 4194304 % 8 = h.val by omega)
  | ⟨2, _⟩ => exact Fin.ext (show (((b.val * 8 + h.val) * 2048 + p.val) * 2048 + j.val) / 2048 % 2048 = p.val by omega)
  | ⟨3, _⟩ => exact Fin.ext (show (((b.val * 8 + h.val) * 2048 + p.val) * 2048 + j.val) / 256 % 8 = j.val / 256 by omega)
  | ⟨4, _⟩ => exact Fin.ext (show (((b.val * 8 + h.val) * 2048 + p.val) * 2048 + j.val) % 256 = j.val % 256 by omega)

theorem v57_at (p j : Fin 2048) :
    val_main_v57 (F := Ideal) (ix2 p j) = IntOp.andi (if blk j = blk p then 1#1 else 0#1) (if j.val ≤ p.val then 1#1 else 0#1) := by
  pointwise [val_main_v57, val_main_v56, val_main_v55, val_main_v54, val_main_v53, val_main_v52, val_main_v51, val_main_v50, val_main_v49, val_main_v48, val_main_v47, val_main_v10]
  rw [v12_at, v12_at, same, sle_ofNat _ _ (by omega) (by omega)]

theorem v60_at (b h : Fin 8) (p j : Fin 2048) :
    val_main_v60 (F := Ideal) x0 x1 (ix4 b h p j) = if j ∈ keys x0 x1 b h p then 1#1 else 0#1 := by
  have e : val_main_v60 (F := Ideal) x0 x1 (ix4 b h p j) = IntOp.ori (if chosen x0 x1 b h p (blk j) = true then 1#1 else 0#1)
      (IntOp.andi (if blk j = blk p then 1#1 else 0#1) (if j.val ≤ p.val then 1#1 else 0#1)) := by
    rw [← v46_at, ← v57_at]
    pointwise [val_main_v60, val_main_v59, val_main_v58]
  rw [e]
  have hm : j ∈ keys x0 x1 b h p ↔ (chosen x0 x1 b h p (blk j) = true ∨ (blk j = blk p ∧ j.val ≤ p.val)) := by
    unfold keys
    simp
  rw [if_congr hm rfl rfl]
  exact bits _ _ _

theorem dot_real (b h : Fin 8) (p j : Fin 2048)
    (hq : ∀ i, x0 i = (((x0 i).toReal : ℝ) : EReal)) (hk : ∀ i, x1 i = (((x1 i).toReal : ℝ) : EReal)) :
    (∑ d : Fin 64, x0 (ix3 b p (ln h d)) * x1 (ix3 b j (ln h d))) * ((1 / 8 : ℝ) : EReal) = ((sc x0 x1 b h p j : ℝ) : EReal) := by
  have e : ∀ d : Fin 64, x0 (ix3 b p (ln h d)) * x1 (ix3 b j (ln h d))
      = (((x0 (ix3 b p (ln h d))).toReal * (x1 (ix3 b j (ln h d))).toReal : ℝ) : EReal) := fun d => by
    rw [EReal.coe_mul, ← hq, ← hk]
  rw [Finset.sum_congr rfl fun d _ => e d, sum_real, ← EReal.coe_mul, Finset.sum_mul]
  unfold sc
  congr 1
  refine Finset.sum_congr rfl fun d _ => ?_
  ring

theorem call2_at : val_main_call2_v0 (F := Ideal) ix0 = (⊥ : EReal) := neg_inf

theorem v64_at (hq : ∀ i, x0 i = (((x0 i).toReal : ℝ) : EReal)) (hk : ∀ i, x1 i = (((x1 i).toReal : ℝ) : EReal)) (b h : Fin 8) (p j : Fin 2048) :
    val_main_v64 (F := Ideal) x0 x1 (ix4 b h p j) = if j ∈ keys x0 x1 b h p then ((sc x0 x1 b h p j : ℝ) : EReal) else ⊥ := by
  pointwise [val_main_v64, val_main_call2_v1, val_main_v63, val_main_v62, val_main_v61, val_main_cst_4]
  rw [v60_at, sel, call2_at, eighth, ← dot_real x0 x1 b h p j hq hk]
  simp only [v1_at, v3_at]

theorem cst6_at : val_main_cst_6 (F := Ideal) (Shape.Idx.first h_S_) = (⊥ : EReal) := by
  rw [val_main_cst_6_apply]
  exact neg_inf

theorem v65_at (b h : Fin 8) (p : Fin 2048) :
    val_main_v65 (F := Ideal) x0 x1 (ix3 b h p) = Finset.univ.fold max ⊥ fun j => val_main_v64 (F := Ideal) x0 x1 (ix4 b h p j) := by
  rw [← cst6_at]
  pointwise [val_main_v65]

theorem v66_at (b h : Fin 8) (p : Fin 2048) : val_main_v66 (F := Ideal) (ix3 b h p) = (⊥ : EReal) := by
  rw [val_main_v66_apply, val_main_cst_7_apply]
  exact neg_inf

theorem v67_at (b h : Fin 8) (p : Fin 2048) :
    val_main_v67 (F := Ideal) x0 x1 (ix3 b h p) = max ⊥ (Finset.univ.fold max ⊥ fun j => val_main_v64 (F := Ideal) x0 x1 (ix4 b h p j)) := by
  rw [val_main_v67_apply, v66_at, v65_at]
  rfl

theorem v71_at (b h : Fin 8) (p j : Fin 2048) :
    val_main_v71 (F := Ideal) x0 x1 (ix4 b h p j)
      = Ideal.exp (val_main_v64 (F := Ideal) x0 x1 (ix4 b h p j) - val_main_v67 (F := Ideal) x0 x1 (ix3 b h p)) := by
  have e : idx_main_v68 (idx_main_v69 (ix4 b h p j)) = ix3 b h p := by
    funext a
    match a with
    | ⟨0, _⟩ => rfl
    | ⟨1, _⟩ => rfl
    | ⟨2, _⟩ => rfl
  rw [val_main_v71_apply, val_main_v70_apply, val_main_v69_apply, val_main_v68_apply, e]
  generalize val_main_v64 (F := Ideal) x0 x1 (ix4 b h p j) = u
  generalize val_main_v67 (F := Ideal) x0 x1 (ix3 b h p) = w
  rfl

theorem v72_at (b h : Fin 8) (p : Fin 2048) :
    val_main_v72 (F := Ideal) x0 x1 (ix3 b h p) = 0 + ∑ j, val_main_v71 (F := Ideal) x0 x1 (ix4 b h p j) := by
  have e' : val_main_cst_8 (F := Ideal) (Shape.Idx.first h_S_) = (0 : EReal) := Ideal.ofBits_zero_f32
  pointwise [val_main_v72]
  rw [e', zero_add]

theorem v75_div (b h : Fin 8) (p j : Fin 2048) :
    val_main_v75 (F := Ideal) x0 x1 (ix4 b h p j)
      = Ideal.div (val_main_v71 (F := Ideal) x0 x1 (ix4 b h p j)) (val_main_v72 (F := Ideal) x0 x1 (ix3 b h p)) := by
  have e : idx_main_v73 (idx_main_v74 (ix4 b h p j)) = ix3 b h p := by
    funext a
    match a with
    | ⟨0, _⟩ => rfl
    | ⟨1, _⟩ => rfl
    | ⟨2, _⟩ => rfl
  rw [val_main_v75_apply, val_main_v74_apply, val_main_v73_apply, e]
  generalize val_main_v71 (F := Ideal) x0 x1 (ix4 b h p j) = u
  generalize val_main_v72 (F := Ideal) x0 x1 (ix3 b h p) = w
  rfl

theorem v75_at (hq : ∀ i, x0 i = (((x0 i).toReal : ℝ) : EReal)) (hk : ∀ i, x1 i = (((x1 i).toReal : ℝ) : EReal)) (b h : Fin 8) (p : Fin 2048) :
    ∃ M : ℝ, ∀ j, val_main_v75 (F := Ideal) x0 x1 (ix4 b h p j) = ((prob (sc x0 x1 b h p) (keys x0 x1 b h p) M j : ℝ) : EReal) := by
  obtain ⟨M, hM⟩ := soft (sc x0 x1 b h p) (keys x0 x1 b h p) p (keys_ne x0 x1 b h p) (fun j => val_main_v64 (F := Ideal) x0 x1 (ix4 b h p j)) (v64_at x0 x1 hq hk b h p)
  refine ⟨M, fun j => ?_⟩
  rw [← hM j, v75_div, v72_at]
  simp only [v71_at, v67_at]

theorem v76_at (hq : ∀ i, x0 i = (((x0 i).toReal : ℝ) : EReal)) (hk : ∀ i, x1 i = (((x1 i).toReal : ℝ) : EReal))
    (b h : Fin 8) (p : Fin 2048) (d : Fin 64) :
    val_main_v76 (F := Ideal) x0 x1 x2 (ix4 b h p d) = attn x0 x1 x2 b h p d := by
  obtain ⟨M, hM⟩ := v75_at x0 x1 hq hk b h p
  pointwise [val_main_v76]
  simp only [v5_at, hM]
  unfold attn
  refine Finset.sum_congr rfl fun j _ => ?_
  rw [prob_shift _ _ M]
  rfl

theorem v78_at (hq : ∀ i, x0 i = (((x0 i).toReal : ℝ) : EReal)) (hk : ∀ i, x1 i = (((x1 i).toReal : ℝ) : EReal))
    (b : Fin 8) (p : Fin 2048) (e : Fin 512) :
    val_main_v78 (F := Ideal) x0 x1 x2 (ix3 b p e) = attn x0 x1 x2 b ⟨e.val / 64, by omega⟩ p ⟨e.val % 64, by omega⟩ := by
  rw [← v76_at x0 x1 x2 hq hk]
  pointwise [val_main_v78, val_main_v77]

end

end Cert.MobaRefIdeal.Val

end
-- ==== Proof.Moba.Claim.lean ====
/- The two arrays are equal under the precondition; the kernel's run and the reference's run. -/
module

public import proofs.«01_k».proof.Proof.Moba.Ref
public import proofs.«01_k».proof.Proof.Diff.Claim
public import proofs.«01_k».proof.Proof.Gen.MobaRefIdeal.Run
public import proofs.«01_k».proof.Proof.Gen.Pre_moba_finite
public import proofs.«01_k».proof.Defs
public import Idealize.ShloMosaic.Lib.ReduceAll

@[expose] public section

set_option maxRecDepth 16384

noncomputable section

namespace Cert.MobaIdeal.Val

open Idealize.ShloMosaic Idealize.SL.Sem
open Cert.DiffAttnIdeal.Val (real_of_lt half pos lane)

open Cert.Pre_moba_finite in
/-- The two arrays the precondition names hold real numbers. -/
theorem reals (a0 a1 a2 : FVec Ideal S8x2048x512 .f32)
    (h : Cert.Pre_moba_finite.fn (F := Ideal) a0 a1 a2 = fun _ => 1#1) :
    (∀ i, a0 i = (((a0 i).toReal : ℝ) : EReal)) ∧ (∀ i, a1 i = (((a1 i).toReal : ℝ) : EReal)) := by
  have h0 := congrFun h ix0
  dsimp only [Cert.Pre_moba_finite.fn] at h0
  have sp : ∀ (x y : IVec S_ 1), andi x y ix0 = 1#1 → x ix0 = 1#1 ∧ y ix0 = 1#1 := fun x y e => by
    have e' : IntOp.andi (x ix0) (y ix0) = 1#1 := e
    exact IntOp.andi_eq_one.1 e'
  haveI : Subsingleton S_.Idx := ⟨fun a b => funext fun k => k.elim0⟩
  obtain ⟨h0, h1⟩ := sp _ _ h0
  refine ⟨fun i => ?_, fun i => ?_⟩
  · exact real_of_lt _ (Host.reduce_andi_all _ _ _ _ _ h0 i)
  · exact real_of_lt _ (Host.reduce_andi_all _ _ _ _ _ h1 i)

/-- The kernel's result array is the reference's. -/
theorem array_eq (q k v : FVec Ideal S8x2048x512 .f32) (h : Cert.Pre_moba_finite.fn (F := Ideal) q k v = fun _ => 1#1) :
    resVec q k v = Cert.MobaRefIdeal.Read.val_main_v78 (F := Ideal) q k v := by
  obtain ⟨hq, hk⟩ := reals q k v h
  funext i
  obtain ⟨b, p, e, rfl⟩ : ∃ (b : Fin 8) (p : Fin 2048) (e : Fin 512), i = ix3 b p e := ⟨i 0, i 1, i 2, eq_ix3 i⟩
  refine Eq.trans ?_ (Cert.MobaRefIdeal.Val.v78_at q k v hq hk b p e).symm
  have e1 : resVec q k v (ix3 b p e) = resAt q k v (pt b ⟨e.val / 128, by omega⟩ ⟨p.val / 256, by omega⟩) (ix3 0 ⟨p.val % 256, by omega⟩ ⟨e.val % 128, by omega⟩) := rfl
  have e2 : (⟨e.val % 128, by omega⟩ : Fin 128) = half ⟨e.val % 128 / 64, by omega⟩ ⟨e.val % 64, by omega⟩ := Fin.ext (by simp only [half]; omega)
  have hp : pos ⟨p.val / 256, by omega⟩ ⟨p.val % 256, by omega⟩ = p := Fin.ext (by simp only [pos]; omega)
  have hh : hd ⟨e.val / 128, by omega⟩ ⟨e.val % 128 / 64, by omega⟩ = ⟨e.val / 64, by omega⟩ := Fin.ext (by simp only [hd]; omega)
  rw [e1, e2, resAt_at q k v hq hk, hp, hh]

/-- The claimed equation of the two runs. -/
theorem algebraic : Cert.algebraic_MobaIdeal_MobaRefIdeal_pre_moba_finite := by
  intro m g m' g' hpre hargs
  refine ⟨fun c => result m c, ?_, ?_⟩
  · refine θ_run_mono (Value.run_blocks m g) (fun r h c => ?_)
    obtain ⟨h0, h1⟩ := h c
    exact ⟨h0.trans (final m c), h1⟩
  · refine θ_run_mono (Cert.MobaRefIdeal.Value.run m' g') (fun r h c => ?_)
    obtain ⟨h0, h1⟩ := h c
    refine ⟨h0.trans ?_, h1⟩
    rw [Cert.MobaRefIdeal.Read.val_main_v78_eq]
    obtain ⟨e0, e1, e2⟩ := hargs c
    rw [e0, e1, e2]
    exact (array_eq _ _ _ (hpre c)).symm

end Cert.MobaIdeal.Val
end
-- ==== Proof.lean ====
/- The certificate's claim, conjunct by conjunct: the frames of the printed programs, the sanctioned
   rewriting of the mask constant, and the equations with the references. -/
module

public import proofs.«01_k».proof.Defs
public import proofs.«01_k».proof.Proof.Gen.DiffAttn
public import proofs.«01_k».proof.Proof.Gen.DiffAttn.Skeleton
public import proofs.«01_k».proof.Proof.Gen.DiffAttn.Loops
public import proofs.«01_k».proof.Proof.Gen.DiffAttn.Launch
public import proofs.«01_k».proof.Proof.Gen.DiffAttn.Points
public import proofs.«01_k».proof.Proof.Gen.DiffAttn.Frame
public import proofs.«01_k».proof.Proof.Gen.DiffAttnIdeal
public import proofs.«01_k».proof.Proof.Gen.DiffAttnIdeal.Skeleton
public import proofs.«01_k».proof.Proof.Gen.DiffAttnIdeal.Loops
public import proofs.«01_k».proof.Proof.Gen.DiffAttnIdeal.Launch
public import proofs.«01_k».proof.Proof.Gen.DiffAttnIdeal.Points
public import proofs.«01_k».proof.Proof.Gen.DiffAttnIdeal.Frame
public import proofs.«01_k».proof.Proof.Gen.DiffRefIdeal
public import proofs.«01_k».proof.Proof.Gen.Pre_finite
public import proofs.«01_k».proof.Proof.Gen.DiffAttnIdeal.Value
public import proofs.«01_k».proof.Proof.Gen.DiffRefIdeal.Run
public import proofs.«01_k».proof.Proof.Gen.DiffRefIdeal.Read
public import proofs.«01_k».proof.Proof.Diff.Claim
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_expert_range
public import proofs.«01_k».proof.Proof.Exp.Claim
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.InProjS
public import proofs.«01_k».proof.Proof.Gen.InProjS.Frame
public import proofs.«01_k».proof.Proof.Gen.InProjSIdeal
public import proofs.«01_k».proof.Proof.Gen.InProjSIdeal.Frame
public import proofs.«01_k».proof.Proof.Gen.InProjSIdeal.Value
public import proofs.«01_k».proof.Proof.Gen.InProjSRefIdeal
public import proofs.«01_k».proof.Proof.Gen.InProjSRefIdeal.Run
public import proofs.«01_k».proof.Proof.Gen.InProjSRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.OutProjS
public import proofs.«01_k».proof.Proof.Gen.OutProjS.Frame
public import proofs.«01_k».proof.Proof.Gen.OutProjSIdeal
public import proofs.«01_k».proof.Proof.Gen.OutProjSIdeal.Frame
public import proofs.«01_k».proof.Proof.Gen.OutProjSIdeal.Value
public import proofs.«01_k».proof.Proof.Gen.OutProjSRefIdeal
public import proofs.«01_k».proof.Proof.Gen.OutProjSRefIdeal.Run
public import proofs.«01_k».proof.Proof.Gen.OutProjSRefIdeal.Read
public import proofs.«01_k».proof.Proof.Gen.Moba
public import proofs.«01_k».proof.Proof.Gen.Moba.Skeleton
public import proofs.«01_k».proof.Proof.Gen.Moba.Loops
public import proofs.«01_k».proof.Proof.Gen.Moba.Launch
public import proofs.«01_k».proof.Proof.Gen.Moba.Points
public import proofs.«01_k».proof.Proof.Gen.Moba.Frame
public import proofs.«01_k».proof.Proof.Gen.MobaIdeal
public import proofs.«01_k».proof.Proof.Gen.MobaIdeal.Skeleton
public import proofs.«01_k».proof.Proof.Gen.MobaIdeal.Loops
public import proofs.«01_k».proof.Proof.Gen.MobaIdeal.Launch
public import proofs.«01_k».proof.Proof.Gen.MobaIdeal.Points
public import proofs.«01_k».proof.Proof.Gen.MobaIdeal.Frame
public import proofs.«01_k».proof.Proof.Gen.MobaIdeal.Value
public import proofs.«01_k».proof.Proof.Gen.MobaRefIdeal
public import proofs.«01_k».proof.Proof.Gen.MobaRefIdeal.Run
public import proofs.«01_k».proof.Proof.Gen.MobaRefIdeal.Read
public import proofs.«01_k».proof.Proof.Gen.Pre_moba_finite
public import proofs.«01_k».proof.Proof.Inp.Claim
public import proofs.«01_k».proof.Proof.Outp.Claim
public import proofs.«01_k».proof.Proof.Outp.Sample.Claim
public import proofs.«01_k».proof.Proof.Inp.Sample.Claim
public import proofs.«01_k».proof.Proof.Moba.Claim
public import Idealize.ShloMosaic.Lib.Quiescent
public import Idealize.ShloMosaic.Adequacy
public import Idealize.ShloMosaic.Init

@[expose] public section

noncomputable section

namespace Cert.Proof

open Idealize.ShloMosaic Idealize.SL.Sem Cert.DiffAttn

/-- The reference's frame: its run, with no semaphore declared. -/
theorem ref_frame : Cert.quiescent_DiffRefIdeal := fun m g _ =>
  θ_run_mono (Cert.DiffRefIdeal.Value.run m g) fun r h => ⟨fun c => (h c).2, sem_eq_zero_of_no_sems (by decide) r.2⟩

/-- The frame of the block attention's reference. -/
theorem moba_ref_frame : Cert.quiescent_MobaRefIdeal := fun m g _ =>
  θ_run_mono (Cert.MobaRefIdeal.Value.run m g) fun r h => ⟨fun c => (h c).2, sem_eq_zero_of_no_sems (by decide) r.2⟩

theorem claim : Cert.Claim := ⟨Cert.DiffAttn.Gen.facts, Cert.DiffAttnIdeal.Gen.facts, Cert.DiffRefIdeal.Gen.facts,
  Cert.Experts.Gen.facts, Cert.ExpertsIdeal.Gen.facts, Cert.ExpertsRefIdeal.Gen.facts,
  Cert.InProj.Gen.facts, Cert.InProjIdeal.Gen.facts, Cert.InProjRefIdeal.Gen.facts, Cert.InProjS.Gen.facts, Cert.InProjSIdeal.Gen.facts, Cert.InProjSRefIdeal.Gen.facts,
  Cert.OutProj.Gen.facts, Cert.OutProjIdeal.Gen.facts, Cert.OutProjRefIdeal.Gen.facts, Cert.OutProjS.Gen.facts, Cert.OutProjSIdeal.Gen.facts, Cert.OutProjSRefIdeal.Gen.facts,
  Cert.Moba.Gen.facts, Cert.MobaIdeal.Gen.facts, Cert.MobaRefIdeal.Gen.facts,
  Cert.Pre_finite.Gen.facts, Cert.Pre_expert_range.Gen.facts, Cert.Pre_moba_finite.Gen.facts,
  fun m ρ _ => Cert.DiffAttn.Gen.frame m ρ,
  fun m ρ _ => Cert.DiffAttnIdeal.Gen.frame m ρ,
  fun m ρ _ => Cert.DiffAttnIdeal.Gen.frame m ρ,
  ref_frame,
  fun m ρ _ => ref_frame m ρ trivial,
  Cert.ExpertsIdeal.Exp.frame_bits,
  Cert.ExpertsIdeal.Exp.frame_ideal,
  Cert.ExpertsIdeal.Exp.ref_frame,
  fun m ρ _ => Cert.InProj.Gen.frame m ρ,
  fun m ρ _ => Cert.InProjIdeal.Gen.frame m ρ,
  Cert.Inp.Kern.ref_frame,
  fun m ρ _ => Cert.InProjS.Gen.frame m ρ,
  fun m ρ _ => Cert.InProjSIdeal.Gen.frame m ρ,
  Cert.Inp.Sample.Kern.ref_frame,
  fun m ρ _ => Cert.OutProj.Gen.frame m ρ,
  fun m ρ _ => Cert.OutProjIdeal.Gen.frame m ρ,
  Cert.Outp.Kern.ref_frame,
  fun m ρ _ => Cert.OutProjS.Gen.frame m ρ,
  fun m ρ _ => Cert.OutProjSIdeal.Gen.frame m ρ,
  Cert.Outp.Sample.Kern.ref_frame,
  fun m ρ _ => Cert.Moba.Gen.frame m ρ,
  fun m ρ _ => Cert.MobaIdeal.Gen.frame m ρ,
  fun m ρ _ => Cert.MobaIdeal.Gen.frame m ρ,
  moba_ref_frame,
  fun m ρ _ => moba_ref_frame m ρ trivial,
  IdealRules.named_const.statement Cert.DiffAttnIdeal.κ "mask" .f32 0xF149F2CA#32 ⊥ rfl,
  Cert.DiffAttnIdeal.Val.algebraic,
  trivial,
  Cert.ExpertsIdeal.Exp.algebraic,
  trivial,
  Cert.Inp.Kern.algebraic,
  trivial,
  Cert.Inp.Sample.Kern.algebraic,
  trivial,
  Cert.Outp.Kern.algebraic,
  trivial,
  Cert.Outp.Sample.Kern.algebraic,
  IdealRules.named_const.statement Cert.MobaIdeal.κ "mask" .f32 0xF149F2CA#32 ⊥ rfl,
  Cert.MobaIdeal.Val.algebraic⟩

end Cert.Proof

end
